-- ==== Defs.lean ====
def Pre_GdnBwdIdeal (m : (ℓ : Loc Cert.GdnBwdIdeal.nD Cert.GdnBwdIdeal.τ Cert.GdnBwdIdeal.sig) → Buf (Elt Ideal) ℓ) : Prop :=
  True

def Pre_ScBwd (m : (ℓ : Loc Cert.ScBwd.nD Cert.ScBwd.τ Cert.ScBwd.sig) → Buf (Elt Bits) ℓ) : Prop :=
  True

def Pre_ScBwdIdeal (m : (ℓ : Loc Cert.ScBwdIdeal.nD Cert.ScBwdIdeal.τ Cert.ScBwdIdeal.sig) → Buf (Elt Ideal) ℓ) : Prop :=
  True

def Pre_ScBwdRefIdeal (m : (ℓ : Loc Cert.ScBwdRefIdeal.nD Cert.ScBwdRefIdeal.τ Cert.ScBwdRefIdeal.sig) → Buf (Elt Ideal) ℓ) : Prop :=
  True

def Pre_DHid (m : (ℓ : Loc Cert.DHid.nD Cert.DHid.τ Cert.DHid.sig) → Buf (Elt Bits) ℓ) : Prop :=
  True

def Pre_DHidIdeal (m : (ℓ : Loc Cert.DHidIdeal.nD Cert.DHidIdeal.τ Cert.DHidIdeal.sig) → Buf (Elt Ideal) ℓ) : Prop :=
  True

def Pre_DHidRefIdeal (m : (ℓ : Loc Cert.DHidRefIdeal.nD Cert.DHidRefIdeal.τ Cert.DHidRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DXn2 (m : (ℓ : Loc Cert.DXn2.nD Cert.DXn2.τ Cert.DXn2.sig) → Buf (Elt Bits) ℓ) : Prop :=
  True

def Pre_DXn2Ideal (m : (ℓ : Loc Cert.DXn2Ideal.nD Cert.DXn2Ideal.τ Cert.DXn2Ideal.sig) → Buf (Elt Ideal) ℓ) : Prop :=
  True

def Pre_DXn2RefIdeal (m : (ℓ : Loc Cert.DXn2RefIdeal.nD Cert.DXn2RefIdeal.τ Cert.DXn2RefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DXn (m : (ℓ : Loc Cert.DXn.nD Cert.DXn.τ Cert.DXn.sig) → Buf (Elt Bits) ℓ) : Prop :=
  True

def Pre_DXnIdeal (m : (ℓ : Loc Cert.DXnIdeal.nD Cert.DXnIdeal.τ Cert.DXnIdeal.sig) → Buf (Elt Ideal) ℓ) : Prop :=
  True

def Pre_DXnRefIdeal (m : (ℓ : Loc Cert.DXnRefIdeal.nD Cert.DXnRefIdeal.τ Cert.DXnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSc (m : (ℓ : Loc Cert.AdamSc.nD Cert.AdamSc.τ Cert.AdamSc.sig) → Buf (Elt Bits) ℓ) : Prop :=
  True

def Pre_AdamScIdeal (m : (ℓ : Loc Cert.AdamScIdeal.nD Cert.AdamScIdeal.τ Cert.AdamScIdeal.sig) → Buf (Elt Ideal) ℓ) : Prop :=
  True

def Pre_AdamScRefIdeal (m : (ℓ : Loc Cert.AdamScRefIdeal.nD Cert.AdamScRefIdeal.τ Cert.AdamScRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamGdn (m : (ℓ : Loc Cert.AdamGdn.nD Cert.AdamGdn.τ Cert.AdamGdn.sig) → Buf (Elt Bits) ℓ) : Prop :=
  True

def Pre_AdamGdnIdeal (m : (ℓ : Loc Cert.AdamGdnIdeal.nD Cert.AdamGdnIdeal.τ Cert.AdamGdnIdeal.sig) → Buf (Elt Ideal) ℓ) : Prop :=
  True

def Pre_AdamGdnRefIdeal (m : (ℓ : Loc Cert.AdamGdnRefIdeal.nD Cert.AdamGdnRefIdeal.τ Cert.AdamGdnRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdRefIdeal (m : (ℓ : Loc Cert.PreBwdRefIdeal.nD Cert.PreBwdRefIdeal.τ Cert.PreBwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_Post1 (m : (ℓ : Loc Cert.Post1.nD Cert.Post1.τ Cert.Post1.sig) → Buf (Elt Bits) ℓ) : Prop :=
  True

def Pre_Post1Ideal (m : (ℓ : Loc Cert.Post1Ideal.nD Cert.Post1Ideal.τ Cert.Post1Ideal.sig) → Buf (Elt Ideal) ℓ) : Prop :=
  True

def Pre_Post1RefIdeal (m : (ℓ : Loc Cert.Post1RefIdeal.nD Cert.Post1RefIdeal.τ Cert.Post1RefIdeal.sig) → Buf (Elt Ideal) ℓ) : Prop :=
  True

def Pre_Post2 (m : (ℓ : Loc Cert.Post2.nD Cert.Post2.τ Cert.Post2.sig) → Buf (Elt Bits) ℓ) : Prop :=
  True

def Pre_Post2Ideal (m : (ℓ : Loc Cert.Post2Ideal.nD Cert.Post2Ideal.τ Cert.Post2Ideal.sig) → Buf (Elt Ideal) ℓ) : Prop :=
  True

def Pre_Post2RefIdeal (m : (ℓ : Loc Cert.Post2RefIdeal.nD Cert.Post2RefIdeal.τ Cert.Post2RefIdeal.sig) → Buf (Elt Ideal) ℓ) : Prop :=
  True

def Pre_MidBwd (m : (ℓ : Loc Cert.MidBwd.nD Cert.MidBwd.τ Cert.MidBwd.sig) → Buf (Elt Bits) ℓ) : Prop :=
  True

def Pre_MidBwdIdeal (m : (ℓ : Loc Cert.MidBwdIdeal.nD Cert.MidBwdIdeal.τ Cert.MidBwdIdeal.sig) → Buf (Elt Ideal) ℓ) : Prop :=
  True

def Pre_MidBwdRefIdeal (m : (ℓ : Loc Cert.MidBwdRefIdeal.nD Cert.MidBwdRefIdeal.τ Cert.MidBwdRefIdeal.sig) → Buf (Elt Ideal) ℓ) : Prop :=
  True

def Pre_ScFwd (m : (ℓ : Loc Cert.ScFwd.nD Cert.ScFwd.τ Cert.ScFwd.sig) → Buf (Elt Bits) ℓ) : Prop :=
  True

def Pre_ScFwdIdeal (m : (ℓ : Loc Cert.ScFwdIdeal.nD Cert.ScFwdIdeal.τ Cert.ScFwdIdeal.sig) → Buf (Elt Ideal) ℓ) : Prop :=
  True

def Pre_ScFwdRefIdeal (m : (ℓ : Loc Cert.ScFwdRefIdeal.nD Cert.ScFwdRefIdeal.τ Cert.ScFwdRefIdeal.sig) → Buf (Elt Ideal) ℓ) : Prop :=
  True

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvFwdRefIdeal (m : (ℓ : Loc Cert.QkvFwdRefIdeal.nD Cert.QkvFwdRefIdeal.τ Cert.QkvFwdRefIdeal.sig) → Buf (Elt Ideal) ℓ) : Prop :=
  True

def Pre_AdamOut [hPre_chip_named : Cert.Pre_chip_named.Facts] (m : (ℓ : Loc Cert.AdamOut.nD Cert.AdamOut.τ Cert.AdamOut.sig) → Buf (Elt Bits) ℓ) : Prop :=
  ∀ c : Dev Cert.AdamOut.nD,
    (Cert.Pre_chip_named.fn (F := Bits) (m ((c.tc : Thread Cert.AdamOut.nD Cert.AdamOut.τ).loc Cert.AdamOut.main_arg0)) (m ((c.tc : Thread Cert.AdamOut.nD Cert.AdamOut.τ).loc Cert.AdamOut.main_arg1)) (m ((c.tc : Thread Cert.AdamOut.nD Cert.AdamOut.τ).loc Cert.AdamOut.main_arg2)) (m ((c.tc : Thread Cert.AdamOut.nD Cert.AdamOut.τ).loc Cert.AdamOut.main_arg3)) (m ((c.tc : Thread Cert.AdamOut.nD Cert.AdamOut.τ).loc Cert.AdamOut.main_arg4)) (m ((c.tc : Thread Cert.AdamOut.nD Cert.AdamOut.τ).loc Cert.AdamOut.main_arg5))) = (fun _ => 1#1)

def Pre_AdamOutIdeal [hPre_chip_named : Cert.Pre_chip_named.Facts] (m : (ℓ : Loc Cert.AdamOutIdeal.nD Cert.AdamOutIdeal.τ Cert.AdamOutIdeal.sig) → Buf (Elt Ideal) ℓ) : Prop :=
  ∀ c : Dev Cert.AdamOutIdeal.nD,
    (Cert.Pre_chip_named.fn (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5))) = (fun _ => 1#1)

def Pre_AdamOutRefIdeal (m : (ℓ : Loc Cert.AdamOutRefIdeal.nD Cert.AdamOutRefIdeal.τ Cert.AdamOutRefIdeal.sig) → Buf (Elt Ideal) ℓ) : Prop :=
  True

def Pre_AdamOutRefIdeal_chip_named [hPre_chip_named : Cert.Pre_chip_named.Facts] (m : (ℓ : Loc Cert.AdamOutRefIdeal.nD Cert.AdamOutRefIdeal.τ Cert.AdamOutRefIdeal.sig) → Buf (Elt Ideal) ℓ) : Prop :=
  ∀ c : Dev Cert.AdamOutRefIdeal.nD,
    (Cert.Pre_chip_named.fn (F := Ideal) (m ((c.tc : Thread Cert.AdamOutRefIdeal.nD Cert.AdamOutRefIdeal.τ).loc Cert.AdamOutRefIdeal.main_arg0)) (m ((c.tc : Thread Cert.AdamOutRefIdeal.nD Cert.AdamOutRefIdeal.τ).loc Cert.AdamOutRefIdeal.main_arg1)) (m ((c.tc : Thread Cert.AdamOutRefIdeal.nD Cert.AdamOutRefIdeal.τ).loc Cert.AdamOutRefIdeal.main_arg2)) (m ((c.tc : Thread Cert.AdamOutRefIdeal.nD Cert.AdamOutRefIdeal.τ).loc Cert.AdamOutRefIdeal.main_arg3)) (m ((c.tc : Thread Cert.AdamOutRefIdeal.nD Cert.AdamOutRefIdeal.τ).loc Cert.AdamOutRefIdeal.main_arg4)) (m ((c.tc : Thread Cert.AdamOutRefIdeal.nD Cert.AdamOutRefIdeal.τ).loc Cert.AdamOutRefIdeal.main_arg5))) = (fun _ => 1#1)

def Pre_AdamUp [hPre_chip_named_up : Cert.Pre_chip_named_up.Facts] (m : (ℓ : Loc Cert.AdamUp.nD Cert.AdamUp.τ Cert.AdamUp.sig) → Buf (Elt Bits) ℓ) : Prop :=
  ∀ c : Dev Cert.AdamUp.nD,
    (Cert.Pre_chip_named_up.fn (F := Bits) (m ((c.tc : Thread Cert.AdamUp.nD Cert.AdamUp.τ).loc Cert.AdamUp.main_arg0)) (m ((c.tc : Thread Cert.AdamUp.nD Cert.AdamUp.τ).loc Cert.AdamUp.main_arg1)) (m ((c.tc : Thread Cert.AdamUp.nD Cert.AdamUp.τ).loc Cert.AdamUp.main_arg2)) (m ((c.tc : Thread Cert.AdamUp.nD Cert.AdamUp.τ).loc Cert.AdamUp.main_arg3)) (m ((c.tc : Thread Cert.AdamUp.nD Cert.AdamUp.τ).loc Cert.AdamUp.main_arg4)) (m ((c.tc : Thread Cert.AdamUp.nD Cert.AdamUp.τ).loc Cert.AdamUp.main_arg5))) = (fun _ => 1#1)

def Pre_AdamUpIdeal [hPre_chip_named_up : Cert.Pre_chip_named_up.Facts] (m : (ℓ : Loc Cert.AdamUpIdeal.nD Cert.AdamUpIdeal.τ Cert.AdamUpIdeal.sig) → Buf (Elt Ideal) ℓ) : Prop :=
  ∀ c : Dev Cert.AdamUpIdeal.nD,
    (Cert.Pre_chip_named_up.fn (F := Ideal) (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)) (m ((c.tc : Thread Cert.AdamUpIdeal.nD Cert.AdamUpIdeal.τ).loc Cert.AdamUpIdeal.main_arg4)) (m ((c.tc : Thread Cert.AdamUpIdeal.nD Cert.AdamUpIdeal.τ).loc Cert.AdamUpIdeal.main_arg5))) = (fun _ => 1#1)

def Pre_AdamUpRefIdeal (m : (ℓ : Loc Cert.AdamUpRefIdeal.nD Cert.AdamUpRefIdeal.τ Cert.AdamUpRefIdeal.sig) → Buf (Elt Ideal) ℓ) : Prop :=
  True

def Pre_AdamUpRefIdeal_chip_named_up [hPre_chip_named_up : Cert.Pre_chip_named_up.Facts] (m : (ℓ : Loc Cert.AdamUpRefIdeal.nD Cert.AdamUpRefIdeal.τ Cert.AdamUpRefIdeal.sig) → Buf (Elt Ideal) ℓ) : Prop :=
  ∀ c : Dev Cert.AdamUpRefIdeal.nD,
    (Cert.Pre_chip_named_up.fn (F := Ideal) (m ((c.tc : Thread Cert.AdamUpRefIdeal.nD Cert.AdamUpRefIdeal.τ).loc Cert.AdamUpRefIdeal.main_arg0)) (m ((c.tc : Thread Cert.AdamUpRefIdeal.nD Cert.AdamUpRefIdeal.τ).loc Cert.AdamUpRefIdeal.main_arg1)) (m ((c.tc : Thread Cert.AdamUpRefIdeal.nD Cert.AdamUpRefIdeal.τ).loc Cert.AdamUpRefIdeal.main_arg2)) (m ((c.tc : Thread Cert.AdamUpRefIdeal.nD Cert.AdamUpRefIdeal.τ).loc Cert.AdamUpRefIdeal.main_arg3)) (m ((c.tc : Thread Cert.AdamUpRefIdeal.nD Cert.AdamUpRefIdeal.τ).loc Cert.AdamUpRefIdeal.main_arg4)) (m ((c.tc : Thread Cert.AdamUpRefIdeal.nD Cert.AdamUpRefIdeal.τ).loc Cert.AdamUpRefIdeal.main_arg5))) = (fun _ => 1#1)

def Pre_AdamDown [hPre_chip_named_down : Cert.Pre_chip_named_down.Facts] (m : (ℓ : Loc Cert.AdamDown.nD Cert.AdamDown.τ Cert.AdamDown.sig) → Buf (Elt Bits) ℓ) : Prop :=
  ∀ c : Dev Cert.AdamDown.nD,
    (Cert.Pre_chip_named_down.fn (F := Bits) (m ((c.tc : Thread Cert.AdamDown.nD Cert.AdamDown.τ).loc Cert.AdamDown.main_arg0)) (m ((c.tc : Thread Cert.AdamDown.nD Cert.AdamDown.τ).loc Cert.AdamDown.main_arg1)) (m ((c.tc : Thread Cert.AdamDown.nD Cert.AdamDown.τ).loc Cert.AdamDown.main_arg2)) (m ((c.tc : Thread Cert.AdamDown.nD Cert.AdamDown.τ).loc Cert.AdamDown.main_arg3)) (m ((c.tc : Thread Cert.AdamDown.nD Cert.AdamDown.τ).loc Cert.AdamDown.main_arg4)) (m ((c.tc : Thread Cert.AdamDown.nD Cert.AdamDown.τ).loc Cert.AdamDown.main_arg5))) = (fun _ => 1#1)

def Pre_AdamDownIdeal [hPre_chip_named_down : Cert.Pre_chip_named_down.Facts] (m : (ℓ : Loc Cert.AdamDownIdeal.nD Cert.AdamDownIdeal.τ Cert.AdamDownIdeal.sig) → Buf (Elt Ideal) ℓ) : Prop :=
  ∀ c : Dev Cert.AdamDownIdeal.nD,
    (Cert.Pre_chip_named_down.fn (F := Ideal) (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)) (m ((c.tc : Thread Cert.AdamDownIdeal.nD Cert.AdamDownIdeal.τ).loc Cert.AdamDownIdeal.main_arg5))) = (fun _ => 1#1)

def Pre_AdamDownRefIdeal (m : (ℓ : Loc Cert.AdamDownRefIdeal.nD Cert.AdamDownRefIdeal.τ Cert.AdamDownRefIdeal.sig) → Buf (Elt Ideal) ℓ) : Prop :=
  True

def Pre_AdamDownRefIdeal_chip_named_down [hPre_chip_named_down : Cert.Pre_chip_named_down.Facts] (m : (ℓ : Loc Cert.AdamDownRefIdeal.nD Cert.AdamDownRefIdeal.τ Cert.AdamDownRefIdeal.sig) → Buf (Elt Ideal) ℓ) : Prop :=
  ∀ c : Dev Cert.AdamDownRefIdeal.nD,
    (Cert.Pre_chip_named_down.fn (F := Ideal) (m ((c.tc : Thread Cert.AdamDownRefIdeal.nD Cert.AdamDownRefIdeal.τ).loc Cert.AdamDownRefIdeal.main_arg0)) (m ((c.tc : Thread Cert.AdamDownRefIdeal.nD Cert.AdamDownRefIdeal.τ).loc Cert.AdamDownRefIdeal.main_arg1)) (m ((c.tc : Thread Cert.AdamDownRefIdeal.nD Cert.AdamDownRefIdeal.τ).loc Cert.AdamDownRefIdeal.main_arg2)) (m ((c.tc : Thread Cert.AdamDownRefIdeal.nD Cert.AdamDownRefIdeal.τ).loc Cert.AdamDownRefIdeal.main_arg3)) (m ((c.tc : Thread Cert.AdamDownRefIdeal.nD Cert.AdamDownRefIdeal.τ).loc Cert.AdamDownRefIdeal.main_arg4)) (m ((c.tc : Thread Cert.AdamDownRefIdeal.nD Cert.AdamDownRefIdeal.τ).loc Cert.AdamDownRefIdeal.main_arg5))) = (fun _ => 1#1)

def quiescent_GdnBwdIdeal [hGdnBwdIdeal : Cert.GdnBwdIdeal.Facts] : Prop :=
  ∀ (m : (ℓ : Loc Cert.GdnBwdIdeal.nD Cert.GdnBwdIdeal.τ Cert.GdnBwdIdeal.sig) → Buf (Elt Ideal) ℓ) (g : Dev Cert.GdnBwdIdeal.nD → PrngReg), Pre_GdnBwdIdeal m →
    θ_run (Cert.GdnBwdIdeal.defs (F := Ideal)) (onTc (τ := Cert.GdnBwdIdeal.τ) (Cert.GdnBwdIdeal.main (F := Ideal))) ⟨m, fun _ => 0, g⟩ (fun r => (∀ c : Dev Cert.GdnBwdIdeal.nD,
      r.2.mem ((c.tc : Thread Cert.GdnBwdIdeal.nD Cert.GdnBwdIdeal.τ).loc Cert.GdnBwdIdeal.main_arg0) = m ((c.tc : Thread Cert.GdnBwdIdeal.nD Cert.GdnBwdIdeal.τ).loc Cert.GdnBwdIdeal.main_arg0)
      ∧ r.2.mem ((c.tc : Thread Cert.GdnBwdIdeal.nD Cert.GdnBwdIdeal.τ).loc Cert.GdnBwdIdeal.main_arg1) = m ((c.tc : Thread Cert.GdnBwdIdeal.nD Cert.GdnBwdIdeal.τ).loc Cert.GdnBwdIdeal.main_arg1)
      ∧ r.2.mem ((c.tc : Thread Cert.GdnBwdIdeal.nD Cert.GdnBwdIdeal.τ).loc Cert.GdnBwdIdeal.main_arg2) = m ((c.tc : Thread Cert.GdnBwdIdeal.nD Cert.GdnBwdIdeal.τ).loc Cert.GdnBwdIdeal.main_arg2)
      ∧ r.2.mem ((c.tc : Thread Cert.GdnBwdIdeal.nD Cert.GdnBwdIdeal.τ).loc Cert.GdnBwdIdeal.main_arg3) = m ((c.tc : Thread Cert.GdnBwdIdeal.nD Cert.GdnBwdIdeal.τ).loc Cert.GdnBwdIdeal.main_arg3)
      ∧ r.2.mem ((c.tc : Thread Cert.GdnBwdIdeal.nD Cert.GdnBwdIdeal.τ).loc Cert.GdnBwdIdeal.main_arg4) = m ((c.tc : Thread Cert.GdnBwdIdeal.nD Cert.GdnBwdIdeal.τ).loc Cert.GdnBwdIdeal.main_arg4)
      ∧ r.2.mem ((c.tc : Thread Cert.GdnBwdIdeal.nD Cert.GdnBwdIdeal.τ).loc Cert.GdnBwdIdeal.main_arg5) = m ((c.tc : Thread Cert.GdnBwdIdeal.nD Cert.GdnBwdIdeal.τ).loc Cert.GdnBwdIdeal.main_arg5)
      ∧ r.2.mem ((c.tc : Thread Cert.GdnBwdIdeal.nD Cert.GdnBwdIdeal.τ).loc Cert.GdnBwdIdeal.main_arg6) = m ((c.tc : Thread Cert.GdnBwdIdeal.nD Cert.GdnBwdIdeal.τ).loc Cert.GdnBwdIdeal.main_arg6)
      ∧ r.2.mem ((c.tc : Thread Cert.GdnBwdIdeal.nD Cert.GdnBwdIdeal.τ).loc Cert.GdnBwdIdeal.main_arg7) = m ((c.tc : Thread Cert.GdnBwdIdeal.nD Cert.GdnBwdIdeal.τ).loc Cert.GdnBwdIdeal.main_arg7))
      ∧ r.2.sem = fun _ => 0)

def quiescent_ScBwd [hScBwd : Cert.ScBwd.Facts] : Prop :=
  ∀ (m : (ℓ : Loc Cert.ScBwd.nD Cert.ScBwd.τ Cert.ScBwd.sig) → Buf (Elt Bits) ℓ) (g : Dev Cert.ScBwd.nD → PrngReg), Pre_ScBwd m →
    θ_run (Cert.ScBwd.defs (F := Bits)) (onTc (τ := Cert.ScBwd.τ) (Cert.ScBwd.main (F := Bits))) ⟨m, fun _ => 0, g⟩ (fun r => (∀ c : Dev Cert.ScBwd.nD,
      r.2.mem ((c.tc : Thread Cert.ScBwd.nD Cert.ScBwd.τ).loc Cert.ScBwd.main_arg0) = m ((c.tc : Thread Cert.ScBwd.nD Cert.ScBwd.τ).loc Cert.ScBwd.main_arg0)
      ∧ r.2.mem ((c.tc : Thread Cert.ScBwd.nD Cert.ScBwd.τ).loc Cert.ScBwd.main_arg1) = m ((c.tc : Thread Cert.ScBwd.nD Cert.ScBwd.τ).loc Cert.ScBwd.main_arg1)
      ∧ r.2.mem ((c.tc : Thread Cert.ScBwd.nD Cert.ScBwd.τ).loc Cert.ScBwd.main_arg2) = m ((c.tc : Thread Cert.ScBwd.nD Cert.ScBwd.τ).loc Cert.ScBwd.main_arg2))
      ∧ r.2.sem = fun _ => 0)

def quiescent_ScBwdIdeal [hScBwdIdeal : Cert.ScBwdIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ r.2.sem = fun _ => 0)

def quiescent_ScBwdRefIdeal [hScBwdRefIdeal : Cert.ScBwdRefIdeal.Facts] : Prop :=
  ∀ (m : (ℓ : Loc Cert.ScBwdRefIdeal.nD Cert.ScBwdRefIdeal.τ Cert.ScBwdRefIdeal.sig) → Buf (Elt Ideal) ℓ) (g : Dev Cert.ScBwdRefIdeal.nD → PrngReg), Pre_ScBwdRefIdeal m →
    θ_run (Cert.ScBwdRefIdeal.defs (F := Ideal)) (onTc (τ := Cert.ScBwdRefIdeal.τ) (Cert.ScBwdRefIdeal.main (F := Ideal))) ⟨m, fun _ => 0, g⟩ (fun r => (∀ c : Dev Cert.ScBwdRefIdeal.nD,
      r.2.mem ((c.tc : Thread Cert.ScBwdRefIdeal.nD Cert.ScBwdRefIdeal.τ).loc Cert.ScBwdRefIdeal.main_arg0) = m ((c.tc : Thread Cert.ScBwdRefIdeal.nD Cert.ScBwdRefIdeal.τ).loc Cert.ScBwdRefIdeal.main_arg0)
      ∧ r.2.mem ((c.tc : Thread Cert.ScBwdRefIdeal.nD Cert.ScBwdRefIdeal.τ).loc Cert.ScBwdRefIdeal.main_arg1) = m ((c.tc : Thread Cert.ScBwdRefIdeal.nD Cert.ScBwdRefIdeal.τ).loc Cert.ScBwdRefIdeal.main_arg1)
      ∧ r.2.mem ((c.tc : Thread Cert.ScBwdRefIdeal.nD Cert.ScBwdRefIdeal.τ).loc Cert.ScBwdRefIdeal.main_arg2) = m ((c.tc : Thread Cert.ScBwdRefIdeal.nD Cert.ScBwdRefIdeal.τ).loc Cert.ScBwdRefIdeal.main_arg2))
      ∧ r.2.sem = fun _ => 0)

def quiescent_DHid [hDHid : Cert.DHid.Facts] : Prop :=
  ∀ (m : (ℓ : Loc Cert.DHid.nD Cert.DHid.τ Cert.DHid.sig) → Buf (Elt Bits) ℓ) (g : Dev Cert.DHid.nD → PrngReg), Pre_DHid m →
    θ_run (Cert.DHid.defs (F := Bits)) (onTc (τ := Cert.DHid.τ) (Cert.DHid.main (F := Bits))) ⟨m, fun _ => 0, g⟩ (fun r => (∀ c : Dev Cert.DHid.nD,
      r.2.mem ((c.tc : Thread Cert.DHid.nD Cert.DHid.τ).loc Cert.DHid.main_arg0) = m ((c.tc : Thread Cert.DHid.nD Cert.DHid.τ).loc Cert.DHid.main_arg0)
      ∧ r.2.mem ((c.tc : Thread Cert.DHid.nD Cert.DHid.τ).loc Cert.DHid.main_arg1) = m ((c.tc : Thread Cert.DHid.nD Cert.DHid.τ).loc Cert.DHid.main_arg1)
      ∧ r.2.mem ((c.tc : Thread Cert.DHid.nD Cert.DHid.τ).loc Cert.DHid.main_arg2) = m ((c.tc : Thread Cert.DHid.nD Cert.DHid.τ).loc Cert.DHid.main_arg2))
      ∧ r.2.sem = fun _ => 0)

def quiescent_DHidIdeal [hDHidIdeal : Cert.DHidIdeal.Facts] : Prop :=
  ∀ (m : (ℓ : Loc Cert.DHidIdeal.nD Cert.DHidIdeal.τ Cert.DHidIdeal.sig) → Buf (Elt Ideal) ℓ) (g : Dev Cert.DHidIdeal.nD → PrngReg), Pre_DHidIdeal m →
    θ_run (Cert.DHidIdeal.defs (F := Ideal)) (onTc (τ := Cert.DHidIdeal.τ) (Cert.DHidIdeal.main (F := Ideal))) ⟨m, fun _ => 0, g⟩ (fun r => (∀ c : Dev Cert.DHidIdeal.nD,
      r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
      ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1)
      ∧ r.2.mem ((c.tc : Thread Cert.DHidIdeal.nD Cert.DHidIdeal.τ).loc Cert.DHidIdeal.main_arg2) = m ((c.tc : Thread Cert.DHidIdeal.nD Cert.DHidIdeal.τ).loc Cert.DHidIdeal.main_arg2))
      ∧ r.2.sem = fun _ => 0)

def quiescent_DHidRefIdeal [hDHidRefIdeal : Cert.DHidRefIdeal.Facts] : Prop :=
  ∀ (m : (ℓ : Loc Cert.DHidRefIdeal.nD Cert.DHidRefIdeal.τ Cert.DHidRefIdeal.sig) → Buf (Elt Ideal) ℓ) (g : Dev Cert.DHidRefIdeal.nD → PrngReg), Pre_DHidRefIdeal m →
    θ_run (Cert.DHidRefIdeal.defs (F := Ideal)) (onTc (τ := Cert.DHidRefIdeal.τ) (Cert.DHidRefIdeal.main (F := Ideal))) ⟨m, fun _ => 0, g⟩ (fun r => (∀ c : Dev Cert.DHidRefIdeal.nD,
      r.2.mem ((c.tc : Thread Cert.DHidRefIdeal.nD Cert.DHidRefIdeal.τ).loc Cert.DHidRefIdeal.main_arg0) = m ((c.tc : Thread Cert.DHidRefIdeal.nD Cert.DHidRefIdeal.τ).loc Cert.DHidRefIdeal.main_arg0)
      ∧ r.2.mem ((c.tc : Thread Cert.DHidRefIdeal.nD Cert.DHidRefIdeal.τ).loc Cert.DHidRefIdeal.main_arg1) = m ((c.tc : Thread Cert.DHidRefIdeal.nD Cert.DHidRefIdeal.τ).loc Cert.DHidRefIdeal.main_arg1)
      ∧ r.2.mem ((c.tc : Thread Cert.DHidRefIdeal.nD Cert.DHidRefIdeal.τ).loc Cert.DHidRefIdeal.main_arg2) = m ((c.tc : Thread Cert.DHidRefIdeal.nD Cert.DHidRefIdeal.τ).loc Cert.DHidRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DXn2 [hDXn2 : Cert.DXn2.Facts] : Prop :=
  ∀ (m : (ℓ : Loc Cert.DXn2.nD Cert.DXn2.τ Cert.DXn2.sig) → Buf (Elt Bits) ℓ) (g : Dev Cert.DXn2.nD → PrngReg), Pre_DXn2 m →
    θ_run (Cert.DXn2.defs (F := Bits)) (onTc (τ := Cert.DXn2.τ) (Cert.DXn2.main (F := Bits))) ⟨m, fun _ => 0, g⟩ (fun r => (∀ c : Dev Cert.DXn2.nD,
      r.2.mem ((c.tc : Thread Cert.DXn2.nD Cert.DXn2.τ).loc Cert.DXn2.main_arg0) = m ((c.tc : Thread Cert.DXn2.nD Cert.DXn2.τ).loc Cert.DXn2.main_arg0)
      ∧ r.2.mem ((c.tc : Thread Cert.DXn2.nD Cert.DXn2.τ).loc Cert.DXn2.main_arg1) = m ((c.tc : Thread Cert.DXn2.nD Cert.DXn2.τ).loc Cert.DXn2.main_arg1))
      ∧ r.2.sem = fun _ => 0)

def quiescent_DXn2Ideal [hDXn2Ideal : Cert.DXn2Ideal.Facts] : Prop :=
  ∀ (m : (ℓ : Loc Cert.DXn2Ideal.nD Cert.DXn2Ideal.τ Cert.DXn2Ideal.sig) → Buf (Elt Ideal) ℓ) (g : Dev Cert.DXn2Ideal.nD → PrngReg), Pre_DXn2Ideal m →
    θ_run (Cert.DXn2Ideal.defs (F := Ideal)) (onTc (τ := Cert.DXn2Ideal.τ) (Cert.DXn2Ideal.main (F := Ideal))) ⟨m, fun _ => 0, g⟩ (fun r => (∀ c : Dev Cert.DXn2Ideal.nD,
      r.2.mem ((c.tc : Thread Cert.DXn2Ideal.nD Cert.DXn2Ideal.τ).loc Cert.DXn2Ideal.main_arg0) = m ((c.tc : Thread Cert.DXn2Ideal.nD Cert.DXn2Ideal.τ).loc Cert.DXn2Ideal.main_arg0)
      ∧ r.2.mem ((c.tc : Thread Cert.DXn2Ideal.nD Cert.DXn2Ideal.τ).loc Cert.DXn2Ideal.main_arg1) = m ((c.tc : Thread Cert.DXn2Ideal.nD Cert.DXn2Ideal.τ).loc Cert.DXn2Ideal.main_arg1))
      ∧ r.2.sem = fun _ => 0)

def quiescent_DXn2RefIdeal [hDXn2RefIdeal : Cert.DXn2RefIdeal.Facts] : Prop :=
  ∀ (m : (ℓ : Loc Cert.DXn2RefIdeal.nD Cert.DXn2RefIdeal.τ Cert.DXn2RefIdeal.sig) → Buf (Elt Ideal) ℓ) (g : Dev Cert.DXn2RefIdeal.nD → PrngReg), Pre_DXn2RefIdeal m →
    θ_run (Cert.DXn2RefIdeal.defs (F := Ideal)) (onTc (τ := Cert.DXn2RefIdeal.τ) (Cert.DXn2RefIdeal.main (F := Ideal))) ⟨m, fun _ => 0, g⟩ (fun r => (∀ c : Dev Cert.DXn2RefIdeal.nD,
      r.2.mem ((c.tc : Thread Cert.DXn2RefIdeal.nD Cert.DXn2RefIdeal.τ).loc Cert.DXn2RefIdeal.main_arg0) = m ((c.tc : Thread Cert.DXn2RefIdeal.nD Cert.DXn2RefIdeal.τ).loc Cert.DXn2RefIdeal.main_arg0)
      ∧ r.2.mem ((c.tc : Thread Cert.DXn2RefIdeal.nD Cert.DXn2RefIdeal.τ).loc Cert.DXn2RefIdeal.main_arg1) = m ((c.tc : Thread Cert.DXn2RefIdeal.nD Cert.DXn2RefIdeal.τ).loc Cert.DXn2RefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_DXn [hDXn : Cert.DXn.Facts] : Prop :=
  ∀ (m : (ℓ : Loc Cert.DXn.nD Cert.DXn.τ Cert.DXn.sig) → Buf (Elt Bits) ℓ) (g : Dev Cert.DXn.nD → PrngReg), Pre_DXn m →
    θ_run (Cert.DXn.defs (F := Bits)) (onTc (τ := Cert.DXn.τ) (Cert.DXn.main (F := Bits))) ⟨m, fun _ => 0, g⟩ (fun r => (∀ c : Dev Cert.DXn.nD,
      r.2.mem ((c.tc : Thread Cert.DXn.nD Cert.DXn.τ).loc Cert.DXn.main_arg0) = m ((c.tc : Thread Cert.DXn.nD Cert.DXn.τ).loc Cert.DXn.main_arg0)
      ∧ r.2.mem ((c.tc : Thread Cert.DXn.nD Cert.DXn.τ).loc Cert.DXn.main_arg1) = m ((c.tc : Thread Cert.DXn.nD Cert.DXn.τ).loc Cert.DXn.main_arg1))
      ∧ r.2.sem = fun _ => 0)

def quiescent_DXnIdeal [hDXnIdeal : Cert.DXnIdeal.Facts] : Prop :=
  ∀ (m : (ℓ : Loc Cert.DXnIdeal.nD Cert.DXnIdeal.τ Cert.DXnIdeal.sig) → Buf (Elt Ideal) ℓ) (g : Dev Cert.DXnIdeal.nD → PrngReg), Pre_DXnIdeal m →
    θ_run (Cert.DXnIdeal.defs (F := Ideal)) (onTc (τ := Cert.DXnIdeal.τ) (Cert.DXnIdeal.main (F := Ideal))) ⟨m, fun _ => 0, g⟩ (fun r => (∀ c : Dev Cert.DXnIdeal.nD,
      r.2.mem ((c.tc : Thread Cert.DXnIdeal.nD Cert.DXnIdeal.τ).loc Cert.DXnIdeal.main_arg0) = m ((c.tc : Thread Cert.DXnIdeal.nD Cert.DXnIdeal.τ).loc Cert.DXnIdeal.main_arg0)
      ∧ r.2.mem ((c.tc : Thread Cert.DXnIdeal.nD Cert.DXnIdeal.τ).loc Cert.DXnIdeal.main_arg1) = m ((c.tc : Thread Cert.DXnIdeal.nD Cert.DXnIdeal.τ).loc Cert.DXnIdeal.main_arg1))
      ∧ r.2.sem = fun _ => 0)

def quiescent_DXnRefIdeal [hDXnRefIdeal : Cert.DXnRefIdeal.Facts] : Prop :=
  ∀ (m : (ℓ : Loc Cert.DXnRefIdeal.nD Cert.DXnRefIdeal.τ Cert.DXnRefIdeal.sig) → Buf (Elt Ideal) ℓ) (g : Dev Cert.DXnRefIdeal.nD → PrngReg), Pre_DXnRefIdeal m →
    θ_run (Cert.DXnRefIdeal.defs (F := Ideal)) (onTc (τ := Cert.DXnRefIdeal.τ) (Cert.DXnRefIdeal.main (F := Ideal))) ⟨m, fun _ => 0, g⟩ (fun r => (∀ c : Dev Cert.DXnRefIdeal.nD,
      r.2.mem ((c.tc : Thread Cert.DXnRefIdeal.nD Cert.DXnRefIdeal.τ).loc Cert.DXnRefIdeal.main_arg0) = m ((c.tc : Thread Cert.DXnRefIdeal.nD Cert.DXnRefIdeal.τ).loc Cert.DXnRefIdeal.main_arg0)
      ∧ r.2.mem ((c.tc : Thread Cert.DXnRefIdeal.nD Cert.DXnRefIdeal.τ).loc Cert.DXnRefIdeal.main_arg1) = m ((c.tc : Thread Cert.DXnRefIdeal.nD Cert.DXnRefIdeal.τ).loc Cert.DXnRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamSc [hAdamSc : Cert.AdamSc.Facts] : Prop :=
  ∀ (m : (ℓ : Loc Cert.AdamSc.nD Cert.AdamSc.τ Cert.AdamSc.sig) → Buf (Elt Bits) ℓ) (g : Dev Cert.AdamSc.nD → PrngReg), Pre_AdamSc m →
    θ_run (Cert.AdamSc.defs (F := Bits)) (onTc (τ := Cert.AdamSc.τ) (Cert.AdamSc.main (F := Bits))) ⟨m, fun _ => 0, g⟩ (fun r => (∀ c : Dev Cert.AdamSc.nD,
      r.2.mem ((c.tc : Thread Cert.AdamSc.nD Cert.AdamSc.τ).loc Cert.AdamSc.main_arg0) = m ((c.tc : Thread Cert.AdamSc.nD Cert.AdamSc.τ).loc Cert.AdamSc.main_arg0)
      ∧ r.2.mem ((c.tc : Thread Cert.AdamSc.nD Cert.AdamSc.τ).loc Cert.AdamSc.main_arg1) = m ((c.tc : Thread Cert.AdamSc.nD Cert.AdamSc.τ).loc Cert.AdamSc.main_arg1)
      ∧ r.2.mem ((c.tc : Thread Cert.AdamSc.nD Cert.AdamSc.τ).loc Cert.AdamSc.main_arg2) = m ((c.tc : Thread Cert.AdamSc.nD Cert.AdamSc.τ).loc Cert.AdamSc.main_arg2)
      ∧ r.2.mem ((c.tc : Thread Cert.AdamSc.nD Cert.AdamSc.τ).loc Cert.AdamSc.main_arg3) = m ((c.tc : Thread Cert.AdamSc.nD Cert.AdamSc.τ).loc Cert.AdamSc.main_arg3))
      ∧ r.2.sem = fun _ => 0)

def quiescent_AdamScIdeal [hAdamScIdeal : Cert.AdamScIdeal.Facts] : Prop :=
  ∀ (m : (ℓ : Loc Cert.AdamScIdeal.nD Cert.AdamScIdeal.τ Cert.AdamScIdeal.sig) → Buf (Elt Ideal) ℓ) (g : Dev Cert.AdamScIdeal.nD → PrngReg), Pre_AdamScIdeal m →
    θ_run (Cert.AdamScIdeal.defs (F := Ideal)) (onTc (τ := Cert.AdamScIdeal.τ) (Cert.AdamScIdeal.main (F := Ideal))) ⟨m, fun _ => 0, g⟩ (fun r => (∀ c : Dev Cert.AdamScIdeal.nD,
      r.2.mem ((c.tc : Thread Cert.AdamScIdeal.nD Cert.AdamScIdeal.τ).loc Cert.AdamScIdeal.main_arg0) = m ((c.tc : Thread Cert.AdamScIdeal.nD Cert.AdamScIdeal.τ).loc Cert.AdamScIdeal.main_arg0)
      ∧ r.2.mem ((c.tc : Thread Cert.AdamScIdeal.nD Cert.AdamScIdeal.τ).loc Cert.AdamScIdeal.main_arg1) = m ((c.tc : Thread Cert.AdamScIdeal.nD Cert.AdamScIdeal.τ).loc Cert.AdamScIdeal.main_arg1)
      ∧ r.2.mem ((c.tc : Thread Cert.AdamScIdeal.nD Cert.AdamScIdeal.τ).loc Cert.AdamScIdeal.main_arg2) = m ((c.tc : Thread Cert.AdamScIdeal.nD Cert.AdamScIdeal.τ).loc Cert.AdamScIdeal.main_arg2)
      ∧ r.2.mem ((c.tc : Thread Cert.AdamScIdeal.nD Cert.AdamScIdeal.τ).loc Cert.AdamScIdeal.main_arg3) = m ((c.tc : Thread Cert.AdamScIdeal.nD Cert.AdamScIdeal.τ).loc Cert.AdamScIdeal.main_arg3))
      ∧ r.2.sem = fun _ => 0)

def quiescent_AdamScRefIdeal [hAdamScRefIdeal : Cert.AdamScRefIdeal.Facts] : Prop :=
  ∀ (m : (ℓ : Loc Cert.AdamScRefIdeal.nD Cert.AdamScRefIdeal.τ Cert.AdamScRefIdeal.sig) → Buf (Elt Ideal) ℓ) (g : Dev Cert.AdamScRefIdeal.nD → PrngReg), Pre_AdamScRefIdeal m →
    θ_run (Cert.AdamScRefIdeal.defs (F := Ideal)) (onTc (τ := Cert.AdamScRefIdeal.τ) (Cert.AdamScRefIdeal.main (F := Ideal))) ⟨m, fun _ => 0, g⟩ (fun r => (∀ c : Dev Cert.AdamScRefIdeal.nD,
      r.2.mem ((c.tc : Thread Cert.AdamScRefIdeal.nD Cert.AdamScRefIdeal.τ).loc Cert.AdamScRefIdeal.main_arg0) = m ((c.tc : Thread Cert.AdamScRefIdeal.nD Cert.AdamScRefIdeal.τ).loc Cert.AdamScRefIdeal.main_arg0)
      ∧ r.2.mem ((c.tc : Thread Cert.AdamScRefIdeal.nD Cert.AdamScRefIdeal.τ).loc Cert.AdamScRefIdeal.main_arg1) = m ((c.tc : Thread Cert.AdamScRefIdeal.nD Cert.AdamScRefIdeal.τ).loc Cert.AdamScRefIdeal.main_arg1)
      ∧ r.2.mem ((c.tc : Thread Cert.AdamScRefIdeal.nD Cert.AdamScRefIdeal.τ).loc Cert.AdamScRefIdeal.main_arg2) = m ((c.tc : Thread Cert.AdamScRefIdeal.nD Cert.AdamScRefIdeal.τ).loc Cert.AdamScRefIdeal.main_arg2)
      ∧ r.2.mem ((c.tc : Thread Cert.AdamScRefIdeal.nD Cert.AdamScRefIdeal.τ).loc Cert.AdamScRefIdeal.main_arg3) = m ((c.tc : Thread Cert.AdamScRefIdeal.nD Cert.AdamScRefIdeal.τ).loc Cert.AdamScRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamGdn [hAdamGdn : Cert.AdamGdn.Facts] : Prop :=
  ∀ (m : (ℓ : Loc Cert.AdamGdn.nD Cert.AdamGdn.τ Cert.AdamGdn.sig) → Buf (Elt Bits) ℓ) (g : Dev Cert.AdamGdn.nD → PrngReg), Pre_AdamGdn m →
    θ_run (Cert.AdamGdn.defs (F := Bits)) (onTc (τ := Cert.AdamGdn.τ) (Cert.AdamGdn.main (F := Bits))) ⟨m, fun _ => 0, g⟩ (fun r => (∀ c : Dev Cert.AdamGdn.nD,
      r.2.mem ((c.tc : Thread Cert.AdamGdn.nD Cert.AdamGdn.τ).loc Cert.AdamGdn.main_arg0) = m ((c.tc : Thread Cert.AdamGdn.nD Cert.AdamGdn.τ).loc Cert.AdamGdn.main_arg0)
      ∧ r.2.mem ((c.tc : Thread Cert.AdamGdn.nD Cert.AdamGdn.τ).loc Cert.AdamGdn.main_arg1) = m ((c.tc : Thread Cert.AdamGdn.nD Cert.AdamGdn.τ).loc Cert.AdamGdn.main_arg1)
      ∧ r.2.mem ((c.tc : Thread Cert.AdamGdn.nD Cert.AdamGdn.τ).loc Cert.AdamGdn.main_arg2) = m ((c.tc : Thread Cert.AdamGdn.nD Cert.AdamGdn.τ).loc Cert.AdamGdn.main_arg2)
      ∧ r.2.mem ((c.tc : Thread Cert.AdamGdn.nD Cert.AdamGdn.τ).loc Cert.AdamGdn.main_arg3) = m ((c.tc : Thread Cert.AdamGdn.nD Cert.AdamGdn.τ).loc Cert.AdamGdn.main_arg3))
      ∧ r.2.sem = fun _ => 0)

def quiescent_AdamGdnIdeal [hAdamGdnIdeal : Cert.AdamGdnIdeal.Facts] : Prop :=
  ∀ (m : (ℓ : Loc Cert.AdamGdnIdeal.nD Cert.AdamGdnIdeal.τ Cert.AdamGdnIdeal.sig) → Buf (Elt Ideal) ℓ) (g : Dev Cert.AdamGdnIdeal.nD → PrngReg), Pre_AdamGdnIdeal m →
    θ_run (Cert.AdamGdnIdeal.defs (F := Ideal)) (onTc (τ := Cert.AdamGdnIdeal.τ) (Cert.AdamGdnIdeal.main (F := Ideal))) ⟨m, fun _ => 0, g⟩ (fun r => (∀ c : Dev Cert.AdamGdnIdeal.nD,
      r.2.mem ((c.tc : Thread Cert.AdamGdnIdeal.nD Cert.AdamGdnIdeal.τ).loc Cert.AdamGdnIdeal.main_arg0) = m ((c.tc : Thread Cert.AdamGdnIdeal.nD Cert.AdamGdnIdeal.τ).loc Cert.AdamGdnIdeal.main_arg0)
      ∧ r.2.mem ((c.tc : Thread Cert.AdamGdnIdeal.nD Cert.AdamGdnIdeal.τ).loc Cert.AdamGdnIdeal.main_arg1) = m ((c.tc : Thread Cert.AdamGdnIdeal.nD Cert.AdamGdnIdeal.τ).loc Cert.AdamGdnIdeal.main_arg1)
      ∧ r.2.mem ((c.tc : Thread Cert.AdamGdnIdeal.nD Cert.AdamGdnIdeal.τ).loc Cert.AdamGdnIdeal.main_arg2) = m ((c.tc : Thread Cert.AdamGdnIdeal.nD Cert.AdamGdnIdeal.τ).loc Cert.AdamGdnIdeal.main_arg2)
      ∧ r.2.mem ((c.tc : Thread Cert.AdamGdnIdeal.nD Cert.AdamGdnIdeal.τ).loc Cert.AdamGdnIdeal.main_arg3) = m ((c.tc : Thread Cert.AdamGdnIdeal.nD Cert.AdamGdnIdeal.τ).loc Cert.AdamGdnIdeal.main_arg3))
      ∧ r.2.sem = fun _ => 0)

def quiescent_AdamGdnRefIdeal [hAdamGdnRefIdeal : Cert.AdamGdnRefIdeal.Facts] : Prop :=
  ∀ (m : (ℓ : Loc Cert.AdamGdnRefIdeal.nD Cert.AdamGdnRefIdeal.τ Cert.AdamGdnRefIdeal.sig) → Buf (Elt Ideal) ℓ) (g : Dev Cert.AdamGdnRefIdeal.nD → PrngReg), Pre_AdamGdnRefIdeal m →
    θ_run (Cert.AdamGdnRefIdeal.defs (F := Ideal)) (onTc (τ := Cert.AdamGdnRefIdeal.τ) (Cert.AdamGdnRefIdeal.main (F := Ideal))) ⟨m, fun _ => 0, g⟩ (fun r => (∀ c : Dev Cert.AdamGdnRefIdeal.nD,
      r.2.mem ((c.tc : Thread Cert.AdamGdnRefIdeal.nD Cert.AdamGdnRefIdeal.τ).loc Cert.AdamGdnRefIdeal.main_arg0) = m ((c.tc : Thread Cert.AdamGdnRefIdeal.nD Cert.AdamGdnRefIdeal.τ).loc Cert.AdamGdnRefIdeal.main_arg0)
      ∧ r.2.mem ((c.tc : Thread Cert.AdamGdnRefIdeal.nD Cert.AdamGdnRefIdeal.τ).loc Cert.AdamGdnRefIdeal.main_arg1) = m ((c.tc : Thread Cert.AdamGdnRefIdeal.nD Cert.AdamGdnRefIdeal.τ).loc Cert.AdamGdnRefIdeal.main_arg1)
      ∧ r.2.mem ((c.tc : Thread Cert.AdamGdnRefIdeal.nD Cert.AdamGdnRefIdeal.τ).loc Cert.AdamGdnRefIdeal.main_arg2) = m ((c.tc : Thread Cert.AdamGdnRefIdeal.nD Cert.AdamGdnRefIdeal.τ).loc Cert.AdamGdnRefIdeal.main_arg2)
      ∧ r.2.mem ((c.tc : Thread Cert.AdamGdnRefIdeal.nD Cert.AdamGdnRefIdeal.τ).loc Cert.AdamGdnRefIdeal.main_arg3) = m ((c.tc : Thread Cert.AdamGdnRefIdeal.nD Cert.AdamGdnRefIdeal.τ).loc Cert.AdamGdnRefIdeal.main_arg3))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_Post1 [hPost1 : Cert.Post1.Facts] : Prop :=
  ∀ (m : (ℓ : Loc Cert.Post1.nD Cert.Post1.τ Cert.Post1.sig) → Buf (Elt Bits) ℓ) (g : Dev Cert.Post1.nD → PrngReg), Pre_Post1 m →
    θ_run (Cert.Post1.defs (F := Bits)) (onTc (τ := Cert.Post1.τ) (Cert.Post1.main (F := Bits))) ⟨m, fun _ => 0, g⟩ (fun r => (∀ c : Dev Cert.Post1.nD,
      r.2.mem ((c.tc : Thread Cert.Post1.nD Cert.Post1.τ).loc Cert.Post1.main_arg0) = m ((c.tc : Thread Cert.Post1.nD Cert.Post1.τ).loc Cert.Post1.main_arg0)
      ∧ r.2.mem ((c.tc : Thread Cert.Post1.nD Cert.Post1.τ).loc Cert.Post1.main_arg1) = m ((c.tc : Thread Cert.Post1.nD Cert.Post1.τ).loc Cert.Post1.main_arg1)
      ∧ r.2.mem ((c.tc : Thread Cert.Post1.nD Cert.Post1.τ).loc Cert.Post1.main_arg2) = m ((c.tc : Thread Cert.Post1.nD Cert.Post1.τ).loc Cert.Post1.main_arg2)
      ∧ r.2.mem ((c.tc : Thread Cert.Post1.nD Cert.Post1.τ).loc Cert.Post1.main_arg3) = m ((c.tc : Thread Cert.Post1.nD Cert.Post1.τ).loc Cert.Post1.main_arg3))
      ∧ r.2.sem = fun _ => 0)

def quiescent_Post1Ideal [hPost1Ideal : Cert.Post1Ideal.Facts] : Prop :=
  ∀ (m : (ℓ : Loc Cert.Post1Ideal.nD Cert.Post1Ideal.τ Cert.Post1Ideal.sig) → Buf (Elt Ideal) ℓ) (g : Dev Cert.Post1Ideal.nD → PrngReg), Pre_Post1Ideal m →
    θ_run (Cert.Post1Ideal.defs (F := Ideal)) (onTc (τ := Cert.Post1Ideal.τ) (Cert.Post1Ideal.main (F := Ideal))) ⟨m, fun _ => 0, g⟩ (fun r => (∀ c : Dev Cert.Post1Ideal.nD,
      r.2.mem ((c.tc : Thread Cert.Post1Ideal.nD Cert.Post1Ideal.τ).loc Cert.Post1Ideal.main_arg0) = m ((c.tc : Thread Cert.Post1Ideal.nD Cert.Post1Ideal.τ).loc Cert.Post1Ideal.main_arg0)
      ∧ r.2.mem ((c.tc : Thread Cert.Post1Ideal.nD Cert.Post1Ideal.τ).loc Cert.Post1Ideal.main_arg1) = m ((c.tc : Thread Cert.Post1Ideal.nD Cert.Post1Ideal.τ).loc Cert.Post1Ideal.main_arg1)
      ∧ r.2.mem ((c.tc : Thread Cert.Post1Ideal.nD Cert.Post1Ideal.τ).loc Cert.Post1Ideal.main_arg2) = m ((c.tc : Thread Cert.Post1Ideal.nD Cert.Post1Ideal.τ).loc Cert.Post1Ideal.main_arg2)
      ∧ r.2.mem ((c.tc : Thread Cert.Post1Ideal.nD Cert.Post1Ideal.τ).loc Cert.Post1Ideal.main_arg3) = m ((c.tc : Thread Cert.Post1Ideal.nD Cert.Post1Ideal.τ).loc Cert.Post1Ideal.main_arg3))
      ∧ r.2.sem = fun _ => 0)

def quiescent_Post1RefIdeal [hPost1RefIdeal : Cert.Post1RefIdeal.Facts] : Prop :=
  ∀ (m : (ℓ : Loc Cert.Post1RefIdeal.nD Cert.Post1RefIdeal.τ Cert.Post1RefIdeal.sig) → Buf (Elt Ideal) ℓ) (g : Dev Cert.Post1RefIdeal.nD → PrngReg), Pre_Post1RefIdeal m →
    θ_run (Cert.Post1RefIdeal.defs (F := Ideal)) (onTc (τ := Cert.Post1RefIdeal.τ) (Cert.Post1RefIdeal.main (F := Ideal))) ⟨m, fun _ => 0, g⟩ (fun r => (∀ c : Dev Cert.Post1RefIdeal.nD,
      r.2.mem ((c.tc : Thread Cert.Post1RefIdeal.nD Cert.Post1RefIdeal.τ).loc Cert.Post1RefIdeal.main_arg0) = m ((c.tc : Thread Cert.Post1RefIdeal.nD Cert.Post1RefIdeal.τ).loc Cert.Post1RefIdeal.main_arg0)
      ∧ r.2.mem ((c.tc : Thread Cert.Post1RefIdeal.nD Cert.Post1RefIdeal.τ).loc Cert.Post1RefIdeal.main_arg1) = m ((c.tc : Thread Cert.Post1RefIdeal.nD Cert.Post1RefIdeal.τ).loc Cert.Post1RefIdeal.main_arg1)
      ∧ r.2.mem ((c.tc : Thread Cert.Post1RefIdeal.nD Cert.Post1RefIdeal.τ).loc Cert.Post1RefIdeal.main_arg2) = m ((c.tc : Thread Cert.Post1RefIdeal.nD Cert.Post1RefIdeal.τ).loc Cert.Post1RefIdeal.main_arg2)
      ∧ r.2.mem ((c.tc : Thread Cert.Post1RefIdeal.nD Cert.Post1RefIdeal.τ).loc Cert.Post1RefIdeal.main_arg3) = m ((c.tc : Thread Cert.Post1RefIdeal.nD Cert.Post1RefIdeal.τ).loc Cert.Post1RefIdeal.main_arg3))
      ∧ r.2.sem = fun _ => 0)

def quiescent_Post2 [hPost2 : Cert.Post2.Facts] : Prop :=
  ∀ (m : (ℓ : Loc Cert.Post2.nD Cert.Post2.τ Cert.Post2.sig) → Buf (Elt Bits) ℓ) (g : Dev Cert.Post2.nD → PrngReg), Pre_Post2 m →
    θ_run (Cert.Post2.defs (F := Bits)) (onTc (τ := Cert.Post2.τ) (Cert.Post2.main (F := Bits))) ⟨m, fun _ => 0, g⟩ (fun r => (∀ c : Dev Cert.Post2.nD,
      r.2.mem ((c.tc : Thread Cert.Post2.nD Cert.Post2.τ).loc Cert.Post2.main_arg0) = m ((c.tc : Thread Cert.Post2.nD Cert.Post2.τ).loc Cert.Post2.main_arg0)
      ∧ r.2.mem ((c.tc : Thread Cert.Post2.nD Cert.Post2.τ).loc Cert.Post2.main_arg1) = m ((c.tc : Thread Cert.Post2.nD Cert.Post2.τ).loc Cert.Post2.main_arg1)
      ∧ r.2.mem ((c.tc : Thread Cert.Post2.nD Cert.Post2.τ).loc Cert.Post2.main_arg2) = m ((c.tc : Thread Cert.Post2.nD Cert.Post2.τ).loc Cert.Post2.main_arg2)
      ∧ r.2.mem ((c.tc : Thread Cert.Post2.nD Cert.Post2.τ).loc Cert.Post2.main_arg3) = m ((c.tc : Thread Cert.Post2.nD Cert.Post2.τ).loc Cert.Post2.main_arg3))
      ∧ r.2.sem = fun _ => 0)

def quiescent_Post2Ideal [hPost2Ideal : Cert.Post2Ideal.Facts] : Prop :=
  ∀ (m : (ℓ : Loc Cert.Post2Ideal.nD Cert.Post2Ideal.τ Cert.Post2Ideal.sig) → Buf (Elt Ideal) ℓ) (g : Dev Cert.Post2Ideal.nD → PrngReg), Pre_Post2Ideal m →
    θ_run (Cert.Post2Ideal.defs (F := Ideal)) (onTc (τ := Cert.Post2Ideal.τ) (Cert.Post2Ideal.main (F := Ideal))) ⟨m, fun _ => 0, g⟩ (fun r => (∀ c : Dev Cert.Post2Ideal.nD,
      r.2.mem ((c.tc : Thread Cert.Post2Ideal.nD Cert.Post2Ideal.τ).loc Cert.Post2Ideal.main_arg0) = m ((c.tc : Thread Cert.Post2Ideal.nD Cert.Post2Ideal.τ).loc Cert.Post2Ideal.main_arg0)
      ∧ r.2.mem ((c.tc : Thread Cert.Post2Ideal.nD Cert.Post2Ideal.τ).loc Cert.Post2Ideal.main_arg1) = m ((c.tc : Thread Cert.Post2Ideal.nD Cert.Post2Ideal.τ).loc Cert.Post2Ideal.main_arg1)
      ∧ r.2.mem ((c.tc : Thread Cert.Post2Ideal.nD Cert.Post2Ideal.τ).loc Cert.Post2Ideal.main_arg2) = m ((c.tc : Thread Cert.Post2Ideal.nD Cert.Post2Ideal.τ).loc Cert.Post2Ideal.main_arg2)
      ∧ r.2.mem ((c.tc : Thread Cert.Post2Ideal.nD Cert.Post2Ideal.τ).loc Cert.Post2Ideal.main_arg3) = m ((c.tc : Thread Cert.Post2Ideal.nD Cert.Post2Ideal.τ).loc Cert.Post2Ideal.main_arg3))
      ∧ r.2.sem = fun _ => 0)

def quiescent_Post2RefIdeal [hPost2RefIdeal : Cert.Post2RefIdeal.Facts] : Prop :=
  ∀ (m : (ℓ : Loc Cert.Post2RefIdeal.nD Cert.Post2RefIdeal.τ Cert.Post2RefIdeal.sig) → Buf (Elt Ideal) ℓ) (g : Dev Cert.Post2RefIdeal.nD → PrngReg), Pre_Post2RefIdeal m →
    θ_run (Cert.Post2RefIdeal.defs (F := Ideal)) (onTc (τ := Cert.Post2RefIdeal.τ) (Cert.Post2RefIdeal.main (F := Ideal))) ⟨m, fun _ => 0, g⟩ (fun r => (∀ c : Dev Cert.Post2RefIdeal.nD,
      r.2.mem ((c.tc : Thread Cert.Post2RefIdeal.nD Cert.Post2RefIdeal.τ).loc Cert.Post2RefIdeal.main_arg0) = m ((c.tc : Thread Cert.Post2RefIdeal.nD Cert.Post2RefIdeal.τ).loc Cert.Post2RefIdeal.main_arg0)
      ∧ r.2.mem ((c.tc : Thread Cert.Post2RefIdeal.nD Cert.Post2RefIdeal.τ).loc Cert.Post2RefIdeal.main_arg1) = m ((c.tc : Thread Cert.Post2RefIdeal.nD Cert.Post2RefIdeal.τ).loc Cert.Post2RefIdeal.main_arg1)
      ∧ r.2.mem ((c.tc : Thread Cert.Post2RefIdeal.nD Cert.Post2RefIdeal.τ).loc Cert.Post2RefIdeal.main_arg2) = m ((c.tc : Thread Cert.Post2RefIdeal.nD Cert.Post2RefIdeal.τ).loc Cert.Post2RefIdeal.main_arg2)
      ∧ r.2.mem ((c.tc : Thread Cert.Post2RefIdeal.nD Cert.Post2RefIdeal.τ).loc Cert.Post2RefIdeal.main_arg3) = m ((c.tc : Thread Cert.Post2RefIdeal.nD Cert.Post2RefIdeal.τ).loc Cert.Post2RefIdeal.main_arg3))
      ∧ r.2.sem = fun _ => 0)

def quiescent_MidBwd [hMidBwd : Cert.MidBwd.Facts] : Prop :=
  ∀ (m : (ℓ : Loc Cert.MidBwd.nD Cert.MidBwd.τ Cert.MidBwd.sig) → Buf (Elt Bits) ℓ) (g : Dev Cert.MidBwd.nD → PrngReg), Pre_MidBwd m →
    θ_run (Cert.MidBwd.defs (F := Bits)) (onTc (τ := Cert.MidBwd.τ) (Cert.MidBwd.main (F := Bits))) ⟨m, fun _ => 0, g⟩ (fun r => (∀ c : Dev Cert.MidBwd.nD,
      r.2.mem ((c.tc : Thread Cert.MidBwd.nD Cert.MidBwd.τ).loc Cert.MidBwd.main_arg0) = m ((c.tc : Thread Cert.MidBwd.nD Cert.MidBwd.τ).loc Cert.MidBwd.main_arg0)
      ∧ r.2.mem ((c.tc : Thread Cert.MidBwd.nD Cert.MidBwd.τ).loc Cert.MidBwd.main_arg1) = m ((c.tc : Thread Cert.MidBwd.nD Cert.MidBwd.τ).loc Cert.MidBwd.main_arg1)
      ∧ r.2.mem ((c.tc : Thread Cert.MidBwd.nD Cert.MidBwd.τ).loc Cert.MidBwd.main_arg2) = m ((c.tc : Thread Cert.MidBwd.nD Cert.MidBwd.τ).loc Cert.MidBwd.main_arg2)
      ∧ r.2.mem ((c.tc : Thread Cert.MidBwd.nD Cert.MidBwd.τ).loc Cert.MidBwd.main_arg3) = m ((c.tc : Thread Cert.MidBwd.nD Cert.MidBwd.τ).loc Cert.MidBwd.main_arg3)
      ∧ r.2.mem ((c.tc : Thread Cert.MidBwd.nD Cert.MidBwd.τ).loc Cert.MidBwd.main_arg4) = m ((c.tc : Thread Cert.MidBwd.nD Cert.MidBwd.τ).loc Cert.MidBwd.main_arg4)
      ∧ r.2.mem ((c.tc : Thread Cert.MidBwd.nD Cert.MidBwd.τ).loc Cert.MidBwd.main_arg5) = m ((c.tc : Thread Cert.MidBwd.nD Cert.MidBwd.τ).loc Cert.MidBwd.main_arg5))
      ∧ r.2.sem = fun _ => 0)

def quiescent_MidBwdIdeal [hMidBwdIdeal : Cert.MidBwdIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
      ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
      ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5))
      ∧ r.2.sem = fun _ => 0)

def quiescent_MidBwdRefIdeal [hMidBwdRefIdeal : Cert.MidBwdRefIdeal.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3)
      ∧ r.2.mem ((c.tc : Thread Cert.MidBwdRefIdeal.nD Cert.MidBwdRefIdeal.τ).loc Cert.MidBwdRefIdeal.main_arg4) = m ((c.tc : Thread Cert.MidBwdRefIdeal.nD Cert.MidBwdRefIdeal.τ).loc Cert.MidBwdRefIdeal.main_arg4)
      ∧ r.2.mem ((c.tc : Thread Cert.MidBwdRefIdeal.nD Cert.MidBwdRefIdeal.τ).loc Cert.MidBwdRefIdeal.main_arg5) = m ((c.tc : Thread Cert.MidBwdRefIdeal.nD Cert.MidBwdRefIdeal.τ).loc Cert.MidBwdRefIdeal.main_arg5))
      ∧ r.2.sem = fun _ => 0)

def quiescent_ScFwd [hScFwd : Cert.ScFwd.Facts] : Prop :=
  ∀ (m : (ℓ : Loc Cert.ScFwd.nD Cert.ScFwd.τ Cert.ScFwd.sig) → Buf (Elt Bits) ℓ) (g : Dev Cert.ScFwd.nD → PrngReg), Pre_ScFwd m →
    θ_run (Cert.ScFwd.defs (F := Bits)) (onTc (τ := Cert.ScFwd.τ) (Cert.ScFwd.main (F := Bits))) ⟨m, fun _ => 0, g⟩ (fun r => (∀ c : Dev Cert.ScFwd.nD,
      r.2.mem ((c.tc : Thread Cert.ScFwd.nD Cert.ScFwd.τ).loc Cert.ScFwd.main_arg0) = m ((c.tc : Thread Cert.ScFwd.nD Cert.ScFwd.τ).loc Cert.ScFwd.main_arg0)
      ∧ r.2.mem ((c.tc : Thread Cert.ScFwd.nD Cert.ScFwd.τ).loc Cert.ScFwd.main_arg1) = m ((c.tc : Thread Cert.ScFwd.nD Cert.ScFwd.τ).loc Cert.ScFwd.main_arg1))
      ∧ r.2.sem = fun _ => 0)

def quiescent_ScFwdIdeal [hScFwdIdeal : Cert.ScFwdIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg), Pre_ScFwdIdeal m →
    θ_run (Cert.ScFwdIdeal.defs (F := Ideal)) (onTc (τ := Cert.ScFwdIdeal.τ) (Cert.ScFwdIdeal.main (F := Ideal))) ⟨m, fun _ => 0, g⟩ (fun r => (∀ c : Dev Cert.ScFwdIdeal.nD,
      r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
      ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ r.2.sem = fun _ => 0)

def quiescent_ScFwdRefIdeal [hScFwdRefIdeal : Cert.ScFwdRefIdeal.Facts] : Prop :=
  ∀ (m : (ℓ : Loc Cert.ScFwdRefIdeal.nD Cert.ScFwdRefIdeal.τ Cert.ScFwdRefIdeal.sig) → Buf (Elt Ideal) ℓ) (g : Dev Cert.ScFwdRefIdeal.nD → PrngReg), Pre_ScFwdRefIdeal m →
    θ_run (Cert.ScFwdRefIdeal.defs (F := Ideal)) (onTc (τ := Cert.ScFwdRefIdeal.τ) (Cert.ScFwdRefIdeal.main (F := Ideal))) ⟨m, fun _ => 0, g⟩ (fun r => (∀ c : Dev Cert.ScFwdRefIdeal.nD,
      r.2.mem ((c.tc : Thread Cert.ScFwdRefIdeal.nD Cert.ScFwdRefIdeal.τ).loc Cert.ScFwdRefIdeal.main_arg0) = m ((c.tc : Thread Cert.ScFwdRefIdeal.nD Cert.ScFwdRefIdeal.τ).loc Cert.ScFwdRefIdeal.main_arg0)
      ∧ r.2.mem ((c.tc : Thread Cert.ScFwdRefIdeal.nD Cert.ScFwdRefIdeal.τ).loc Cert.ScFwdRefIdeal.main_arg1) = m ((c.tc : Thread Cert.ScFwdRefIdeal.nD Cert.ScFwdRefIdeal.τ).loc Cert.ScFwdRefIdeal.main_arg1))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1))
      ∧ r.2.sem = fun _ => 0)

def quiescent_QkvFwdRefIdeal [hQkvFwdRefIdeal : Cert.QkvFwdRefIdeal.Facts] : Prop :=
  ∀ (m : (ℓ : Loc Cert.QkvFwdRefIdeal.nD Cert.QkvFwdRefIdeal.τ Cert.QkvFwdRefIdeal.sig) → Buf (Elt Ideal) ℓ) (g : Dev Cert.QkvFwdRefIdeal.nD → PrngReg), Pre_QkvFwdRefIdeal m →
    θ_run (Cert.QkvFwdRefIdeal.defs (F := Ideal)) (onTc (τ := Cert.QkvFwdRefIdeal.τ) (Cert.QkvFwdRefIdeal.main (F := Ideal))) ⟨m, fun _ => 0, g⟩ (fun r => (∀ c : Dev Cert.QkvFwdRefIdeal.nD,
      r.2.mem ((c.tc : Thread Cert.QkvFwdRefIdeal.nD Cert.QkvFwdRefIdeal.τ).loc Cert.QkvFwdRefIdeal.main_arg0) = m ((c.tc : Thread Cert.QkvFwdRefIdeal.nD Cert.QkvFwdRefIdeal.τ).loc Cert.QkvFwdRefIdeal.main_arg0)
      ∧ r.2.mem ((c.tc : Thread Cert.QkvFwdRefIdeal.nD Cert.QkvFwdRefIdeal.τ).loc Cert.QkvFwdRefIdeal.main_arg1) = m ((c.tc : Thread Cert.QkvFwdRefIdeal.nD Cert.QkvFwdRefIdeal.τ).loc Cert.QkvFwdRefIdeal.main_arg1))
      ∧ r.2.sem = fun _ => 0)

def quiescent_AdamOut [hAdamOut : Cert.AdamOut.Facts] [hPre_chip_named : Cert.Pre_chip_named.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] [hPre_chip_named : Cert.Pre_chip_named.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamOutRefIdeal_pre_chip_named [hAdamOutRefIdeal : Cert.AdamOutRefIdeal.Facts] [hPre_chip_named : Cert.Pre_chip_named.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal_chip_named m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamUp [hAdamUp : Cert.AdamUp.Facts] [hPre_chip_named_up : Cert.Pre_chip_named_up.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] [hPre_chip_named_up : Cert.Pre_chip_named_up.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamUpRefIdeal_pre_chip_named_up [hAdamUpRefIdeal : Cert.AdamUpRefIdeal.Facts] [hPre_chip_named_up : Cert.Pre_chip_named_up.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal_chip_named_up m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] [hPre_chip_named_down : Cert.Pre_chip_named_down.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] [hPre_chip_named_down : Cert.Pre_chip_named_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamDownRefIdeal_pre_chip_named_down [hAdamDownRefIdeal : Cert.AdamDownRefIdeal.Facts] [hPre_chip_named_down : Cert.Pre_chip_named_down.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal_chip_named_down m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def preserves_ScBwd_ScBwdIdeal : Prop :=
  True

def algebraic_ScBwdIdeal_ScBwdRefIdeal [hScBwdIdeal : Cert.ScBwdIdeal.Facts] [hScBwdRefIdeal : Cert.ScBwdRefIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg)
    (m' : (ℓ : Loc Cert.ScBwdRefIdeal.nD Cert.ScBwdRefIdeal.τ Cert.ScBwdRefIdeal.sig) → Buf (Elt Ideal) ℓ) (g' : Dev Cert.ScBwdRefIdeal.nD → PrngReg), Pre_ScBwdIdeal m →
    (∀ c : Dev Cert.ScBwdIdeal.nD,
      m' ((c.tc : Thread Cert.ScBwdRefIdeal.nD Cert.ScBwdRefIdeal.τ).loc Cert.ScBwdRefIdeal.main_arg0) = m ((c.tc : Thread Cert.ScBwdIdeal.nD Cert.ScBwdIdeal.τ).loc Cert.ScBwdIdeal.main_arg0)
      ∧ m' ((c.tc : Thread Cert.ScBwdRefIdeal.nD Cert.ScBwdRefIdeal.τ).loc Cert.ScBwdRefIdeal.main_arg1) = m ((c.tc : Thread Cert.ScBwdIdeal.nD Cert.ScBwdIdeal.τ).loc Cert.ScBwdIdeal.main_arg1)
      ∧ m' ((c.tc : Thread Cert.ScBwdRefIdeal.nD Cert.ScBwdRefIdeal.τ).loc Cert.ScBwdRefIdeal.main_arg2) = m ((c.tc : Thread Cert.ScBwdIdeal.nD Cert.ScBwdIdeal.τ).loc Cert.ScBwdIdeal.main_arg2)) →
    ∃ (v0 : (c : Dev Cert.ScBwdIdeal.nD) → Buf (Elt Ideal) ((c.tc : Thread Cert.ScBwdIdeal.nD Cert.ScBwdIdeal.τ).loc Cert.ScBwdIdeal.main_v0_0)) (v1 : (c : Dev Cert.ScBwdIdeal.nD) → Buf (Elt Ideal) ((c.tc : Thread Cert.ScBwdIdeal.nD Cert.ScBwdIdeal.τ).loc Cert.ScBwdIdeal.main_v0_1)) (v2 : (c : Dev Cert.ScBwdIdeal.nD) → Buf (Elt Ideal) ((c.tc : Thread Cert.ScBwdIdeal.nD Cert.ScBwdIdeal.τ).loc Cert.ScBwdIdeal.main_v0_2)) (v3 : (c : Dev Cert.ScBwdIdeal.nD) → Buf (Elt Ideal) ((c.tc : Thread Cert.ScBwdIdeal.nD Cert.ScBwdIdeal.τ).loc Cert.ScBwdIdeal.main_v0_3)),
      θ_run (Cert.ScBwdIdeal.defs (F := Ideal)) (onTc (τ := Cert.ScBwdIdeal.τ) (Cert.ScBwdIdeal.main (F := Ideal))) ⟨m, fun _ => 0, g⟩ (fun r => ∀ c : Dev Cert.ScBwdIdeal.nD,
          r.2.mem ((c.tc : Thread Cert.ScBwdIdeal.nD Cert.ScBwdIdeal.τ).loc Cert.ScBwdIdeal.main_v0_0) = v0 c
          ∧ r.2.mem ((c.tc : Thread Cert.ScBwdIdeal.nD Cert.ScBwdIdeal.τ).loc Cert.ScBwdIdeal.main_v0_1) = v1 c
          ∧ r.2.mem ((c.tc : Thread Cert.ScBwdIdeal.nD Cert.ScBwdIdeal.τ).loc Cert.ScBwdIdeal.main_v0_2) = v2 c
          ∧ r.2.mem ((c.tc : Thread Cert.ScBwdIdeal.nD Cert.ScBwdIdeal.τ).loc Cert.ScBwdIdeal.main_v0_3) = v3 c
          ∧ r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
          ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
          ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ θ_run (Cert.ScBwdRefIdeal.defs (F := Ideal)) (onTc (τ := Cert.ScBwdRefIdeal.τ) (Cert.ScBwdRefIdeal.main (F := Ideal))) ⟨m', fun _ => 0, g'⟩ (fun r => ∀ c : Dev Cert.ScBwdRefIdeal.nD,
          r.2.mem ((c.tc : Thread Cert.ScBwdRefIdeal.nD Cert.ScBwdRefIdeal.τ).loc Cert.ScBwdRefIdeal.main_v73) = v0 c
          ∧ r.2.mem ((c.tc : Thread Cert.ScBwdRefIdeal.nD Cert.ScBwdRefIdeal.τ).loc Cert.ScBwdRefIdeal.main_v75) = v1 c
          ∧ r.2.mem ((c.tc : Thread Cert.ScBwdRefIdeal.nD Cert.ScBwdRefIdeal.τ).loc Cert.ScBwdRefIdeal.main_v77) = v2 c
          ∧ r.2.mem ((c.tc : Thread Cert.ScBwdRefIdeal.nD Cert.ScBwdRefIdeal.τ).loc Cert.ScBwdRefIdeal.main_v65) = v3 c
          ∧ r.2.mem ((c.tc : Thread Cert.ScBwdRefIdeal.nD Cert.ScBwdRefIdeal.τ).loc Cert.ScBwdRefIdeal.main_arg0) = m' ((c.tc : Thread Cert.ScBwdRefIdeal.nD Cert.ScBwdRefIdeal.τ).loc Cert.ScBwdRefIdeal.main_arg0)
          ∧ r.2.mem ((c.tc : Thread Cert.ScBwdRefIdeal.nD Cert.ScBwdRefIdeal.τ).loc Cert.ScBwdRefIdeal.main_arg1) = m' ((c.tc : Thread Cert.ScBwdRefIdeal.nD Cert.ScBwdRefIdeal.τ).loc Cert.ScBwdRefIdeal.main_arg1)
          ∧ r.2.mem ((c.tc : Thread Cert.ScBwdRefIdeal.nD Cert.ScBwdRefIdeal.τ).loc Cert.ScBwdRefIdeal.main_arg2) = m' ((c.tc : Thread Cert.ScBwdRefIdeal.nD Cert.ScBwdRefIdeal.τ).loc Cert.ScBwdRefIdeal.main_arg2))

def preserves_DHid_DHidIdeal : Prop :=
  True

def algebraic_DHidIdeal_DHidRefIdeal [hDHidIdeal : Cert.DHidIdeal.Facts] [hDHidRefIdeal : Cert.DHidRefIdeal.Facts] : Prop :=
  ∀ (m : (ℓ : Loc Cert.DHidIdeal.nD Cert.DHidIdeal.τ Cert.DHidIdeal.sig) → Buf (Elt Ideal) ℓ) (g : Dev Cert.DHidIdeal.nD → PrngReg)
    (m' : (ℓ : Loc Cert.DHidRefIdeal.nD Cert.DHidRefIdeal.τ Cert.DHidRefIdeal.sig) → Buf (Elt Ideal) ℓ) (g' : Dev Cert.DHidRefIdeal.nD → PrngReg), Pre_DHidIdeal m →
    (∀ c : Dev Cert.DHidIdeal.nD,
      m' ((c.tc : Thread Cert.DHidRefIdeal.nD Cert.DHidRefIdeal.τ).loc Cert.DHidRefIdeal.main_arg0) = m ((c.tc : Thread Cert.DHidIdeal.nD Cert.DHidIdeal.τ).loc Cert.DHidIdeal.main_arg0)
      ∧ m' ((c.tc : Thread Cert.DHidRefIdeal.nD Cert.DHidRefIdeal.τ).loc Cert.DHidRefIdeal.main_arg1) = m ((c.tc : Thread Cert.DHidIdeal.nD Cert.DHidIdeal.τ).loc Cert.DHidIdeal.main_arg1)
      ∧ m' ((c.tc : Thread Cert.DHidRefIdeal.nD Cert.DHidRefIdeal.τ).loc Cert.DHidRefIdeal.main_arg2) = m ((c.tc : Thread Cert.DHidIdeal.nD Cert.DHidIdeal.τ).loc Cert.DHidIdeal.main_arg2)) →
    ∃ (v0 : (c : Dev Cert.DHidIdeal.nD) → Buf (Elt Ideal) ((c.tc : Thread Cert.DHidIdeal.nD Cert.DHidIdeal.τ).loc Cert.DHidIdeal.main_v3)),
      θ_run (Cert.DHidIdeal.defs (F := Ideal)) (onTc (τ := Cert.DHidIdeal.τ) (Cert.DHidIdeal.main (F := Ideal))) ⟨m, fun _ => 0, g⟩ (fun r => ∀ c : Dev Cert.DHidIdeal.nD,
          r.2.mem ((c.tc : Thread Cert.DHidIdeal.nD Cert.DHidIdeal.τ).loc Cert.DHidIdeal.main_v3) = v0 c
          ∧ r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
          ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1)
          ∧ r.2.mem ((c.tc : Thread Cert.DHidIdeal.nD Cert.DHidIdeal.τ).loc Cert.DHidIdeal.main_arg2) = m ((c.tc : Thread Cert.DHidIdeal.nD Cert.DHidIdeal.τ).loc Cert.DHidIdeal.main_arg2))
      ∧ θ_run (Cert.DHidRefIdeal.defs (F := Ideal)) (onTc (τ := Cert.DHidRefIdeal.τ) (Cert.DHidRefIdeal.main (F := Ideal))) ⟨m', fun _ => 0, g'⟩ (fun r => ∀ c : Dev Cert.DHidRefIdeal.nD,
          r.2.mem ((c.tc : Thread Cert.DHidRefIdeal.nD Cert.DHidRefIdeal.τ).loc Cert.DHidRefIdeal.main_v14) = v0 c
          ∧ r.2.mem ((c.tc : Thread Cert.DHidRefIdeal.nD Cert.DHidRefIdeal.τ).loc Cert.DHidRefIdeal.main_arg0) = m' ((c.tc : Thread Cert.DHidRefIdeal.nD Cert.DHidRefIdeal.τ).loc Cert.DHidRefIdeal.main_arg0)
          ∧ r.2.mem ((c.tc : Thread Cert.DHidRefIdeal.nD Cert.DHidRefIdeal.τ).loc Cert.DHidRefIdeal.main_arg1) = m' ((c.tc : Thread Cert.DHidRefIdeal.nD Cert.DHidRefIdeal.τ).loc Cert.DHidRefIdeal.main_arg1)
          ∧ r.2.mem ((c.tc : Thread Cert.DHidRefIdeal.nD Cert.DHidRefIdeal.τ).loc Cert.DHidRefIdeal.main_arg2) = m' ((c.tc : Thread Cert.DHidRefIdeal.nD Cert.DHidRefIdeal.τ).loc Cert.DHidRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DXn2_DXn2Ideal : Prop :=
  True

def algebraic_DXn2Ideal_DXn2RefIdeal [hDXn2Ideal : Cert.DXn2Ideal.Facts] [hDXn2RefIdeal : Cert.DXn2RefIdeal.Facts] : Prop :=
  ∀ (m : (ℓ : Loc Cert.DXn2Ideal.nD Cert.DXn2Ideal.τ Cert.DXn2Ideal.sig) → Buf (Elt Ideal) ℓ) (g : Dev Cert.DXn2Ideal.nD → PrngReg)
    (m' : (ℓ : Loc Cert.DXn2RefIdeal.nD Cert.DXn2RefIdeal.τ Cert.DXn2RefIdeal.sig) → Buf (Elt Ideal) ℓ) (g' : Dev Cert.DXn2RefIdeal.nD → PrngReg), Pre_DXn2Ideal m →
    (∀ c : Dev Cert.DXn2Ideal.nD,
      m' ((c.tc : Thread Cert.DXn2RefIdeal.nD Cert.DXn2RefIdeal.τ).loc Cert.DXn2RefIdeal.main_arg0) = m ((c.tc : Thread Cert.DXn2Ideal.nD Cert.DXn2Ideal.τ).loc Cert.DXn2Ideal.main_arg0)
      ∧ m' ((c.tc : Thread Cert.DXn2RefIdeal.nD Cert.DXn2RefIdeal.τ).loc Cert.DXn2RefIdeal.main_arg1) = m ((c.tc : Thread Cert.DXn2Ideal.nD Cert.DXn2Ideal.τ).loc Cert.DXn2Ideal.main_arg1)) →
    ∃ (v0 : (c : Dev Cert.DXn2Ideal.nD) → Buf (Elt Ideal) ((c.tc : Thread Cert.DXn2Ideal.nD Cert.DXn2Ideal.τ).loc Cert.DXn2Ideal.main_v0)),
      θ_run (Cert.DXn2Ideal.defs (F := Ideal)) (onTc (τ := Cert.DXn2Ideal.τ) (Cert.DXn2Ideal.main (F := Ideal))) ⟨m, fun _ => 0, g⟩ (fun r => ∀ c : Dev Cert.DXn2Ideal.nD,
          r.2.mem ((c.tc : Thread Cert.DXn2Ideal.nD Cert.DXn2Ideal.τ).loc Cert.DXn2Ideal.main_v0) = v0 c
          ∧ r.2.mem ((c.tc : Thread Cert.DXn2Ideal.nD Cert.DXn2Ideal.τ).loc Cert.DXn2Ideal.main_arg0) = m ((c.tc : Thread Cert.DXn2Ideal.nD Cert.DXn2Ideal.τ).loc Cert.DXn2Ideal.main_arg0)
          ∧ r.2.mem ((c.tc : Thread Cert.DXn2Ideal.nD Cert.DXn2Ideal.τ).loc Cert.DXn2Ideal.main_arg1) = m ((c.tc : Thread Cert.DXn2Ideal.nD Cert.DXn2Ideal.τ).loc Cert.DXn2Ideal.main_arg1))
      ∧ θ_run (Cert.DXn2RefIdeal.defs (F := Ideal)) (onTc (τ := Cert.DXn2RefIdeal.τ) (Cert.DXn2RefIdeal.main (F := Ideal))) ⟨m', fun _ => 0, g'⟩ (fun r => ∀ c : Dev Cert.DXn2RefIdeal.nD,
          r.2.mem ((c.tc : Thread Cert.DXn2RefIdeal.nD Cert.DXn2RefIdeal.τ).loc Cert.DXn2RefIdeal.main_v6) = v0 c
          ∧ r.2.mem ((c.tc : Thread Cert.DXn2RefIdeal.nD Cert.DXn2RefIdeal.τ).loc Cert.DXn2RefIdeal.main_arg0) = m' ((c.tc : Thread Cert.DXn2RefIdeal.nD Cert.DXn2RefIdeal.τ).loc Cert.DXn2RefIdeal.main_arg0)
          ∧ r.2.mem ((c.tc : Thread Cert.DXn2RefIdeal.nD Cert.DXn2RefIdeal.τ).loc Cert.DXn2RefIdeal.main_arg1) = m' ((c.tc : Thread Cert.DXn2RefIdeal.nD Cert.DXn2RefIdeal.τ).loc Cert.DXn2RefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v10) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v6) = v0 c
          ∧ r.2.mem ((c.tc : Thread Cert.MlpUpRefIdeal.nD Cert.MlpUpRefIdeal.τ).loc Cert.MlpUpRefIdeal.main_v8) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v4) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_DXn_DXnIdeal : Prop :=
  True

def algebraic_DXnIdeal_DXnRefIdeal [hDXnIdeal : Cert.DXnIdeal.Facts] [hDXnRefIdeal : Cert.DXnRefIdeal.Facts] : Prop :=
  ∀ (m : (ℓ : Loc Cert.DXnIdeal.nD Cert.DXnIdeal.τ Cert.DXnIdeal.sig) → Buf (Elt Ideal) ℓ) (g : Dev Cert.DXnIdeal.nD → PrngReg)
    (m' : (ℓ : Loc Cert.DXnRefIdeal.nD Cert.DXnRefIdeal.τ Cert.DXnRefIdeal.sig) → Buf (Elt Ideal) ℓ) (g' : Dev Cert.DXnRefIdeal.nD → PrngReg), Pre_DXnIdeal m →
    (∀ c : Dev Cert.DXnIdeal.nD,
      m' ((c.tc : Thread Cert.DXnRefIdeal.nD Cert.DXnRefIdeal.τ).loc Cert.DXnRefIdeal.main_arg0) = m ((c.tc : Thread Cert.DXnIdeal.nD Cert.DXnIdeal.τ).loc Cert.DXnIdeal.main_arg0)
      ∧ m' ((c.tc : Thread Cert.DXnRefIdeal.nD Cert.DXnRefIdeal.τ).loc Cert.DXnRefIdeal.main_arg1) = m ((c.tc : Thread Cert.DXnIdeal.nD Cert.DXnIdeal.τ).loc Cert.DXnIdeal.main_arg1)) →
    ∃ (v0 : (c : Dev Cert.DXnIdeal.nD) → Buf (Elt Ideal) ((c.tc : Thread Cert.DXnIdeal.nD Cert.DXnIdeal.τ).loc Cert.DXnIdeal.main_v0)),
      θ_run (Cert.DXnIdeal.defs (F := Ideal)) (onTc (τ := Cert.DXnIdeal.τ) (Cert.DXnIdeal.main (F := Ideal))) ⟨m, fun _ => 0, g⟩ (fun r => ∀ c : Dev Cert.DXnIdeal.nD,
          r.2.mem ((c.tc : Thread Cert.DXnIdeal.nD Cert.DXnIdeal.τ).loc Cert.DXnIdeal.main_v0) = v0 c
          ∧ r.2.mem ((c.tc : Thread Cert.DXnIdeal.nD Cert.DXnIdeal.τ).loc Cert.DXnIdeal.main_arg0) = m ((c.tc : Thread Cert.DXnIdeal.nD Cert.DXnIdeal.τ).loc Cert.DXnIdeal.main_arg0)
          ∧ r.2.mem ((c.tc : Thread Cert.DXnIdeal.nD Cert.DXnIdeal.τ).loc Cert.DXnIdeal.main_arg1) = m ((c.tc : Thread Cert.DXnIdeal.nD Cert.DXnIdeal.τ).loc Cert.DXnIdeal.main_arg1))
      ∧ θ_run (Cert.DXnRefIdeal.defs (F := Ideal)) (onTc (τ := Cert.DXnRefIdeal.τ) (Cert.DXnRefIdeal.main (F := Ideal))) ⟨m', fun _ => 0, g'⟩ (fun r => ∀ c : Dev Cert.DXnRefIdeal.nD,
          r.2.mem ((c.tc : Thread Cert.DXnRefIdeal.nD Cert.DXnRefIdeal.τ).loc Cert.DXnRefIdeal.main_v4) = v0 c
          ∧ r.2.mem ((c.tc : Thread Cert.DXnRefIdeal.nD Cert.DXnRefIdeal.τ).loc Cert.DXnRefIdeal.main_arg0) = m' ((c.tc : Thread Cert.DXnRefIdeal.nD Cert.DXnRefIdeal.τ).loc Cert.DXnRefIdeal.main_arg0)
          ∧ r.2.mem ((c.tc : Thread Cert.DXnRefIdeal.nD Cert.DXnRefIdeal.τ).loc Cert.DXnRefIdeal.main_arg1) = m' ((c.tc : Thread Cert.DXnRefIdeal.nD Cert.DXnRefIdeal.τ).loc Cert.DXnRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v1_1)) (v1 : (c : Dev Cert.AdamInIdeal.nD) → Buf (Elt Ideal) ((c.tc : Thread Cert.AdamInIdeal.nD Cert.AdamInIdeal.τ).loc Cert.AdamInIdeal.main_v1_2)) (v2 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_1) = v0 c
          ∧ r.2.mem ((c.tc : Thread Cert.AdamInIdeal.nD Cert.AdamInIdeal.τ).loc Cert.AdamInIdeal.main_v1_2) = v1 c
          ∧ r.2.mem ((c.tc : Thread Cert.AdamInIdeal.nD Cert.AdamInIdeal.τ).loc Cert.AdamInIdeal.main_v1_3) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v1_1)) (v1 : (c : Dev Cert.AdamNormIdeal.nD) → Buf (Elt Ideal) ((c.tc : Thread Cert.AdamNormIdeal.nD Cert.AdamNormIdeal.τ).loc Cert.AdamNormIdeal.main_v1_2)) (v2 : (c : Dev Cert.AdamNormIdeal.nD) → Buf (Elt Ideal) ((c.tc : Thread Cert.AdamNormIdeal.nD Cert.AdamNormIdeal.τ).loc Cert.AdamNormIdeal.main_v1_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v1_1) = v0 c
          ∧ r.2.mem ((c.tc : Thread Cert.AdamNormIdeal.nD Cert.AdamNormIdeal.τ).loc Cert.AdamNormIdeal.main_v1_2) = v1 c
          ∧ r.2.mem ((c.tc : Thread Cert.AdamNormIdeal.nD Cert.AdamNormIdeal.τ).loc Cert.AdamNormIdeal.main_v1_3) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v1_1)) (v1 : (c : Dev Cert.AdamConvIdeal.nD) → Buf (Elt Ideal) ((c.tc : Thread Cert.AdamConvIdeal.nD Cert.AdamConvIdeal.τ).loc Cert.AdamConvIdeal.main_v1_2)) (v2 : (c : Dev Cert.AdamConvIdeal.nD) → Buf (Elt Ideal) ((c.tc : Thread Cert.AdamConvIdeal.nD Cert.AdamConvIdeal.τ).loc Cert.AdamConvIdeal.main_v1_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v1_1) = v0 c
          ∧ r.2.mem ((c.tc : Thread Cert.AdamConvIdeal.nD Cert.AdamConvIdeal.τ).loc Cert.AdamConvIdeal.main_v1_2) = v1 c
          ∧ r.2.mem ((c.tc : Thread Cert.AdamConvIdeal.nD Cert.AdamConvIdeal.τ).loc Cert.AdamConvIdeal.main_v1_3) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamSc_AdamScIdeal : Prop :=
  True

def algebraic_AdamScIdeal_AdamScRefIdeal [hAdamScIdeal : Cert.AdamScIdeal.Facts] [hAdamScRefIdeal : Cert.AdamScRefIdeal.Facts] : Prop :=
  ∀ (m : (ℓ : Loc Cert.AdamScIdeal.nD Cert.AdamScIdeal.τ Cert.AdamScIdeal.sig) → Buf (Elt Ideal) ℓ) (g : Dev Cert.AdamScIdeal.nD → PrngReg)
    (m' : (ℓ : Loc Cert.AdamScRefIdeal.nD Cert.AdamScRefIdeal.τ Cert.AdamScRefIdeal.sig) → Buf (Elt Ideal) ℓ) (g' : Dev Cert.AdamScRefIdeal.nD → PrngReg), Pre_AdamScIdeal m →
    (∀ c : Dev Cert.AdamScIdeal.nD,
      m' ((c.tc : Thread Cert.AdamScRefIdeal.nD Cert.AdamScRefIdeal.τ).loc Cert.AdamScRefIdeal.main_arg0) = m ((c.tc : Thread Cert.AdamScIdeal.nD Cert.AdamScIdeal.τ).loc Cert.AdamScIdeal.main_arg0)
      ∧ m' ((c.tc : Thread Cert.AdamScRefIdeal.nD Cert.AdamScRefIdeal.τ).loc Cert.AdamScRefIdeal.main_arg1) = m ((c.tc : Thread Cert.AdamScIdeal.nD Cert.AdamScIdeal.τ).loc Cert.AdamScIdeal.main_arg1)
      ∧ m' ((c.tc : Thread Cert.AdamScRefIdeal.nD Cert.AdamScRefIdeal.τ).loc Cert.AdamScRefIdeal.main_arg2) = m ((c.tc : Thread Cert.AdamScIdeal.nD Cert.AdamScIdeal.τ).loc Cert.AdamScIdeal.main_arg2)
      ∧ m' ((c.tc : Thread Cert.AdamScRefIdeal.nD Cert.AdamScRefIdeal.τ).loc Cert.AdamScRefIdeal.main_arg3) = m ((c.tc : Thread Cert.AdamScIdeal.nD Cert.AdamScIdeal.τ).loc Cert.AdamScIdeal.main_arg3)) →
    ∃ (v0 : (c : Dev Cert.AdamScIdeal.nD) → Buf (Elt Ideal) ((c.tc : Thread Cert.AdamScIdeal.nD Cert.AdamScIdeal.τ).loc Cert.AdamScIdeal.main_v1_1)) (v1 : (c : Dev Cert.AdamScIdeal.nD) → Buf (Elt Ideal) ((c.tc : Thread Cert.AdamScIdeal.nD Cert.AdamScIdeal.τ).loc Cert.AdamScIdeal.main_v1_2)) (v2 : (c : Dev Cert.AdamScIdeal.nD) → Buf (Elt Ideal) ((c.tc : Thread Cert.AdamScIdeal.nD Cert.AdamScIdeal.τ).loc Cert.AdamScIdeal.main_v1_3)),
      θ_run (Cert.AdamScIdeal.defs (F := Ideal)) (onTc (τ := Cert.AdamScIdeal.τ) (Cert.AdamScIdeal.main (F := Ideal))) ⟨m, fun _ => 0, g⟩ (fun r => ∀ c : Dev Cert.AdamScIdeal.nD,
          r.2.mem ((c.tc : Thread Cert.AdamScIdeal.nD Cert.AdamScIdeal.τ).loc Cert.AdamScIdeal.main_v1_1) = v0 c
          ∧ r.2.mem ((c.tc : Thread Cert.AdamScIdeal.nD Cert.AdamScIdeal.τ).loc Cert.AdamScIdeal.main_v1_2) = v1 c
          ∧ r.2.mem ((c.tc : Thread Cert.AdamScIdeal.nD Cert.AdamScIdeal.τ).loc Cert.AdamScIdeal.main_v1_3) = v2 c
          ∧ r.2.mem ((c.tc : Thread Cert.AdamScIdeal.nD Cert.AdamScIdeal.τ).loc Cert.AdamScIdeal.main_arg0) = m ((c.tc : Thread Cert.AdamScIdeal.nD Cert.AdamScIdeal.τ).loc Cert.AdamScIdeal.main_arg0)
          ∧ r.2.mem ((c.tc : Thread Cert.AdamScIdeal.nD Cert.AdamScIdeal.τ).loc Cert.AdamScIdeal.main_arg1) = m ((c.tc : Thread Cert.AdamScIdeal.nD Cert.AdamScIdeal.τ).loc Cert.AdamScIdeal.main_arg1)
          ∧ r.2.mem ((c.tc : Thread Cert.AdamScIdeal.nD Cert.AdamScIdeal.τ).loc Cert.AdamScIdeal.main_arg2) = m ((c.tc : Thread Cert.AdamScIdeal.nD Cert.AdamScIdeal.τ).loc Cert.AdamScIdeal.main_arg2)
          ∧ r.2.mem ((c.tc : Thread Cert.AdamScIdeal.nD Cert.AdamScIdeal.τ).loc Cert.AdamScIdeal.main_arg3) = m ((c.tc : Thread Cert.AdamScIdeal.nD Cert.AdamScIdeal.τ).loc Cert.AdamScIdeal.main_arg3))
      ∧ θ_run (Cert.AdamScRefIdeal.defs (F := Ideal)) (onTc (τ := Cert.AdamScRefIdeal.τ) (Cert.AdamScRefIdeal.main (F := Ideal))) ⟨m', fun _ => 0, g'⟩ (fun r => ∀ c : Dev Cert.AdamScRefIdeal.nD,
          r.2.mem ((c.tc : Thread Cert.AdamScRefIdeal.nD Cert.AdamScRefIdeal.τ).loc Cert.AdamScRefIdeal.main_v23) = v0 c
          ∧ r.2.mem ((c.tc : Thread Cert.AdamScRefIdeal.nD Cert.AdamScRefIdeal.τ).loc Cert.AdamScRefIdeal.main_v4) = v1 c
          ∧ r.2.mem ((c.tc : Thread Cert.AdamScRefIdeal.nD Cert.AdamScRefIdeal.τ).loc Cert.AdamScRefIdeal.main_v10) = v2 c
          ∧ r.2.mem ((c.tc : Thread Cert.AdamScRefIdeal.nD Cert.AdamScRefIdeal.τ).loc Cert.AdamScRefIdeal.main_arg0) = m' ((c.tc : Thread Cert.AdamScRefIdeal.nD Cert.AdamScRefIdeal.τ).loc Cert.AdamScRefIdeal.main_arg0)
          ∧ r.2.mem ((c.tc : Thread Cert.AdamScRefIdeal.nD Cert.AdamScRefIdeal.τ).loc Cert.AdamScRefIdeal.main_arg1) = m' ((c.tc : Thread Cert.AdamScRefIdeal.nD Cert.AdamScRefIdeal.τ).loc Cert.AdamScRefIdeal.main_arg1)
          ∧ r.2.mem ((c.tc : Thread Cert.AdamScRefIdeal.nD Cert.AdamScRefIdeal.τ).loc Cert.AdamScRefIdeal.main_arg2) = m' ((c.tc : Thread Cert.AdamScRefIdeal.nD Cert.AdamScRefIdeal.τ).loc Cert.AdamScRefIdeal.main_arg2)
          ∧ r.2.mem ((c.tc : Thread Cert.AdamScRefIdeal.nD Cert.AdamScRefIdeal.τ).loc Cert.AdamScRefIdeal.main_arg3) = m' ((c.tc : Thread Cert.AdamScRefIdeal.nD Cert.AdamScRefIdeal.τ).loc Cert.AdamScRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v1_1)) (v1 : (c : Dev Cert.AdamGateIdeal.nD) → Buf (Elt Ideal) ((c.tc : Thread Cert.AdamGateIdeal.nD Cert.AdamGateIdeal.τ).loc Cert.AdamGateIdeal.main_v1_2)) (v2 : (c : Dev Cert.AdamGateIdeal.nD) → Buf (Elt Ideal) ((c.tc : Thread Cert.AdamGateIdeal.nD Cert.AdamGateIdeal.τ).loc Cert.AdamGateIdeal.main_v1_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v1_1) = v0 c
          ∧ r.2.mem ((c.tc : Thread Cert.AdamGateIdeal.nD Cert.AdamGateIdeal.τ).loc Cert.AdamGateIdeal.main_v1_2) = v1 c
          ∧ r.2.mem ((c.tc : Thread Cert.AdamGateIdeal.nD Cert.AdamGateIdeal.τ).loc Cert.AdamGateIdeal.main_v1_3) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamGdn_AdamGdnIdeal : Prop :=
  True

def algebraic_AdamGdnIdeal_AdamGdnRefIdeal [hAdamGdnIdeal : Cert.AdamGdnIdeal.Facts] [hAdamGdnRefIdeal : Cert.AdamGdnRefIdeal.Facts] : Prop :=
  ∀ (m : (ℓ : Loc Cert.AdamGdnIdeal.nD Cert.AdamGdnIdeal.τ Cert.AdamGdnIdeal.sig) → Buf (Elt Ideal) ℓ) (g : Dev Cert.AdamGdnIdeal.nD → PrngReg)
    (m' : (ℓ : Loc Cert.AdamGdnRefIdeal.nD Cert.AdamGdnRefIdeal.τ Cert.AdamGdnRefIdeal.sig) → Buf (Elt Ideal) ℓ) (g' : Dev Cert.AdamGdnRefIdeal.nD → PrngReg), Pre_AdamGdnIdeal m →
    (∀ c : Dev Cert.AdamGdnIdeal.nD,
      m' ((c.tc : Thread Cert.AdamGdnRefIdeal.nD Cert.AdamGdnRefIdeal.τ).loc Cert.AdamGdnRefIdeal.main_arg0) = m ((c.tc : Thread Cert.AdamGdnIdeal.nD Cert.AdamGdnIdeal.τ).loc Cert.AdamGdnIdeal.main_arg0)
      ∧ m' ((c.tc : Thread Cert.AdamGdnRefIdeal.nD Cert.AdamGdnRefIdeal.τ).loc Cert.AdamGdnRefIdeal.main_arg1) = m ((c.tc : Thread Cert.AdamGdnIdeal.nD Cert.AdamGdnIdeal.τ).loc Cert.AdamGdnIdeal.main_arg1)
      ∧ m' ((c.tc : Thread Cert.AdamGdnRefIdeal.nD Cert.AdamGdnRefIdeal.τ).loc Cert.AdamGdnRefIdeal.main_arg2) = m ((c.tc : Thread Cert.AdamGdnIdeal.nD Cert.AdamGdnIdeal.τ).loc Cert.AdamGdnIdeal.main_arg2)
      ∧ m' ((c.tc : Thread Cert.AdamGdnRefIdeal.nD Cert.AdamGdnRefIdeal.τ).loc Cert.AdamGdnRefIdeal.main_arg3) = m ((c.tc : Thread Cert.AdamGdnIdeal.nD Cert.AdamGdnIdeal.τ).loc Cert.AdamGdnIdeal.main_arg3)) →
    ∃ (v0 : (c : Dev Cert.AdamGdnIdeal.nD) → Buf (Elt Ideal) ((c.tc : Thread Cert.AdamGdnIdeal.nD Cert.AdamGdnIdeal.τ).loc Cert.AdamGdnIdeal.main_v1_1)) (v1 : (c : Dev Cert.AdamGdnIdeal.nD) → Buf (Elt Ideal) ((c.tc : Thread Cert.AdamGdnIdeal.nD Cert.AdamGdnIdeal.τ).loc Cert.AdamGdnIdeal.main_v1_2)) (v2 : (c : Dev Cert.AdamGdnIdeal.nD) → Buf (Elt Ideal) ((c.tc : Thread Cert.AdamGdnIdeal.nD Cert.AdamGdnIdeal.τ).loc Cert.AdamGdnIdeal.main_v1_3)),
      θ_run (Cert.AdamGdnIdeal.defs (F := Ideal)) (onTc (τ := Cert.AdamGdnIdeal.τ) (Cert.AdamGdnIdeal.main (F := Ideal))) ⟨m, fun _ => 0, g⟩ (fun r => ∀ c : Dev Cert.AdamGdnIdeal.nD,
          r.2.mem ((c.tc : Thread Cert.AdamGdnIdeal.nD Cert.AdamGdnIdeal.τ).loc Cert.AdamGdnIdeal.main_v1_1) = v0 c
          ∧ r.2.mem ((c.tc : Thread Cert.AdamGdnIdeal.nD Cert.AdamGdnIdeal.τ).loc Cert.AdamGdnIdeal.main_v1_2) = v1 c
          ∧ r.2.mem ((c.tc : Thread Cert.AdamGdnIdeal.nD Cert.AdamGdnIdeal.τ).loc Cert.AdamGdnIdeal.main_v1_3) = v2 c
          ∧ r.2.mem ((c.tc : Thread Cert.AdamGdnIdeal.nD Cert.AdamGdnIdeal.τ).loc Cert.AdamGdnIdeal.main_arg0) = m ((c.tc : Thread Cert.AdamGdnIdeal.nD Cert.AdamGdnIdeal.τ).loc Cert.AdamGdnIdeal.main_arg0)
          ∧ r.2.mem ((c.tc : Thread Cert.AdamGdnIdeal.nD Cert.AdamGdnIdeal.τ).loc Cert.AdamGdnIdeal.main_arg1) = m ((c.tc : Thread Cert.AdamGdnIdeal.nD Cert.AdamGdnIdeal.τ).loc Cert.AdamGdnIdeal.main_arg1)
          ∧ r.2.mem ((c.tc : Thread Cert.AdamGdnIdeal.nD Cert.AdamGdnIdeal.τ).loc Cert.AdamGdnIdeal.main_arg2) = m ((c.tc : Thread Cert.AdamGdnIdeal.nD Cert.AdamGdnIdeal.τ).loc Cert.AdamGdnIdeal.main_arg2)
          ∧ r.2.mem ((c.tc : Thread Cert.AdamGdnIdeal.nD Cert.AdamGdnIdeal.τ).loc Cert.AdamGdnIdeal.main_arg3) = m ((c.tc : Thread Cert.AdamGdnIdeal.nD Cert.AdamGdnIdeal.τ).loc Cert.AdamGdnIdeal.main_arg3))
      ∧ θ_run (Cert.AdamGdnRefIdeal.defs (F := Ideal)) (onTc (τ := Cert.AdamGdnRefIdeal.τ) (Cert.AdamGdnRefIdeal.main (F := Ideal))) ⟨m', fun _ => 0, g'⟩ (fun r => ∀ c : Dev Cert.AdamGdnRefIdeal.nD,
          r.2.mem ((c.tc : Thread Cert.AdamGdnRefIdeal.nD Cert.AdamGdnRefIdeal.τ).loc Cert.AdamGdnRefIdeal.main_v23) = v0 c
          ∧ r.2.mem ((c.tc : Thread Cert.AdamGdnRefIdeal.nD Cert.AdamGdnRefIdeal.τ).loc Cert.AdamGdnRefIdeal.main_v4) = v1 c
          ∧ r.2.mem ((c.tc : Thread Cert.AdamGdnRefIdeal.nD Cert.AdamGdnRefIdeal.τ).loc Cert.AdamGdnRefIdeal.main_v10) = v2 c
          ∧ r.2.mem ((c.tc : Thread Cert.AdamGdnRefIdeal.nD Cert.AdamGdnRefIdeal.τ).loc Cert.AdamGdnRefIdeal.main_arg0) = m' ((c.tc : Thread Cert.AdamGdnRefIdeal.nD Cert.AdamGdnRefIdeal.τ).loc Cert.AdamGdnRefIdeal.main_arg0)
          ∧ r.2.mem ((c.tc : Thread Cert.AdamGdnRefIdeal.nD Cert.AdamGdnRefIdeal.τ).loc Cert.AdamGdnRefIdeal.main_arg1) = m' ((c.tc : Thread Cert.AdamGdnRefIdeal.nD Cert.AdamGdnRefIdeal.τ).loc Cert.AdamGdnRefIdeal.main_arg1)
          ∧ r.2.mem ((c.tc : Thread Cert.AdamGdnRefIdeal.nD Cert.AdamGdnRefIdeal.τ).loc Cert.AdamGdnRefIdeal.main_arg2) = m' ((c.tc : Thread Cert.AdamGdnRefIdeal.nD Cert.AdamGdnRefIdeal.τ).loc Cert.AdamGdnRefIdeal.main_arg2)
          ∧ r.2.mem ((c.tc : Thread Cert.AdamGdnRefIdeal.nD Cert.AdamGdnRefIdeal.τ).loc Cert.AdamGdnRefIdeal.main_arg3) = m' ((c.tc : Thread Cert.AdamGdnRefIdeal.nD Cert.AdamGdnRefIdeal.τ).loc Cert.AdamGdnRefIdeal.main_arg3))

def preserves_PreBwd_PreBwdIdeal : Prop :=
  True

def algebraic_PreBwdIdeal_PreBwdRefIdeal [hPreBwdIdeal : Cert.PreBwdIdeal.Facts] [hPreBwdRefIdeal : Cert.PreBwdRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v34) = v0 c
          ∧ r.2.mem ((c.tc : Thread Cert.PreBwdRefIdeal.nD Cert.PreBwdRefIdeal.τ).loc Cert.PreBwdRefIdeal.main_v17) = v1 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_Post1_Post1Ideal : Prop :=
  True

def algebraic_Post1Ideal_Post1RefIdeal [hPost1Ideal : Cert.Post1Ideal.Facts] [hPost1RefIdeal : Cert.Post1RefIdeal.Facts] : Prop :=
  ∀ (m : (ℓ : Loc Cert.Post1Ideal.nD Cert.Post1Ideal.τ Cert.Post1Ideal.sig) → Buf (Elt Ideal) ℓ) (g : Dev Cert.Post1Ideal.nD → PrngReg)
    (m' : (ℓ : Loc Cert.Post1RefIdeal.nD Cert.Post1RefIdeal.τ Cert.Post1RefIdeal.sig) → Buf (Elt Ideal) ℓ) (g' : Dev Cert.Post1RefIdeal.nD → PrngReg), Pre_Post1Ideal m →
    (∀ c : Dev Cert.Post1Ideal.nD,
      m' ((c.tc : Thread Cert.Post1RefIdeal.nD Cert.Post1RefIdeal.τ).loc Cert.Post1RefIdeal.main_arg0) = m ((c.tc : Thread Cert.Post1Ideal.nD Cert.Post1Ideal.τ).loc Cert.Post1Ideal.main_arg0)
      ∧ m' ((c.tc : Thread Cert.Post1RefIdeal.nD Cert.Post1RefIdeal.τ).loc Cert.Post1RefIdeal.main_arg1) = m ((c.tc : Thread Cert.Post1Ideal.nD Cert.Post1Ideal.τ).loc Cert.Post1Ideal.main_arg1)
      ∧ m' ((c.tc : Thread Cert.Post1RefIdeal.nD Cert.Post1RefIdeal.τ).loc Cert.Post1RefIdeal.main_arg2) = m ((c.tc : Thread Cert.Post1Ideal.nD Cert.Post1Ideal.τ).loc Cert.Post1Ideal.main_arg2)
      ∧ m' ((c.tc : Thread Cert.Post1RefIdeal.nD Cert.Post1RefIdeal.τ).loc Cert.Post1RefIdeal.main_arg3) = m ((c.tc : Thread Cert.Post1Ideal.nD Cert.Post1Ideal.τ).loc Cert.Post1Ideal.main_arg3)) →
    ∃ (v0 : (c : Dev Cert.Post1Ideal.nD) → Buf (Elt Ideal) ((c.tc : Thread Cert.Post1Ideal.nD Cert.Post1Ideal.τ).loc Cert.Post1Ideal.main_v0_0)) (v1 : (c : Dev Cert.Post1Ideal.nD) → Buf (Elt Ideal) ((c.tc : Thread Cert.Post1Ideal.nD Cert.Post1Ideal.τ).loc Cert.Post1Ideal.main_v0_1)),
      θ_run (Cert.Post1Ideal.defs (F := Ideal)) (onTc (τ := Cert.Post1Ideal.τ) (Cert.Post1Ideal.main (F := Ideal))) ⟨m, fun _ => 0, g⟩ (fun r => ∀ c : Dev Cert.Post1Ideal.nD,
          r.2.mem ((c.tc : Thread Cert.Post1Ideal.nD Cert.Post1Ideal.τ).loc Cert.Post1Ideal.main_v0_0) = v0 c
          ∧ r.2.mem ((c.tc : Thread Cert.Post1Ideal.nD Cert.Post1Ideal.τ).loc Cert.Post1Ideal.main_v0_1) = v1 c
          ∧ r.2.mem ((c.tc : Thread Cert.Post1Ideal.nD Cert.Post1Ideal.τ).loc Cert.Post1Ideal.main_arg0) = m ((c.tc : Thread Cert.Post1Ideal.nD Cert.Post1Ideal.τ).loc Cert.Post1Ideal.main_arg0)
          ∧ r.2.mem ((c.tc : Thread Cert.Post1Ideal.nD Cert.Post1Ideal.τ).loc Cert.Post1Ideal.main_arg1) = m ((c.tc : Thread Cert.Post1Ideal.nD Cert.Post1Ideal.τ).loc Cert.Post1Ideal.main_arg1)
          ∧ r.2.mem ((c.tc : Thread Cert.Post1Ideal.nD Cert.Post1Ideal.τ).loc Cert.Post1Ideal.main_arg2) = m ((c.tc : Thread Cert.Post1Ideal.nD Cert.Post1Ideal.τ).loc Cert.Post1Ideal.main_arg2)
          ∧ r.2.mem ((c.tc : Thread Cert.Post1Ideal.nD Cert.Post1Ideal.τ).loc Cert.Post1Ideal.main_arg3) = m ((c.tc : Thread Cert.Post1Ideal.nD Cert.Post1Ideal.τ).loc Cert.Post1Ideal.main_arg3))
      ∧ θ_run (Cert.Post1RefIdeal.defs (F := Ideal)) (onTc (τ := Cert.Post1RefIdeal.τ) (Cert.Post1RefIdeal.main (F := Ideal))) ⟨m', fun _ => 0, g'⟩ (fun r => ∀ c : Dev Cert.Post1RefIdeal.nD,
          r.2.mem ((c.tc : Thread Cert.Post1RefIdeal.nD Cert.Post1RefIdeal.τ).loc Cert.Post1RefIdeal.main_v12) = v0 c
          ∧ r.2.mem ((c.tc : Thread Cert.Post1RefIdeal.nD Cert.Post1RefIdeal.τ).loc Cert.Post1RefIdeal.main_v25) = v1 c
          ∧ r.2.mem ((c.tc : Thread Cert.Post1RefIdeal.nD Cert.Post1RefIdeal.τ).loc Cert.Post1RefIdeal.main_arg0) = m' ((c.tc : Thread Cert.Post1RefIdeal.nD Cert.Post1RefIdeal.τ).loc Cert.Post1RefIdeal.main_arg0)
          ∧ r.2.mem ((c.tc : Thread Cert.Post1RefIdeal.nD Cert.Post1RefIdeal.τ).loc Cert.Post1RefIdeal.main_arg1) = m' ((c.tc : Thread Cert.Post1RefIdeal.nD Cert.Post1RefIdeal.τ).loc Cert.Post1RefIdeal.main_arg1)
          ∧ r.2.mem ((c.tc : Thread Cert.Post1RefIdeal.nD Cert.Post1RefIdeal.τ).loc Cert.Post1RefIdeal.main_arg2) = m' ((c.tc : Thread Cert.Post1RefIdeal.nD Cert.Post1RefIdeal.τ).loc Cert.Post1RefIdeal.main_arg2)
          ∧ r.2.mem ((c.tc : Thread Cert.Post1RefIdeal.nD Cert.Post1RefIdeal.τ).loc Cert.Post1RefIdeal.main_arg3) = m' ((c.tc : Thread Cert.Post1RefIdeal.nD Cert.Post1RefIdeal.τ).loc Cert.Post1RefIdeal.main_arg3))

def preserves_Post2_Post2Ideal : Prop :=
  True

def algebraic_Post2Ideal_Post2RefIdeal [hPost2Ideal : Cert.Post2Ideal.Facts] [hPost2RefIdeal : Cert.Post2RefIdeal.Facts] : Prop :=
  ∀ (m : (ℓ : Loc Cert.Post2Ideal.nD Cert.Post2Ideal.τ Cert.Post2Ideal.sig) → Buf (Elt Ideal) ℓ) (g : Dev Cert.Post2Ideal.nD → PrngReg)
    (m' : (ℓ : Loc Cert.Post2RefIdeal.nD Cert.Post2RefIdeal.τ Cert.Post2RefIdeal.sig) → Buf (Elt Ideal) ℓ) (g' : Dev Cert.Post2RefIdeal.nD → PrngReg), Pre_Post2Ideal m →
    (∀ c : Dev Cert.Post2Ideal.nD,
      m' ((c.tc : Thread Cert.Post2RefIdeal.nD Cert.Post2RefIdeal.τ).loc Cert.Post2RefIdeal.main_arg0) = m ((c.tc : Thread Cert.Post2Ideal.nD Cert.Post2Ideal.τ).loc Cert.Post2Ideal.main_arg0)
      ∧ m' ((c.tc : Thread Cert.Post2RefIdeal.nD Cert.Post2RefIdeal.τ).loc Cert.Post2RefIdeal.main_arg1) = m ((c.tc : Thread Cert.Post2Ideal.nD Cert.Post2Ideal.τ).loc Cert.Post2Ideal.main_arg1)
      ∧ m' ((c.tc : Thread Cert.Post2RefIdeal.nD Cert.Post2RefIdeal.τ).loc Cert.Post2RefIdeal.main_arg2) = m ((c.tc : Thread Cert.Post2Ideal.nD Cert.Post2Ideal.τ).loc Cert.Post2Ideal.main_arg2)
      ∧ m' ((c.tc : Thread Cert.Post2RefIdeal.nD Cert.Post2RefIdeal.τ).loc Cert.Post2RefIdeal.main_arg3) = m ((c.tc : Thread Cert.Post2Ideal.nD Cert.Post2Ideal.τ).loc Cert.Post2Ideal.main_arg3)) →
    ∃ (v0 : (c : Dev Cert.Post2Ideal.nD) → Buf (Elt Ideal) ((c.tc : Thread Cert.Post2Ideal.nD Cert.Post2Ideal.τ).loc Cert.Post2Ideal.main_v0_0)) (v1 : (c : Dev Cert.Post2Ideal.nD) → Buf (Elt Ideal) ((c.tc : Thread Cert.Post2Ideal.nD Cert.Post2Ideal.τ).loc Cert.Post2Ideal.main_v0_1)) (v2 : (c : Dev Cert.Post2Ideal.nD) → Buf (Elt Ideal) ((c.tc : Thread Cert.Post2Ideal.nD Cert.Post2Ideal.τ).loc Cert.Post2Ideal.main_v0_2)) (v3 : (c : Dev Cert.Post2Ideal.nD) → Buf (Elt Ideal) ((c.tc : Thread Cert.Post2Ideal.nD Cert.Post2Ideal.τ).loc Cert.Post2Ideal.main_v0_3)),
      θ_run (Cert.Post2Ideal.defs (F := Ideal)) (onTc (τ := Cert.Post2Ideal.τ) (Cert.Post2Ideal.main (F := Ideal))) ⟨m, fun _ => 0, g⟩ (fun r => ∀ c : Dev Cert.Post2Ideal.nD,
          r.2.mem ((c.tc : Thread Cert.Post2Ideal.nD Cert.Post2Ideal.τ).loc Cert.Post2Ideal.main_v0_0) = v0 c
          ∧ r.2.mem ((c.tc : Thread Cert.Post2Ideal.nD Cert.Post2Ideal.τ).loc Cert.Post2Ideal.main_v0_1) = v1 c
          ∧ r.2.mem ((c.tc : Thread Cert.Post2Ideal.nD Cert.Post2Ideal.τ).loc Cert.Post2Ideal.main_v0_2) = v2 c
          ∧ r.2.mem ((c.tc : Thread Cert.Post2Ideal.nD Cert.Post2Ideal.τ).loc Cert.Post2Ideal.main_v0_3) = v3 c
          ∧ r.2.mem ((c.tc : Thread Cert.Post2Ideal.nD Cert.Post2Ideal.τ).loc Cert.Post2Ideal.main_arg0) = m ((c.tc : Thread Cert.Post2Ideal.nD Cert.Post2Ideal.τ).loc Cert.Post2Ideal.main_arg0)
          ∧ r.2.mem ((c.tc : Thread Cert.Post2Ideal.nD Cert.Post2Ideal.τ).loc Cert.Post2Ideal.main_arg1) = m ((c.tc : Thread Cert.Post2Ideal.nD Cert.Post2Ideal.τ).loc Cert.Post2Ideal.main_arg1)
          ∧ r.2.mem ((c.tc : Thread Cert.Post2Ideal.nD Cert.Post2Ideal.τ).loc Cert.Post2Ideal.main_arg2) = m ((c.tc : Thread Cert.Post2Ideal.nD Cert.Post2Ideal.τ).loc Cert.Post2Ideal.main_arg2)
          ∧ r.2.mem ((c.tc : Thread Cert.Post2Ideal.nD Cert.Post2Ideal.τ).loc Cert.Post2Ideal.main_arg3) = m ((c.tc : Thread Cert.Post2Ideal.nD Cert.Post2Ideal.τ).loc Cert.Post2Ideal.main_arg3))
      ∧ θ_run (Cert.Post2RefIdeal.defs (F := Ideal)) (onTc (τ := Cert.Post2RefIdeal.τ) (Cert.Post2RefIdeal.main (F := Ideal))) ⟨m', fun _ => 0, g'⟩ (fun r => ∀ c : Dev Cert.Post2RefIdeal.nD,
          r.2.mem ((c.tc : Thread Cert.Post2RefIdeal.nD Cert.Post2RefIdeal.τ).loc Cert.Post2RefIdeal.main_v50) = v0 c
          ∧ r.2.mem ((c.tc : Thread Cert.Post2RefIdeal.nD Cert.Post2RefIdeal.τ).loc Cert.Post2RefIdeal.main_v30) = v1 c
          ∧ r.2.mem ((c.tc : Thread Cert.Post2RefIdeal.nD Cert.Post2RefIdeal.τ).loc Cert.Post2RefIdeal.main_v33) = v2 c
          ∧ r.2.mem ((c.tc : Thread Cert.Post2RefIdeal.nD Cert.Post2RefIdeal.τ).loc Cert.Post2RefIdeal.main_v51) = v3 c
          ∧ r.2.mem ((c.tc : Thread Cert.Post2RefIdeal.nD Cert.Post2RefIdeal.τ).loc Cert.Post2RefIdeal.main_arg0) = m' ((c.tc : Thread Cert.Post2RefIdeal.nD Cert.Post2RefIdeal.τ).loc Cert.Post2RefIdeal.main_arg0)
          ∧ r.2.mem ((c.tc : Thread Cert.Post2RefIdeal.nD Cert.Post2RefIdeal.τ).loc Cert.Post2RefIdeal.main_arg1) = m' ((c.tc : Thread Cert.Post2RefIdeal.nD Cert.Post2RefIdeal.τ).loc Cert.Post2RefIdeal.main_arg1)
          ∧ r.2.mem ((c.tc : Thread Cert.Post2RefIdeal.nD Cert.Post2RefIdeal.τ).loc Cert.Post2RefIdeal.main_arg2) = m' ((c.tc : Thread Cert.Post2RefIdeal.nD Cert.Post2RefIdeal.τ).loc Cert.Post2RefIdeal.main_arg2)
          ∧ r.2.mem ((c.tc : Thread Cert.Post2RefIdeal.nD Cert.Post2RefIdeal.τ).loc Cert.Post2RefIdeal.main_arg3) = m' ((c.tc : Thread Cert.Post2RefIdeal.nD Cert.Post2RefIdeal.τ).loc Cert.Post2RefIdeal.main_arg3))

def preserves_MidBwd_MidBwdIdeal : Prop :=
  True

def algebraic_MidBwdIdeal_MidBwdRefIdeal [hMidBwdIdeal : Cert.MidBwdIdeal.Facts] [hMidBwdRefIdeal : Cert.MidBwdRefIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg)
    (m' : (ℓ : Loc Cert.MidBwdRefIdeal.nD Cert.MidBwdRefIdeal.τ Cert.MidBwdRefIdeal.sig) → Buf (Elt Ideal) ℓ) (g' : Dev Cert.MidBwdRefIdeal.nD → PrngReg), Pre_MidBwdIdeal m →
    (∀ c : Dev Cert.MidBwdIdeal.nD,
      m' ((c.tc : Thread Cert.MidBwdRefIdeal.nD Cert.MidBwdRefIdeal.τ).loc Cert.MidBwdRefIdeal.main_arg0) = m ((c.tc : Thread Cert.MidBwdIdeal.nD Cert.MidBwdIdeal.τ).loc Cert.MidBwdIdeal.main_arg0)
      ∧ m' ((c.tc : Thread Cert.MidBwdRefIdeal.nD Cert.MidBwdRefIdeal.τ).loc Cert.MidBwdRefIdeal.main_arg1) = m ((c.tc : Thread Cert.MidBwdIdeal.nD Cert.MidBwdIdeal.τ).loc Cert.MidBwdIdeal.main_arg1)
      ∧ m' ((c.tc : Thread Cert.MidBwdRefIdeal.nD Cert.MidBwdRefIdeal.τ).loc Cert.MidBwdRefIdeal.main_arg2) = m ((c.tc : Thread Cert.MidBwdIdeal.nD Cert.MidBwdIdeal.τ).loc Cert.MidBwdIdeal.main_arg2)
      ∧ m' ((c.tc : Thread Cert.MidBwdRefIdeal.nD Cert.MidBwdRefIdeal.τ).loc Cert.MidBwdRefIdeal.main_arg3) = m ((c.tc : Thread Cert.MidBwdIdeal.nD Cert.MidBwdIdeal.τ).loc Cert.MidBwdIdeal.main_arg3)
      ∧ m' ((c.tc : Thread Cert.MidBwdRefIdeal.nD Cert.MidBwdRefIdeal.τ).loc Cert.MidBwdRefIdeal.main_arg4) = m ((c.tc : Thread Cert.MidBwdIdeal.nD Cert.MidBwdIdeal.τ).loc Cert.MidBwdIdeal.main_arg4)
      ∧ m' ((c.tc : Thread Cert.MidBwdRefIdeal.nD Cert.MidBwdRefIdeal.τ).loc Cert.MidBwdRefIdeal.main_arg5) = m ((c.tc : Thread Cert.MidBwdIdeal.nD Cert.MidBwdIdeal.τ).loc Cert.MidBwdIdeal.main_arg5)) →
    ∃ (v0 : (c : Dev Cert.MidBwdIdeal.nD) → Buf (Elt Ideal) ((c.tc : Thread Cert.MidBwdIdeal.nD Cert.MidBwdIdeal.τ).loc Cert.MidBwdIdeal.main_v0_0)) (v1 : (c : Dev Cert.MidBwdIdeal.nD) → Buf (Elt Ideal) ((c.tc : Thread Cert.MidBwdIdeal.nD Cert.MidBwdIdeal.τ).loc Cert.MidBwdIdeal.main_v0_1)) (v2 : (c : Dev Cert.MidBwdIdeal.nD) → Buf (Elt Ideal) ((c.tc : Thread Cert.MidBwdIdeal.nD Cert.MidBwdIdeal.τ).loc Cert.MidBwdIdeal.main_v0_2)) (v3 : (c : Dev Cert.MidBwdIdeal.nD) → Buf (Elt Ideal) ((c.tc : Thread Cert.MidBwdIdeal.nD Cert.MidBwdIdeal.τ).loc Cert.MidBwdIdeal.main_v0_3)),
      θ_run (Cert.MidBwdIdeal.defs (F := Ideal)) (onTc (τ := Cert.MidBwdIdeal.τ) (Cert.MidBwdIdeal.main (F := Ideal))) ⟨m, fun _ => 0, g⟩ (fun r => ∀ c : Dev Cert.MidBwdIdeal.nD,
          r.2.mem ((c.tc : Thread Cert.MidBwdIdeal.nD Cert.MidBwdIdeal.τ).loc Cert.MidBwdIdeal.main_v0_0) = v0 c
          ∧ r.2.mem ((c.tc : Thread Cert.MidBwdIdeal.nD Cert.MidBwdIdeal.τ).loc Cert.MidBwdIdeal.main_v0_1) = v1 c
          ∧ r.2.mem ((c.tc : Thread Cert.MidBwdIdeal.nD Cert.MidBwdIdeal.τ).loc Cert.MidBwdIdeal.main_v0_2) = v2 c
          ∧ r.2.mem ((c.tc : Thread Cert.MidBwdIdeal.nD Cert.MidBwdIdeal.τ).loc Cert.MidBwdIdeal.main_v0_3) = v3 c
          ∧ r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
          ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
          ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
          ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
          ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
          ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v69) = v0 c
          ∧ r.2.mem ((c.tc : Thread Cert.MidBwdRefIdeal.nD Cert.MidBwdRefIdeal.τ).loc Cert.MidBwdRefIdeal.main_v34) = v1 c
          ∧ r.2.mem ((c.tc : Thread Cert.MidBwdRefIdeal.nD Cert.MidBwdRefIdeal.τ).loc Cert.MidBwdRefIdeal.main_v52) = v2 c
          ∧ r.2.mem ((c.tc : Thread Cert.MidBwdRefIdeal.nD Cert.MidBwdRefIdeal.τ).loc Cert.MidBwdRefIdeal.main_v17) = v3 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3)
          ∧ r.2.mem ((c.tc : Thread Cert.MidBwdRefIdeal.nD Cert.MidBwdRefIdeal.τ).loc Cert.MidBwdRefIdeal.main_arg4) = m' ((c.tc : Thread Cert.MidBwdRefIdeal.nD Cert.MidBwdRefIdeal.τ).loc Cert.MidBwdRefIdeal.main_arg4)
          ∧ r.2.mem ((c.tc : Thread Cert.MidBwdRefIdeal.nD Cert.MidBwdRefIdeal.τ).loc Cert.MidBwdRefIdeal.main_arg5) = m' ((c.tc : Thread Cert.MidBwdRefIdeal.nD Cert.MidBwdRefIdeal.τ).loc Cert.MidBwdRefIdeal.main_arg5))

def preserves_ScFwd_ScFwdIdeal : Prop :=
  True

def algebraic_ScFwdIdeal_ScFwdRefIdeal [hScFwdIdeal : Cert.ScFwdIdeal.Facts] [hScFwdRefIdeal : Cert.ScFwdRefIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg)
    (m' : (ℓ : Loc Cert.ScFwdRefIdeal.nD Cert.ScFwdRefIdeal.τ Cert.ScFwdRefIdeal.sig) → Buf (Elt Ideal) ℓ) (g' : Dev Cert.ScFwdRefIdeal.nD → PrngReg), Pre_ScFwdIdeal m →
    (∀ c : Dev Cert.ScFwdIdeal.nD,
      m' ((c.tc : Thread Cert.ScFwdRefIdeal.nD Cert.ScFwdRefIdeal.τ).loc Cert.ScFwdRefIdeal.main_arg0) = m ((c.tc : Thread Cert.ScFwdIdeal.nD Cert.ScFwdIdeal.τ).loc Cert.ScFwdIdeal.main_arg0)
      ∧ m' ((c.tc : Thread Cert.ScFwdRefIdeal.nD Cert.ScFwdRefIdeal.τ).loc Cert.ScFwdRefIdeal.main_arg1) = m ((c.tc : Thread Cert.ScFwdIdeal.nD Cert.ScFwdIdeal.τ).loc Cert.ScFwdIdeal.main_arg1)) →
    ∃ (v0 : (c : Dev Cert.ScFwdIdeal.nD) → Buf (Elt Ideal) ((c.tc : Thread Cert.ScFwdIdeal.nD Cert.ScFwdIdeal.τ).loc Cert.ScFwdIdeal.main_v0)),
      θ_run (Cert.ScFwdIdeal.defs (F := Ideal)) (onTc (τ := Cert.ScFwdIdeal.τ) (Cert.ScFwdIdeal.main (F := Ideal))) ⟨m, fun _ => 0, g⟩ (fun r => ∀ c : Dev Cert.ScFwdIdeal.nD,
          r.2.mem ((c.tc : Thread Cert.ScFwdIdeal.nD Cert.ScFwdIdeal.τ).loc Cert.ScFwdIdeal.main_v0) = v0 c
          ∧ r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
          ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ θ_run (Cert.ScFwdRefIdeal.defs (F := Ideal)) (onTc (τ := Cert.ScFwdRefIdeal.τ) (Cert.ScFwdRefIdeal.main (F := Ideal))) ⟨m', fun _ => 0, g'⟩ (fun r => ∀ c : Dev Cert.ScFwdRefIdeal.nD,
          r.2.mem ((c.tc : Thread Cert.ScFwdRefIdeal.nD Cert.ScFwdRefIdeal.τ).loc Cert.ScFwdRefIdeal.main_v33) = v0 c
          ∧ r.2.mem ((c.tc : Thread Cert.ScFwdRefIdeal.nD Cert.ScFwdRefIdeal.τ).loc Cert.ScFwdRefIdeal.main_arg0) = m' ((c.tc : Thread Cert.ScFwdRefIdeal.nD Cert.ScFwdRefIdeal.τ).loc Cert.ScFwdRefIdeal.main_arg0)
          ∧ r.2.mem ((c.tc : Thread Cert.ScFwdRefIdeal.nD Cert.ScFwdRefIdeal.τ).loc Cert.ScFwdRefIdeal.main_arg1) = m' ((c.tc : Thread Cert.ScFwdRefIdeal.nD Cert.ScFwdRefIdeal.τ).loc Cert.ScFwdRefIdeal.main_arg1))

def preserves_QkvFwd_QkvFwdIdeal : Prop :=
  True

def algebraic_QkvFwdIdeal_QkvFwdRefIdeal [hQkvFwdIdeal : Cert.QkvFwdIdeal.Facts] [hQkvFwdRefIdeal : Cert.QkvFwdRefIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvFwdRefIdeal.nD Cert.QkvFwdRefIdeal.τ Cert.QkvFwdRefIdeal.sig) → Buf (Elt Ideal) ℓ) (g' : Dev Cert.QkvFwdRefIdeal.nD → PrngReg), Pre_QkvFwdIdeal m →
    (∀ c : Dev Cert.QkvFwdIdeal.nD,
      m' ((c.tc : Thread Cert.QkvFwdRefIdeal.nD Cert.QkvFwdRefIdeal.τ).loc Cert.QkvFwdRefIdeal.main_arg0) = m ((c.tc : Thread Cert.QkvFwdIdeal.nD Cert.QkvFwdIdeal.τ).loc Cert.QkvFwdIdeal.main_arg0)
      ∧ m' ((c.tc : Thread Cert.QkvFwdRefIdeal.nD Cert.QkvFwdRefIdeal.τ).loc Cert.QkvFwdRefIdeal.main_arg1) = m ((c.tc : Thread Cert.QkvFwdIdeal.nD Cert.QkvFwdIdeal.τ).loc Cert.QkvFwdIdeal.main_arg1)) →
    ∃ (v0 : (c : Dev Cert.QkvFwdIdeal.nD) → Buf (Elt Ideal) ((c.tc : Thread Cert.QkvFwdIdeal.nD Cert.QkvFwdIdeal.τ).loc Cert.QkvFwdIdeal.main_v0)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v0) = v0 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1))
      ∧ θ_run (Cert.QkvFwdRefIdeal.defs (F := Ideal)) (onTc (τ := Cert.QkvFwdRefIdeal.τ) (Cert.QkvFwdRefIdeal.main (F := Ideal))) ⟨m', fun _ => 0, g'⟩ (fun r => ∀ c : Dev Cert.QkvFwdRefIdeal.nD,
          r.2.mem ((c.tc : Thread Cert.QkvFwdRefIdeal.nD Cert.QkvFwdRefIdeal.τ).loc Cert.QkvFwdRefIdeal.main_v43) = v0 c
          ∧ r.2.mem ((c.tc : Thread Cert.QkvFwdRefIdeal.nD Cert.QkvFwdRefIdeal.τ).loc Cert.QkvFwdRefIdeal.main_arg0) = m' ((c.tc : Thread Cert.QkvFwdRefIdeal.nD Cert.QkvFwdRefIdeal.τ).loc Cert.QkvFwdRefIdeal.main_arg0)
          ∧ r.2.mem ((c.tc : Thread Cert.QkvFwdRefIdeal.nD Cert.QkvFwdRefIdeal.τ).loc Cert.QkvFwdRefIdeal.main_arg1) = m' ((c.tc : Thread Cert.QkvFwdRefIdeal.nD Cert.QkvFwdRefIdeal.τ).loc Cert.QkvFwdRefIdeal.main_arg1))

def preserves_AdamOut_AdamOutIdeal : Prop :=
  True

def algebraic_AdamOutIdeal_AdamOutRefIdeal [hAdamOutIdeal : Cert.AdamOutIdeal.Facts] [hAdamOutRefIdeal : Cert.AdamOutRefIdeal.Facts] [hPre_chip_named : Cert.Pre_chip_named.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v6_0)) (v1 : (c : Dev Cert.AdamOutIdeal.nD) → Buf (Elt Ideal) ((c.tc : Thread Cert.AdamOutIdeal.nD Cert.AdamOutIdeal.τ).loc Cert.AdamOutIdeal.main_v6_1)) (v2 : (c : Dev Cert.AdamOutIdeal.nD) → Buf (Elt Ideal) ((c.tc : Thread Cert.AdamOutIdeal.nD Cert.AdamOutIdeal.τ).loc Cert.AdamOutIdeal.main_v6_2)) (v3 : (c : Dev Cert.AdamOutIdeal.nD) → Buf (Elt Ideal) ((c.tc : Thread Cert.AdamOutIdeal.nD Cert.AdamOutIdeal.τ).loc Cert.AdamOutIdeal.main_v6_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v6_0) = v0 c
          ∧ r.2.mem ((c.tc : Thread Cert.AdamOutIdeal.nD Cert.AdamOutIdeal.τ).loc Cert.AdamOutIdeal.main_v6_1) = v1 c
          ∧ r.2.mem ((c.tc : Thread Cert.AdamOutIdeal.nD Cert.AdamOutIdeal.τ).loc Cert.AdamOutIdeal.main_v6_2) = v2 c
          ∧ r.2.mem ((c.tc : Thread Cert.AdamOutIdeal.nD Cert.AdamOutIdeal.τ).loc Cert.AdamOutIdeal.main_v6_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v10) = v0 c
          ∧ r.2.mem ((c.tc : Thread Cert.AdamOutRefIdeal.nD Cert.AdamOutRefIdeal.τ).loc Cert.AdamOutRefIdeal.main_v34) = v1 c
          ∧ r.2.mem ((c.tc : Thread Cert.AdamOutRefIdeal.nD Cert.AdamOutRefIdeal.τ).loc Cert.AdamOutRefIdeal.main_v15) = v2 c
          ∧ r.2.mem ((c.tc : Thread Cert.AdamOutRefIdeal.nD Cert.AdamOutRefIdeal.τ).loc Cert.AdamOutRefIdeal.main_v21) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] [hPre_chip_named_up : Cert.Pre_chip_named_up.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v6_0)) (v1 : (c : Dev Cert.AdamUpIdeal.nD) → Buf (Elt Ideal) ((c.tc : Thread Cert.AdamUpIdeal.nD Cert.AdamUpIdeal.τ).loc Cert.AdamUpIdeal.main_v6_1)) (v2 : (c : Dev Cert.AdamUpIdeal.nD) → Buf (Elt Ideal) ((c.tc : Thread Cert.AdamUpIdeal.nD Cert.AdamUpIdeal.τ).loc Cert.AdamUpIdeal.main_v6_2)) (v3 : (c : Dev Cert.AdamUpIdeal.nD) → Buf (Elt Ideal) ((c.tc : Thread Cert.AdamUpIdeal.nD Cert.AdamUpIdeal.τ).loc Cert.AdamUpIdeal.main_v6_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v6_0) = v0 c
          ∧ r.2.mem ((c.tc : Thread Cert.AdamUpIdeal.nD Cert.AdamUpIdeal.τ).loc Cert.AdamUpIdeal.main_v6_1) = v1 c
          ∧ r.2.mem ((c.tc : Thread Cert.AdamUpIdeal.nD Cert.AdamUpIdeal.τ).loc Cert.AdamUpIdeal.main_v6_2) = v2 c
          ∧ r.2.mem ((c.tc : Thread Cert.AdamUpIdeal.nD Cert.AdamUpIdeal.τ).loc Cert.AdamUpIdeal.main_v6_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v10) = v0 c
          ∧ r.2.mem ((c.tc : Thread Cert.AdamUpRefIdeal.nD Cert.AdamUpRefIdeal.τ).loc Cert.AdamUpRefIdeal.main_v34) = v1 c
          ∧ r.2.mem ((c.tc : Thread Cert.AdamUpRefIdeal.nD Cert.AdamUpRefIdeal.τ).loc Cert.AdamUpRefIdeal.main_v15) = v2 c
          ∧ r.2.mem ((c.tc : Thread Cert.AdamUpRefIdeal.nD Cert.AdamUpRefIdeal.τ).loc Cert.AdamUpRefIdeal.main_v21) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] [hPre_chip_named_down : Cert.Pre_chip_named_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v6_0)) (v1 : (c : Dev Cert.AdamDownIdeal.nD) → Buf (Elt Ideal) ((c.tc : Thread Cert.AdamDownIdeal.nD Cert.AdamDownIdeal.τ).loc Cert.AdamDownIdeal.main_v6_1)) (v2 : (c : Dev Cert.AdamDownIdeal.nD) → Buf (Elt Ideal) ((c.tc : Thread Cert.AdamDownIdeal.nD Cert.AdamDownIdeal.τ).loc Cert.AdamDownIdeal.main_v6_2)) (v3 : (c : Dev Cert.AdamDownIdeal.nD) → Buf (Elt Ideal) ((c.tc : Thread Cert.AdamDownIdeal.nD Cert.AdamDownIdeal.τ).loc Cert.AdamDownIdeal.main_v6_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v6_0) = v0 c
          ∧ r.2.mem ((c.tc : Thread Cert.AdamDownIdeal.nD Cert.AdamDownIdeal.τ).loc Cert.AdamDownIdeal.main_v6_1) = v1 c
          ∧ r.2.mem ((c.tc : Thread Cert.AdamDownIdeal.nD Cert.AdamDownIdeal.τ).loc Cert.AdamDownIdeal.main_v6_2) = v2 c
          ∧ r.2.mem ((c.tc : Thread Cert.AdamDownIdeal.nD Cert.AdamDownIdeal.τ).loc Cert.AdamDownIdeal.main_v6_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v10) = v0 c
          ∧ r.2.mem ((c.tc : Thread Cert.AdamDownRefIdeal.nD Cert.AdamDownRefIdeal.τ).loc Cert.AdamDownRefIdeal.main_v34) = v1 c
          ∧ r.2.mem ((c.tc : Thread Cert.AdamDownRefIdeal.nD Cert.AdamDownRefIdeal.τ).loc Cert.AdamDownRefIdeal.main_v15) = v2 c
          ∧ r.2.mem ((c.tc : Thread Cert.AdamDownRefIdeal.nD Cert.AdamDownRefIdeal.τ).loc Cert.AdamDownRefIdeal.main_v21) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def Claim : Prop :=
  ∃ (hGdnBwdIdeal : Cert.GdnBwdIdeal.Facts) (hScBwd : Cert.ScBwd.Facts) (hScBwdIdeal : Cert.ScBwdIdeal.Facts) (hScBwdRefIdeal : Cert.ScBwdRefIdeal.Facts) (hDHid : Cert.DHid.Facts) (hDHidIdeal : Cert.DHidIdeal.Facts) (hDHidRefIdeal : Cert.DHidRefIdeal.Facts) (hDwDown : Cert.DwDown.Facts) (hDwDownIdeal : Cert.DwDownIdeal.Facts) (hDwDownRefIdeal : Cert.DwDownRefIdeal.Facts) (hDXn2 : Cert.DXn2.Facts) (hDXn2Ideal : Cert.DXn2Ideal.Facts) (hDXn2RefIdeal : Cert.DXn2RefIdeal.Facts) (hDwUp : Cert.DwUp.Facts) (hDwUpIdeal : Cert.DwUpIdeal.Facts) (hDwUpRefIdeal : Cert.DwUpRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hDMixed : Cert.DMixed.Facts) (hDMixedIdeal : Cert.DMixedIdeal.Facts) (hDMixedRefIdeal : Cert.DMixedRefIdeal.Facts) (hDwOut : Cert.DwOut.Facts) (hDwOutIdeal : Cert.DwOutIdeal.Facts) (hDwOutRefIdeal : Cert.DwOutRefIdeal.Facts) (hOutProj : Cert.OutProj.Facts) (hOutProjIdeal : Cert.OutProjIdeal.Facts) (hOutProjRefIdeal : Cert.OutProjRefIdeal.Facts) (hDXn : Cert.DXn.Facts) (hDXnIdeal : Cert.DXnIdeal.Facts) (hDXnRefIdeal : Cert.DXnRefIdeal.Facts) (hInProj : Cert.InProj.Facts) (hInProjIdeal : Cert.InProjIdeal.Facts) (hInProjRefIdeal : Cert.InProjRefIdeal.Facts) (hAdamIn : Cert.AdamIn.Facts) (hAdamInIdeal : Cert.AdamInIdeal.Facts) (hAdamInRefIdeal : Cert.AdamInRefIdeal.Facts) (hAdamNorm : Cert.AdamNorm.Facts) (hAdamNormIdeal : Cert.AdamNormIdeal.Facts) (hAdamNormRefIdeal : Cert.AdamNormRefIdeal.Facts) (hAdamConv : Cert.AdamConv.Facts) (hAdamConvIdeal : Cert.AdamConvIdeal.Facts) (hAdamConvRefIdeal : Cert.AdamConvRefIdeal.Facts) (hAdamSc : Cert.AdamSc.Facts) (hAdamScIdeal : Cert.AdamScIdeal.Facts) (hAdamScRefIdeal : Cert.AdamScRefIdeal.Facts) (hAdamGate : Cert.AdamGate.Facts) (hAdamGateIdeal : Cert.AdamGateIdeal.Facts) (hAdamGateRefIdeal : Cert.AdamGateRefIdeal.Facts) (hAdamGdn : Cert.AdamGdn.Facts) (hAdamGdnIdeal : Cert.AdamGdnIdeal.Facts) (hAdamGdnRefIdeal : Cert.AdamGdnRefIdeal.Facts) (hPreBwd : Cert.PreBwd.Facts) (hPreBwdIdeal : Cert.PreBwdIdeal.Facts) (hPreBwdRefIdeal : Cert.PreBwdRefIdeal.Facts) (hRmsFwd : Cert.RmsFwd.Facts) (hRmsFwdIdeal : Cert.RmsFwdIdeal.Facts) (hRmsFwdRefIdeal : Cert.RmsFwdRefIdeal.Facts) (hPost1 : Cert.Post1.Facts) (hPost1Ideal : Cert.Post1Ideal.Facts) (hPost1RefIdeal : Cert.Post1RefIdeal.Facts) (hPost2 : Cert.Post2.Facts) (hPost2Ideal : Cert.Post2Ideal.Facts) (hPost2RefIdeal : Cert.Post2RefIdeal.Facts) (hMidBwd : Cert.MidBwd.Facts) (hMidBwdIdeal : Cert.MidBwdIdeal.Facts) (hMidBwdRefIdeal : Cert.MidBwdRefIdeal.Facts) (hScFwd : Cert.ScFwd.Facts) (hScFwdIdeal : Cert.ScFwdIdeal.Facts) (hScFwdRefIdeal : Cert.ScFwdRefIdeal.Facts) (hQkvFwd : Cert.QkvFwd.Facts) (hQkvFwdIdeal : Cert.QkvFwdIdeal.Facts) (hQkvFwdRefIdeal : Cert.QkvFwdRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hPre_chip_named : Cert.Pre_chip_named.Facts) (hPre_chip_named_up : Cert.Pre_chip_named_up.Facts) (hPre_chip_named_down : Cert.Pre_chip_named_down.Facts),
    quiescent_GdnBwdIdeal (hGdnBwdIdeal := hGdnBwdIdeal)
    ∧ quiescent_ScBwd (hScBwd := hScBwd)
    ∧ quiescent_ScBwdIdeal (hScBwdIdeal := hScBwdIdeal)
    ∧ quiescent_ScBwdRefIdeal (hScBwdRefIdeal := hScBwdRefIdeal)
    ∧ quiescent_DHid (hDHid := hDHid)
    ∧ quiescent_DHidIdeal (hDHidIdeal := hDHidIdeal)
    ∧ quiescent_DHidRefIdeal (hDHidRefIdeal := hDHidRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DXn2 (hDXn2 := hDXn2)
    ∧ quiescent_DXn2Ideal (hDXn2Ideal := hDXn2Ideal)
    ∧ quiescent_DXn2RefIdeal (hDXn2RefIdeal := hDXn2RefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DXn (hDXn := hDXn)
    ∧ quiescent_DXnIdeal (hDXnIdeal := hDXnIdeal)
    ∧ quiescent_DXnRefIdeal (hDXnRefIdeal := hDXnRefIdeal)
    ∧ quiescent_InProj (hInProj := hInProj)
    ∧ quiescent_InProjIdeal (hInProjIdeal := hInProjIdeal)
    ∧ quiescent_InProjRefIdeal (hInProjRefIdeal := hInProjRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSc (hAdamSc := hAdamSc)
    ∧ quiescent_AdamScIdeal (hAdamScIdeal := hAdamScIdeal)
    ∧ quiescent_AdamScRefIdeal (hAdamScRefIdeal := hAdamScRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamGdn (hAdamGdn := hAdamGdn)
    ∧ quiescent_AdamGdnIdeal (hAdamGdnIdeal := hAdamGdnIdeal)
    ∧ quiescent_AdamGdnRefIdeal (hAdamGdnRefIdeal := hAdamGdnRefIdeal)
    ∧ quiescent_PreBwd (hPreBwd := hPreBwd)
    ∧ quiescent_PreBwdIdeal (hPreBwdIdeal := hPreBwdIdeal)
    ∧ quiescent_PreBwdRefIdeal (hPreBwdRefIdeal := hPreBwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_Post1 (hPost1 := hPost1)
    ∧ quiescent_Post1Ideal (hPost1Ideal := hPost1Ideal)
    ∧ quiescent_Post1RefIdeal (hPost1RefIdeal := hPost1RefIdeal)
    ∧ quiescent_Post2 (hPost2 := hPost2)
    ∧ quiescent_Post2Ideal (hPost2Ideal := hPost2Ideal)
    ∧ quiescent_Post2RefIdeal (hPost2RefIdeal := hPost2RefIdeal)
    ∧ quiescent_MidBwd (hMidBwd := hMidBwd)
    ∧ quiescent_MidBwdIdeal (hMidBwdIdeal := hMidBwdIdeal)
    ∧ quiescent_MidBwdRefIdeal (hMidBwdRefIdeal := hMidBwdRefIdeal)
    ∧ quiescent_ScFwd (hScFwd := hScFwd)
    ∧ quiescent_ScFwdIdeal (hScFwdIdeal := hScFwdIdeal)
    ∧ quiescent_ScFwdRefIdeal (hScFwdRefIdeal := hScFwdRefIdeal)
    ∧ quiescent_QkvFwd (hQkvFwd := hQkvFwd)
    ∧ quiescent_QkvFwdIdeal (hQkvFwdIdeal := hQkvFwdIdeal)
    ∧ quiescent_QkvFwdRefIdeal (hQkvFwdRefIdeal := hQkvFwdRefIdeal)
    ∧ quiescent_AdamOut (hAdamOut := hAdamOut) (hPre_chip_named := hPre_chip_named)
    ∧ quiescent_AdamOutIdeal (hAdamOutIdeal := hAdamOutIdeal) (hPre_chip_named := hPre_chip_named)
    ∧ quiescent_AdamOutRefIdeal (hAdamOutRefIdeal := hAdamOutRefIdeal)
    ∧ quiescent_AdamOutRefIdeal_pre_chip_named (hAdamOutRefIdeal := hAdamOutRefIdeal) (hPre_chip_named := hPre_chip_named)
    ∧ quiescent_AdamUp (hAdamUp := hAdamUp) (hPre_chip_named_up := hPre_chip_named_up)
    ∧ quiescent_AdamUpIdeal (hAdamUpIdeal := hAdamUpIdeal) (hPre_chip_named_up := hPre_chip_named_up)
    ∧ quiescent_AdamUpRefIdeal (hAdamUpRefIdeal := hAdamUpRefIdeal)
    ∧ quiescent_AdamUpRefIdeal_pre_chip_named_up (hAdamUpRefIdeal := hAdamUpRefIdeal) (hPre_chip_named_up := hPre_chip_named_up)
    ∧ quiescent_AdamDown (hAdamDown := hAdamDown) (hPre_chip_named_down := hPre_chip_named_down)
    ∧ quiescent_AdamDownIdeal (hAdamDownIdeal := hAdamDownIdeal) (hPre_chip_named_down := hPre_chip_named_down)
    ∧ quiescent_AdamDownRefIdeal (hAdamDownRefIdeal := hAdamDownRefIdeal)
    ∧ quiescent_AdamDownRefIdeal_pre_chip_named_down (hAdamDownRefIdeal := hAdamDownRefIdeal) (hPre_chip_named_down := hPre_chip_named_down)
    ∧ preserves_ScBwd_ScBwdIdeal
    ∧ algebraic_ScBwdIdeal_ScBwdRefIdeal (hScBwdIdeal := hScBwdIdeal) (hScBwdRefIdeal := hScBwdRefIdeal)
    ∧ preserves_DHid_DHidIdeal
    ∧ algebraic_DHidIdeal_DHidRefIdeal (hDHidIdeal := hDHidIdeal) (hDHidRefIdeal := hDHidRefIdeal)
    ∧ preserves_DwDown_DwDownIdeal
    ∧ algebraic_DwDownIdeal_DwDownRefIdeal (hDwDownIdeal := hDwDownIdeal) (hDwDownRefIdeal := hDwDownRefIdeal)
    ∧ preserves_DXn2_DXn2Ideal
    ∧ algebraic_DXn2Ideal_DXn2RefIdeal (hDXn2Ideal := hDXn2Ideal) (hDXn2RefIdeal := hDXn2RefIdeal)
    ∧ preserves_DwUp_DwUpIdeal
    ∧ algebraic_DwUpIdeal_DwUpRefIdeal (hDwUpIdeal := hDwUpIdeal) (hDwUpRefIdeal := hDwUpRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_DMixed_DMixedIdeal
    ∧ algebraic_DMixedIdeal_DMixedRefIdeal (hDMixedIdeal := hDMixedIdeal) (hDMixedRefIdeal := hDMixedRefIdeal)
    ∧ preserves_DwOut_DwOutIdeal
    ∧ algebraic_DwOutIdeal_DwOutRefIdeal (hDwOutIdeal := hDwOutIdeal) (hDwOutRefIdeal := hDwOutRefIdeal)
    ∧ preserves_OutProj_OutProjIdeal
    ∧ algebraic_OutProjIdeal_OutProjRefIdeal (hOutProjIdeal := hOutProjIdeal) (hOutProjRefIdeal := hOutProjRefIdeal)
    ∧ preserves_DXn_DXnIdeal
    ∧ algebraic_DXnIdeal_DXnRefIdeal (hDXnIdeal := hDXnIdeal) (hDXnRefIdeal := hDXnRefIdeal)
    ∧ preserves_InProj_InProjIdeal
    ∧ algebraic_InProjIdeal_InProjRefIdeal (hInProjIdeal := hInProjIdeal) (hInProjRefIdeal := hInProjRefIdeal)
    ∧ preserves_AdamIn_AdamInIdeal
    ∧ algebraic_AdamInIdeal_AdamInRefIdeal (hAdamInIdeal := hAdamInIdeal) (hAdamInRefIdeal := hAdamInRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSc_AdamScIdeal
    ∧ algebraic_AdamScIdeal_AdamScRefIdeal (hAdamScIdeal := hAdamScIdeal) (hAdamScRefIdeal := hAdamScRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamGdn_AdamGdnIdeal
    ∧ algebraic_AdamGdnIdeal_AdamGdnRefIdeal (hAdamGdnIdeal := hAdamGdnIdeal) (hAdamGdnRefIdeal := hAdamGdnRefIdeal)
    ∧ preserves_PreBwd_PreBwdIdeal
    ∧ algebraic_PreBwdIdeal_PreBwdRefIdeal (hPreBwdIdeal := hPreBwdIdeal) (hPreBwdRefIdeal := hPreBwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_Post1_Post1Ideal
    ∧ algebraic_Post1Ideal_Post1RefIdeal (hPost1Ideal := hPost1Ideal) (hPost1RefIdeal := hPost1RefIdeal)
    ∧ preserves_Post2_Post2Ideal
    ∧ algebraic_Post2Ideal_Post2RefIdeal (hPost2Ideal := hPost2Ideal) (hPost2RefIdeal := hPost2RefIdeal)
    ∧ preserves_MidBwd_MidBwdIdeal
    ∧ algebraic_MidBwdIdeal_MidBwdRefIdeal (hMidBwdIdeal := hMidBwdIdeal) (hMidBwdRefIdeal := hMidBwdRefIdeal)
    ∧ preserves_ScFwd_ScFwdIdeal
    ∧ algebraic_ScFwdIdeal_ScFwdRefIdeal (hScFwdIdeal := hScFwdIdeal) (hScFwdRefIdeal := hScFwdRefIdeal)
    ∧ preserves_QkvFwd_QkvFwdIdeal
    ∧ algebraic_QkvFwdIdeal_QkvFwdRefIdeal (hQkvFwdIdeal := hQkvFwdIdeal) (hQkvFwdRefIdeal := hQkvFwdRefIdeal)
    ∧ preserves_AdamOut_AdamOutIdeal
    ∧ algebraic_AdamOutIdeal_AdamOutRefIdeal (hAdamOutIdeal := hAdamOutIdeal) (hAdamOutRefIdeal := hAdamOutRefIdeal) (hPre_chip_named := hPre_chip_named)
    ∧ preserves_AdamUp_AdamUpIdeal
    ∧ algebraic_AdamUpIdeal_AdamUpRefIdeal (hAdamUpIdeal := hAdamUpIdeal) (hAdamUpRefIdeal := hAdamUpRefIdeal) (hPre_chip_named_up := hPre_chip_named_up)
    ∧ preserves_AdamDown_AdamDownIdeal
    ∧ algebraic_AdamDownIdeal_AdamDownRefIdeal (hAdamDownIdeal := hAdamDownIdeal) (hAdamDownRefIdeal := hAdamDownRefIdeal) (hPre_chip_named_down := hPre_chip_named_down)
-- ==== Pre_chip_named.lean ====
abbrev S512x4096 : Shape := ⟨2, ![512, 4096]⟩
abbrev S4x512x4096 : Shape := ⟨3, ![4, 512, 4096]⟩
abbrev S3x512x4096 : Shape := ⟨3, ![3, 512, 4096]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S512x4096 .f32) (main_arg1 : FVec F S512x4096 .f32) (main_arg2 : FVec F S512x4096 .f32) (main_arg3 : FVec F S4x512x4096 .bf16) (main_arg4 : FVec F S3x512x4096 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 3#32
  let main_v2 : IVec S1 32 := broadcastInDim S1 ![] bcast_S_S1 main_c_0
  let main_v3 : IVec S1 1 := cmpi .sle main_arg5 main_v2
  let main_v4 : IVec S1 1 := andi main_v1 main_v3
  main_v4
-- ==== Pre_chip_named_down.lean ====
abbrev S2048x4096 : Shape := ⟨2, ![2048, 4096]⟩
abbrev S4x2048x4096 : Shape := ⟨3, ![4, 2048, 4096]⟩
abbrev S3x2048x4096 : Shape := ⟨3, ![3, 2048, 4096]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x4096 .f32) (main_arg1 : FVec F S2048x4096 .f32) (main_arg2 : FVec F S2048x4096 .f32) (main_arg3 : FVec F S4x2048x4096 .bf16) (main_arg4 : FVec F S3x2048x4096 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 3#32
  let main_v2 : IVec S1 32 := broadcastInDim S1 ![] bcast_S_S1 main_c_0
  let main_v3 : IVec S1 1 := cmpi .sle main_arg5 main_v2
  let main_v4 : IVec S1 1 := andi main_v1 main_v3
  main_v4
-- ==== Pre_chip_named_up.lean ====
abbrev S4096x2048 : Shape := ⟨2, ![4096, 2048]⟩
abbrev S4x4096x2048 : Shape := ⟨3, ![4, 4096, 2048]⟩
abbrev S3x4096x2048 : Shape := ⟨3, ![3, 4096, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x2048 .f32) (main_arg1 : FVec F S4096x2048 .f32) (main_arg2 : FVec F S4096x2048 .f32) (main_arg3 : FVec F S4x4096x2048 .bf16) (main_arg4 : FVec F S3x4096x2048 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 3#32
  let main_v2 : IVec S1 32 := broadcastInDim S1 ![] bcast_S_S1 main_c_0
  let main_v3 : IVec S1 1 := cmpi .sle main_arg5 main_v2
  let main_v4 : IVec S1 1 := andi main_v1 main_v3
  main_v4
-- ==== GdnBwdIdeal.lean ====
abbrev S3x4096x2048 : Shape := ⟨3, ![3, 4096, 2048]⟩
abbrev S4096x14592 : Shape := ⟨2, ![4096, 14592]⟩
abbrev S1x128 : Shape := ⟨2, ![1, 128]⟩
abbrev S2x32x16x128x128 : Shape := ⟨5, ![2, 32, 16, 128, 128]⟩
abbrev S2x32x16x64x64 : Shape := ⟨5, ![2, 32, 16, 64, 64]⟩
abbrev S4096x4096 : Shape := ⟨2, ![4096, 4096]⟩
abbrev S4096x2048 : Shape := ⟨2, ![4096, 2048]⟩
abbrev S4096x128 : Shape := ⟨2, ![4096, 128]⟩
abbrev S2x1x128 : Shape := ⟨3, ![2, 1, 128]⟩
abbrev S3x64x512 : Shape := ⟨3, ![3, 64, 512]⟩
abbrev S64x512 : Shape := ⟨2, ![64, 512]⟩
abbrev S64x128 : Shape := ⟨2, ![64, 128]⟩
abbrev S1x1x4x128x128 : Shape := ⟨5, ![1, 1, 4, 128, 128]⟩
abbrev S1x1x4x64x64 : Shape := ⟨5, ![1, 1, 4, 64, 64]⟩
abbrev S1x1x128 : Shape := ⟨3, ![1, 1, 128]⟩
abbrev S16x128x128 : Shape := ⟨3, ![16, 128, 128]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1x64 : Shape := ⟨2, ![1, 64]⟩
abbrev S1x64x128 : Shape := ⟨3, ![1, 64, 128]⟩
abbrev S1x1x1x64x64 : Shape := ⟨5, ![1, 1, 1, 64, 64]⟩
abbrev S1x1x1x128x128 : Shape := ⟨5, ![1, 1, 1, 128, 128]⟩
abbrev S128x128 : Shape := ⟨2, ![128, 128]⟩
abbrev S1x1 : Shape := ⟨2, ![1, 1]⟩
abbrev S128 : Shape := ⟨1, ![128]⟩
abbrev S1x128x128 : Shape := ⟨3, ![1, 128, 128]⟩
abbrev S128x1 : Shape := ⟨2, ![128, 1]⟩
abbrev S1 : Shape := ⟨1, ![1]⟩

abbrev nBuf : Space → Nat
  | .hbm => 14
  | .vmem => 33
  | .smem => 0
  | _ => 0

abbrev bufTy : (tb : Table) → Fin (tcTables nBuf tb) → BufTy
  | .hbm, ⟨0, _⟩ => ⟨S3x4096x2048, .f32⟩
  | .hbm, ⟨1, _⟩ => ⟨S4096x14592, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S2x32x16x128x128, .f32⟩
  | .hbm, ⟨6, _⟩ => ⟨S2x32x16x64x64, .f32⟩
  | .hbm, ⟨7, _⟩ => ⟨S4096x4096, .f32⟩
  | .hbm, ⟨8, _⟩ => ⟨S3x4096x2048, .f32⟩
  | .hbm, ⟨9, _⟩ => ⟨S4096x2048, .bf16⟩
  | .hbm, ⟨10, _⟩ => ⟨S4096x128, .bf16⟩
  | .hbm, ⟨11, _⟩ => ⟨S2x1x128, .f32⟩
  | .hbm, ⟨12, _⟩ => ⟨S2x1x128, .f32⟩
  | .hbm, ⟨13, _⟩ => ⟨S2x1x128, .f32⟩
  | .local _ .vmem, ⟨0, _⟩ => ⟨S3x64x512, .f32⟩
  | .local _ .vmem, ⟨1, _⟩ => ⟨S3x64x512, .f32⟩
  | .local _ .vmem, ⟨2, _⟩ => ⟨S64x512, .f32⟩
  | .local _ .vmem, ⟨3, _⟩ => ⟨S64x512, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x1x4x128x128, .f32⟩
  | .local _ .vmem, ⟨10, _⟩ => ⟨S1x1x4x128x128, .f32⟩
  | .local _ .vmem, ⟨11, _⟩ => ⟨S1x1x4x64x64, .f32⟩
  | .local _ .vmem, ⟨12, _⟩ => ⟨S1x1x4x64x64, .f32⟩
  | .local _ .vmem, ⟨13, _⟩ => ⟨S64x512, .f32⟩
  | .local _ .vmem, ⟨14, _⟩ => ⟨S64x512, .f32⟩
  | .local _ .vmem, ⟨15, _⟩ => ⟨S3x64x512, .f32⟩
  | .local _ .vmem, ⟨16, _⟩ => ⟨S3x64x512, .f32⟩
  | .local _ .vmem, ⟨17, _⟩ => ⟨S64x512, .bf16⟩
  | .local _ .vmem, ⟨18, _⟩ => ⟨S64x512, .bf16⟩
  | .local _ .vmem, ⟨19, _⟩ => ⟨S64x128, .bf16⟩
  | .local _ .vmem, ⟨20, _⟩ => ⟨S64x128, .bf16⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S16x128x128, .f32⟩
  | .local _ .vmem, ⟨28, _⟩ => ⟨S64x128, .f32⟩
  | .local _ .vmem, ⟨29, _⟩ => ⟨S128x64, .f32⟩
  | .local _ .vmem, ⟨30, _⟩ => ⟨S64x128, .f32⟩
  | .local _ .vmem, ⟨31, _⟩ => ⟨S64x128, .f32⟩
  | .local _ .vmem, ⟨32, _⟩ => ⟨S64x128, .f32⟩
  | _, _ => ⟨S3x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨3, ![2, 32, 4], ![false, false, false]⟩

def k0_off1 (i : grid0.Coords) (c0_i32_4 : BitVec 32) : Fin 3 → Nat :=
  let arg2 : BitVec 32 := BitVec.ofNat 32 (i 2).val
  let c4_i32 : BitVec 32 := 4#32
  let v13 : BitVec 32 := Scalar.muli arg2 c4_i32
  let v14 : BitVec 32 := Scalar.addi v13 c0_i32_4
  let v196 : Index := Scalar.indexCast v14
  let c0_75 : Index := 0#32
  let c0_76 : Index := 0#32
  ![v196.toNat, 0, 0]
def k0_cond3 (i : grid0.Coords) : BitVec 1 :=
  let arg2 : BitVec 32 := BitVec.ofNat 32 (i 2).val
  let c3_i32_501 : BitVec 32 := 3#32
  let v1391 : BitVec 1 := Scalar.cmpi .eq arg2 c3_i32_501
  let v1392 : BitVec 32 := Scalar.extui v1391
  let c0_i32_502 : BitVec 32 := 0#32
  let v1393 : BitVec 1 := Scalar.cmpi .ne v1392 c0_i32_502
  v1393

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let arg2 : BitVec 32 := BitVec.ofNat 32 (i 2).val
  let c0_i32_0 : BitVec 32 := 0#32
  let v5 : BitVec 1 := Scalar.cmpi .eq arg2 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![c0_i32.toNat, v2.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c12_i32 : BitVec 32 := 12#32
  let v3 : BitVec 32 := Scalar.addi c12_i32 arg2
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c64_i32 : BitVec 32 := 64#32
  let c0_i32 : BitVec 32 := 0#32
  ![v2.toNat, c64_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, arg2.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, arg2.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  ![v2.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![c0_i32.toNat, v2.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  ![v2.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x4x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S3x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S64x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]
-- ==== ScBwd.lean ====
abbrev S4096x14592 : Shape := ⟨2, ![4096, 14592]⟩
abbrev S3x2048 : Shape := ⟨2, ![3, 2048]⟩
abbrev S4096x4096 : Shape := ⟨2, ![4096, 4096]⟩
abbrev S4096x2048 : Shape := ⟨2, ![4096, 2048]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x14592, .f32⟩
  | .hbm, ⟨1, _⟩ => ⟨S3x2048, .f32⟩
  | .hbm, ⟨2, _⟩ => ⟨S4096x4096, .f32⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S3x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S4096x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v84 : BitVec 1 := Scalar.cmpi .eq arg1 c0_i32
  let v85 : BitVec 32 := Scalar.extui v84
  let c0_i32_31 : BitVec 32 := 0#32
  let v86 : BitVec 1 := Scalar.cmpi .ne v85 c0_i32_31
  v86

def k0_cond2 (i : grid0.Coords) : BitVec 1 :=
  let arg1 : BitVec 32 := BitVec.ofNat 32 (i 1).val
  let c0_i32_32 : BitVec 32 := 0#32
  let v87 : BitVec 1 := Scalar.cmpi .sgt arg1 c0_i32_32
  let v88 : BitVec 32 := Scalar.extui v87
  let c0_i32_33 : BitVec 32 := 0#32
  let v89 : BitVec 1 := Scalar.cmpi .ne v88 c0_i32_33
  v89

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.addi c65_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c81_i32 : BitVec 32 := 81#32
  let v0 : BitVec 32 := Scalar.addi c81_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c97_i32 : BitVec 32 := 97#32
  let v0 : BitVec 32 := Scalar.addi c97_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ScBwdRefIdeal.lean ====
abbrev S4096x14592 : Shape := ⟨2, ![4096, 14592]⟩
abbrev S3x2048 : Shape := ⟨2, ![3, 2048]⟩
abbrev S4096x4096 : Shape := ⟨2, ![4096, 4096]⟩
abbrev S4096x2048 : Shape := ⟨2, ![4096, 2048]⟩
abbrev S2x2048x2048 : Shape := ⟨3, ![2, 2048, 2048]⟩
abbrev S_ : Shape := ⟨0, ![]⟩
abbrev S2x2x2048 : Shape := ⟨3, ![2, 2, 2048]⟩
abbrev S2x2050x2048 : Shape := ⟨3, ![2, 2050, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 96
  | .vmem => 0
  | .smem => 0
  | _ => 0

abbrev bufTy : (tb : Table) → Fin (tcTables nBuf tb) → BufTy
  | .hbm, ⟨0, _⟩ => ⟨S4096x14592, .f32⟩
  | .hbm, ⟨1, _⟩ => ⟨S3x2048, .f32⟩
  | .hbm, ⟨2, _⟩ => ⟨S4096x4096, .f32⟩
  | .hbm, ⟨3, _⟩ => ⟨S4096x2048, .f32⟩
  | .hbm, ⟨4, _⟩ => ⟨S2x2048x2048, .f32⟩
  | .hbm, ⟨5, _⟩ => ⟨S4096x2048, .f32⟩
  | .hbm, ⟨6, _⟩ => ⟨S2x2048x2048, .f32⟩
  | .hbm, ⟨7, _⟩ => ⟨S4096x2048, .f32⟩
  | .hbm, ⟨8, _⟩ => ⟨S2x2048x2048, .f32⟩
  | .hbm, ⟨9, _⟩ => ⟨S2x2048x2048, .f32⟩
  | .hbm, ⟨10, _⟩ => ⟨S_, .f32⟩
  | .hbm, ⟨11, _⟩ => ⟨S2x2x2048, .f32⟩
  | .hbm, ⟨12, _⟩ => ⟨S2x2050x2048, .f32⟩
  | .hbm, ⟨13, _⟩ => ⟨S_, .f32⟩
  | .hbm, ⟨14, _⟩ => ⟨S2x2x2048, .f32⟩
  | .hbm, ⟨15, _⟩ => ⟨S2x2048x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S2x2048x2048, .f32⟩
  | .hbm, ⟨20, _⟩ => ⟨S2x2048x2048, .f32⟩
  | .hbm, ⟨21, _⟩ => ⟨S_, .f32⟩
  | .hbm, ⟨22, _⟩ => ⟨S2x2048x2048, .f32⟩
  | .hbm, ⟨23, _⟩ => ⟨S2x2048x2048, .f32⟩
  | .hbm, ⟨24, _⟩ => ⟨S2x2048x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S2x2048x2048, .f32⟩
  | .hbm, ⟨32, _⟩ => ⟨S1x2048, .f32⟩
  | .hbm, ⟨33, _⟩ => ⟨S2048, .f32⟩
  | .hbm, ⟨34, _⟩ => ⟨S1x1x2048, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S2x2048x2048, .f32⟩
  | .hbm, ⟨39, _⟩ => ⟨S4096x2048, .f32⟩
  | .hbm, ⟨40, _⟩ => ⟨S2x2048x2048, .f32⟩
  | .hbm, ⟨41, _⟩ => ⟨S2x2048x2048, .f32⟩
  | .hbm, ⟨42, _⟩ => ⟨S2x2048x2048, .f32⟩
  | .hbm, ⟨43, _⟩ => ⟨S2x2048x2048, .f32⟩
  | .hbm, ⟨44, _⟩ => ⟨S_, .f32⟩
  | .hbm, ⟨45, _⟩ => ⟨S2048, .f32⟩
  | .hbm, ⟨46, _⟩ => ⟨S1x1x2048, .f32⟩
  | .hbm, ⟨47, _⟩ => ⟨S2x2048x2048, .f32⟩
  | .hbm, ⟨48, _⟩ => ⟨S2x2048x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S_, .f32⟩
  | .hbm, ⟨53, _⟩ => ⟨S3x2048, .f32⟩
  | .hbm, ⟨54, _⟩ => ⟨S_, .f32⟩
  | .hbm, ⟨55, _⟩ => ⟨S2x2050x2048, .f32⟩
  | .hbm, ⟨56, _⟩ => ⟨S2x2048x2048, .f32⟩
  | .hbm, ⟨57, _⟩ => ⟨S_, .f32⟩
  | .hbm, ⟨58, _⟩ => ⟨S2048, .f32⟩
  | .hbm, ⟨59, _⟩ => ⟨S1x1x2048, .f32⟩
  | .hbm, ⟨60, _⟩ => ⟨S2x2048x2048, .f32⟩
  | .hbm, ⟨61, _⟩ => ⟨S2x2048x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S_, .f32⟩
  | .hbm, ⟨66, _⟩ => ⟨S3x2048, .f32⟩
  | .hbm, ⟨67, _⟩ => ⟨S3x2048, .f32⟩
  | .hbm, ⟨68, _⟩ => ⟨S_, .f32⟩
  | .hbm, ⟨69, _⟩ => ⟨S2x2050x2048, .f32⟩
  | .hbm, ⟨70, _⟩ => ⟨S2x2050x2048, .f32⟩
  | .hbm, ⟨71, _⟩ => ⟨S2x2048x2048, .f32⟩
  | .hbm, ⟨72, _⟩ => ⟨S_, .f32⟩
  | .hbm, ⟨73, _⟩ => ⟨S2048, .f32⟩
  | .hbm, ⟨74, _⟩ => ⟨S1x1x2048, .f32⟩
  | .hbm, ⟨75, _⟩ => ⟨S2x2048x2048, .f32⟩
  | .hbm, ⟨76, _⟩ => ⟨S2x2048x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S_, .f32⟩
  | .hbm, ⟨81, _⟩ => ⟨S3x2048, .f32⟩
  | .hbm, ⟨82, _⟩ => ⟨S3x2048, .f32⟩
  | .hbm, ⟨83, _⟩ => ⟨S_, .f32⟩
  | .hbm, ⟨84, _⟩ => ⟨S2x2050x2048, .f32⟩
  | .hbm, ⟨85, _⟩ => ⟨S2x2050x2048, .f32⟩
  | .hbm, ⟨86, _⟩ => ⟨S2x2x2048, .f32⟩
  | .hbm, ⟨87, _⟩ => ⟨S2x2048x2048, .f32⟩
  | .hbm, ⟨88, _⟩ => ⟨S2x2048x2048, .f32⟩
  | .hbm, ⟨89, _⟩ => ⟨S2x2048x2048, .f32⟩
  | .hbm, ⟨90, _⟩ => ⟨S4096x2048, .f32⟩
  | .hbm, ⟨91, _⟩ => ⟨S4096x2048, .bf16⟩
  | .hbm, ⟨92, _⟩ => ⟨S4096x2048, .f32⟩
  | .hbm, ⟨93, _⟩ => ⟨S4096x2048, .bf16⟩
  | .hbm, ⟨94, _⟩ => ⟨S4096x2048, .f32⟩
  | .hbm, ⟨95, _⟩ => ⟨S4096x2048, .bf16⟩
  | _, _ => ⟨S4096x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== DHid.lean ====
abbrev S4096x16384 : Shape := ⟨2, ![4096, 16384]⟩
abbrev S16384x4096 : Shape := ⟨2, ![16384, 4096]⟩
abbrev S4096x4096 : Shape := ⟨2, ![4096, 4096]⟩
abbrev S_ : Shape := ⟨0, ![]⟩
abbrev S512x4096 : Shape := ⟨2, ![512, 4096]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x16384, .f32⟩
  | .hbm, ⟨1, _⟩ => ⟨S16384x4096, .bf16⟩
  | .hbm, ⟨2, _⟩ => ⟨S4096x4096, .bf16⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S4096x16384, .bf16⟩
  | .hbm, ⟨7, _⟩ => ⟨S4096x16384, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DHidRefIdeal.lean ====
abbrev S4096x16384 : Shape := ⟨2, ![4096, 16384]⟩
abbrev S16384x4096 : Shape := ⟨2, ![16384, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x4096, .bf16⟩
  | .hbm, ⟨2, _⟩ => ⟨S4096x4096, .bf16⟩
  | .hbm, ⟨3, _⟩ => ⟨S16384x4096, .f32⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .i1⟩
  | .hbm, ⟨10, _⟩ => ⟨S_, .f32⟩
  | .hbm, ⟨11, _⟩ => ⟨S4096x16384, .f32⟩
  | .hbm, ⟨12, _⟩ => ⟨S4096x16384, .f32⟩
  | .hbm, ⟨13, _⟩ => ⟨S_, .f32⟩
  | .hbm, ⟨14, _⟩ => ⟨S4096x16384, .f32⟩
  | .hbm, ⟨15, _⟩ => ⟨S4096x16384, .f32⟩
  | .hbm, ⟨16, _⟩ => ⟨S4096x4096, .f32⟩
  | .hbm, ⟨17, _⟩ => ⟨S4096x4096, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S4096x16384, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwDown.lean ====
abbrev S4096x16384 : Shape := ⟨2, ![4096, 16384]⟩
abbrev S4096x4096 : Shape := ⟨2, ![4096, 4096]⟩
abbrev S16384x4096 : Shape := ⟨2, ![16384, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S16384x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x16384 : Shape := ⟨2, ![4096, 16384]⟩
abbrev S4096x4096 : Shape := ⟨2, ![4096, 4096]⟩
abbrev S_ : Shape := ⟨0, ![]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S_, .f32⟩
  | .hbm, ⟨3, _⟩ => ⟨S16384x4096, .f32⟩
  | .hbm, ⟨4, _⟩ => ⟨S4096x16384, .f32⟩
  | .hbm, ⟨5, _⟩ => ⟨S4096x4096, .f32⟩
  | .hbm, ⟨6, _⟩ => ⟨S4096x4096, .f32⟩
  | .hbm, ⟨7, _⟩ => ⟨S4096x16384, .f32⟩
  | .hbm, ⟨8, _⟩ => ⟨S16384x4096, .f32⟩
  | .hbm, ⟨9, _⟩ => ⟨S16384x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DXn2.lean ====
abbrev S4096x16384 : Shape := ⟨2, ![4096, 16384]⟩
abbrev S8x4096x2048 : Shape := ⟨3, ![8, 4096, 2048]⟩
abbrev S4096x4096 : Shape := ⟨2, ![4096, 4096]⟩
abbrev S512x2048 : Shape := ⟨2, ![512, 2048]⟩
abbrev S1x512x2048 : Shape := ⟨3, ![1, 512, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S4096x4096, .f32⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DXn2RefIdeal.lean ====
abbrev S4096x16384 : Shape := ⟨2, ![4096, 16384]⟩
abbrev S8x4096x2048 : Shape := ⟨3, ![8, 4096, 2048]⟩
abbrev S_ : Shape := ⟨0, ![]⟩
abbrev S4096x4096 : Shape := ⟨2, ![4096, 4096]⟩
abbrev S4096x8x2048 : Shape := ⟨3, ![4096, 8, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S_, .f32⟩
  | .hbm, ⟨3, _⟩ => ⟨S4096x4096, .f32⟩
  | .hbm, ⟨4, _⟩ => ⟨S8x4096x2048, .f32⟩
  | .hbm, ⟨5, _⟩ => ⟨S4096x8x2048, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUp.lean ====
abbrev S4096x4096 : Shape := ⟨2, ![4096, 4096]⟩
abbrev S4096x16384 : Shape := ⟨2, ![4096, 16384]⟩
abbrev S8x4096x2048 : Shape := ⟨3, ![8, 4096, 2048]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S8x4096x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x4096 : Shape := ⟨2, ![4096, 4096]⟩
abbrev S4096x16384 : Shape := ⟨2, ![4096, 16384]⟩
abbrev S_ : Shape := ⟨0, ![]⟩
abbrev S8x4096x2048 : Shape := ⟨3, ![8, 4096, 2048]⟩
abbrev S4096x8x2048 : Shape := ⟨3, ![4096, 8, 2048]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S_, .f32⟩
  | .hbm, ⟨3, _⟩ => ⟨S8x4096x2048, .f32⟩
  | .hbm, ⟨4, _⟩ => ⟨S4096x4096, .f32⟩
  | .hbm, ⟨5, _⟩ => ⟨S4096x8x2048, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S16384x4096, .f32⟩
  | .hbm, ⟨10, _⟩ => ⟨S4096x16384, .f32⟩
  | .hbm, ⟨11, _⟩ => ⟨S4096x8x2048, .f32⟩
  | .hbm, ⟨12, _⟩ => ⟨S8x4096x2048, .f32⟩
  | .hbm, ⟨13, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MlpUp.lean ====
abbrev S4096x4096 : Shape := ⟨2, ![4096, 4096]⟩
abbrev S8x4096x2048 : Shape := ⟨3, ![8, 4096, 2048]⟩
abbrev S4096x16384 : Shape := ⟨2, ![4096, 16384]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x16384, .bf16⟩
  | .hbm, ⟨3, _⟩ => ⟨S4096x16384, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x4096 : Shape := ⟨2, ![4096, 4096]⟩
abbrev S8x4096x2048 : Shape := ⟨3, ![8, 4096, 2048]⟩
abbrev S4096x8x2048 : Shape := ⟨3, ![4096, 8, 2048]⟩
abbrev S4096x16384 : Shape := ⟨2, ![4096, 16384]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x4096, .f32⟩
  | .hbm, ⟨3, _⟩ => ⟨S8x4096x2048, .f32⟩
  | .hbm, ⟨4, _⟩ => ⟨S4096x8x2048, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S4096x16384, .bf16⟩
  | .hbm, ⟨11, _⟩ => ⟨S4096x16384, .f32⟩
  | .hbm, ⟨12, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MlpDown.lean ====
abbrev S4096x16384 : Shape := ⟨2, ![4096, 16384]⟩
abbrev S16384x4096 : Shape := ⟨2, ![16384, 4096]⟩
abbrev S4096x4096 : Shape := ⟨2, ![4096, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownRefIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DMixed.lean ====
abbrev S4096x4096 : Shape := ⟨2, ![4096, 4096]⟩
abbrev S512x4096 : Shape := ⟨2, ![512, 4096]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S4096x4096 : Shape := ⟨2, ![4096, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S4096x4096 : Shape := ⟨2, ![4096, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DXn.lean ====
abbrev S4096x14592 : Shape := ⟨2, ![4096, 14592]⟩
abbrev S4096x4096 : Shape := ⟨2, ![4096, 4096]⟩
abbrev S512x768 : Shape := ⟨2, ![512, 768]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x14592, .bf16⟩
  | .hbm, ⟨1, _⟩ => ⟨S4096x14592, .bf16⟩
  | .hbm, ⟨2, _⟩ => ⟨S4096x4096, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x14592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 19], ![false, false, false]⟩

def k0_cond3 (i : grid0.Coords) : BitVec 1 :=
  let arg2 : BitVec 32 := BitVec.ofNat 32 (i 2).val
  let c18_i32 : BitVec 32 := 18#32
  let v9 : BitVec 1 := Scalar.cmpi .eq arg2 c18_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DXnRefIdeal.lean ====
abbrev S4096x14592 : Shape := ⟨2, ![4096, 14592]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x14592, .bf16⟩
  | .hbm, ⟨1, _⟩ => ⟨S4096x14592, .bf16⟩
  | .hbm, ⟨2, _⟩ => ⟨S_, .f32⟩
  | .hbm, ⟨3, _⟩ => ⟨S4096x4096, .f32⟩
  | .hbm, ⟨4, _⟩ => ⟨S4096x14592, .f32⟩
  | .hbm, ⟨5, _⟩ => ⟨S4096x14592, .f32⟩
  | .hbm, ⟨6, _⟩ => ⟨S4096x14592, .f32⟩
  | .hbm, ⟨7, _⟩ => ⟨S4096x4096, .f32⟩
  | _, _ => ⟨S4096x14592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S4096x4096 : Shape := ⟨2, ![4096, 4096]⟩
abbrev S4096x14592 : Shape := ⟨2, ![4096, 14592]⟩
abbrev S512x4096 : Shape := ⟨2, ![512, 4096]⟩
abbrev S4096x768 : Shape := ⟨2, ![4096, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x14592, .bf16⟩
  | .hbm, ⟨2, _⟩ => ⟨S4096x14592, .f32⟩
  | .local _ .vmem, ⟨0, _⟩ => ⟨S512x4096, .bf16⟩
  | .local _ .vmem, ⟨1, _⟩ => ⟨S512x4096, .bf16⟩
  | .local _ .vmem, ⟨2, _⟩ => ⟨S4096x768, .bf16⟩
  | .local _ .vmem, ⟨3, _⟩ => ⟨S4096x768, .bf16⟩
  | .local _ .vmem, ⟨4, _⟩ => ⟨S512x768, .f32⟩
  | .local _ .vmem, ⟨5, _⟩ => ⟨S512x768, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x4096 : Shape := ⟨2, ![4096, 4096]⟩
abbrev S4096x14592 : Shape := ⟨2, ![4096, 14592]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x14592, .bf16⟩
  | .hbm, ⟨2, _⟩ => ⟨S4096x4096, .f32⟩
  | .hbm, ⟨3, _⟩ => ⟨S4096x14592, .f32⟩
  | .hbm, ⟨4, _⟩ => ⟨S4096x14592, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamIn.lean ====
abbrev S4096x1796 : Shape := ⟨2, ![4096, 1796]⟩
abbrev S_ : Shape := ⟨0, ![]⟩
abbrev S1 : Shape := ⟨1, ![1]⟩
abbrev S128x1796 : Shape := ⟨2, ![128, 1796]⟩

abbrev nBuf : Space → Nat
  | .hbm => 9
  | .vmem => 16
  | .smem => 1
  | _ => 0

abbrev bufTy : (tb : Table) → Fin (tcTables nBuf tb) → BufTy
  | .hbm, ⟨0, _⟩ => ⟨S4096x1796, .f32⟩
  | .hbm, ⟨1, _⟩ => ⟨S4096x1796, .f32⟩
  | .hbm, ⟨2, _⟩ => ⟨S4096x1796, .f32⟩
  | .hbm, ⟨3, _⟩ => ⟨S4096x1796, .f32⟩
  | .hbm, ⟨4, _⟩ => ⟨S_, .i32⟩
  | .hbm, ⟨5, _⟩ => ⟨S4096x1796, .f32⟩
  | .hbm, ⟨6, _⟩ => ⟨S4096x1796, .f32⟩
  | .hbm, ⟨7, _⟩ => ⟨S4096x1796, .f32⟩
  | .hbm, ⟨8, _⟩ => ⟨S4096x1796, .f32⟩
  | .local _ .vmem, ⟨0, _⟩ => ⟨S128x1796, .f32⟩
  | .local _ .vmem, ⟨1, _⟩ => ⟨S128x1796, .f32⟩
  | .local _ .vmem, ⟨2, _⟩ => ⟨S128x1796, .f32⟩
  | .local _ .vmem, ⟨3, _⟩ => ⟨S128x1796, .f32⟩
  | .local _ .vmem, ⟨4, _⟩ => ⟨S128x1796, .f32⟩
  | .local _ .vmem, ⟨5, _⟩ => ⟨S128x1796, .f32⟩
  | .local _ .vmem, ⟨6, _⟩ => ⟨S128x1796, .f32⟩
  | .local _ .vmem, ⟨7, _⟩ => ⟨S128x1796, .f32⟩
  | .local _ .vmem, ⟨8, _⟩ => ⟨S128x1796, .f32⟩
  | .local _ .vmem, ⟨9, _⟩ => ⟨S128x1796, .f32⟩
  | .local _ .vmem, ⟨10, _⟩ => ⟨S128x1796, .f32⟩
  | .local _ .vmem, ⟨11, _⟩ => ⟨S128x1796, .f32⟩
  | .local _ .vmem, ⟨12, _⟩ => ⟨S128x1796, .f32⟩
  | .local _ .vmem, ⟨13, _⟩ => ⟨S128x1796, .f32⟩
  | .local _ .vmem, ⟨14, _⟩ => ⟨S128x1796, .f32⟩
  | .local _ .vmem, ⟨15, _⟩ => ⟨S128x1796, .f32⟩
  | .local _ .smem, ⟨0, _⟩ => ⟨S1, .i32⟩
  | _, _ => ⟨S4096x1796, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1796 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1796 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1796 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1796 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1796 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1796 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1796 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1796 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4096x1796 : Shape := ⟨2, ![4096, 1796]⟩
abbrev S_ : Shape := ⟨0, ![]⟩
abbrev S1 : Shape := ⟨1, ![1]⟩
abbrev S128x1796 : Shape := ⟨2, ![128, 1796]⟩

abbrev nBuf : Space → Nat
  | .hbm => 9
  | .vmem => 16
  | .smem => 1
  | _ => 0

abbrev bufTy : (tb : Table) → Fin (tcTables nBuf tb) → BufTy
  | .hbm, ⟨0, _⟩ => ⟨S4096x1796, .f32⟩
  | .hbm, ⟨1, _⟩ => ⟨S4096x1796, .f32⟩
  | .hbm, ⟨2, _⟩ => ⟨S4096x1796, .f32⟩
  | .hbm, ⟨3, _⟩ => ⟨S4096x1796, .f32⟩
  | .hbm, ⟨4, _⟩ => ⟨S_, .i32⟩
  | .hbm, ⟨5, _⟩ => ⟨S4096x1796, .f32⟩
  | .hbm, ⟨6, _⟩ => ⟨S4096x1796, .f32⟩
  | .hbm, ⟨7, _⟩ => ⟨S4096x1796, .f32⟩
  | .hbm, ⟨8, _⟩ => ⟨S4096x1796, .f32⟩
  | .local _ .vmem, ⟨0, _⟩ => ⟨S128x1796, .f32⟩
  | .local _ .vmem, ⟨1, _⟩ => ⟨S128x1796, .f32⟩
  | .local _ .vmem, ⟨2, _⟩ => ⟨S128x1796, .f32⟩
  | .local _ .vmem, ⟨3, _⟩ => ⟨S128x1796, .f32⟩
  | .local _ .vmem, ⟨4, _⟩ => ⟨S128x1796, .f32⟩
  | .local _ .vmem, ⟨5, _⟩ => ⟨S128x1796, .f32⟩
  | .local _ .vmem, ⟨6, _⟩ => ⟨S128x1796, .f32⟩
  | .local _ .vmem, ⟨7, _⟩ => ⟨S128x1796, .f32⟩
  | .local _ .vmem, ⟨8, _⟩ => ⟨S128x1796, .f32⟩
  | .local _ .vmem, ⟨9, _⟩ => ⟨S128x1796, .f32⟩
  | .local _ .vmem, ⟨10, _⟩ => ⟨S128x1796, .f32⟩
  | .local _ .vmem, ⟨11, _⟩ => ⟨S128x1796, .f32⟩
  | .local _ .vmem, ⟨12, _⟩ => ⟨S128x1796, .f32⟩
  | .local _ .vmem, ⟨13, _⟩ => ⟨S128x1796, .f32⟩
  | .local _ .vmem, ⟨14, _⟩ => ⟨S128x1796, .f32⟩
  | .local _ .vmem, ⟨15, _⟩ => ⟨S128x1796, .f32⟩
  | .local _ .smem, ⟨0, _⟩ => ⟨S1, .i32⟩
  | _, _ => ⟨S4096x1796, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1796 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1796 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1796 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1796 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1796 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1796 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1796 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1796 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4096x1796 : Shape := ⟨2, ![4096, 1796]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1796, .f32⟩
  | .hbm, ⟨1, _⟩ => ⟨S4096x1796, .f32⟩
  | .hbm, ⟨2, _⟩ => ⟨S4096x1796, .f32⟩
  | .hbm, ⟨3, _⟩ => ⟨S4096x1796, .f32⟩
  | .hbm, ⟨4, _⟩ => ⟨S_, .f32⟩
  | .hbm, ⟨5, _⟩ => ⟨S4096x1796, .f32⟩
  | .hbm, ⟨6, _⟩ => ⟨S4096x1796, .f32⟩
  | .hbm, ⟨7, _⟩ => ⟨S_, .f32⟩
  | .hbm, ⟨8, _⟩ => ⟨S4096x1796, .f32⟩
  | .hbm, ⟨9, _⟩ => ⟨S4096x1796, .f32⟩
  | .hbm, ⟨10, _⟩ => ⟨S4096x1796, .f32⟩
  | .hbm, ⟨11, _⟩ => ⟨S_, .f32⟩
  | .hbm, ⟨12, _⟩ => ⟨S4096x1796, .f32⟩
  | .hbm, ⟨13, _⟩ => ⟨S4096x1796, .f32⟩
  | .hbm, ⟨14, _⟩ => ⟨S4096x1796, .f32⟩
  | .hbm, ⟨15, _⟩ => ⟨S_, .f32⟩
  | .hbm, ⟨16, _⟩ => ⟨S4096x1796, .f32⟩
  | .hbm, ⟨17, _⟩ => ⟨S4096x1796, .f32⟩
  | .hbm, ⟨18, _⟩ => ⟨S4096x1796, .f32⟩
  | .hbm, ⟨19, _⟩ => ⟨S_, .f32⟩
  | .hbm, ⟨20, _⟩ => ⟨S4096x1796, .f32⟩
  | .hbm, ⟨21, _⟩ => ⟨S4096x1796, .f32⟩
  | .hbm, ⟨22, _⟩ => ⟨S_, .f32⟩
  | .hbm, ⟨23, _⟩ => ⟨S4096x1796, .f32⟩
  | .hbm, ⟨24, _⟩ => ⟨S4096x1796, .f32⟩
  | .hbm, ⟨25, _⟩ => ⟨S4096x1796, .f32⟩
  | .hbm, ⟨26, _⟩ => ⟨S_, .f32⟩
  | .hbm, ⟨27, _⟩ => ⟨S4096x1796, .f32⟩
  | .hbm, ⟨28, _⟩ => ⟨S4096x1796, .f32⟩
  | .hbm, ⟨29, _⟩ => ⟨S4096x1796, .f32⟩
  | .hbm, ⟨30, _⟩ => ⟨S_, .f32⟩
  | .hbm, ⟨31, _⟩ => ⟨S4096x1796, .f32⟩
  | .hbm, ⟨32, _⟩ => ⟨S4096x1796, .f32⟩
  | .hbm, ⟨33, _⟩ => ⟨S4096x1796, .f32⟩
  | .hbm, ⟨34, _⟩ => ⟨S_, .f32⟩
  | .hbm, ⟨35, _⟩ => ⟨S4096x1796, .f32⟩
  | .hbm, ⟨36, _⟩ => ⟨S4096x1796, .f32⟩
  | _, _ => ⟨S4096x1796, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x4096 : Shape := ⟨2, ![1, 4096]⟩
abbrev S_ : Shape := ⟨0, ![]⟩
abbrev S1 : Shape := ⟨1, ![1]⟩

abbrev nBuf : Space → Nat
  | .hbm => 9
  | .vmem => 8
  | .smem => 1
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .i32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .smem, ⟨0, _⟩ => ⟨S1, .i32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormIdeal.lean ====
abbrev S1x4096 : Shape := ⟨2, ![1, 4096]⟩
abbrev S_ : Shape := ⟨0, ![]⟩
abbrev S1 : Shape := ⟨1, ![1]⟩

abbrev nBuf : Space → Nat
  | .hbm => 9
  | .vmem => 8
  | .smem => 1
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .i32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .smem, ⟨0, _⟩ => ⟨S1, .i32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormRefIdeal.lean ====
abbrev S1x4096 : Shape := ⟨2, ![1, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S4x768 : Shape := ⟨2, ![4, 768]⟩
abbrev S_ : Shape := ⟨0, ![]⟩
abbrev S1 : Shape := ⟨1, ![1]⟩

abbrev nBuf : Space → Nat
  | .hbm => 9
  | .vmem => 8
  | .smem => 1
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .i32⟩
  | .hbm, ⟨5, _⟩ => ⟨S4x768, .f32⟩
  | .hbm, ⟨6, _⟩ => ⟨S4x768, .f32⟩
  | .hbm, ⟨7, _⟩ => ⟨S4x768, .f32⟩
  | .hbm, ⟨8, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | .local _ .smem, ⟨0, _⟩ => ⟨S1, .i32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
abbrev S4x768 : Shape := ⟨2, ![4, 768]⟩
abbrev S_ : Shape := ⟨0, ![]⟩
abbrev S1 : Shape := ⟨1, ![1]⟩

abbrev nBuf : Space → Nat
  | .hbm => 9
  | .vmem => 8
  | .smem => 1
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .i32⟩
  | .hbm, ⟨5, _⟩ => ⟨S4x768, .f32⟩
  | .hbm, ⟨6, _⟩ => ⟨S4x768, .f32⟩
  | .hbm, ⟨7, _⟩ => ⟨S4x768, .f32⟩
  | .hbm, ⟨8, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | .local _ .smem, ⟨0, _⟩ => ⟨S1, .i32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S4x768 : Shape := ⟨2, ![4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S_, .f32⟩
  | .hbm, ⟨12, _⟩ => ⟨S4x768, .f32⟩
  | .hbm, ⟨13, _⟩ => ⟨S4x768, .f32⟩
  | .hbm, ⟨14, _⟩ => ⟨S4x768, .f32⟩
  | .hbm, ⟨15, _⟩ => ⟨S_, .f32⟩
  | .hbm, ⟨16, _⟩ => ⟨S4x768, .f32⟩
  | .hbm, ⟨17, _⟩ => ⟨S4x768, .f32⟩
  | .hbm, ⟨18, _⟩ => ⟨S4x768, .f32⟩
  | .hbm, ⟨19, _⟩ => ⟨S_, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S_, .f32⟩
  | .hbm, ⟨27, _⟩ => ⟨S4x768, .f32⟩
  | .hbm, ⟨28, _⟩ => ⟨S4x768, .f32⟩
  | .hbm, ⟨29, _⟩ => ⟨S4x768, .f32⟩
  | .hbm, ⟨30, _⟩ => ⟨S_, .f32⟩
  | .hbm, ⟨31, _⟩ => ⟨S4x768, .f32⟩
  | .hbm, ⟨32, _⟩ => ⟨S4x768, .f32⟩
  | .hbm, ⟨33, _⟩ => ⟨S4x768, .f32⟩
  | .hbm, ⟨34, _⟩ => ⟨S_, .f32⟩
  | .hbm, ⟨35, _⟩ => ⟨S4x768, .f32⟩
  | .hbm, ⟨36, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSc.lean ====
abbrev S3x256 : Shape := ⟨2, ![3, 256]⟩
abbrev S_ : Shape := ⟨0, ![]⟩
abbrev S1 : Shape := ⟨1, ![1]⟩

abbrev nBuf : Space → Nat
  | .hbm => 9
  | .vmem => 8
  | .smem => 1
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .i32⟩
  | .hbm, ⟨5, _⟩ => ⟨S3x256, .f32⟩
  | .hbm, ⟨6, _⟩ => ⟨S3x256, .f32⟩
  | .hbm, ⟨7, _⟩ => ⟨S3x256, .f32⟩
  | .hbm, ⟨8, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .smem, ⟨0, _⟩ => ⟨S1, .i32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScIdeal.lean ====
abbrev S3x256 : Shape := ⟨2, ![3, 256]⟩
abbrev S_ : Shape := ⟨0, ![]⟩
abbrev S1 : Shape := ⟨1, ![1]⟩

abbrev nBuf : Space → Nat
  | .hbm => 9
  | .vmem => 8
  | .smem => 1
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .i32⟩
  | .hbm, ⟨5, _⟩ => ⟨S3x256, .f32⟩
  | .hbm, ⟨6, _⟩ => ⟨S3x256, .f32⟩
  | .hbm, ⟨7, _⟩ => ⟨S3x256, .f32⟩
  | .hbm, ⟨8, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .smem, ⟨0, _⟩ => ⟨S1, .i32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScRefIdeal.lean ====
abbrev S3x256 : Shape := ⟨2, ![3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S_, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S3x256, .f32⟩
  | .hbm, ⟨24, _⟩ => ⟨S3x256, .f32⟩
  | .hbm, ⟨25, _⟩ => ⟨S3x256, .f32⟩
  | .hbm, ⟨26, _⟩ => ⟨S_, .f32⟩
  | .hbm, ⟨27, _⟩ => ⟨S3x256, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S1x16 : Shape := ⟨2, ![1, 16]⟩
abbrev S_ : Shape := ⟨0, ![]⟩
abbrev S1 : Shape := ⟨1, ![1]⟩

abbrev nBuf : Space → Nat
  | .hbm => 9
  | .vmem => 8
  | .smem => 1
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .i32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | .local _ .smem, ⟨0, _⟩ => ⟨S1, .i32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGateIdeal.lean ====
abbrev S1x16 : Shape := ⟨2, ![1, 16]⟩
abbrev S_ : Shape := ⟨0, ![]⟩
abbrev S1 : Shape := ⟨1, ![1]⟩

abbrev nBuf : Space → Nat
  | .hbm => 9
  | .vmem => 8
  | .smem => 1
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .i32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | .local _ .smem, ⟨0, _⟩ => ⟨S1, .i32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGateRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGdn.lean ====
abbrev S1x128 : Shape := ⟨2, ![1, 128]⟩
abbrev S_ : Shape := ⟨0, ![]⟩
abbrev S1 : Shape := ⟨1, ![1]⟩

abbrev nBuf : Space → Nat
  | .hbm => 9
  | .vmem => 8
  | .smem => 1
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .i32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .smem, ⟨0, _⟩ => ⟨S1, .i32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGdnRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PreBwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreBwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== RmsFwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Post1.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Post1RefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Post2.lean ====
abbrev S4096x4096 : Shape := ⟨2, ![4096, 4096]⟩
abbrev S1x4096 : Shape := ⟨2, ![1, 4096]⟩
abbrev S1x128 : Shape := ⟨2, ![1, 128]⟩
abbrev S128x4096 : Shape := ⟨2, ![128, 4096]⟩
abbrev S128 : Shape := ⟨1, ![128]⟩
abbrev S128x1 : Shape := ⟨2, ![128, 1]⟩
abbrev S4096 : Shape := ⟨1, ![4096]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .bf16⟩
  | .hbm, ⟨5, _⟩ => ⟨S4096x4096, .f32⟩
  | .hbm, ⟨6, _⟩ => ⟨S1x4096, .f32⟩
  | .hbm, ⟨7, _⟩ => ⟨S1x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .bf16⟩
  | .local _ .vmem, ⟨8, _⟩ => ⟨S128x4096, .bf16⟩
  | .local _ .vmem, ⟨9, _⟩ => ⟨S128x4096, .f32⟩
  | .local _ .vmem, ⟨10, _⟩ => ⟨S128x4096, .f32⟩
  | .local _ .vmem, ⟨11, _⟩ => ⟨S1x4096, .f32⟩
  | .local _ .vmem, ⟨12, _⟩ => ⟨S1x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_19 : BitVec 32 := 0#32
  let v47 : BitVec 1 := Scalar.cmpi .ne v46 c0_i32_19
  v47

def k0_cond2 (i : grid0.Coords) : BitVec 1 :=
  let arg0 : BitVec 32 := BitVec.ofNat 32 (i 0).val
  let c0_i32_20 : BitVec 32 := 0#32
  let v48 : BitVec 1 := Scalar.cmpi .sgt arg0 c0_i32_20
  let v49 : BitVec 32 := Scalar.extui v48
  let c0_i32_21 : BitVec 32 := 0#32
  let v50 : BitVec 1 := Scalar.cmpi .ne v49 c0_i32_21
  v50

def k0_cond3 (i : grid0.Coords) : BitVec 1 :=
  let arg0 : BitVec 32 := BitVec.ofNat 32 (i 0).val
  let c0_i32_26 : BitVec 32 := 0#32
  let v62 : BitVec 1 := Scalar.cmpi .eq arg0 c0_i32_26
  let v63 : BitVec 32 := Scalar.extui v62
  let c0_i32_27 : BitVec 32 := 0#32
  let v64 : BitVec 1 := Scalar.cmpi .ne v63 c0_i32_27
  v64

def k0_cond4 (i : grid0.Coords) : BitVec 1 :=
  let arg0 : BitVec 32 := BitVec.ofNat 32 (i 0).val
  let c0_i32_28 : BitVec 32 := 0#32
  let v65 : BitVec 1 := Scalar.cmpi .sgt arg0 c0_i32_28
  let v66 : BitVec 32 := Scalar.extui v65
  let c0_i32_29 : BitVec 32 := 0#32
  let v67 : BitVec 1 := Scalar.cmpi .ne v66 c0_i32_29
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Post2RefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x4096, .f32⟩
  | .hbm, ⟨58, _⟩ => ⟨S4096x4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .bf16⟩
  | .hbm, ⟨71, _⟩ => ⟨S1x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== MidBwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 10
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S4096x4096, .bf16⟩
  | .hbm, ⟨7, _⟩ => ⟨S4096x4096, .f32⟩
  | .hbm, ⟨8, _⟩ => ⟨S1x4096, .f32⟩
  | .hbm, ⟨9, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1x4096, .f32⟩
  | .local _ .vmem, ⟨9, _⟩ => ⟨S1x4096, .f32⟩
  | .local _ .vmem, ⟨10, _⟩ => ⟨S128x4096, .bf16⟩
  | .local _ .vmem, ⟨11, _⟩ => ⟨S128x4096, .bf16⟩
  | .local _ .vmem, ⟨12, _⟩ => ⟨S128x4096, .f32⟩
  | .local _ .vmem, ⟨13, _⟩ => ⟨S128x4096, .f32⟩
  | .local _ .vmem, ⟨14, _⟩ => ⟨S1x4096, .f32⟩
  | .local _ .vmem, ⟨15, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_25 : BitVec 32 := 0#32
  let v68 : BitVec 1 := Scalar.cmpi .ne v67 c0_i32_25
  v68

def k0_cond2 (i : grid0.Coords) : BitVec 1 :=
  let arg0 : BitVec 32 := BitVec.ofNat 32 (i 0).val
  let c0_i32_26 : BitVec 32 := 0#32
  let v69 : BitVec 1 := Scalar.cmpi .sgt arg0 c0_i32_26
  let v70 : BitVec 32 := Scalar.extui v69
  let c0_i32_27 : BitVec 32 := 0#32
  let v71 : BitVec 1 := Scalar.cmpi .ne v70 c0_i32_27
  v71

def k0_cond3 (i : grid0.Coords) : BitVec 1 :=
  let arg0 : BitVec 32 := BitVec.ofNat 32 (i 0).val
  let c0_i32_29 : BitVec 32 := 0#32
  let v74 : BitVec 1 := Scalar.cmpi .eq arg0 c0_i32_29
  let v75 : BitVec 32 := Scalar.extui v74
  let c0_i32_30 : BitVec 32 := 0#32
  let v76 : BitVec 1 := Scalar.cmpi .ne v75 c0_i32_30
  v76

def k0_cond4 (i : grid0.Coords) : BitVec 1 :=
  let arg0 : BitVec 32 := BitVec.ofNat 32 (i 0).val
  let c0_i32_31 : BitVec 32 := 0#32
  let v77 : BitVec 1 := Scalar.cmpi .sgt arg0 c0_i32_31
  let v78 : BitVec 32 := Scalar.extui v77
  let c0_i32_32 : BitVec 32 := 0#32
  let v79 : BitVec 1 := Scalar.cmpi .ne v78 c0_i32_32
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidBwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 92
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096, .f32⟩
  | .hbm, ⟨71, _⟩ => ⟨S1x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x4096, .f32⟩
  | .hbm, ⟨79, _⟩ => ⟨S4096x4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S4096x4096, .f32⟩
  | .hbm, ⟨91, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== ScFwd.lean ====
abbrev S4096x14592 : Shape := ⟨2, ![4096, 14592]⟩
abbrev S3x2048 : Shape := ⟨2, ![3, 2048]⟩
abbrev S4096x2048 : Shape := ⟨2, ![4096, 2048]⟩
abbrev S2048x128 : Shape := ⟨2, ![2048, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x14592, .f32⟩
  | .hbm, ⟨1, _⟩ => ⟨S3x2048, .f32⟩
  | .hbm, ⟨2, _⟩ => ⟨S4096x2048, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S4096x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.addi c65_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c81_i32 : BitVec 32 := 81#32
  let v0 : BitVec 32 := Scalar.addi c81_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c97_i32 : BitVec 32 := 97#32
  let v0 : BitVec 32 := Scalar.addi c97_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ScFwdRefIdeal.lean ====
abbrev S4096x14592 : Shape := ⟨2, ![4096, 14592]⟩
abbrev S3x2048 : Shape := ⟨2, ![3, 2048]⟩
abbrev S4096x2048 : Shape := ⟨2, ![4096, 2048]⟩
abbrev S2x2048x2048 : Shape := ⟨3, ![2, 2048, 2048]⟩
abbrev S_ : Shape := ⟨0, ![]⟩
abbrev S2x2x2048 : Shape := ⟨3, ![2, 2, 2048]⟩
abbrev S2x2050x2048 : Shape := ⟨3, ![2, 2050, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x14592, .f32⟩
  | .hbm, ⟨1, _⟩ => ⟨S3x2048, .f32⟩
  | .hbm, ⟨2, _⟩ => ⟨S4096x2048, .f32⟩
  | .hbm, ⟨3, _⟩ => ⟨S2x2048x2048, .f32⟩
  | .hbm, ⟨4, _⟩ => ⟨S4096x2048, .f32⟩
  | .hbm, ⟨5, _⟩ => ⟨S2x2048x2048, .f32⟩
  | .hbm, ⟨6, _⟩ => ⟨S4096x2048, .f32⟩
  | .hbm, ⟨7, _⟩ => ⟨S2x2048x2048, .f32⟩
  | .hbm, ⟨8, _⟩ => ⟨S2x2048x2048, .f32⟩
  | .hbm, ⟨9, _⟩ => ⟨S_, .f32⟩
  | .hbm, ⟨10, _⟩ => ⟨S2x2x2048, .f32⟩
  | .hbm, ⟨11, _⟩ => ⟨S2x2050x2048, .f32⟩
  | .hbm, ⟨12, _⟩ => ⟨S2x2048x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S2x2048x2048, .f32⟩
  | .hbm, ⟨17, _⟩ => ⟨S2x2048x2048, .f32⟩
  | .hbm, ⟨18, _⟩ => ⟨S_, .f32⟩
  | .hbm, ⟨19, _⟩ => ⟨S2x2048x2048, .f32⟩
  | .hbm, ⟨20, _⟩ => ⟨S2x2048x2048, .f32⟩
  | .hbm, ⟨21, _⟩ => ⟨S2x2048x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S2x2048x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S2x2048x2048, .f32⟩
  | .hbm, ⟨36, _⟩ => ⟨S4096x2048, .f32⟩
  | .hbm, ⟨37, _⟩ => ⟨S4096x2048, .bf16⟩
  | _, _ => ⟨S4096x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== QkvFwd.lean ====
abbrev S4096x14592 : Shape := ⟨2, ![4096, 14592]⟩
abbrev S4x6144 : Shape := ⟨2, ![4, 6144]⟩
abbrev S3x4096x2048 : Shape := ⟨3, ![3, 4096, 2048]⟩
abbrev S2048x128 : Shape := ⟨2, ![2048, 128]⟩
abbrev S4x128 : Shape := ⟨2, ![4, 128]⟩
abbrev S1x2048x128 : Shape := ⟨3, ![1, 2048, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x14592, .f32⟩
  | .hbm, ⟨1, _⟩ => ⟨S4x6144, .f32⟩
  | .hbm, ⟨2, _⟩ => ⟨S3x4096x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x2048x128, .f32⟩
  | .local _ .vmem, ⟨5, _⟩ => ⟨S1x2048x128, .f32⟩
  | _, _ => ⟨S4096x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== QkvFwdRefIdeal.lean ====
abbrev S4096x14592 : Shape := ⟨2, ![4096, 14592]⟩
abbrev S4x6144 : Shape := ⟨2, ![4, 6144]⟩
abbrev S4096x6144 : Shape := ⟨2, ![4096, 6144]⟩
abbrev S2x2048x6144 : Shape := ⟨3, ![2, 2048, 6144]⟩
abbrev S_ : Shape := ⟨0, ![]⟩
abbrev S2x3x6144 : Shape := ⟨3, ![2, 3, 6144]⟩
abbrev S2x2051x6144 : Shape := ⟨3, ![2, 2051, 6144]⟩
abbrev S1x6144 : Shape := ⟨2, ![1, 6144]⟩
abbrev S6144 : Shape := ⟨1, ![6144]⟩
abbrev S1x1x6144 : Shape := ⟨3, ![1, 1, 6144]⟩
abbrev S2x2048x2048 : Shape := ⟨3, ![2, 2048, 2048]⟩
abbrev S4096x2048 : Shape := ⟨2, ![4096, 2048]⟩
abbrev S1x4096x2048 : Shape := ⟨3, ![1, 4096, 2048]⟩
abbrev S3x4096x2048 : Shape := ⟨3, ![3, 4096, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x14592, .f32⟩
  | .hbm, ⟨1, _⟩ => ⟨S4x6144, .f32⟩
  | .hbm, ⟨2, _⟩ => ⟨S4096x6144, .f32⟩
  | .hbm, ⟨3, _⟩ => ⟨S2x2048x6144, .f32⟩
  | .hbm, ⟨4, _⟩ => ⟨S_, .f32⟩
  | .hbm, ⟨5, _⟩ => ⟨S2x3x6144, .f32⟩
  | .hbm, ⟨6, _⟩ => ⟨S2x2051x6144, .f32⟩
  | .hbm, ⟨7, _⟩ => ⟨S2x2048x6144, .f32⟩
  | .hbm, ⟨8, _⟩ => ⟨S1x6144, .f32⟩
  | .hbm, ⟨9, _⟩ => ⟨S6144, .f32⟩
  | .hbm, ⟨10, _⟩ => ⟨S1x1x6144, .f32⟩
  | .hbm, ⟨11, _⟩ => ⟨S2x2048x6144, .f32⟩
  | .hbm, ⟨12, _⟩ => ⟨S2x2048x6144, .f32⟩
  | .hbm, ⟨13, _⟩ => ⟨S_, .f32⟩
  | .hbm, ⟨14, _⟩ => ⟨S2x2048x6144, .f32⟩
  | .hbm, ⟨15, _⟩ => ⟨S2x2048x6144, .f32⟩
  | .hbm, ⟨16, _⟩ => ⟨S2x2048x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S2x2048x6144, .f32⟩
  | .hbm, ⟨21, _⟩ => ⟨S2x2048x6144, .f32⟩
  | .hbm, ⟨22, _⟩ => ⟨S2x2048x6144, .f32⟩
  | .hbm, ⟨23, _⟩ => ⟨S2x2048x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S2x2048x6144, .f32⟩
  | .hbm, ⟨28, _⟩ => ⟨S2x2048x6144, .f32⟩
  | .hbm, ⟨29, _⟩ => ⟨S2x2048x6144, .f32⟩
  | .hbm, ⟨30, _⟩ => ⟨S2x2048x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S2x2048x6144, .f32⟩
  | .hbm, ⟨35, _⟩ => ⟨S2x2048x6144, .f32⟩
  | .hbm, ⟨36, _⟩ => ⟨S2x2048x6144, .f32⟩
  | .hbm, ⟨37, _⟩ => ⟨S2x2048x6144, .f32⟩
  | .hbm, ⟨38, _⟩ => ⟨S2x2048x6144, .f32⟩
  | .hbm, ⟨39, _⟩ => ⟨S_, .f32⟩
  | .hbm, ⟨40, _⟩ => ⟨S2x2048x6144, .f32⟩
  | .hbm, ⟨41, _⟩ => ⟨S2x2048x6144, .f32⟩
  | .hbm, ⟨42, _⟩ => ⟨S_, .f32⟩
  | .hbm, ⟨43, _⟩ => ⟨S2x2048x6144, .f32⟩
  | .hbm, ⟨44, _⟩ => ⟨S2x2048x6144, .f32⟩
  | .hbm, ⟨45, _⟩ => ⟨S2x2048x6144, .f32⟩
  | .hbm, ⟨46, _⟩ => ⟨S2x2048x2048, .f32⟩
  | .hbm, ⟨47, _⟩ => ⟨S2x2048x2048, .f32⟩
  | .hbm, ⟨48, _⟩ => ⟨S2x2048x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x4096x2048, .f32⟩
  | .hbm, ⟨53, _⟩ => ⟨S1x4096x2048, .f32⟩
  | .hbm, ⟨54, _⟩ => ⟨S1x4096x2048, .f32⟩
  | .hbm, ⟨55, _⟩ => ⟨S3x4096x2048, .f32⟩
  | _, _ => ⟨S4096x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== AdamOut.lean ====
abbrev S512x4096 : Shape := ⟨2, ![512, 4096]⟩
abbrev S4x512x4096 : Shape := ⟨3, ![4, 512, 4096]⟩
abbrev S3x512x4096 : Shape := ⟨3, ![3, 512, 4096]⟩
abbrev S1 : Shape := ⟨1, ![1]⟩
abbrev S_ : Shape := ⟨0, ![]⟩
abbrev S4 : Shape := ⟨1, ![4]⟩
abbrev S64x4096 : Shape := ⟨2, ![64, 4096]⟩
abbrev S1x64x4096 : Shape := ⟨3, ![1, 64, 4096]⟩

abbrev nBuf : Space → Nat
  | .hbm => 18
  | .vmem => 22
  | .smem => 1
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S4x512x4096, .bf16⟩
  | .hbm, ⟨4, _⟩ => ⟨S3x512x4096, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S1x64x4096, .bf16⟩
  | .local _ .vmem, ⟨7, _⟩ => ⟨S1x64x4096, .bf16⟩
  | .local _ .vmem, ⟨8, _⟩ => ⟨S1x64x4096, .bf16⟩
  | .local _ .vmem, ⟨9, _⟩ => ⟨S1x64x4096, .bf16⟩
  | .local _ .vmem, ⟨10, _⟩ => ⟨S1x64x4096, .bf16⟩
  | .local _ .vmem, ⟨11, _⟩ => ⟨S1x64x4096, .bf16⟩
  | .local _ .vmem, ⟨12, _⟩ => ⟨S1x64x4096, .bf16⟩
  | .local _ .vmem, ⟨13, _⟩ => ⟨S1x64x4096, .bf16⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | .local _ .vmem, ⟨19, _⟩ => ⟨S64x4096, .f32⟩
  | .local _ .vmem, ⟨20, _⟩ => ⟨S64x4096, .f32⟩
  | .local _ .vmem, ⟨21, _⟩ => ⟨S64x4096, .f32⟩
  | .local _ .smem, ⟨0, _⟩ => ⟨S4, .i32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_4 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_5 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_6 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamOutIdeal.lean ====
abbrev S512x4096 : Shape := ⟨2, ![512, 4096]⟩
abbrev S4x512x4096 : Shape := ⟨3, ![4, 512, 4096]⟩
abbrev S3x512x4096 : Shape := ⟨3, ![3, 512, 4096]⟩
abbrev S1 : Shape := ⟨1, ![1]⟩
abbrev S_ : Shape := ⟨0, ![]⟩
abbrev S4 : Shape := ⟨1, ![4]⟩
abbrev S64x4096 : Shape := ⟨2, ![64, 4096]⟩
abbrev S1x64x4096 : Shape := ⟨3, ![1, 64, 4096]⟩

abbrev nBuf : Space → Nat
  | .hbm => 18
  | .vmem => 22
  | .smem => 1
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S4x512x4096, .bf16⟩
  | .hbm, ⟨4, _⟩ => ⟨S3x512x4096, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S1x64x4096, .bf16⟩
  | .local _ .vmem, ⟨7, _⟩ => ⟨S1x64x4096, .bf16⟩
  | .local _ .vmem, ⟨8, _⟩ => ⟨S1x64x4096, .bf16⟩
  | .local _ .vmem, ⟨9, _⟩ => ⟨S1x64x4096, .bf16⟩
  | .local _ .vmem, ⟨10, _⟩ => ⟨S1x64x4096, .bf16⟩
  | .local _ .vmem, ⟨11, _⟩ => ⟨S1x64x4096, .bf16⟩
  | .local _ .vmem, ⟨12, _⟩ => ⟨S1x64x4096, .bf16⟩
  | .local _ .vmem, ⟨13, _⟩ => ⟨S1x64x4096, .bf16⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | .local _ .vmem, ⟨19, _⟩ => ⟨S64x4096, .f32⟩
  | .local _ .vmem, ⟨20, _⟩ => ⟨S64x4096, .f32⟩
  | .local _ .vmem, ⟨21, _⟩ => ⟨S64x4096, .f32⟩
  | .local _ .smem, ⟨0, _⟩ => ⟨S4, .i32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_4 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_5 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_6 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamOutRefIdeal.lean ====
abbrev S512x4096 : Shape := ⟨2, ![512, 4096]⟩
abbrev S4x512x4096 : Shape := ⟨3, ![4, 512, 4096]⟩
abbrev S3x512x4096 : Shape := ⟨3, ![3, 512, 4096]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S4x512x4096, .bf16⟩
  | .hbm, ⟨4, _⟩ => ⟨S3x512x4096, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x512x4096, .f32⟩
  | .hbm, ⟨12, _⟩ => ⟨S_, .f32⟩
  | .hbm, ⟨13, _⟩ => ⟨S_, .f32⟩
  | .hbm, ⟨14, _⟩ => ⟨S4x512x4096, .i1⟩
  | .hbm, ⟨15, _⟩ => ⟨S4x512x4096, .f32⟩
  | .hbm, ⟨16, _⟩ => ⟨S4x512x4096, .f32⟩
  | .hbm, ⟨17, _⟩ => ⟨S_, .f32⟩
  | .hbm, ⟨18, _⟩ => ⟨S512x4096, .f32⟩
  | .hbm, ⟨19, _⟩ => ⟨S3x512x4096, .f32⟩
  | .hbm, ⟨20, _⟩ => ⟨S_, .f32⟩
  | .hbm, ⟨21, _⟩ => ⟨S512x4096, .f32⟩
  | .hbm, ⟨22, _⟩ => ⟨S512x4096, .f32⟩
  | .hbm, ⟨23, _⟩ => ⟨S_, .f32⟩
  | .hbm, ⟨24, _⟩ => ⟨S512x4096, .f32⟩
  | .hbm, ⟨25, _⟩ => ⟨S512x4096, .f32⟩
  | .hbm, ⟨26, _⟩ => ⟨S_, .f32⟩
  | .hbm, ⟨27, _⟩ => ⟨S512x4096, .f32⟩
  | .hbm, ⟨28, _⟩ => ⟨S512x4096, .f32⟩
  | .hbm, ⟨29, _⟩ => ⟨S512x4096, .f32⟩
  | .hbm, ⟨30, _⟩ => ⟨S_, .f32⟩
  | .hbm, ⟨31, _⟩ => ⟨S512x4096, .f32⟩
  | .hbm, ⟨32, _⟩ => ⟨S512x4096, .f32⟩
  | .hbm, ⟨33, _⟩ => ⟨S512x4096, .f32⟩
  | .hbm, ⟨34, _⟩ => ⟨S_, .f32⟩
  | .hbm, ⟨35, _⟩ => ⟨S512x4096, .f32⟩
  | .hbm, ⟨36, _⟩ => ⟨S512x4096, .f32⟩
  | .hbm, ⟨37, _⟩ => ⟨S512x4096, .f32⟩
  | .hbm, ⟨38, _⟩ => ⟨S_, .f32⟩
  | .hbm, ⟨39, _⟩ => ⟨S512x4096, .f32⟩
  | .hbm, ⟨40, _⟩ => ⟨S512x4096, .f32⟩
  | .hbm, ⟨41, _⟩ => ⟨S_, .f32⟩
  | .hbm, ⟨42, _⟩ => ⟨S512x4096, .f32⟩
  | .hbm, ⟨43, _⟩ => ⟨S512x4096, .f32⟩
  | .hbm, ⟨44, _⟩ => ⟨S512x4096, .f32⟩
  | .hbm, ⟨45, _⟩ => ⟨S_, .f32⟩
  | .hbm, ⟨46, _⟩ => ⟨S512x4096, .f32⟩
  | .hbm, ⟨47, _⟩ => ⟨S512x4096, .f32⟩
  | .hbm, ⟨48, _⟩ => ⟨S512x4096, .f32⟩
  | .hbm, ⟨49, _⟩ => ⟨S_, .f32⟩
  | .hbm, ⟨50, _⟩ => ⟨S512x4096, .f32⟩
  | .hbm, ⟨51, _⟩ => ⟨S512x4096, .f32⟩
  | .hbm, ⟨52, _⟩ => ⟨S512x4096, .f32⟩
  | .hbm, ⟨53, _⟩ => ⟨S_, .f32⟩
  | .hbm, ⟨54, _⟩ => ⟨S512x4096, .f32⟩
  | .hbm, ⟨55, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== AdamUp.lean ====
abbrev S4096x2048 : Shape := ⟨2, ![4096, 2048]⟩
abbrev S4x4096x2048 : Shape := ⟨3, ![4, 4096, 2048]⟩
abbrev S3x4096x2048 : Shape := ⟨3, ![3, 4096, 2048]⟩
abbrev S1 : Shape := ⟨1, ![1]⟩
abbrev S_ : Shape := ⟨0, ![]⟩
abbrev S4 : Shape := ⟨1, ![4]⟩
abbrev S128x2048 : Shape := ⟨2, ![128, 2048]⟩
abbrev S1x128x2048 : Shape := ⟨3, ![1, 128, 2048]⟩

abbrev nBuf : Space → Nat
  | .hbm => 18
  | .vmem => 22
  | .smem => 1
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x4096x2048, .bf16⟩
  | .hbm, ⟨4, _⟩ => ⟨S3x4096x2048, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .smem, ⟨0, _⟩ => ⟨S4, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_4 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_5 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_6 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamUpIdeal.lean ====
abbrev S4096x2048 : Shape := ⟨2, ![4096, 2048]⟩
abbrev S4x4096x2048 : Shape := ⟨3, ![4, 4096, 2048]⟩
abbrev S3x4096x2048 : Shape := ⟨3, ![3, 4096, 2048]⟩
abbrev S1 : Shape := ⟨1, ![1]⟩
abbrev S_ : Shape := ⟨0, ![]⟩
abbrev S4 : Shape := ⟨1, ![4]⟩
abbrev S128x2048 : Shape := ⟨2, ![128, 2048]⟩
abbrev S1x128x2048 : Shape := ⟨3, ![1, 128, 2048]⟩

abbrev nBuf : Space → Nat
  | .hbm => 18
  | .vmem => 22
  | .smem => 1
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x4096x2048, .bf16⟩
  | .hbm, ⟨4, _⟩ => ⟨S3x4096x2048, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .smem, ⟨0, _⟩ => ⟨S4, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_4 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_5 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_6 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamUpRefIdeal.lean ====
abbrev S4096x2048 : Shape := ⟨2, ![4096, 2048]⟩
abbrev S4x4096x2048 : Shape := ⟨3, ![4, 4096, 2048]⟩
abbrev S3x4096x2048 : Shape := ⟨3, ![3, 4096, 2048]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x4096x2048, .bf16⟩
  | .hbm, ⟨4, _⟩ => ⟨S3x4096x2048, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x4096x2048, .f32⟩
  | .hbm, ⟨12, _⟩ => ⟨S_, .f32⟩
  | .hbm, ⟨13, _⟩ => ⟨S_, .f32⟩
  | .hbm, ⟨14, _⟩ => ⟨S4x4096x2048, .i1⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4096x2048, .f32⟩
  | .hbm, ⟨19, _⟩ => ⟨S3x4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== AdamDown.lean ====
abbrev S2048x4096 : Shape := ⟨2, ![2048, 4096]⟩
abbrev S4x2048x4096 : Shape := ⟨3, ![4, 2048, 4096]⟩
abbrev S3x2048x4096 : Shape := ⟨3, ![3, 2048, 4096]⟩
abbrev S1 : Shape := ⟨1, ![1]⟩
abbrev S_ : Shape := ⟨0, ![]⟩
abbrev S4 : Shape := ⟨1, ![4]⟩
abbrev S64x4096 : Shape := ⟨2, ![64, 4096]⟩
abbrev S1x64x4096 : Shape := ⟨3, ![1, 64, 4096]⟩

abbrev nBuf : Space → Nat
  | .hbm => 18
  | .vmem => 22
  | .smem => 1
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S4x2048x4096, .bf16⟩
  | .hbm, ⟨4, _⟩ => ⟨S3x2048x4096, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S2048x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S1x64x4096, .bf16⟩
  | .local _ .vmem, ⟨7, _⟩ => ⟨S1x64x4096, .bf16⟩
  | .local _ .vmem, ⟨8, _⟩ => ⟨S1x64x4096, .bf16⟩
  | .local _ .vmem, ⟨9, _⟩ => ⟨S1x64x4096, .bf16⟩
  | .local _ .vmem, ⟨10, _⟩ => ⟨S1x64x4096, .bf16⟩
  | .local _ .vmem, ⟨11, _⟩ => ⟨S1x64x4096, .bf16⟩
  | .local _ .vmem, ⟨12, _⟩ => ⟨S1x64x4096, .bf16⟩
  | .local _ .vmem, ⟨13, _⟩ => ⟨S1x64x4096, .bf16⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | .local _ .vmem, ⟨19, _⟩ => ⟨S64x4096, .f32⟩
  | .local _ .vmem, ⟨20, _⟩ => ⟨S64x4096, .f32⟩
  | .local _ .vmem, ⟨21, _⟩ => ⟨S64x4096, .f32⟩
  | .local _ .smem, ⟨0, _⟩ => ⟨S4, .i32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_4 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_5 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_6 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamDownRefIdeal.lean ====
abbrev S2048x4096 : Shape := ⟨2, ![2048, 4096]⟩
abbrev S4x2048x4096 : Shape := ⟨3, ![4, 2048, 4096]⟩
abbrev S3x2048x4096 : Shape := ⟨3, ![3, 2048, 4096]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S4x2048x4096, .bf16⟩
  | .hbm, ⟨4, _⟩ => ⟨S3x2048x4096, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x2048x4096, .f32⟩
  | .hbm, ⟨12, _⟩ => ⟨S_, .f32⟩
  | .hbm, ⟨13, _⟩ => ⟨S_, .f32⟩
  | .hbm, ⟨14, _⟩ => ⟨S4x2048x4096, .i1⟩
  | .hbm, ⟨15, _⟩ => ⟨S4x2048x4096, .f32⟩
  | .hbm, ⟨16, _⟩ => ⟨S4x2048x4096, .f32⟩
  | .hbm, ⟨17, _⟩ => ⟨S_, .f32⟩
  | .hbm, ⟨18, _⟩ => ⟨S2048x4096, .f32⟩
  | .hbm, ⟨19, _⟩ => ⟨S3x2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S_, .f32⟩
  | .hbm, ⟨31, _⟩ => ⟨S2048x4096, .f32⟩
  | .hbm, ⟨32, _⟩ => ⟨S2048x4096, .f32⟩
  | .hbm, ⟨33, _⟩ => ⟨S2048x4096, .f32⟩
  | .hbm, ⟨34, _⟩ => ⟨S_, .f32⟩
  | .hbm, ⟨35, _⟩ => ⟨S2048x4096, .f32⟩
  | .hbm, ⟨36, _⟩ => ⟨S2048x4096, .f32⟩
  | .hbm, ⟨37, _⟩ => ⟨S2048x4096, .f32⟩
  | .hbm, ⟨38, _⟩ => ⟨S_, .f32⟩
  | .hbm, ⟨39, _⟩ => ⟨S2048x4096, .f32⟩
  | .hbm, ⟨40, _⟩ => ⟨S2048x4096, .f32⟩
  | .hbm, ⟨41, _⟩ => ⟨S_, .f32⟩
  | .hbm, ⟨42, _⟩ => ⟨S2048x4096, .f32⟩
  | .hbm, ⟨43, _⟩ => ⟨S2048x4096, .f32⟩
  | .hbm, ⟨44, _⟩ => ⟨S2048x4096, .f32⟩
  | .hbm, ⟨45, _⟩ => ⟨S_, .f32⟩
  | .hbm, ⟨46, _⟩ => ⟨S2048x4096, .f32⟩
  | .hbm, ⟨47, _⟩ => ⟨S2048x4096, .f32⟩
  | .hbm, ⟨48, _⟩ => ⟨S2048x4096, .f32⟩
  | .hbm, ⟨49, _⟩ => ⟨S_, .f32⟩
  | .hbm, ⟨50, _⟩ => ⟨S2048x4096, .f32⟩
  | .hbm, ⟨51, _⟩ => ⟨S2048x4096, .f32⟩
  | .hbm, ⟨52, _⟩ => ⟨S2048x4096, .f32⟩
  | .hbm, ⟨53, _⟩ => ⟨S_, .f32⟩
  | .hbm, ⟨54, _⟩ => ⟨S2048x4096, .f32⟩
  | .hbm, ⟨55, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Proof.Gdn.Runs.lean ====
/- The backward recurrence's grid point: the conditions its body tests, and the memory that it is handed. -/
module

public import proofs.«01_k».proof.Proof.Gen.GdnBwdIdeal.Launch
public import proofs.«01_k».proof.Proof.Gen.GdnBwdIdeal.Skeleton
public import proofs.«01_k».proof.Proof.Gen.GdnBwdIdeal.Points
public import proofs.«01_k».proof.Proof.Gen.GdnBwdIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.GdnBwdIdeal.Hand

open Cert.GdnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 128) — by arithmetic of the point. -/
theorem hcond0_0 : ∀ t : Fin cfg0.N, cond0_0 (grid0.coords t) ↔ t.val % 128 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 4 % 32 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 128 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 4 % 32 := Pipeline.Grid.coords_val t 1 (by decide) rfl
    have e2 : (grid0.coords t 2).val = t.val / 1 % 4 := Pipeline.Grid.coords_val t 2 (by decide) rfl
    simp only [cond0_1, e0, e1, e2]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 3 (mod 4) — by arithmetic of the point. -/
theorem hcond0_2 : ∀ t : Fin cfg0.N, cond0_2 (grid0.coords t) ↔ t.val % 4 = 3 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 4 % 32 := Pipeline.Grid.coords_val t 1 (by decide) rfl
    have e2 : (grid0.coords t 2).val = t.val / 1 % 4 := Pipeline.Grid.coords_val t 2 (by decide) rfl
    simp only [cond0_2, k0_cond3, e0, e1, e2]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S3x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x4x128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x4x64x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x64x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x128 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S16x128x128 .f32 := Memref.whole cc0_scratch0
abbrev scM0_1 : Memref sig .tc .vmem S64x128 .f32 := Memref.whole cc0_scratch1
abbrev scM0_2 : Memref sig .tc .vmem S128x64 .f32 := Memref.whole cc0_scratch2
abbrev scM0_3 : Memref sig .tc .vmem S64x128 .f32 := Memref.whole cc0_scratch3
abbrev scM0_4 : Memref sig .tc .vmem S64x128 .f32 := Memref.whole cc0_scratch4
abbrev scM0_5 : Memref sig .tc .vmem S64x128 .f32 := Memref.whole cc0_scratch5
/-- The scratch `arg18` the kernel carries between points, as a view: what it holds is stated through it. -/
abbrev VS0_0 : View sig .tc .vmem S16x128x128 .f32 := scM0_0.view
/-- The scratch `arg19` the kernel carries between points, as a view: what it holds is stated through it. -/
abbrev VS0_1 : View sig .tc .vmem S64x128 .f32 := scM0_1.view
/-- The scratch `arg20` the kernel carries between points, as a view: what it holds is stated through it. -/
abbrev VS0_2 : View sig .tc .vmem S128x64 .f32 := scM0_2.view
/-- The scratch `arg21` the kernel carries between points, as a view: what it holds is stated through it. -/
abbrev VS0_3 : View sig .tc .vmem S64x128 .f32 := scM0_3.view
/-- The scratch `arg22` the kernel carries between points, as a view: what it holds is stated through it. -/
abbrev VS0_4 : View sig .tc .vmem S64x128 .f32 := scM0_4.view
/-- The scratch `arg23` the kernel carries between points, as a view: what it holds is stated through it. -/
abbrev VS0_5 : View sig .tc .vmem S64x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.GdnBwdIdeal.Hand

end
-- ==== Proof.Gdn.RunA.lean ====
/- The body at the first grid point of a sequence (its last chunk, the first group of heads): it runs through, and the
   pieces it writes into the carried scratch are found. -/
module

public import proofs.«01_k».proof.Proof.Gdn.Runs

@[expose] public section

-- membership in a rectangle of production extents (`View.cover_of_tiled`): the elaborator's structural look
-- recurses once per coordinate of the long axes
set_option maxRecDepth 16384

noncomputable section

namespace Cert.GdnBwdIdeal.Hand

open Cert.GdnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1432000 in
/-- What the body's stores leave in each output's staging memref, as pieces (last first) IN CASE A (`scf.if` 0 taken, `scf.if` 1 taken, `scf.if` 2 not taken: points 0, 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14) at anything, handed back at some contents nothing names. -/
noncomputable def kernelRun0_A (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) :
    Σ' (LS0 : List (View.Piece (Elt F) S16x128x128 .f32)), Σ' (LS1 : List (View.Piece (Elt F) S64x128 .f32)), Σ' (LS2 : List (View.Piece (Elt F) S128x64 .f32)), Σ' (LS3 : List (View.Piece (Elt F) S64x128 .f32)), Σ' (LS4 : List (View.Piece (Elt F) S64x128 .f32)), { LS5 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ (∃ f, arg22.view.loc (c : Thread nD τ) ↦[arg22.view.set]{fullShare} arg22.view.writes (Elt F) f LS4) ∗ (∃ f, arg23.view.loc (c : Thread nD τ) ↦[arg23.view.set]{fullShare} arg23.view.writes (Elt F) f LS5)) -∗ K ⟨⟩))
          ⊢ wp frame (wpE (defs₀ (F := F)) Variants.none c none) E (cc0_gdn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0_gdn_bwd_eq_skeleton]; unfold cc0_gdn_bwd_skel
    simp only [k0_part4_eq_skeleton, k0_part1_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.GdnBwdIdeal.Hand

end
-- ==== Proof.Gdn.RunB.lean ====
/- The body at a middle group of heads: it runs through, and the pieces it writes into the carried scratch are found. -/
module

public import proofs.«01_k».proof.Proof.Gdn.Runs

@[expose] public section

-- membership in a rectangle of production extents (`View.cover_of_tiled`): the elaborator's structural look
-- recurses once per coordinate of the long axes
set_option maxRecDepth 16384

noncomputable section

namespace Cert.GdnBwdIdeal.Hand

open Cert.GdnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken, `scf.if` 2 not taken: points 1, 2, … 254: 128 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14) at anything, handed back at some contents nothing names. -/
noncomputable def kernelRun0_B (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) :
    Σ' (LS0 : List (View.Piece (Elt F) S16x128x128 .f32)), Σ' (LS1 : List (View.Piece (Elt F) S64x128 .f32)), Σ' (LS2 : List (View.Piece (Elt F) S128x64 .f32)), Σ' (LS3 : List (View.Piece (Elt F) S64x128 .f32)), Σ' (LS4 : List (View.Piece (Elt F) S64x128 .f32)), { LS5 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4 ∗ owns (c : Thread nD τ) arg23 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (arg18.view.loc (c : Thread nD τ) ↦[arg18.view.set]{fullShare} arg18.view.writes (Elt F) (harg18.unread xs0) LS0) ∗ owns (c : Thread nD τ) arg19 fullShare xs1 ∗ owns (c : Thread nD τ) arg20 fullShare xs2 ∗ owns (c : Thread nD τ) arg21 fullShare xs3 ∗ (∃ f, arg22.view.loc (c : Thread nD τ) ↦[arg22.view.set]{fullShare} arg22.view.writes (Elt F) f LS4) ∗ (∃ f, arg23.view.loc (c : Thread nD τ) ↦[arg23.view.set]{fullShare} arg23.view.writes (Elt F) f LS5)) -∗ K ⟨⟩))
          ⊢ wp frame (wpE (defs₀ (F := F)) Variants.none c none) E (cc0_gdn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, [], [], [], ?_, ?_, fun E K => ?run⟩
  case run =>
    simp only [cc0_gdn_bwd_eq_skeleton]; unfold cc0_gdn_bwd_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg18.eq_unread hfs0; obtain rfl := harg19.eq_unread hfs1; obtain rfl := harg20.eq_unread hfs2; obtain rfl := harg21.eq_unread hfs3; obtain rfl := harg22.eq_unread hfs4; obtain rfl := harg23.eq_unread hfs5
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexact HS0
    isplitl [HS1]
    · iexists _; isplitr; · ipureintro; exact harg19.read_unread _
      iexact HS1
    isplitl [HS2]
    · iexists _; isplitr; · ipureintro; exact harg20.read_unread _
      iexact HS2
    isplitl [HS3]
    · iexists _; isplitr; · ipureintro; exact harg21.read_unread _
      iexact HS3
    isplitl [HS4]; · iexists _; iexact HS4
    iexists _; iexact HS5

end Cert.GdnBwdIdeal.Hand

end
-- ==== Proof.Gdn.ScratchAB.lean ====
/- What the first two cases of the body (the first grid point of a sequence; a middle group of heads) leave in the
   scratch that is carried between grid points. -/
module

public import proofs.«01_k».proof.Proof.Gdn.RunA
public import proofs.«01_k».proof.Proof.Gdn.RunB
public import Idealize.ShloMosaic.Lib.Claim

@[expose] public section

-- membership in a rectangle of production extents (`View.cover_of_tiled`): the elaborator's structural look
-- recurses once per coordinate of the long axes
set_option maxRecDepth 16384

noncomputable section

namespace Cert.GdnBwdIdeal.Hand

open Cert.GdnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg18`, which the kernel carries between points, cover it: one of them a store of the WHOLE buffer (Lib/Ring.lean `sl_whole_mem`). -/
theorem scover0_A_0 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (y : S16x128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).1 (by sl_whole_mem) y

/-- What case A leaves in scratch `arg18`: its pieces read back over junk. -/
def sout0_A_0 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) : Vec F S16x128x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).1)

/-- Case A's pieces for scratch `arg19`, which the kernel carries between points, cover it: 1 piece of `S64x128` tiling it (Lib/Ring.lean `Piece.tiledL`). -/
theorem scover0_A_1 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (y : S64x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.1 S64x128.size (by sl_kernel_rfl) y

/-- What case A leaves in scratch `arg19`: its pieces read back over junk. -/
def sout0_A_1 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) : Vec F S64x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.1)

/-- Case A's pieces for scratch `arg20`, which the kernel carries between points, cover it: 1 piece of `S128x64` tiling it (Lib/Ring.lean `Piece.tiledL`). -/
theorem scover0_A_2 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (y : S128x64.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.1 S128x64.size (by sl_kernel_rfl) y

/-- What case A leaves in scratch `arg20`: its pieces read back over junk. -/
def sout0_A_2 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) : Vec F S128x64 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.1)

/-- Case A's pieces for scratch `arg21`, which the kernel carries between points, cover it: 1 piece of `S64x128` tiling it (Lib/Ring.lean `Piece.tiledL`). -/
theorem scover0_A_3 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (y : S64x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.2.1 S64x128.size (by sl_kernel_rfl) y

/-- What case A leaves in scratch `arg21`: its pieces read back over junk. -/
def sout0_A_3 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) : Vec F S64x128 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.2.1)

/-- Case A's pieces for scratch `arg22`, which the kernel carries between points, cover it: 5 pieces of `S64x128` tiling it (Lib/Ring.lean `Piece.tiledL`). -/
theorem scover0_A_4 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (y : S64x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.2.2.1 S64x128.size (by sl_kernel_rfl) y

/-- What case A leaves in scratch `arg22`: its pieces read back over junk. -/
def sout0_A_4 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) : Vec F S64x128 .f32 :=
  VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.2.2.1)

/-- Case A's pieces for scratch `arg23`, which the kernel carries between points, cover it: 5 pieces of `S64x128` tiling it (Lib/Ring.lean `Piece.tiledL`). -/
theorem scover0_A_5 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (y : S64x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.2.2.2.1 S64x128.size (by sl_kernel_rfl) y

/-- What case A leaves in scratch `arg23`: its pieces read back over junk. -/
def sout0_A_5 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) : Vec F S64x128 .f32 :=
  VS0_5.read (Elt F) (VS0_5.writes (Elt F) VS0_5.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8).2.2.2.2.2.1)

/-- What case B leaves in scratch `arg18`: its pieces (stores, a counted loop's segment) read back over what the point before left there, which it read first. -/
def sout0_B_0 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S16x128x128 .f32 :=
  arg18.view.read (Elt F) (arg18.view.writes (Elt F) (harg18.unread xs0) (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).1)

/-- Case B stores nothing into scratch `arg19`: it holds what the point before left. -/
def sout0_B_1 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S64x128 .f32 := xs1

/-- Case B stores nothing into scratch `arg20`: it holds what the point before left. -/
def sout0_B_2 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S128x64 .f32 := xs2

/-- Case B stores nothing into scratch `arg21`: it holds what the point before left. -/
def sout0_B_3 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S64x128 .f32 := xs3

/-- Case B's pieces for scratch `arg22`, which the kernel carries between points, cover it: 4 pieces of `S64x128` tiling it (Lib/Ring.lean `Piece.tiledL`). -/
theorem scover0_B_4 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) (y : S64x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.1 S64x128.size (by sl_kernel_rfl) y

/-- What case B leaves in scratch `arg22`: its pieces read back over junk. -/
def sout0_B_4 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S64x128 .f32 :=
  VS0_4.read (Elt F) (VS0_4.writes (Elt F) VS0_4.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.1)

/-- Case B's pieces for scratch `arg23`, which the kernel carries between points, cover it: 4 pieces of `S64x128` tiling it (Lib/Ring.lean `Piece.tiledL`). -/
theorem scover0_B_5 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) (y : S64x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.2.1 S64x128.size (by sl_kernel_rfl) y

/-- What case B leaves in scratch `arg23`: its pieces read back over junk. -/
def sout0_B_5 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S64x128 .f32 :=
  VS0_5.read (Elt F) (VS0_5.writes (Elt F) VS0_5.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.2.1)

end Cert.GdnBwdIdeal.Hand

end
-- ==== Proof.Gdn.RunC.lean ====
/- The body at the last group of heads of a chunk: it runs through, and the pieces it writes into the carried scratch
   are found. -/
module

public import proofs.«01_k».proof.Proof.Gdn.Runs

@[expose] public section

-- membership in a rectangle of production extents (`View.cover_of_tiled`): the elaborator's structural look
-- recurses once per coordinate of the long axes
set_option maxRecDepth 16384

noncomputable section

namespace Cert.GdnBwdIdeal.Hand

open Cert.GdnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 not taken, `scf.if` 2 taken: points 3, 7, … 255: 64 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14) at anything, handed back at some contents nothing names. -/
noncomputable def kernelRun0_C (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) :
    Σ' (LS0 : List (View.Piece (Elt F) S16x128x128 .f32)), Σ' (LS1 : List (View.Piece (Elt F) S64x128 .f32)), Σ' (LS2 : List (View.Piece (Elt F) S128x64 .f32)), Σ' (LS3 : List (View.Piece (Elt F) S64x128 .f32)), Σ' (LS4 : List (View.Piece (Elt F) S64x128 .f32)), { LS5 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4 ∗ owns (c : Thread nD τ) arg23 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (arg18.view.loc (c : Thread nD τ) ↦[arg18.view.set]{fullShare} arg18.view.writes (Elt F) (harg18.unread xs0) LS0) ∗ owns (c : Thread nD τ) arg19 fullShare xs1 ∗ owns (c : Thread nD τ) arg20 fullShare xs2 ∗ owns (c : Thread nD τ) arg21 fullShare xs3 ∗ (∃ f, arg22.view.loc (c : Thread nD τ) ↦[arg22.view.set]{fullShare} arg22.view.writes (Elt F) f LS4) ∗ (∃ f, arg23.view.loc (c : Thread nD τ) ↦[arg23.view.set]{fullShare} arg23.view.writes (Elt F) f LS5)) -∗ K ⟨⟩))
          ⊢ wp frame (wpE (defs₀ (F := F)) Variants.none c none) E (cc0_gdn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, [], [], [], ?_, ?_, fun E K => ?run⟩
  case run =>
    simp only [cc0_gdn_bwd_eq_skeleton]; unfold cc0_gdn_bwd_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg18.eq_unread hfs0; obtain rfl := harg19.eq_unread hfs1; obtain rfl := harg20.eq_unread hfs2; obtain rfl := harg21.eq_unread hfs3; obtain rfl := harg22.eq_unread hfs4; obtain rfl := harg23.eq_unread hfs5
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexact HS0
    isplitl [HS1]
    · iexists _; isplitr; · ipureintro; exact harg19.read_unread _
      iexact HS1
    isplitl [HS2]
    · iexists _; isplitr; · ipureintro; exact harg20.read_unread _
      iexact HS2
    isplitl [HS3]
    · iexists _; isplitr; · ipureintro; exact harg21.read_unread _
      iexact HS3
    isplitl [HS4]; · iexists _; iexact HS4
    iexists _; iexact HS5

end Cert.GdnBwdIdeal.Hand

end
-- ==== Proof.Gdn.RunD.lean ====
/- The body at the first group of heads of a chunk that is not a sequence's first: it runs through, and the pieces it
   writes into the carried scratch are found. -/
module

public import proofs.«01_k».proof.Proof.Gdn.Runs

@[expose] public section

-- membership in a rectangle of production extents (`View.cover_of_tiled`): the elaborator's structural look
-- recurses once per coordinate of the long axes
set_option maxRecDepth 16384

noncomputable section

namespace Cert.GdnBwdIdeal.Hand

open Cert.GdnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1396000 in
/-- What the body's stores leave in each output's staging memref, as pieces (last first) IN CASE D (`scf.if` 0 not taken, `scf.if` 1 taken, `scf.if` 2 not taken: points 4, 8, … 252: 62 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12, 13, 14) at anything, handed back at some contents nothing names. -/
noncomputable def kernelRun0_D (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) :
    Σ' (LS0 : List (View.Piece (Elt F) S16x128x128 .f32)), Σ' (LS1 : List (View.Piece (Elt F) S64x128 .f32)), Σ' (LS2 : List (View.Piece (Elt F) S128x64 .f32)), Σ' (LS3 : List (View.Piece (Elt F) S64x128 .f32)), Σ' (LS4 : List (View.Piece (Elt F) S64x128 .f32)), { LS5 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (arg18.view.loc (c : Thread nD τ) ↦[arg18.view.set]{fullShare} arg18.view.writes (Elt F) (harg18.unread xs0) LS0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ (∃ f, arg22.view.loc (c : Thread nD τ) ↦[arg22.view.set]{fullShare} arg22.view.writes (Elt F) f LS4) ∗ (∃ f, arg23.view.loc (c : Thread nD τ) ↦[arg23.view.set]{fullShare} arg23.view.writes (Elt F) f LS5)) -∗ K ⟨⟩))
          ⊢ wp frame (wpE (defs₀ (F := F)) Variants.none c none) E (cc0_gdn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0_gdn_bwd_eq_skeleton]; unfold cc0_gdn_bwd_skel
    simp only [k0_part4_eq_skeleton, k0_part1_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg18.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexact HS0
    isplitl [HS1]; · iexists _; iexact HS1
    isplitl [HS2]; · iexists _; iexact HS2
    isplitl [HS3]; · iexists _; iexact HS3
    isplitl [HS4]; · iexists _; iexact HS4
    iexists _; iexact HS5

end Cert.GdnBwdIdeal.Hand

end
-- ==== Proof.Gdn.ScratchCD.lean ====
/- What the other two cases of the body (the last group of heads; the first group of heads of a later chunk) leave in
   the scratch that is carried between grid points. -/
module

public import proofs.«01_k».proof.Proof.Gdn.RunC
public import proofs.«01_k».proof.Proof.Gdn.RunD
public import Idealize.ShloMosaic.Lib.Claim

@[expose] public section

-- membership in a rectangle of production extents (`View.cover_of_tiled`): the elaborator's structural look
-- recurses once per coordinate of the long axes
set_option maxRecDepth 16384

noncomputable section

namespace Cert.GdnBwdIdeal.Hand

open Cert.GdnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What case C leaves in scratch `arg18`: its pieces (stores, a counted loop's segment) read back over what the point before left there, which it read first. -/
def sout0_C_0 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S16x128x128 .f32 :=
  arg18.view.read (Elt F) (arg18.view.writes (Elt F) (harg18.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).1)

/-- Case C stores nothing into scratch `arg19`: it holds what the point before left. -/
def sout0_C_1 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S64x128 .f32 := xs1

/-- Case C stores nothing into scratch `arg20`: it holds what the point before left. -/
def sout0_C_2 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S128x64 .f32 := xs2

/-- Case C stores nothing into scratch `arg21`: it holds what the point before left. -/
def sout0_C_3 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S64x128 .f32 := xs3

/-- Case C's pieces for scratch `arg22`, which the kernel carries between points, cover it: 4 pieces of `S64x128` tiling it (Lib/Ring.lean `Piece.tiledL`). -/
theorem scover0_C_4 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) (y : S64x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.1 S64x128.size (by sl_kernel_rfl) y

/-- What case C leaves in scratch `arg22`: its pieces read back over junk. -/
def sout0_C_4 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S64x128 .f32 :=
  VS0_4.read (Elt F) (VS0_4.writes (Elt F) VS0_4.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.1)

/-- Case C's pieces for scratch `arg23`, which the kernel carries between points, cover it: 4 pieces of `S64x128` tiling it (Lib/Ring.lean `Piece.tiledL`). -/
theorem scover0_C_5 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) (y : S64x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.2.1 S64x128.size (by sl_kernel_rfl) y

/-- What case C leaves in scratch `arg23`: its pieces read back over junk. -/
def sout0_C_5 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : ¬cond0_1 i) (hc2 : cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (xs1 : Vec F S64x128 .f32) (xs2 : Vec F S128x64 .f32) (xs3 : Vec F S64x128 .f32) (xs4 : Vec F S64x128 .f32) (xs5 : Vec F S64x128 .f32) : Vec F S64x128 .f32 :=
  VS0_5.read (Elt F) (VS0_5.writes (Elt F) VS0_5.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0 xs1 xs2 xs3 xs4 xs5).2.2.2.2.2.1)

/-- What case D leaves in scratch `arg18`: its pieces (stores, a counted loop's segment) read back over what the point before left there, which it read first. -/
def sout0_D_0 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) : Vec F S16x128x128 .f32 :=
  arg18.view.read (Elt F) (arg18.view.writes (Elt F) (harg18.unread xs0) (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).1)

/-- Case D's pieces for scratch `arg19`, which the kernel carries between points, cover it: 1 piece of `S64x128` tiling it (Lib/Ring.lean `Piece.tiledL`). -/
theorem scover0_D_1 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (y : S64x128.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.1 S64x128.size (by sl_kernel_rfl) y

/-- What case D leaves in scratch `arg19`: its pieces read back over junk. -/
def sout0_D_1 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) : Vec F S64x128 .f32 :=
  VS0_1.read (Elt F) (VS0_1.writes (Elt F) VS0_1.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.1)

/-- Case D's pieces for scratch `arg20`, which the kernel carries between points, cover it: 1 piece of `S128x64` tiling it (Lib/Ring.lean `Piece.tiledL`). -/
theorem scover0_D_2 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (y : S128x64.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.1 S128x64.size (by sl_kernel_rfl) y

/-- What case D leaves in scratch `arg20`: its pieces read back over junk. -/
def sout0_D_2 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) : Vec F S128x64 .f32 :=
  VS0_2.read (Elt F) (VS0_2.writes (Elt F) VS0_2.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.1)

/-- Case D's pieces for scratch `arg21`, which the kernel carries between points, cover it: 1 piece of `S64x128` tiling it (Lib/Ring.lean `Piece.tiledL`). -/
theorem scover0_D_3 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (y : S64x128.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.2.1 S64x128.size (by sl_kernel_rfl) y

/-- What case D leaves in scratch `arg21`: its pieces read back over junk. -/
def sout0_D_3 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) : Vec F S64x128 .f32 :=
  VS0_3.read (Elt F) (VS0_3.writes (Elt F) VS0_3.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.2.1)

/-- Case D's pieces for scratch `arg22`, which the kernel carries between points, cover it: 5 pieces of `S64x128` tiling it (Lib/Ring.lean `Piece.tiledL`). -/
theorem scover0_D_4 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (y : S64x128.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.2.2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.2.2.1 S64x128.size (by sl_kernel_rfl) y

/-- What case D leaves in scratch `arg22`: its pieces read back over junk. -/
def sout0_D_4 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) : Vec F S64x128 .f32 :=
  VS0_4.read (Elt F) (VS0_4.writes (Elt F) VS0_4.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.2.2.1)

/-- Case D's pieces for scratch `arg23`, which the kernel carries between points, cover it: 5 pieces of `S64x128` tiling it (Lib/Ring.lean `Piece.tiledL`). -/
theorem scover0_D_5 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) (y : S64x128.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.2.2.2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.2.2.2.1 S64x128.size (by sl_kernel_rfl) y

/-- What case D leaves in scratch `arg23`: its pieces read back over junk. -/
def sout0_D_5 (c : Dev nD) (i : grid0.Coords) (arg3 : Memref sig .tc .vmem S3x64x512 .f32) (harg3 : arg3.IsWhole) (arg4 : Memref sig .tc .vmem S64x512 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1x4x128x128 .f32) (harg9 : arg9.IsWhole) (arg10 : Memref sig .tc .vmem S1x1x4x64x64 .f32) (harg10 : arg10.IsWhole) (arg11 : Memref sig .tc .vmem S64x512 .f32) (harg11 : arg11.IsWhole) (arg12 : Memref sig .tc .vmem S3x64x512 .f32) (harg12 : arg12.IsWhole) (arg13 : Memref sig .tc .vmem S64x512 .bf16) (harg13 : arg13.IsWhole) (arg14 : Memref sig .tc .vmem S64x128 .bf16) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S16x128x128 .f32) (harg18 : arg18.IsWhole) (arg19 : Memref sig .tc .vmem S64x128 .f32) (harg19 : arg19.IsWhole) (arg20 : Memref sig .tc .vmem S128x64 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (hc0 : ¬cond0_0 i) (hc1 : cond0_1 i) (hc2 : ¬cond0_2 i)
    (x0 : Vec F S3x64x512 .f32) (x1 : Vec F S64x512 .f32) (x2 : Vec F S64x128 .f32) (x3 : Vec F S1x128 .f32) (x4 : Vec F S1x128 .f32) (x5 : Vec F S1x128 .f32) (x6 : Vec F S1x1x4x128x128 .f32) (x7 : Vec F S1x1x4x64x64 .f32) (x8 : Vec F S64x512 .f32) (xs0 : Vec F S16x128x128 .f32) : Vec F S64x128 .f32 :=
  VS0_5.read (Elt F) (VS0_5.writes (Elt F) VS0_5.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 xs0).2.2.2.2.2.1)

end Cert.GdnBwdIdeal.Hand

end
-- ==== Proof.Gdn.Data.lean ====
/- What the carried scratch holds after each grid point, the invariant that says so, and the pipeline's proof data. -/
module

public import proofs.«01_k».proof.Proof.Gdn.ScratchAB
public import proofs.«01_k».proof.Proof.Gdn.ScratchCD
public import Idealize.ShloMosaic.Lib.Claim

@[expose] public section

-- membership in a rectangle of production extents (`View.cover_of_tiled`): the elaborator's structural look
-- recurses once per coordinate of the long axes
set_option maxRecDepth 16384

noncomputable section

namespace Cert.GdnBwdIdeal.Hand

open Cert.GdnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x128x128 .f32 × Vec F S64x128 .f32 × Vec F S128x64 .f32 × Vec F S64x128 .f32 × Vec F S64x128 .f32 × Vec F S64x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 128 = 0 then
      if h1 : (n + 1) % 4 = 0 then
        if h2 : (n + 1) % 4 = 3 then
          False.elim (by have hN : n + 1 < 256 := lt_of_lt_of_eq hn (show cfg0.N = 256 from N_0); omega)
        else
          (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
      else
        False.elim (by have hN : n + 1 < 256 := lt_of_lt_of_eq hn (show cfg0.N = 256 from N_0); omega)
    else
      if h1 : (n + 1) % 4 = 0 then
        if h2 : (n + 1) % 4 = 3 then
          False.elim (by have hN : n + 1 < 256 := lt_of_lt_of_eq hn (show cfg0.N = 256 from N_0); omega)
        else
          (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1, sout0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1, sout0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1)
      else
        if h2 : (n + 1) % 4 = 3 then
          (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
        else
          (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 128 = 0) (h1 : t.val % 4 = 0) (h2 : ¬t.val % 4 = 3) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 128 = 0) (h1 : ¬t.val % 4 = 0) (h2 : ¬t.val % 4 = 3) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : ¬t.val % 128 = 0) (h1 : ¬t.val % 4 = 0) (h2 : t.val % 4 = 3) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case D: that case's contents, over what the point before left. -/
theorem outsAt0_D (c : Dev nD) (t : Fin cfg0.N) (h0 : ¬t.val % 128 = 0) (h1 : t.val % 4 = 0) (h2 : ¬t.val % 4 = 3) :
    outsAt0 m c t.val t.isLt = (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1, sout0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1, sout0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2.1) ∗ owns (c : Thread nD τ) scM0_5 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2.1) ∗ owns (c : Thread nD τ) scM0_5 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2.1) ∗ owns (c : Thread nD τ) scM0_5 fullShare ((outsAt0 m c (n - 1) (by omega)).2.2.2.2.2)) ∗ (∃ r, prngReg c r)) := by
  cases n with
  | zero => exact absurd rfl hz
  | succ n => rfl

/-! ## The pipeline's proof data -/

/-- The output windows this certificate FORGETS (9, 10, 11, 12, 13, 14): nothing reads what the kernel leaves in them, so nothing
    of it is named (Lib/Pipeline/Dat.lean `Dat.toRForget`). -/
def forgets0 : Fin 15 → Bool := fun w => w.val == 9 || w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

end Cert.GdnBwdIdeal.Hand

end
-- ==== Proof.Gdn.Frame.lean ====
/- The frame of the backward recurrence: at every reading of the floats the call terminates without fault, leaves its
   arguments as they were and every counter at zero. The contents of its results are not stated here. -/
module

public import proofs.«01_k».proof.Proof.Gdn.Data
public import Idealize.ShloMosaic.Lib.Claim

@[expose] public section

-- membership in a rectangle of production extents (`View.cover_of_tiled`): the elaborator's structural look
-- recurses once per coordinate of the long axes
set_option maxRecDepth 16384

noncomputable section

namespace Cert.GdnBwdIdeal.Hand

open Cert.GdnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 32000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 128 = 0
  · by_cases h1 : t.val % 4 = 0
    · by_cases h2 : t.val % 4 = 3
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · rw [PhiS_castSucc m c t, PhiS_zero m c _ _ hz, PhiA0_eq]
          rw [outsAt0_A m c t h0 h1 h2]
          unfold sout0_A_0 sout0_A_1 sout0_A_2 sout0_A_3 sout0_A_4 sout0_A_5; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t)).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, H5, H6, H7, H8, H9, H10, H11, H12, H13, H14, ⟨%es0, HS0⟩, ⟨%es1, HS1⟩, ⟨%es2, HS2⟩, ⟨%es3, HS3⟩, ⟨%es4, HS4⟩, ⟨%es5, HS5⟩⟩
          isplitl [HS0 HS1 HS2 HS3 HS4 HS5 Hg]
          · isplitl [HS0 HS1 HS2 HS3 HS4 HS5]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _)
              isplitl [HS4]
              · unfold owns; iexists _; isplitr
                swap; · iexact HS4
                ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS5
              ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
        · rw [PhiS_castSucc m c t, PhiS_pos m c _ _ hz]
          rw [outsAt0_A m c t h0 h1 h2]
          unfold sout0_A_0 sout0_A_1 sout0_A_2 sout0_A_3 sout0_A_4 sout0_A_5; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t)).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexists _; iexact HS0
          isplitl [HS1]; · iexists _; iexact HS1
          isplitl [HS2]; · iexists _; iexact HS2
          isplitl [HS3]; · iexists _; iexact HS3
          isplitl [HS4]; · iexists _; iexact HS4
          isplitl [HS5]; · iexists _; iexact HS5
          iintro ⟨H0, H1, H2, H3, H4, H5, H6, H7, H8, H9, H10, H11, H12, H13, H14, ⟨%es0, HS0⟩, ⟨%es1, HS1⟩, ⟨%es2, HS2⟩, ⟨%es3, HS3⟩, ⟨%es4, HS4⟩, ⟨%es5, HS5⟩⟩
          isplitl [HS0 HS1 HS2 HS3 HS4 HS5 Hg]
          · isplitl [HS0 HS1 HS2 HS3 HS4 HS5]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _)
              isplitl [HS4]
              · unfold owns; iexists _; isplitr
                swap; · iexact HS4
                ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS5
              ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
    · exfalso; omega
  · by_cases h1 : t.val % 4 = 0
    · by_cases h2 : t.val % 4 = 3
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 256 := lt_of_lt_of_eq t.isLt (show cfg0.N = 256 from N_0); omega
        · rw [PhiS_castSucc m c t, PhiS_pos m c _ _ hz]
          rw [outsAt0_D m c t h0 h1 h2]
          unfold sout0_D_0 sout0_D_1 sout0_D_2 sout0_D_3 sout0_D_4 sout0_D_5; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_D c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (X0_1 m c t) (iblk m c 2 t) (iblk m c 3 t) (iblk m c 4 t) (iblk m c 5 t) (iblk m c 6 t) (iblk m c 7 t) (iblk m c 8 t) _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexists _; iexact HS1
          isplitl [HS2]; · iexists _; iexact HS2
          isplitl [HS3]; · iexists _; iexact HS3
          isplitl [HS4]; · iexists _; iexact HS4
          isplitl [HS5]; · iexists _; iexact HS5
          iintro ⟨H0, H1, H2, H3, H4, H5, H6, H7, H8, H9, H10, H11, H12, H13, H14, HS0, ⟨%es1, HS1⟩, ⟨%es2, HS2⟩, ⟨%es3, HS3⟩, ⟨%es4, HS4⟩, ⟨%es5, HS5⟩⟩
          isplitl [HS0 HS1 HS2 HS3 HS4 HS5 Hg]
          · isplitl [HS0 HS1 HS2 HS3 HS4 HS5]
            · isplitl [HS0]
              · unfold owns; iexists _; isplitr
                swap; · iexact HS0
                ipureintro; rfl
              isplitl [HS1]
              · unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_D_2 c _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_D_3 c _ _ _ _ _ _ _ _ _ _ _ _ _ _ _ _ _ _ _ _ _ _ _ _ _ _ _ _ _ _ _ _ _ _ _ _ _ _ _ _ _ _ _ _ _ _ _ _ _ _ _ _ _ _ _ _)
              isplitl [HS4]
              · unfold owns; iexists _; isplitr
                swap; · iexact HS4
                ipureintro; exact View.read_writes_of_cover _ _ _ _ _ (scover0_D_4 c _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS5
              ipureintro; exact View.read_writes_of_cover _ _ _ _ _ (scover0_D_5 c _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
    · by_cases h2 : t.val % 4 = 3
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 256 := lt_of_lt_of_eq t.isLt (show cfg0.N = 256 from N_0); omega
        · rw [PhiS_castSucc m c t, PhiS_pos m c _ _ hz]
          rw [outsAt0_C m c t h0 h1 h2]
          unfold sout0_C_0 sout0_C_1 sout0_C_2 sout0_C_3 sout0_C_4 sout0_C_5; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (X0_1 m c t) (iblk m c 2 t) (iblk m c 3 t) (iblk m c 4 t) (iblk m c 5 t) (iblk m c 6 t) (iblk m c 7 t) (iblk m c 8 t) _ _ _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, H5, H6, H7, H8, H9, H10, H11, H12, H13, H14, HS0, HS1, HS2, HS3, ⟨%es4, HS4⟩, ⟨%es5, HS5⟩⟩
          isplitl [HS0 HS1 HS2 HS3 HS4 HS5 Hg]
          · isplitl [HS0 HS1 HS2 HS3 HS4 HS5]
            · isplitl [HS0]
              · unfold owns; iexists _; isplitr
                swap; · iexact HS0
                ipureintro; rfl
              isplitl [HS1]
              · iexact HS1
              isplitl [HS2]
              · iexact HS2
              isplitl [HS3]
              · iexact HS3
              isplitl [HS4]
              · unfold owns; iexists _; isplitr
                swap; · iexact HS4
                ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS5
              ipureintro; exact View.read_writes_of_cover _ _ _ _ _ (scover0_C_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 256 := lt_of_lt_of_eq t.isLt (show cfg0.N = 256 from N_0); omega
        · rw [PhiS_castSucc m c t, PhiS_pos m c _ _ hz]
          rw [outsAt0_B m c t h0 h1 h2]
          unfold sout0_B_0 sout0_B_1 sout0_B_2 sout0_B_3 sout0_B_4 sout0_B_5; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (X0_1 m c t) (iblk m c 2 t) (iblk m c 3 t) (iblk m c 4 t) (iblk m c 5 t) (iblk m c 6 t) (iblk m c 7 t) (iblk m c 8 t) _ _ _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, H5, H6, H7, H8, H9, H10, H11, H12, H13, H14, HS0, HS1, HS2, HS3, ⟨%es4, HS4⟩, ⟨%es5, HS5⟩⟩
          isplitl [HS0 HS1 HS2 HS3 HS4 HS5 Hg]
          · isplitl [HS0 HS1 HS2 HS3 HS4 HS5]
            · isplitl [HS0]
              · unfold owns; iexists _; isplitr
                swap; · iexact HS0
                ipureintro; rfl
              isplitl [HS1]
              · iexact HS1
              isplitl [HS2]
              · iexact HS2
              isplitl [HS3]
              · iexact HS3
              isplitl [HS4]
              · unfold owns; iexists _; isplitr
                swap; · iexact HS4
                ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS5
              ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GdnBwdIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 6 rfl).trans ((hA c 6).trans (V_main_arg5 m c)),
      (Pipeline.RDat.FramePost.arr_in h c 7 rfl).trans ((hA c 7).trans (V_main_arg6 m c)),
      (Pipeline.RDat.FramePost.arr_in h c 8 rfl).trans ((hA c 8).trans (V_main_arg7 m c))⟩) h

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 9, 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_GdnBwdIdeal`'s statement (Defs.lean) at any `F` — Proof.lean cites it at `Bits`:
    `theorem Cert.Proof.claim : Cert.Claim := ⟨Cert.GdnBwdIdeal.Gen.facts, fun m ρ _ => Cert.GdnBwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.GdnBwdIdeal.Hand

end
-- ==== Proof.ScBwd.Reads.lean ====
/- The backward pass of the short convolution, first part: reads of an array at plain numbers, the choices by row, and the reference's four results written out at an index. -/
module

public import proofs.«01_k».proof.Defs
public import proofs.«01_k».proof.Proof.Gen.ScBwdIdeal.Value
public import proofs.«01_k».proof.Proof.Gen.ScBwdRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.ScBwdIdeal.Conv

open Cert.ScBwdRefIdeal.Read

open Cert.ScBwdIdeal Cert.ScBwdIdeal.Gen

variable (m : (ℓ : Loc nD τ sig) → Buf (Elt Ideal) ℓ)

/-- An array of two axes read at two numbers; zero outside the array. -/
def at2 {a b : ℕ} (X : (⟨2, ![a, b]⟩ : Shape).Idx → EReal) (i j : ℕ) : EReal :=
  if h : i < a ∧ j < b then X (ix2 ⟨i, h.1⟩ ⟨j, h.2⟩) else 0

theorem at2_ix {a b : ℕ} (X : (⟨2, ![a, b]⟩ : Shape).Idx → EReal) (i : Fin a) (j : Fin b) :
    X (ix2 i j) = at2 X i j := by
  rw [at2, dif_pos ⟨i.isLt, j.isLt⟩]

theorem at2_idx {a b : ℕ} (X : (⟨2, ![a, b]⟩ : Shape).Idx → EReal) (i : (⟨2, ![a, b]⟩ : Shape).Idx) :
    X i = at2 X (i 0) (i 1) := by
  refine (congrArg X ?_).trans (at2_ix X (i 0) (i 1))
  funext k
  match k with
  | ⟨0, _⟩ => rfl
  | ⟨1, _⟩ => rfl

theorem pick_ge {n k : ℕ} (hn : n < 2048) (hk : k < 2048) (a b : EReal) :
    Scalar.select (IntOp.cmpi .sge (BitVec.ofNat 32 n) (BitVec.ofNat 32 k)) a b = if k ≤ n then a else b := by
  rw [WordCmp.cmpi_sge_ofNat (by omega) (by omega)]
  by_cases h : k ≤ n <;> simp [Scalar.select, h]

theorem pick_lt {n k : ℕ} (hn : n < 2048) (hk : k < 2048) (a b : EReal) :
    Scalar.select (IntOp.cmpi .slt (BitVec.ofNat 32 n) (BitVec.ofNat 32 k)) a b = if n < k then a else b := by
  rw [WordCmp.cmpi_slt_ofNat (by omega) (by omega)]
  by_cases h : n < k <;> simp [Scalar.select, h]

/-- A sum over the indices with a property, told by an injective list of them. -/
theorem sum_of_fiber {ι κ : Type} [Fintype ι] [Fintype κ] {p : ι → Prop} {inst : DecidablePred p} (g : κ → ι)
    (hg : Function.Injective g) (hp : ∀ i, p i ↔ ∃ k, g k = i) (v : ι → EReal) :
    ∑ i ∈ Finset.univ.filter p, v i = ∑ k, v (g k) := by
  classical
  exact Finset.sum_filter_eq_sum_of_fiber p g hg hp v

/-- A host sum over the first two of three axes is the double sum over them. -/
theorem reduce01 {n0 n1 n2 : ℕ} (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  refine congrArg (init + ·) ?_
  rw [← Fintype.sum_prod_type' (fun a b => v (ix3 a b (j 0)))]
  refine sum_of_fiber (fun k : Fin n0 × Fin n1 => ix3 k.1 k.2 (j 0))
    (fun _ _ e => Prod.ext (congrFun e 0) (congrFun e 1)) (fun i => ⟨fun e => ⟨(i 0, i 1), ?_⟩, ?_⟩) v
  · funext a; apply Fin.ext
    match a with
    | ⟨0, _⟩ => rfl
    | ⟨1, _⟩ => rfl
    | ⟨2, _⟩ => exact (congrArg Fin.val (congrFun e ⟨0, Nat.one_pos⟩)).symm
  · rintro ⟨k, rfl⟩
    funext b; apply Fin.ext
    match b with
    | ⟨0, _⟩ => rfl

theorem sum38 (x0 : (⟨S4096x14592, .f32⟩ : BufTy).Contents (Elt Ideal)) (x2 : (⟨S4096x4096, .f32⟩ : BufTy).Contents (Elt Ideal)) (i) : val_main_v38 (F := Ideal) x0 x2 i
    = ∑ a : Fin 2, ∑ b : Fin 2048, val_main_v37 (F := Ideal) x0 x2 (ix3 a b (i 0)) := by
  refine (reduce01 Cert.ScBwdRefIdeal.Gen.reducesTo_S2x2048x2048_S2048_d0_1 _ _ _).trans ?_
  refine (congrArg (· + _) ?_).trans (zero_add _)
  exact Ideal.ofBits_zero_f32

theorem sum47 (x0 : (⟨S4096x14592, .f32⟩ : BufTy).Contents (Elt Ideal)) (x2 : (⟨S4096x4096, .f32⟩ : BufTy).Contents (Elt Ideal)) (i) : val_main_v47 (F := Ideal) x0 x2 i
    = ∑ a : Fin 2, ∑ b : Fin 2048, val_main_v46 (F := Ideal) x0 x2 (ix3 a b (i 0)) := by
  refine (reduce01 Cert.ScBwdRefIdeal.Gen.reducesTo_S2x2048x2048_S2048_d0_1 _ _ _).trans ?_
  refine (congrArg (· + _) ?_).trans (zero_add _)
  exact Ideal.ofBits_zero_f32

theorem sum58 (x0 : (⟨S4096x14592, .f32⟩ : BufTy).Contents (Elt Ideal)) (x2 : (⟨S4096x4096, .f32⟩ : BufTy).Contents (Elt Ideal)) (i) : val_main_v58 (F := Ideal) x0 x2 i
    = ∑ a : Fin 2, ∑ b : Fin 2048, val_main_v57 (F := Ideal) x0 x2 (ix3 a b (i 0)) := by
  refine (reduce01 Cert.ScBwdRefIdeal.Gen.reducesTo_S2x2048x2048_S2048_d0_1 _ _ _).trans ?_
  refine (congrArg (· + _) ?_).trans (zero_add _)
  exact Ideal.ofBits_zero_f32

theorem sum42 (x0 : (⟨S4096x14592, .f32⟩ : BufTy).Contents (Elt Ideal)) (x2 : (⟨S4096x4096, .f32⟩ : BufTy).Contents (Elt Ideal)) (i) : val_main_v42 (F := Ideal) x0 x2 i
    = ∑ a : Fin 1, ∑ b : Fin 1, val_main_v39 (F := Ideal) x0 x2 (ix3 a b (i 0)) := by
  refine (reduce01 Cert.ScBwdRefIdeal.Gen.reducesTo_S1x1x2048_S2048_d0_1 _ _ _).trans ?_
  refine (congrArg (· + _) ?_).trans (zero_add _)
  exact Ideal.ofBits_zero_f32

theorem sum51 (x0 : (⟨S4096x14592, .f32⟩ : BufTy).Contents (Elt Ideal)) (x2 : (⟨S4096x4096, .f32⟩ : BufTy).Contents (Elt Ideal)) (i) : val_main_v51 (F := Ideal) x0 x2 i
    = ∑ a : Fin 1, ∑ b : Fin 1, val_main_v48 (F := Ideal) x0 x2 (ix3 a b (i 0)) := by
  refine (reduce01 Cert.ScBwdRefIdeal.Gen.reducesTo_S1x1x2048_S2048_d0_1 _ _ _).trans ?_
  refine (congrArg (· + _) ?_).trans (zero_add _)
  exact Ideal.ofBits_zero_f32

theorem sum62 (x0 : (⟨S4096x14592, .f32⟩ : BufTy).Contents (Elt Ideal)) (x2 : (⟨S4096x4096, .f32⟩ : BufTy).Contents (Elt Ideal)) (i) : val_main_v62 (F := Ideal) x0 x2 i
    = ∑ a : Fin 1, ∑ b : Fin 1, val_main_v59 (F := Ideal) x0 x2 (ix3 a b (i 0)) := by
  refine (reduce01 Cert.ScBwdRefIdeal.Gen.reducesTo_S1x1x2048_S2048_d0_1 _ _ _).trans ?_
  refine (congrArg (· + _) ?_).trans (zero_add _)
  exact Ideal.ofBits_zero_f32

theorem ref73 (x0 : (⟨S4096x14592, .f32⟩ : BufTy).Contents (Elt Ideal)) (x1 : (⟨S3x2048, .f32⟩ : BufTy).Contents (Elt Ideal)) (x2 : (⟨S4096x4096, .f32⟩ : BufTy).Contents (Elt Ideal)) (p : Fin 4096) (q : Fin 2048) : val_main_v73 (F := Ideal) x0 x1 x2 (ix2 p q)
      = at2 x2 ↑p (2048 + ↑q) * (at2 x1 2 ↑q * (at2 x0 (↑p) (10368 + ↑q) * at2 x0 (↑p) (12416 + ↑q)) + (if 2 ≤ p.val % 2048 then at2 x1 0 ↑q * (at2 x0 (↑p - 2) (10368 + ↑q) * at2 x0 (↑p - 2) (12416 + ↑q)) else 0)
        + (if 1 ≤ p.val % 2048 then at2 x1 1 ↑q * (at2 x0 (↑p - 1) (10368 + ↑q) * at2 x0 (↑p - 1) (12416 + ↑q)) else 0)) := by
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_cst_1, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst_2, val_main_v38, val_main_v39, val_main_v40, val_main_v41, val_main_cst_3, val_main_v42, val_main_v43, val_main_cst_4, val_main_v44, val_main_cst_5, val_main_v45, val_main_v46, val_main_cst_6, val_main_v47, val_main_v48, val_main_v49, val_main_v50, val_main_cst_7, val_main_v51, val_main_v52, val_main_cst_8, val_main_v53, val_main_v54, val_main_cst_9, val_main_v55, val_main_v56, val_main_v57, val_main_cst_10, val_main_v58, val_main_v59, val_main_v60, val_main_v61, val_main_cst_11, val_main_v62, val_main_v63, val_main_cst_12, val_main_v64, val_main_v65, val_main_cst_13, val_main_v66, val_main_v67, val_main_v68, val_main_v69, val_main_v70, val_main_v71, val_main_v72, val_main_v73, val_main_v74, val_main_v75, val_main_v76, val_main_v77]
  have e0 := at2_ix (a := 4096) (b := 14592) x0
  have e2 := at2_ix (a := 4096) (b := 4096) x2
  have e1 := at2_ix (a := 3) (b := 2048) x1
  have hi := p.isLt
  have a2 : 2 ≤ p.val % 2048 → p.val / 2048 * 2048 + (p.val % 2048 - 2) = p.val - 2 := by omega
  have a1 : 1 ≤ p.val % 2048 → p.val / 2048 * 2048 + (1 + p.val % 2048 - 2) = p.val - 1 := by omega
  have a0 : p.val / 2048 * 2048 + p.val % 2048 = p.val := by omega
  simp only [e0, e1, e2, dite_eq_ite, Fin.coe_ofNat_eq_mod]
  try simp only [Nat.reduceMod]
  by_cases h1 : p.val % 2048 < 1 <;> by_cases h2 : p.val % 2048 < 2 <;> split_ifs <;>
    first
    | omega
    | (simp only [a0, a1 (by first | trivial | omega), a2 (by first | trivial | omega), zero_mul, zero_add, add_zero]; ac_rfl)
    | (simp only [a0, a1 (by first | trivial | omega), zero_mul, zero_add, add_zero]; ac_rfl)
    | (simp only [a0, zero_mul, zero_add, add_zero]; ac_rfl)

theorem ref75 (x0 : (⟨S4096x14592, .f32⟩ : BufTy).Contents (Elt Ideal)) (x1 : (⟨S3x2048, .f32⟩ : BufTy).Contents (Elt Ideal)) (x2 : (⟨S4096x4096, .f32⟩ : BufTy).Contents (Elt Ideal)) (p : Fin 4096) (q : Fin 2048) : val_main_v75 (F := Ideal) x0 x1 x2 (ix2 p q)
      = at2 x0 ↑p (12416 + ↑q) * (at2 x1 2 ↑q * (at2 x0 (↑p) (8320 + ↑q) * at2 x2 (↑p) (2048 + ↑q)) + (if p.val % 2048 < 2046 then at2 x1 0 ↑q * (at2 x0 (↑p + 2) (8320 + ↑q) * at2 x2 (↑p + 2) (2048 + ↑q)) else 0)
        + (if p.val % 2048 < 2047 then at2 x1 1 ↑q * (at2 x0 (↑p + 1) (8320 + ↑q) * at2 x2 (↑p + 1) (2048 + ↑q)) else 0)) := by
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_cst_1, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst_2, val_main_v38, val_main_v39, val_main_v40, val_main_v41, val_main_cst_3, val_main_v42, val_main_v43, val_main_cst_4, val_main_v44, val_main_cst_5, val_main_v45, val_main_v46, val_main_cst_6, val_main_v47, val_main_v48, val_main_v49, val_main_v50, val_main_cst_7, val_main_v51, val_main_v52, val_main_cst_8, val_main_v53, val_main_v54, val_main_cst_9, val_main_v55, val_main_v56, val_main_v57, val_main_cst_10, val_main_v58, val_main_v59, val_main_v60, val_main_v61, val_main_cst_11, val_main_v62, val_main_v63, val_main_cst_12, val_main_v64, val_main_v65, val_main_cst_13, val_main_v66, val_main_v67, val_main_v68, val_main_v69, val_main_v70, val_main_v71, val_main_v72, val_main_v73, val_main_v74, val_main_v75, val_main_v76, val_main_v77]
  have e0 := at2_ix (a := 4096) (b := 14592) x0
  have e2 := at2_ix (a := 4096) (b := 4096) x2
  have e1 := at2_ix (a := 3) (b := 2048) x1
  have hi := p.isLt
  have a2 : True → p.val / 2048 * 2048 + (2 + p.val % 2048) = p.val + 2 := by omega
  have a1 : True → p.val / 2048 * 2048 + (2 + p.val % 2048 - 1) = p.val + 1 := by omega
  have a0 : p.val / 2048 * 2048 + p.val % 2048 = p.val := by omega
  simp only [e0, e1, e2, dite_eq_ite, Fin.coe_ofNat_eq_mod]
  try simp only [Nat.reduceMod]
  by_cases h1 : p.val % 2048 < 2046 <;> by_cases h2 : p.val % 2048 < 2047 <;> split_ifs <;>
    first
    | omega
    | (simp only [a0, a1 (by first | trivial | omega), a2 (by first | trivial | omega), zero_mul, zero_add, add_zero]; ac_rfl)
    | (simp only [a0, a1 (by first | trivial | omega), zero_mul, zero_add, add_zero]; ac_rfl)
    | (simp only [a0, zero_mul, zero_add, add_zero]; ac_rfl)

theorem ref77 (x0 : (⟨S4096x14592, .f32⟩ : BufTy).Contents (Elt Ideal)) (x1 : (⟨S3x2048, .f32⟩ : BufTy).Contents (Elt Ideal)) (x2 : (⟨S4096x4096, .f32⟩ : BufTy).Contents (Elt Ideal)) (p : Fin 4096) (q : Fin 2048) : val_main_v77 (F := Ideal) x0 x1 x2 (ix2 p q)
      = at2 x0 ↑p (10368 + ↑q) * (at2 x1 2 ↑q * (at2 x0 (↑p) (8320 + ↑q) * at2 x2 (↑p) (2048 + ↑q)) + (if p.val % 2048 < 2046 then at2 x1 0 ↑q * (at2 x0 (↑p + 2) (8320 + ↑q) * at2 x2 (↑p + 2) (2048 + ↑q)) else 0)
        + (if p.val % 2048 < 2047 then at2 x1 1 ↑q * (at2 x0 (↑p + 1) (8320 + ↑q) * at2 x2 (↑p + 1) (2048 + ↑q)) else 0)) := by
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_cst_1, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst_2, val_main_v38, val_main_v39, val_main_v40, val_main_v41, val_main_cst_3, val_main_v42, val_main_v43, val_main_cst_4, val_main_v44, val_main_cst_5, val_main_v45, val_main_v46, val_main_cst_6, val_main_v47, val_main_v48, val_main_v49, val_main_v50, val_main_cst_7, val_main_v51, val_main_v52, val_main_cst_8, val_main_v53, val_main_v54, val_main_cst_9, val_main_v55, val_main_v56, val_main_v57, val_main_cst_10, val_main_v58, val_main_v59, val_main_v60, val_main_v61, val_main_cst_11, val_main_v62, val_main_v63, val_main_cst_12, val_main_v64, val_main_v65, val_main_cst_13, val_main_v66, val_main_v67, val_main_v68, val_main_v69, val_main_v70, val_main_v71, val_main_v72, val_main_v73, val_main_v74, val_main_v75, val_main_v76, val_main_v77]
  have e0 := at2_ix (a := 4096) (b := 14592) x0
  have e2 := at2_ix (a := 4096) (b := 4096) x2
  have e1 := at2_ix (a := 3) (b := 2048) x1
  have hi := p.isLt
  have a2 : True → p.val / 2048 * 2048 + (2 + p.val % 2048) = p.val + 2 := by omega
  have a1 : True → p.val / 2048 * 2048 + (2 + p.val % 2048 - 1) = p.val + 1 := by omega
  have a0 : p.val / 2048 * 2048 + p.val % 2048 = p.val := by omega
  simp only [e0, e1, e2, dite_eq_ite, Fin.coe_ofNat_eq_mod]
  try simp only [Nat.reduceMod]
  by_cases h1 : p.val % 2048 < 2046 <;> by_cases h2 : p.val % 2048 < 2047 <;> split_ifs <;>
    first
    | omega
    | (simp only [a0, a1 (by first | trivial | omega), a2 (by first | trivial | omega), zero_mul, zero_add, add_zero]; ac_rfl)
    | (simp only [a0, a1 (by first | trivial | omega), zero_mul, zero_add, add_zero]; ac_rfl)
    | (simp only [a0, zero_mul, zero_add, add_zero]; ac_rfl)

theorem ref65 (x0 : (⟨S4096x14592, .f32⟩ : BufTy).Contents (Elt Ideal)) (x2 : (⟨S4096x4096, .f32⟩ : BufTy).Contents (Elt Ideal)) (p : Fin 3) (q : Fin 2048) : val_main_v65 (F := Ideal) x0 x2 (ix2 p q)
      = ∑ a : Fin 2, ∑ s : Fin 2048, if 2 - p.val ≤ s.val then
          (at2 x0 (a.val * 2048 + s.val - (2 - p.val)) (10368 + ↑q) * at2 x0 (a.val * 2048 + s.val - (2 - p.val)) (12416 + ↑q)) * (at2 x0 (a.val * 2048 + s.val) (8320 + ↑q) * at2 x2 (a.val * 2048 + s.val) (2048 + ↑q)) else 0 := by
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_cst_1, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst_2, val_main_v39, val_main_v40, val_main_v41, val_main_cst_3, val_main_v43, val_main_cst_4, val_main_v44, val_main_cst_5, val_main_v45, val_main_v46, val_main_cst_6, val_main_v48, val_main_v49, val_main_v50, val_main_cst_7, val_main_v52, val_main_cst_8, val_main_v53, val_main_v54, val_main_cst_9, val_main_v55, val_main_v56, val_main_v57, val_main_cst_10, val_main_v59, val_main_v60, val_main_v61, val_main_cst_11, val_main_v63, val_main_cst_12, val_main_v64, val_main_v65, val_main_cst_13, val_main_v66, val_main_v67, val_main_v68, val_main_v69, val_main_v70, val_main_v71, val_main_v72, val_main_v73, val_main_v74, val_main_v75, val_main_v76, val_main_v77, sum38, sum47, sum58, sum42, sum51, sum62]
  have e0 := at2_ix (a := 4096) (b := 14592) x0
  have e2 := at2_ix (a := 4096) (b := 4096) x2
  have hi := p.isLt
  simp only [e0, e2, dite_eq_ite, Finset.univ_unique, Finset.sum_singleton, zero_mul, Finset.sum_const_zero, zero_add]
  rcases (by omega : p.val = 0 ∨ p.val = 1 ∨ p.val = 2) with h | h | h
  · rw [if_neg (by omega), if_neg (by omega), if_pos (by omega), zero_add, zero_add]
    refine Finset.sum_congr rfl fun a _ => ?_
    refine Eq.trans ?_ (Fin.sum_univ_add (a := 2) (b := 2046) _).symm
    refine Eq.trans ?_ (congrArg₂ (· + ·) (Finset.sum_eq_zero fun x _ => if_neg ?_).symm (Finset.sum_congr rfl fun x _ => (if_pos ?_).symm))
    · rw [zero_add]
      refine Finset.sum_congr rfl fun x _ => ?_
      rw [show a.val * 2048 + (Fin.natAdd 2 x).val - (2 - p.val) = a.val * 2048 + x.val by
        rw [Fin.val_natAdd]; omega]
      rfl
    · rw [Fin.val_castAdd]; omega
    · rw [Fin.val_natAdd]; omega
  · rw [if_neg (by omega), if_pos (by omega), if_neg (by omega), zero_add, add_zero]
    refine Finset.sum_congr rfl fun a _ => Finset.sum_congr rfl fun s _ => ?_
    by_cases h1 : s.val < 1
    · rw [if_pos (by omega), if_neg (by omega), zero_mul]
    · rw [if_neg (by omega), if_pos (by omega), show a.val * 2048 + (1 + s.val - 2) = a.val * 2048 + s.val - (2 - p.val) by omega]
  · rw [if_pos (by omega), if_neg (by omega), if_neg (by omega), add_zero, add_zero]
    refine Finset.sum_congr rfl fun a _ => Finset.sum_congr rfl fun s _ => ?_
    rw [if_pos (by omega), h]
    rfl

end Cert.ScBwdIdeal.Conv

end
-- ==== Proof.ScBwd.Points.lean ====
/- The backward pass of the short convolution, second part: the blocks that a grid point reads and what it computes of them. -/
module

public import proofs.«01_k».proof.Defs
public import proofs.«01_k».proof.Proof.Gen.ScBwdIdeal.Value
public import proofs.«01_k».proof.Proof.Gen.ScBwdRefIdeal.Read
public import Idealize.ShloMosaic.Lib.Pipeline.ValueKit
public import proofs.«01_k».proof.Proof.ScBwd.Reads

@[expose] public section

set_option maxRecDepth 16384

noncomputable section

open Idealize.ShloMosaic Idealize.ShloMosaic.TcCoe Idealize.SL.Sem
open scoped BigOperators

namespace Cert.ScBwdIdeal.Conv

open Cert.ScBwdIdeal Cert.ScBwdIdeal.Gen

variable (m : (ℓ : Loc nD τ sig) → Buf (Elt Ideal) ℓ)

/-- The block that each window stages at a grid point. -/
theorem idx : ∀ t : Fin cfg0.N, win0_0.index t = ![t.val % 2, 65 + t.val / 2]
    ∧ win0_1.index t = ![t.val % 2, 81 + t.val / 2]
    ∧ win0_2.index t = ![t.val % 2, 97 + t.val / 2]
    ∧ win0_3.index t = ![0, t.val / 2]
    ∧ win0_4.index t = ![t.val % 2, 16 + t.val / 2]
    ∧ win0_5.index t = ![t.val % 2, t.val / 2]
    ∧ win0_6.index t = ![t.val % 2, t.val / 2]
    ∧ win0_7.index t = ![t.val % 2, t.val / 2]
    ∧ win0_8.index t = ![0, t.val / 2] :=
  (by decide +kernel : ∀ t : Fin grid0.N, _)

theorem lt32 (t : Fin cfg0.N) : t.val < 32 := t.isLt

theorem ix2_eta {a b : ℕ} (i : (⟨2, ![a, b]⟩ : Shape).Idx) : i = ix2 (i 0) (i 1) := by
  funext k
  match k with
  | ⟨0, _⟩ => rfl
  | ⟨1, _⟩ => rfl

theorem read_0 (c : Dev nD) (t : Fin cfg0.N) {i j : ℕ} (hi : i < 2048) (hj : j < 128) :
    at2 (a := 2048) (b := 128) (iblk m c 0 t) i j
      = at2 (a := 4096) (b := 14592) (m ((c : Thread nD τ).loc main_arg0)) (t.val % 2 * 2048 + i) (8320 + (t.val / 2 * 128 + j)) := by
  have ht := lt32 t
  rw [at2, dif_pos ⟨hi, hj⟩, at2, dif_pos ⟨by omega, by omega⟩]
  blk_ext [iblk, V, idx t]

theorem read_1 (c : Dev nD) (t : Fin cfg0.N) {i j : ℕ} (hi : i < 2048) (hj : j < 128) :
    at2 (a := 2048) (b := 128) (iblk m c 1 t) i j
      = at2 (a := 4096) (b := 14592) (m ((c : Thread nD τ).loc main_arg0)) (t.val % 2 * 2048 + i) (10368 + (t.val / 2 * 128 + j)) := by
  have ht := lt32 t
  rw [at2, dif_pos ⟨hi, hj⟩, at2, dif_pos ⟨by omega, by omega⟩]
  blk_ext [iblk, V, idx t]

theorem read_2 (c : Dev nD) (t : Fin cfg0.N) {i j : ℕ} (hi : i < 2048) (hj : j < 128) :
    at2 (a := 2048) (b := 128) (iblk m c 2 t) i j
      = at2 (a := 4096) (b := 14592) (m ((c : Thread nD τ).loc main_arg0)) (t.val % 2 * 2048 + i) (12416 + (t.val / 2 * 128 + j)) := by
  have ht := lt32 t
  rw [at2, dif_pos ⟨hi, hj⟩, at2, dif_pos ⟨by omega, by omega⟩]
  blk_ext [iblk, V, idx t]

theorem read_4 (c : Dev nD) (t : Fin cfg0.N) {i j : ℕ} (hi : i < 2048) (hj : j < 128) :
    at2 (a := 2048) (b := 128) (iblk m c 4 t) i j
      = at2 (a := 4096) (b := 4096) (m ((c : Thread nD τ).loc main_arg2)) (t.val % 2 * 2048 + i) (2048 + (t.val / 2 * 128 + j)) := by
  have ht := lt32 t
  rw [at2, dif_pos ⟨hi, hj⟩, at2, dif_pos ⟨by omega, by omega⟩]
  blk_ext [iblk, V, idx t]

theorem read_3 (c : Dev nD) (t : Fin cfg0.N) {i j : ℕ} (hi : i < 3) (hj : j < 128) :
    at2 (a := 3) (b := 128) (iblk m c 3 t) i j
      = at2 (a := 3) (b := 2048) (m ((c : Thread nD τ).loc main_arg1)) i (t.val / 2 * 128 + j) := by
  have ht := lt32 t
  rw [at2, dif_pos ⟨hi, hj⟩, at2, dif_pos ⟨by omega, by omega⟩]
  blk_ext [iblk, V, idx t]

/-- The gradient of the gate, at a row of a block. -/
theorem pay_db (c h d : Vec Ideal S2048x128 .f32) (w : Vec Ideal S3x128 .f32) (p : Fin 2048) (q : Fin 128) :
    k0_pay4 (F := Ideal) c h w d (ix2 p q)
      = at2 d ↑p ↑q * (at2 w 2 ↑q * (at2 c (↑p) ↑q * at2 h (↑p) ↑q) + (if 2 ≤ p.val then at2 w 0 ↑q * (at2 c (↑p - 2) ↑q * at2 h (↑p - 2) ↑q) else 0)
        + (if 1 ≤ p.val then at2 w 1 ↑q * (at2 c (↑p - 1) ↑q * at2 h (↑p - 1) ↑q) else 0)) := by
  pointwise [k0_pay1, k0_pay2, k0_pay3, k0_pay4, k0_pay5, k0_pay6, k0_pay7, k0_pay8, k0_pay9, k0_pay10]
  have ec := at2_ix (a := 2048) (b := 128) c
  have eh := at2_ix (a := 2048) (b := 128) h
  have ed := at2_ix (a := 2048) (b := 128) d
  have ew := at2_ix (a := 3) (b := 128) w
  have hp := p.isLt
  rw [pick_ge hp (by omega), pick_ge hp (by omega)]
  simp only [ec, eh, ed, ew, Fin.coe_ofNat_eq_mod, Nat.reduceMod]
  by_cases h1 : 1 ≤ p.val <;> by_cases h2 : 2 ≤ p.val <;> first | omega | skip
  · simp only [if_pos h1, if_pos h2, show (p.val + 2048 - 2) % 2048 = p.val - 2 by omega, show (p.val + 2048 - 1) % 2048 = p.val - 1 by omega]
  · simp only [if_pos h1, if_neg h2, show (p.val + 2048 - 1) % 2048 = p.val - 1 by omega]
  · simp only [if_neg h1, if_neg h2]

/-- The gradient of the convolved product, at a row of a block. -/
theorem pay_conv (w : Vec Ideal S3x128 .f32) (d b : Vec Ideal S2048x128 .f32) (p : Fin 2048) (q : Fin 128) :
    k0_pay8 (F := Ideal) w (k0_pay5 d b) (k0_pay6 w d b) (k0_pay7 w) (iota Kind.tc S2048x128 32 [0] iota_S2048x128_d0_w32) 2046#32 (ix2 p q)
      = at2 w 2 ↑q * (at2 d (↑p) ↑q * at2 b (↑p) ↑q) + (if p.val < 2046 then at2 w 0 ↑q * (at2 d (↑p + 2) ↑q * at2 b (↑p + 2) ↑q) else 0)
        + (if p.val < 2047 then at2 w 1 ↑q * (at2 d (↑p + 1) ↑q * at2 b (↑p + 1) ↑q) else 0) := by
  pointwise [k0_pay1, k0_pay2, k0_pay3, k0_pay4, k0_pay5, k0_pay6, k0_pay7, k0_pay8, k0_pay9, k0_pay10]
  have ed := at2_ix (a := 2048) (b := 128) d
  have eb := at2_ix (a := 2048) (b := 128) b
  have ew := at2_ix (a := 3) (b := 128) w
  have hp := p.isLt
  rw [pick_lt hp (by omega), pick_lt hp (by omega)]
  simp only [ed, eb, ew, Fin.coe_ofNat_eq_mod, Nat.reduceMod]
  by_cases h1 : p.val < 2047 <;> by_cases h2 : p.val < 2046 <;> first | omega | skip
  · simp only [if_pos h1, if_pos h2, show (p.val + 2048 - 2046) % 2048 = p.val + 2 by omega, show (p.val + 2048 - 2047) % 2048 = p.val + 1 by omega]
  · simp only [if_pos h1, if_neg h2, show (p.val + 2048 - 2047) % 2048 = p.val + 1 by omega]
  · simp only [if_neg h1, if_neg h2]

/-- The gradient of the taps over one block of rows. -/
theorem pay_dw (c h d b : Vec Ideal S2048x128 .f32) (k : Fin 3) (q : Fin 128) :
    k0_pay9 (F := Ideal) (k0_pay3 c h) (k0_pay5 d b) (ix2 k q)
      = ∑ s : Fin 2048, if 2 - k.val ≤ s.val then (at2 d (↑s) ↑q * at2 b (↑s) ↑q) * (at2 c (↑s - (2 - ↑k)) ↑q * at2 h (↑s - (2 - ↑k)) ↑q) else 0 := by
  pointwise [k0_pay1, k0_pay2, k0_pay3, k0_pay4, k0_pay5, k0_pay6, k0_pay7, k0_pay8, k0_pay9, k0_pay10]
  have ec := at2_ix (a := 2048) (b := 128) c
  have eh := at2_ix (a := 2048) (b := 128) h
  have ed := at2_ix (a := 2048) (b := 128) d
  have eb := at2_ix (a := 2048) (b := 128) b
  have hk := k.isLt
  rcases (by omega : k.val = 0 ∨ k.val = 1 ∨ k.val = 2) with e | e | e
  · rw [dif_pos (by omega)]
    refine Finset.sum_congr rfl fun s _ => ?_
    have hs := s.isLt
    rw [pick_ge hs (by omega), e]
    simp only [ec, eh, ed, eb]
    by_cases h2 : 2 ≤ s.val
    · rw [if_pos h2, if_pos (by omega), show (s.val + 2048 - 2) % 2048 = s.val - (2 - 0) by omega]
    · rw [if_neg h2, if_neg (by omega)]
  · rw [dif_neg (by omega), dif_pos (by omega)]
    refine Finset.sum_congr rfl fun s _ => ?_
    have hs := s.isLt
    rw [pick_ge hs (by omega), e]
    simp only [ec, eh, ed, eb]
    by_cases h2 : 1 ≤ s.val
    · rw [if_pos h2, if_pos (by omega), show (s.val + 2048 - 1) % 2048 = s.val - (2 - 1) by omega]
    · rw [if_neg h2, if_neg (by omega)]
  · rw [dif_neg (by omega), dif_neg (by omega)]
    refine Finset.sum_congr rfl fun s _ => ?_
    rw [if_pos (by omega), e]
    simp only [ec, eh, ed, eb]
    rfl

theorem point_5 (c : Dev nD) (t : Fin cfg0.N) (p : Fin 2048) (q : Fin 128) :
    k0_pay4 (F := Ideal) (iblk m c 1 t) (iblk m c 2 t) (iblk m c 3 t) (iblk m c 4 t) (ix2 p q)
      = Cert.ScBwdRefIdeal.Read.val_main_v73 (F := Ideal) (m ((c : Thread nD τ).loc main_arg0)) (m ((c : Thread nD τ).loc main_arg1)) (m ((c : Thread nD τ).loc main_arg2)) (ix2 ⟨t.val % 2 * 2048 + p.val, by omega⟩ ⟨t.val / 2 * 128 + q.val, by have := lt32 t; omega⟩) := by
  have hp := p.isLt
  have hq := q.isLt
  refine (pay_db _ _ _ _ p q).trans (Eq.trans ?_ (ref73 _ _ _ _ _).symm)
  have n1 : p.val - 1 < 2048 := by omega
  have n2 : p.val - 2 < 2048 := by omega
  simp only [read_1 m c t hp hq, read_1 m c t n1 hq, read_1 m c t n2 hq, read_2 m c t hp hq, read_2 m c t n1 hq, read_2 m c t n2 hq,
    read_4 m c t hp hq, read_3 m c t (by omega : 0 < 3) hq, read_3 m c t (by omega : 1 < 3) hq, read_3 m c t (by omega : 2 < 3) hq,
    show (t.val % 2 * 2048 + p.val) % 2048 = p.val by omega]
  by_cases h1 : 1 ≤ p.val <;> by_cases h2 : 2 ≤ p.val <;> first | omega | skip
  · rw [if_pos h1, if_pos h1, if_pos h2, if_pos h2, show t.val % 2 * 2048 + (p.val - 2) = t.val % 2 * 2048 + p.val - 2 by omega,
      show t.val % 2 * 2048 + (p.val - 1) = t.val % 2 * 2048 + p.val - 1 by omega]
  · rw [if_pos h1, if_pos h1, if_neg h2, if_neg h2, show t.val % 2 * 2048 + (p.val - 1) = t.val % 2 * 2048 + p.val - 1 by omega]
  · rw [if_neg h1, if_neg h1, if_neg h2, if_neg h2]

theorem point_6 (c : Dev nD) (t : Fin cfg0.N) (p : Fin 2048) (q : Fin 128) :
    k0_pay10 (F := Ideal) (iblk m c 2 t) (iblk m c 3 t) (k0_pay5 (iblk m c 4 t) (iblk m c 0 t)) (k0_pay6 (iblk m c 3 t) (iblk m c 4 t) (iblk m c 0 t)) (k0_pay7 (iblk m c 3 t)) (iota Kind.tc S2048x128 32 [0] iota_S2048x128_d0_w32) 2046#32 (ix2 p q)
      = Cert.ScBwdRefIdeal.Read.val_main_v75 (F := Ideal) (m ((c : Thread nD τ).loc main_arg0)) (m ((c : Thread nD τ).loc main_arg1)) (m ((c : Thread nD τ).loc main_arg2)) (ix2 ⟨t.val % 2 * 2048 + p.val, by omega⟩ ⟨t.val / 2 * 128 + q.val, by have := lt32 t; omega⟩) := by
  have hp := p.isLt
  have hq := q.isLt
  refine Eq.trans ?_ (ref75 _ _ _ _ _).symm
  refine Eq.trans (b := (at2 (a := 2048) (b := 128) (iblk m c 2 t) p q : EReal) * (k0_pay8 (iblk m c 3 t) (k0_pay5 (iblk m c 4 t) (iblk m c 0 t)) (k0_pay6 (iblk m c 3 t) (iblk m c 4 t) (iblk m c 0 t)) (k0_pay7 (iblk m c 3 t)) (iota Kind.tc S2048x128 32 [0] iota_S2048x128_d0_w32) 2046#32) (ix2 p q)) ?_ ?_
  · have e := at2_ix (a := 2048) (b := 128) (iblk m c 2 t) p q
    rw [← e]
    pointwise [k0_pay10]
    exact mul_comm _ _
  refine (congrArg (_ * ·) (pay_conv _ _ _ p q)).trans ?_
  rw [read_2 m c t hp hq, read_4 m c t hp hq, read_0 m c t hp hq, read_3 m c t (by omega : 0 < 3) hq, read_3 m c t (by omega : 1 < 3) hq, read_3 m c t (by omega : 2 < 3) hq]
  simp only [show (t.val % 2 * 2048 + p.val) % 2048 = p.val by omega]
  by_cases h1 : p.val < 2047 <;> by_cases h2 : p.val < 2046 <;> first | omega | skip
  · rw [if_pos h1, if_pos h1, if_pos h2, if_pos h2, read_4 m c t (by omega : p.val + 2 < 2048) hq, read_4 m c t (by omega : p.val + 1 < 2048) hq,
      read_0 m c t (by omega : p.val + 2 < 2048) hq, read_0 m c t (by omega : p.val + 1 < 2048) hq, ← Nat.add_assoc, ← Nat.add_assoc]
    ac_rfl
  · rw [if_pos h1, if_pos h1, if_neg h2, if_neg h2, read_4 m c t (by omega : p.val + 1 < 2048) hq, read_0 m c t (by omega : p.val + 1 < 2048) hq, ← Nat.add_assoc]
    ac_rfl
  · rw [if_neg h1, if_neg h1, if_neg h2, if_neg h2]
    ac_rfl

theorem point_7 (c : Dev nD) (t : Fin cfg0.N) (p : Fin 2048) (q : Fin 128) :
    k0_pay1 (F := Ideal) (iblk m c 1 t) (k0_pay8 (iblk m c 3 t) (k0_pay5 (iblk m c 4 t) (iblk m c 0 t)) (k0_pay6 (iblk m c 3 t) (iblk m c 4 t) (iblk m c 0 t)) (k0_pay7 (iblk m c 3 t)) (iota Kind.tc S2048x128 32 [0] iota_S2048x128_d0_w32) 2046#32) (ix2 p q)
      = Cert.ScBwdRefIdeal.Read.val_main_v77 (F := Ideal) (m ((c : Thread nD τ).loc main_arg0)) (m ((c : Thread nD τ).loc main_arg1)) (m ((c : Thread nD τ).loc main_arg2)) (ix2 ⟨t.val % 2 * 2048 + p.val, by omega⟩ ⟨t.val / 2 * 128 + q.val, by have := lt32 t; omega⟩) := by
  have hp := p.isLt
  have hq := q.isLt
  refine Eq.trans ?_ (ref77 _ _ _ _ _).symm
  refine Eq.trans (b := (at2 (a := 2048) (b := 128) (iblk m c 1 t) p q : EReal) * (k0_pay8 (iblk m c 3 t) (k0_pay5 (iblk m c 4 t) (iblk m c 0 t)) (k0_pay6 (iblk m c 3 t) (iblk m c 4 t) (iblk m c 0 t)) (k0_pay7 (iblk m c 3 t)) (iota Kind.tc S2048x128 32 [0] iota_S2048x128_d0_w32) 2046#32) (ix2 p q)) ?_ ?_
  · have e := at2_ix (a := 2048) (b := 128) (iblk m c 1 t) p q
    rw [← e]
    pointwise [k0_pay1]
    exact mul_comm _ _
  refine (congrArg (_ * ·) (pay_conv _ _ _ p q)).trans ?_
  rw [read_1 m c t hp hq, read_4 m c t hp hq, read_0 m c t hp hq, read_3 m c t (by omega : 0 < 3) hq, read_3 m c t (by omega : 1 < 3) hq, read_3 m c t (by omega : 2 < 3) hq]
  simp only [show (t.val % 2 * 2048 + p.val) % 2048 = p.val by omega]
  by_cases h1 : p.val < 2047 <;> by_cases h2 : p.val < 2046 <;> first | omega | skip
  · rw [if_pos h1, if_pos h1, if_pos h2, if_pos h2, read_4 m c t (by omega : p.val + 2 < 2048) hq, read_4 m c t (by omega : p.val + 1 < 2048) hq,
      read_0 m c t (by omega : p.val + 2 < 2048) hq, read_0 m c t (by omega : p.val + 1 < 2048) hq, ← Nat.add_assoc, ← Nat.add_assoc]
    ac_rfl
  · rw [if_pos h1, if_pos h1, if_neg h2, if_neg h2, read_4 m c t (by omega : p.val + 1 < 2048) hq, read_0 m c t (by omega : p.val + 1 < 2048) hq, ← Nat.add_assoc]
    ac_rfl
  · rw [if_neg h1, if_neg h1, if_neg h2, if_neg h2]
    ac_rfl

end Cert.ScBwdIdeal.Conv

end
-- ==== Proof.ScBwd.Value.lean ====
/- The backward pass of the short convolution, third part: the four arrays that the call leaves. -/
module

public import proofs.«01_k».proof.Defs
public import proofs.«01_k».proof.Proof.Gen.ScBwdIdeal.Value
public import proofs.«01_k».proof.Proof.Gen.ScBwdRefIdeal.Read
public import Idealize.ShloMosaic.Lib.Pipeline.ValueKit
public import proofs.«01_k».proof.Proof.ScBwd.Points

@[expose] public section

set_option maxRecDepth 16384

noncomputable section

open Idealize.ShloMosaic Idealize.ShloMosaic.TcCoe Idealize.SL.Sem
open scoped BigOperators

namespace Cert.ScBwdIdeal.Conv

open Cert.ScBwdIdeal Cert.ScBwdIdeal.Gen

variable (m : (ℓ : Loc nD τ sig) → Buf (Elt Ideal) ℓ)

/-- The array that the call leaves: the points' blocks tile it. -/
theorem final_5 (c : Dev nD) : (dats m 0 c).arrAt 5 (cfgs 0).N
    = Cert.ScBwdRefIdeal.Read.val_main_v73 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht := lt32 t
  have hy : (((cfg0.win 5).blk t).view.emb y) = ix2 (⟨t.val % 2 * 2048 + (y 0).val, by have := (y 0).isLt; simp at this; omega⟩ : Fin 4096)
      (⟨t.val / 2 * 128 + (y 1).val, by have := (y 1).isLt; simp at this; omega⟩ : Fin 2048) := by
    blk_ext [idx t]
  blk_simp; rw [after0_5]
  rw [hy]
  by_cases h : t.val % 2 = 0
  · rw [outsAt0_A m c t h (by omega)]; frame_out
    exact (congrArg _ (ix2_eta y)).trans (point_5 m c t (y 0) (y 1))
  · rw [outsAt0_B m c t h (by omega)]; frame_out
    exact (congrArg _ (ix2_eta y)).trans (point_5 m c t (y 0) (y 1))

/-- The array that the call leaves: the points' blocks tile it. -/
theorem final_6 (c : Dev nD) : (dats m 0 c).arrAt 6 (cfgs 0).N
    = Cert.ScBwdRefIdeal.Read.val_main_v75 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht := lt32 t
  have hy : (((cfg0.win 6).blk t).view.emb y) = ix2 (⟨t.val % 2 * 2048 + (y 0).val, by have := (y 0).isLt; simp at this; omega⟩ : Fin 4096)
      (⟨t.val / 2 * 128 + (y 1).val, by have := (y 1).isLt; simp at this; omega⟩ : Fin 2048) := by
    blk_ext [idx t]
  blk_simp; rw [after0_6]
  rw [hy]
  by_cases h : t.val % 2 = 0
  · rw [outsAt0_A m c t h (by omega)]; frame_out
    exact (congrArg _ (ix2_eta y)).trans (point_6 m c t (y 0) (y 1))
  · rw [outsAt0_B m c t h (by omega)]; frame_out
    exact (congrArg _ (ix2_eta y)).trans (point_6 m c t (y 0) (y 1))

/-- The array that the call leaves: the points' blocks tile it. -/
theorem final_7 (c : Dev nD) : (dats m 0 c).arrAt 7 (cfgs 0).N
    = Cert.ScBwdRefIdeal.Read.val_main_v77 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht := lt32 t
  have hy : (((cfg0.win 7).blk t).view.emb y) = ix2 (⟨t.val % 2 * 2048 + (y 0).val, by have := (y 0).isLt; simp at this; omega⟩ : Fin 4096)
      (⟨t.val / 2 * 128 + (y 1).val, by have := (y 1).isLt; simp at this; omega⟩ : Fin 2048) := by
    blk_ext [idx t]
  blk_simp; rw [after0_7]
  rw [hy]
  by_cases h : t.val % 2 = 0
  · rw [outsAt0_A m c t h (by omega)]; frame_out
    exact (congrArg _ (ix2_eta y)).trans (point_7 m c t (y 0) (y 1))
  · rw [outsAt0_B m c t h (by omega)]; frame_out
    exact (congrArg _ (ix2_eta y)).trans (point_7 m c t (y 0) (y 1))

/-- The gradient of the taps over one block of rows, in the arrays' own rows. -/
theorem part_8 (c : Dev nD) (t : Fin cfg0.N) (k : Fin 3) (q : Fin 128) :
    k0_pay9 (F := Ideal) (k0_pay3 (iblk m c 1 t) (iblk m c 2 t)) (k0_pay5 (iblk m c 4 t) (iblk m c 0 t)) (ix2 k q)
      = ∑ s : Fin 2048, if 2 - k.val ≤ s.val then
          (at2 (a := 4096) (b := 14592) (m ((c : Thread nD τ).loc main_arg0)) (t.val % 2 * 2048 + s.val - (2 - k.val)) (10368 + (t.val / 2 * 128 + q.val)) * at2 (a := 4096) (b := 14592) (m ((c : Thread nD τ).loc main_arg0)) (t.val % 2 * 2048 + s.val - (2 - k.val)) (12416 + (t.val / 2 * 128 + q.val)))
            * (at2 (a := 4096) (b := 14592) (m ((c : Thread nD τ).loc main_arg0)) (t.val % 2 * 2048 + s.val) (8320 + (t.val / 2 * 128 + q.val)) * at2 (a := 4096) (b := 4096) (m ((c : Thread nD τ).loc main_arg2)) (t.val % 2 * 2048 + s.val) (2048 + (t.val / 2 * 128 + q.val))) else 0 := by
  have hq := q.isLt
  refine (pay_dw _ _ _ _ k q).trans (Finset.sum_congr rfl fun s _ => ?_)
  have hs := s.isLt
  by_cases h : 2 - k.val ≤ s.val
  · rw [if_pos h, if_pos h, read_1 m c t (by omega : s.val - (2 - k.val) < 2048) hq, read_2 m c t (by omega : s.val - (2 - k.val) < 2048) hq, read_4 m c t hs hq, read_0 m c t hs hq,
      show t.val % 2 * 2048 + (s.val - (2 - k.val)) = t.val % 2 * 2048 + s.val - (2 - k.val) by omega]
    ac_rfl
  · rw [if_neg h, if_neg h]

theorem pay_add (x acc : Vec Ideal S3x128 .f32) (j : S3x128.Idx) : k0_pay2 (F := Ideal) x acc j = (acc j + x j : EReal) := by
  pointwise [k0_pay2]

/-- The array of the taps' gradient: the blocks of rows of the two sequences added up. -/
theorem final_8 (c : Dev nD) : (dats m 0 c).arrAt 8 (cfgs 0).N
    = Cert.ScBwdRefIdeal.Read.val_main_v65 (F := Ideal) (m ((c : Thread nD τ).loc main_arg0)) (m ((c : Thread nD τ).loc main_arg2)) := by
  refine (dats m 0 c).arrAt_eq_of_covers 8 _ (by decide +kernel) fun t hf y => ?_
  have ht := lt32 t
  have hy : (((cfg0.win 8).blk t).view.emb y) = ix2 (⟨(y 0).val, by have := (y 0).isLt; simp at this; omega⟩ : Fin 3)
      (⟨t.val / 2 * 128 + (y 1).val, by have := (y 1).isLt; simp at this; omega⟩ : Fin 2048) := by
    blk_ext [idx t]
  have h1 : t.val % 2 = 1 := (by decide +kernel : ∀ t : Fin grid0.N, (cfg0.win 8).flush t = true → t.val % 2 = 1) t hf
  have hlt : t.val - 1 < cfg0.N := by have := t.isLt; omega
  blk_simp; rw [after0_8]
  rw [hy, outsAt0_B m c t (by omega) h1]; frame_out
  rw [outsAt0_A m c ⟨t.val - 1, hlt⟩ (by simp; omega) (by simp; omega)]; frame_out
  refine Eq.trans ?_ (ref65 _ _ _ _).symm
  rw [Fin.sum_univ_two]
  refine (pay_add _ _ y).trans (congrArg₂ (· + ·) ?_ ?_)
  · refine (congrArg _ (ix2_eta y)).trans ((part_8 m c ⟨t.val - 1, hlt⟩ (y 0) (y 1)).trans (Finset.sum_congr rfl fun s _ => ?_))
    simp only [show (t.val - 1) % 2 = 0 by omega, show (t.val - 1) / 2 = t.val / 2 by omega]
    rfl
  · refine (congrArg _ (ix2_eta y)).trans ((part_8 m c t (y 0) (y 1)).trans (Finset.sum_congr rfl fun s _ => ?_))
    simp only [h1]
    rfl

theorem algebraic : Cert.algebraic_ScBwdIdeal_ScBwdRefIdeal (hScBwdIdeal := Cert.ScBwdIdeal.Gen.facts)
    (hScBwdRefIdeal := Cert.ScBwdRefIdeal.Gen.facts) := by
  intro m g m' g' _ hm
  refine ⟨fun c => Cert.ScBwdRefIdeal.Read.val_main_v73 (F := Ideal) (m ((c : Thread nD τ).loc main_arg0)) (m ((c : Thread nD τ).loc main_arg1)) (m ((c : Thread nD τ).loc main_arg2)), fun c => Cert.ScBwdRefIdeal.Read.val_main_v75 (F := Ideal) (m ((c : Thread nD τ).loc main_arg0)) (m ((c : Thread nD τ).loc main_arg1)) (m ((c : Thread nD τ).loc main_arg2)),
    fun c => Cert.ScBwdRefIdeal.Read.val_main_v77 (F := Ideal) (m ((c : Thread nD τ).loc main_arg0)) (m ((c : Thread nD τ).loc main_arg1)) (m ((c : Thread nD τ).loc main_arg2)), fun c => Cert.ScBwdRefIdeal.Read.val_main_v65 (F := Ideal) (m ((c : Thread nD τ).loc main_arg0)) (m ((c : Thread nD τ).loc main_arg2)), ?_, ?_⟩
  · exact (θ_run _ _ _).mono (fun r h c => ⟨(h c).1.trans (final_5 m c), (h c).2.1.trans (final_6 m c), (h c).2.2.1.trans (final_7 m c), (h c).2.2.2.1.trans (final_8 m c), (h c).2.2.2.2⟩) (Cert.ScBwdIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.ScBwdRefIdeal.Value.run m' g')
    · rw [(hm c).1, (hm c).2.1, (hm c).2.2]
      rfl
    · rw [(hm c).1, (hm c).2.1, (hm c).2.2]
      rfl
    · rw [(hm c).1, (hm c).2.1, (hm c).2.2]
      rfl
    · rw [Cert.ScBwdRefIdeal.Value.res_main_v65, (hm c).1, (hm c).2.2]
      rfl

end Cert.ScBwdIdeal.Conv

end
-- ==== Proof.Products.DHid.lean ====
/- The gradient of the squared ReLU and the down projection in the pre-activation. The blocks that the grid's points write are the blocks of the reference's array, so the
   array that the call leaves is the reference's. -/
module

public import proofs.«01_k».proof.Defs
public import proofs.«01_k».proof.Proof.Gen.DHidIdeal.Value
public import proofs.«01_k».proof.Proof.Gen.DHidRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.DHidIdeal.Product

open Cert.DHidIdeal Cert.DHidIdeal.Gen

variable (m : (ℓ : Loc nD τ sig) → Buf (Elt Ideal) ℓ)

/-- The block that each window stages at a grid point. -/
theorem idx : ∀ t : Fin cfg0.N, win0_0.index t = ![t.val / 32, 0]
    ∧ win0_1.index t = ![t.val % 32, 0]
    ∧ win0_2.index t = ![t.val / 32, t.val % 32]
    ∧ win0_3.index t = ![t.val / 32, t.val % 32] :=
  (by decide +kernel : ∀ t : Fin grid0.N, _)

/-- The staged block of activations is the ReLU of the pre-activations at the same place. -/
theorem act_bits (c : Dev nD) (t : Fin cfg0.N) (y) :
    (iblk m c 2 t y : EReal) = max (α := EReal) (m ((c : Thread nD τ).loc main_arg0) (((cfg0.win 3).blk t).view.emb y)) (Ideal.ofBits .f32 0x00000000#32) := by
  blk_point [iblk, V, idx t]

theorem act (c : Dev nD) (t : Fin cfg0.N) (y) :
    (iblk m c 2 t y : EReal) = max (α := EReal) (m ((c : Thread nD τ).loc main_arg0) (((cfg0.win 3).blk t).view.emb y)) 0 := by
  refine (act_bits m c t y).trans ?_
  simp
  done

/-- What a point stores at `y` of its block is the reference at the place where `y` lies in the array. -/
theorem point (c : Dev nD) (t : Fin cfg0.N) (y) :
    k0_pay1 (iblk m c 1 t) (iblk m c 0 t) (iblk m c 2 t) y
      = Cert.DHidRefIdeal.Read.val_main_v14 (F := Ideal) (m ((c : Thread nD τ).loc main_arg0)) (m ((c : Thread nD τ).loc main_arg1)) (m ((c : Thread nD τ).loc main_arg2)) (((cfg0.win 3).blk t).view.emb y) := by
  pointwise [k0_pay1, Cert.DHidRefIdeal.Read.val_main_call0_cst, Cert.DHidRefIdeal.Read.val_main_call0_v0, Cert.DHidRefIdeal.Read.val_main_cst, Cert.DHidRefIdeal.Read.val_main_cst_0, Cert.DHidRefIdeal.Read.val_main_cst_1, Cert.DHidRefIdeal.Read.val_main_cst_2, Cert.DHidRefIdeal.Read.val_main_v0, Cert.DHidRefIdeal.Read.val_main_v1, Cert.DHidRefIdeal.Read.val_main_v2, Cert.DHidRefIdeal.Read.val_main_v3, Cert.DHidRefIdeal.Read.val_main_v4, Cert.DHidRefIdeal.Read.val_main_v5, Cert.DHidRefIdeal.Read.val_main_v6, Cert.DHidRefIdeal.Read.val_main_v7, Cert.DHidRefIdeal.Read.val_main_v8, Cert.DHidRefIdeal.Read.val_main_v9, Cert.DHidRefIdeal.Read.val_main_v10, Cert.DHidRefIdeal.Read.val_main_v11, Cert.DHidRefIdeal.Read.val_main_v12, Cert.DHidRefIdeal.Read.val_main_v13, Cert.DHidRefIdeal.Read.val_main_v14]
  rw [act]
  split_ifs with h
  · congr 1
    blk_point [iblk, V, idx t]
  · rw [max_eq_right (not_lt.mp h), mul_zero, mul_zero]

/-- The array that the call leaves: the points' blocks tile it. -/
theorem final (c : Dev nD) : (dats m 0 c).arrAt 3 (cfgs 0).N
    = Cert.DHidRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

theorem algebraic : Cert.algebraic_DHidIdeal_DHidRefIdeal (hDHidIdeal := Cert.DHidIdeal.Gen.facts)
    (hDHidRefIdeal := Cert.DHidRefIdeal.Gen.facts) := by
  intro m g m' g' _ hm
  refine ⟨fun c => Cert.DHidRefIdeal.Read.val_main_v14 (F := Ideal) (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (final m c), (h c).2⟩) (Cert.DHidIdeal.Value.run_blocks m g)
  · refine (θ_run _ _ _).mono (fun r h c => ⟨(h c).1.trans ?_, (h c).2⟩) (Cert.DHidRefIdeal.Value.run m' g')
    · rw [(hm c).1, (hm c).2.1, (hm c).2.2]
      rfl

end Cert.DHidIdeal.Product

end
-- ==== Proof.Products.DwDown.lean ====
/- The gradient of the down projection in its weight: `hidᵀ · dff`. The blocks that the grid's points write are the blocks of the reference's array, so the
   array that the call leaves is the reference's. -/
module

public import proofs.«01_k».proof.Defs
public import proofs.«01_k».proof.Proof.Gen.DwDownIdeal.Value
public import proofs.«01_k».proof.Proof.Gen.DwDownRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.DwDownIdeal.Product

open Cert.DwDownIdeal Cert.DwDownIdeal.Gen

variable (m : (ℓ : Loc nD τ sig) → Buf (Elt Ideal) ℓ)

/-- The block that each window stages at a grid point. -/
theorem idx : ∀ t : Fin cfg0.N, win0_0.index t = ![0, t.val / 8]
    ∧ win0_1.index t = ![0, t.val % 8]
    ∧ win0_2.index t = ![t.val / 8, t.val % 8] :=
  (by decide +kernel : ∀ t : Fin grid0.N, _)

/-- What a point stores at `y` of its block is the reference at the place where `y` lies in the array. -/
theorem point (c : Dev nD) (t : Fin cfg0.N) (y) :
    k0_pay1 (iblk m c 1 t) (iblk m c 0 t) y
      = Cert.DwDownRefIdeal.Read.val_main_v6 (F := Ideal) (m ((c : Thread nD τ).loc main_arg0)) (m ((c : Thread nD τ).loc main_arg1)) (((cfg0.win 2).blk t).view.emb y) := by
  pointwise [k0_pay1, Cert.DwDownRefIdeal.Read.val_main_v6, Cert.DwDownRefIdeal.Read.val_main_v5, Cert.DwDownRefIdeal.Read.val_main_v4, Cert.DwDownRefIdeal.Read.val_main_v3, Cert.DwDownRefIdeal.Read.val_main_v1]
  refine Finset.sum_congr rfl fun k _ => ?_
  rw [mul_comm]
  blk_point [iblk, V, idx t]

/-- The array that the call leaves: the points' blocks tile it. -/
theorem final (c : Dev nD) : (dats m 0 c).arrAt 2 (cfgs 0).N
    = Cert.DwDownRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem algebraic : Cert.algebraic_DwDownIdeal_DwDownRefIdeal (hDwDownIdeal := Cert.DwDownIdeal.Gen.facts)
    (hDwDownRefIdeal := Cert.DwDownRefIdeal.Gen.facts) := by
  intro m g m' g' _ hm
  refine ⟨fun c => Cert.DwDownRefIdeal.Read.val_main_v6 (F := Ideal) (m ((c.tc : Thread nD τ).loc main_arg0)) (m ((c.tc : Thread nD τ).loc main_arg1)), ?_, ?_⟩
  · exact (θ_run _ _ _).mono (fun r h c => ⟨(h c).1.trans (final m c), (h c).2⟩) (Cert.DwDownIdeal.Value.run_blocks m g)
  · refine (θ_run _ _ _).mono (fun r h c => ⟨(h c).1.trans ?_, (h c).2⟩) (Cert.DwDownRefIdeal.Value.run m' g')
    · rw [(hm c).1, (hm c).2]
      rfl

end Cert.DwDownIdeal.Product

end
-- ==== Proof.Products.DXn2.lean ====
/- The gradient of the MLP's input: the gradient of the hidden layer times the up weight, summed over the blocks of the
   hidden axis. The accumulator is the sum of the blocks' products up
   to the point, and the block that the last point of a run writes is the whole sum. -/
module

public import proofs.«01_k».proof.Defs
public import proofs.«01_k».proof.Proof.Gen.DXn2Ideal.Value
public import proofs.«01_k».proof.Proof.Gen.DXn2RefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.DXn2Ideal.Product

open Cert.DXn2Ideal Cert.DXn2Ideal.Gen

variable (m : (ℓ : Loc nD τ sig) → Buf (Elt Ideal) ℓ)

/-- The block that each window stages at a grid point. -/
theorem idx : ∀ t : Fin cfg0.N, win0_0.index t = ![t.val / 64, t.val % 8]
    ∧ win0_1.index t = ![t.val % 8, t.val / 8 % 8, 0]
    ∧ win0_2.index t = ![t.val / 64, t.val / 8 % 8] :=
  (by decide +kernel : ∀ t : Fin grid0.N, _)

/-- The first point of a run stores its own product. -/
theorem first (v0 : Vec Ideal S1x512x2048 .bf16) (v2 : Vec Ideal S512x2048 .bf16) (j : S512x512.Idx) :
    k0_pay2 (F := Ideal) v0 v2 j = 0 + ∑ k : Fin 2048, v2 (ix2 (j 0) k) * v0 (ix3 (0 : Fin 1) (j 1) k) := by
  rw [zero_add]
  pointwise [k0_pay2, k0_pay1]

/-- A later point of a run adds its product to what the accumulator holds. -/
theorem step (v0 : Vec Ideal S1x512x2048 .bf16) (v2 : Vec Ideal S512x2048 .bf16) (acc : Vec Ideal S512x512 .f32) (j : S512x512.Idx) :
    k0_pay3 (F := Ideal) v0 v2 acc j = acc j + ∑ k : Fin 2048, v2 (ix2 (j 0) k) * v0 (ix3 (0 : Fin 1) (j 1) k) := by
  pointwise [k0_pay3, k0_pay1]

/-- The last point of a run writes what the accumulator then holds. -/
theorem out_eq (c : Dev nD) (t : Fin cfg0.N) (h : t.val % 8 = 7) :
    (outsAt0 m c t.val t.isLt).1 = (outsAt0 m c t.val t.isLt).2 := by
  rw [outsAt0_C m c t (by omega) (by omega) h]
  frame_out

/-- The array that the call leaves is the reference's. -/
theorem final (c : Dev nD) : (dats m 0 c).arrAt 2 (cfgs 0).N
    = Cert.DXn2RefIdeal.Read.val_main_v6 (F := Ideal) (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  blk_simp
  rw [after0_2, out_eq m c t ht, Pipeline.eq_sum_fin_of_reset_step_apply_of_flush (fun n h => (outsAt0 m c n h).2) 8 (fun _ => 0) _
    (fun t h j => by rw [outsAt0_A m c t h (by omega) (by omega)]; frame_out; rw [first])
    (fun t h j => by
      by_cases h' : t.val % 8 = 7
      · rw [outsAt0_C m c t h (by omega) h']; frame_out; rw [step]; exact congrArg (· + _) (congrFun ((Memref.isWhole_whole _).read_unread _) _)
      · rw [outsAt0_B m c t h (by omega) h']; frame_out; rw [step]; exact congrArg (· + _) (congrFun ((Memref.isWhole_whole _).read_unread _) _))
    t ht _, zero_add]
  pointwise [Cert.DXn2RefIdeal.Read.val_main_v0, Cert.DXn2RefIdeal.Read.val_main_v1, Cert.DXn2RefIdeal.Read.val_main_v2, Cert.DXn2RefIdeal.Read.val_main_v3, Cert.DXn2RefIdeal.Read.val_main_v4, Cert.DXn2RefIdeal.Read.val_main_v5, Cert.DXn2RefIdeal.Read.val_main_v6, Cert.DXn2RefIdeal.Read.val_main_cst]
  refine Fin.sum_mul_add_congr fun s k hl => ?_
  blk_point [iblk, V, idx t, idx ⟨_, Pipeline.run_point_lt_of_flush t ht s⟩]

theorem algebraic : Cert.algebraic_DXn2Ideal_DXn2RefIdeal (hDXn2Ideal := Cert.DXn2Ideal.Gen.facts)
    (hDXn2RefIdeal := Cert.DXn2RefIdeal.Gen.facts) := by
  intro m g m' g' _ hm
  refine ⟨fun c => Cert.DXn2RefIdeal.Read.val_main_v6 (F := Ideal) (m ((c.tc : Thread nD τ).loc main_arg0)) (m ((c.tc : Thread nD τ).loc main_arg1)), ?_, ?_⟩
  · exact (θ_run _ _ _).mono (fun r h c => ⟨(h c).1.trans (final m c), (h c).2⟩) (Cert.DXn2Ideal.Value.run_blocks m g)
  · refine (θ_run _ _ _).mono (fun r h c => ⟨(h c).1.trans ?_, (h c).2⟩) (Cert.DXn2RefIdeal.Value.run m' g')
    rw [(hm c).1, (hm c).2]
    rfl

end Cert.DXn2Ideal.Product

end
-- ==== Proof.Products.DwUp.lean ====
/- The gradient of the up projection in its weight, laid out as the eight column shards: `xn2ᵀ · dpre`. The blocks that the grid's points write are the blocks of the reference's array, so the
   array that the call leaves is the reference's. -/
module

public import proofs.«01_k».proof.Defs
public import proofs.«01_k».proof.Proof.Gen.DwUpIdeal.Value
public import proofs.«01_k».proof.Proof.Gen.DwUpRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.DwUpIdeal.Product

open Cert.DwUpIdeal Cert.DwUpIdeal.Gen

variable (m : (ℓ : Loc nD τ sig) → Buf (Elt Ideal) ℓ)

/-- The block that each window stages at a grid point. -/
theorem idx : ∀ t : Fin cfg0.N, win0_0.index t = ![0, t.val / 32]
    ∧ win0_1.index t = ![0, t.val % 32]
    ∧ win0_2.index t = ![t.val % 32 / 4, t.val / 32, t.val % 4] :=
  (by decide +kernel : ∀ t : Fin grid0.N, _)

/-- What a point stores at `y` of its block is the reference at the place where `y` lies in the array. -/
theorem point (c : Dev nD) (t : Fin cfg0.N) (y) :
    k0_pay1 (iblk m c 1 t) (iblk m c 0 t) y
      = Cert.DwUpRefIdeal.Read.val_main_v10 (F := Ideal) (m ((c : Thread nD τ).loc main_arg0)) (m ((c : Thread nD τ).loc main_arg1)) (((cfg0.win 2).blk t).view.emb y) := by
  pointwise [k0_pay1, Cert.DwUpRefIdeal.Read.val_main_v10, Cert.DwUpRefIdeal.Read.val_main_v9, Cert.DwUpRefIdeal.Read.val_main_v8, Cert.DwUpRefIdeal.Read.val_main_v7, Cert.DwUpRefIdeal.Read.val_main_v6, Cert.DwUpRefIdeal.Read.val_main_v5, Cert.DwUpRefIdeal.Read.val_main_v1]
  refine Finset.sum_congr rfl fun k _ => ?_
  rw [mul_comm]
  blk_point [iblk, V, idx t]

/-- The array that the call leaves: the points' blocks tile it. -/
theorem final (c : Dev nD) : (dats m 0 c).arrAt 2 (cfgs 0).N
    = Cert.DwUpRefIdeal.Read.val_main_v10 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem algebraic : Cert.algebraic_DwUpIdeal_DwUpRefIdeal (hDwUpIdeal := Cert.DwUpIdeal.Gen.facts)
    (hDwUpRefIdeal := Cert.DwUpRefIdeal.Gen.facts) := by
  intro m g m' g' _ hm
  refine ⟨fun c => Cert.DwUpRefIdeal.Read.val_main_v10 (F := Ideal) (m ((c.tc : Thread nD τ).loc main_arg0)) (m ((c.tc : Thread nD τ).loc main_arg1)), ?_, ?_⟩
  · exact (θ_run _ _ _).mono (fun r h c => ⟨(h c).1.trans (final m c), (h c).2⟩) (Cert.DwUpIdeal.Value.run_blocks m g)
  · refine (θ_run _ _ _).mono (fun r h c => ⟨(h c).1.trans ?_, (h c).2⟩) (Cert.DwUpRefIdeal.Value.run m' g')
    · rw [(hm c).1, (hm c).2]
      rfl

end Cert.DwUpIdeal.Product

end
-- ==== Proof.Products.MlpUp.lean ====
/- The up projection with its two results: the ReLU of the product and its square. The blocks that the grid's points write are the blocks of the reference's array, so the
   array that the call leaves is the reference's. -/
module

public import proofs.«01_k».proof.Defs
public import proofs.«01_k».proof.Proof.Gen.MlpUpIdeal.Value
public import proofs.«01_k».proof.Proof.Gen.MlpUpRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.MlpUpIdeal.Product

open Cert.MlpUpIdeal Cert.MlpUpIdeal.Gen

variable (m : (ℓ : Loc nD τ sig) → Buf (Elt Ideal) ℓ)

/-- The block that each window stages at a grid point. -/
theorem idx : ∀ t : Fin cfg0.N, win0_0.index t = ![t.val / 32, 0]
    ∧ win0_1.index t = ![t.val % 32 / 4, 0, t.val % 4]
    ∧ win0_2.index t = ![t.val / 32, t.val % 32]
    ∧ win0_3.index t = ![t.val / 32, t.val % 32] :=
  (by decide +kernel : ∀ t : Fin grid0.N, _)

/-- What a point stores at `y` of its block is the reference at the place where `y` lies in the array. -/
theorem point_2 (c : Dev nD) (t : Fin cfg0.N) (y) :
    k0_pay2 (iblk m c 1 t) (iblk m c 0 t) y
      = Cert.MlpUpRefIdeal.Read.val_main_v6 (F := Ideal) (m ((c : Thread nD τ).loc main_arg0)) (m ((c : Thread nD τ).loc main_arg1)) (((cfg0.win 2).blk t).view.emb y) := by
  pointwise [k0_pay2, k0_pay1, Cert.MlpUpRefIdeal.Read.val_main_v8, Cert.MlpUpRefIdeal.Read.val_main_v7, Cert.MlpUpRefIdeal.Read.val_main_v6, Cert.MlpUpRefIdeal.Read.val_main_v5, Cert.MlpUpRefIdeal.Read.val_main_call0_v0, Cert.MlpUpRefIdeal.Read.val_main_call0_cst, Cert.MlpUpRefIdeal.Read.val_main_v4, Cert.MlpUpRefIdeal.Read.val_main_v3, Cert.MlpUpRefIdeal.Read.val_main_v2, Cert.MlpUpRefIdeal.Read.val_main_v1, Cert.MlpUpRefIdeal.Read.val_main_v0]
  blk_point [iblk, V, idx t]

/-- The array that the call leaves: the points' blocks tile it. -/
theorem final_2 (c : Dev nD) : (dats m 0 c).arrAt 2 (cfgs 0).N
    = Cert.MlpUpRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

/-- What a point stores at `y` of its block is the reference at the place where `y` lies in the array. -/
theorem point_3 (c : Dev nD) (t : Fin cfg0.N) (y) :
    k0_pay3 (iblk m c 1 t) (iblk m c 0 t) y
      = Cert.MlpUpRefIdeal.Read.val_main_v8 (F := Ideal) (m ((c : Thread nD τ).loc main_arg0)) (m ((c : Thread nD τ).loc main_arg1)) (((cfg0.win 3).blk t).view.emb y) := by
  pointwise [k0_pay3, k0_pay1, Cert.MlpUpRefIdeal.Read.val_main_v8, Cert.MlpUpRefIdeal.Read.val_main_v7, Cert.MlpUpRefIdeal.Read.val_main_v6, Cert.MlpUpRefIdeal.Read.val_main_v5, Cert.MlpUpRefIdeal.Read.val_main_call0_v0, Cert.MlpUpRefIdeal.Read.val_main_call0_cst, Cert.MlpUpRefIdeal.Read.val_main_v4, Cert.MlpUpRefIdeal.Read.val_main_v3, Cert.MlpUpRefIdeal.Read.val_main_v2, Cert.MlpUpRefIdeal.Read.val_main_v1, Cert.MlpUpRefIdeal.Read.val_main_v0]
  blk_point [iblk, V, idx t]

/-- The array that the call leaves: the points' blocks tile it. -/
theorem final_3 (c : Dev nD) : (dats m 0 c).arrAt 3 (cfgs 0).N
    = Cert.MlpUpRefIdeal.Read.val_main_v8 (F := Ideal) (m ((c : Thread nD τ).loc main_arg0)) (m ((c : Thread nD τ).loc main_arg1)) := by
  refine (dats m 0 c).arrAt_eq_of_covers 3 _ (by decide +kernel) fun t hf y => ?_
  blk_simp; rw [after0_3]; frame_out
  exact point_3 m c t y

theorem algebraic : Cert.algebraic_MlpUpIdeal_MlpUpRefIdeal (hMlpUpIdeal := Cert.MlpUpIdeal.Gen.facts)
    (hMlpUpRefIdeal := Cert.MlpUpRefIdeal.Gen.facts) := by
  intro m g m' g' _ hm
  refine ⟨fun c => Cert.MlpUpRefIdeal.Read.val_main_v6 (F := Ideal) (m ((c.tc : Thread nD τ).loc main_arg0)) (m ((c.tc : Thread nD τ).loc main_arg1)), fun c => Cert.MlpUpRefIdeal.Read.val_main_v8 (F := Ideal) (m ((c.tc : Thread nD τ).loc main_arg0)) (m ((c.tc : Thread nD τ).loc main_arg1)), ?_, ?_⟩
  · exact (θ_run _ _ _).mono (fun r h c => ⟨(h c).1.trans (final_2 m c), (h c).2.1.trans (final_3 m c), (h c).2.2⟩) (Cert.MlpUpIdeal.Value.run_blocks m g)
  · refine (θ_run _ _ _).mono (fun r h c => ⟨(h c).1.trans ?_, (h c).2.1.trans ?_, (h c).2.2⟩) (Cert.MlpUpRefIdeal.Value.run m' g')
    · rw [(hm c).1, (hm c).2]
      rfl
    · rw [(hm c).1, (hm c).2]
      rfl

end Cert.MlpUpIdeal.Product

end
-- ==== Proof.Products.MlpDown.lean ====
/- The down projection of the MLP: the activations times the down weight, summed over the blocks of the hidden axis. The accumulator is the sum of the blocks' products up
   to the point, and the block that the last point of a run writes is the whole sum. -/
module

public import proofs.«01_k».proof.Defs
public import proofs.«01_k».proof.Proof.Gen.MlpDownIdeal.Value
public import proofs.«01_k».proof.Proof.Gen.MlpDownRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.MlpDownIdeal.Product

open Cert.MlpDownIdeal Cert.MlpDownIdeal.Gen

variable (m : (ℓ : Loc nD τ sig) → Buf (Elt Ideal) ℓ)

/-- The block that each window stages at a grid point. -/
theorem idx : ∀ t : Fin cfg0.N, win0_0.index t = ![t.val / 32, t.val % 4]
    ∧ win0_1.index t = ![t.val % 4, t.val / 4 % 8]
    ∧ win0_2.index t = ![t.val / 32, t.val / 4 % 8] :=
  (by decide +kernel : ∀ t : Fin grid0.N, _)

/-- The first point of a run stores its own product. -/
theorem first (v0 : Vec Ideal S4096x512 .bf16) (v2 : Vec Ideal S512x4096 .bf16) (j : S512x512.Idx) :
    k0_pay2 (F := Ideal) v0 v2 j = 0 + ∑ k : Fin 4096, v2 (ix2 (j 0) k) * v0 (ix2 k (j 1)) := by
  rw [zero_add]
  pointwise [k0_pay2, k0_pay1]

/-- A later point of a run adds its product to what the accumulator holds. -/
theorem step (v0 : Vec Ideal S4096x512 .bf16) (v2 : Vec Ideal S512x4096 .bf16) (acc : Vec Ideal S512x512 .f32) (j : S512x512.Idx) :
    k0_pay3 (F := Ideal) v0 v2 acc j = acc j + ∑ k : Fin 4096, v2 (ix2 (j 0) k) * v0 (ix2 k (j 1)) := by
  pointwise [k0_pay3, k0_pay1]

/-- The last point of a run writes what the accumulator then holds. -/
theorem out_eq (c : Dev nD) (t : Fin cfg0.N) (h : t.val % 4 = 3) :
    (outsAt0 m c t.val t.isLt).1 = (outsAt0 m c t.val t.isLt).2 := by
  rw [outsAt0_C m c t (by omega) (by omega) h]
  frame_out

/-- The array that the call leaves is the reference's. -/
theorem final (c : Dev nD) : (dats m 0 c).arrAt 2 (cfgs 0).N
    = Cert.MlpDownRefIdeal.Read.val_main_v2 (F := Ideal) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2, out_eq m c t ht, Pipeline.eq_sum_fin_of_reset_step_apply_of_flush (fun n h => (outsAt0 m c n h).2) 4 (fun _ => 0) _
    (fun t h j => by rw [outsAt0_A m c t h (by omega) (by omega)]; frame_out; rw [first])
    (fun t h j => by
      by_cases h' : t.val % 4 = 3
      · rw [outsAt0_C m c t h (by omega) h']; frame_out; rw [step]; exact congrArg (· + _) (congrFun ((Memref.isWhole_whole _).read_unread _) _)
      · rw [outsAt0_B m c t h (by omega) h']; frame_out; rw [step]; exact congrArg (· + _) (congrFun ((Memref.isWhole_whole _).read_unread _) _))
    t ht _, zero_add]
  pointwise [Cert.MlpDownRefIdeal.Read.val_main_v0, Cert.MlpDownRefIdeal.Read.val_main_v1, Cert.MlpDownRefIdeal.Read.val_main_v2]
  refine Fin.sum_mul_add_congr fun s k hl => ?_
  blk_point [iblk, V, idx t, idx ⟨_, Pipeline.run_point_lt_of_flush t ht s⟩]

theorem algebraic : Cert.algebraic_MlpDownIdeal_MlpDownRefIdeal (hMlpDownIdeal := Cert.MlpDownIdeal.Gen.facts)
    (hMlpDownRefIdeal := Cert.MlpDownRefIdeal.Gen.facts) := by
  intro m g m' g' _ hm
  refine ⟨fun c => Cert.MlpDownRefIdeal.Read.val_main_v2 (F := Ideal) (m ((c.tc : Thread nD τ).loc main_arg0)) (m ((c.tc : Thread nD τ).loc main_arg1)), ?_, ?_⟩
  · exact (θ_run _ _ _).mono (fun r h c => ⟨(h c).1.trans (final m c), (h c).2⟩) (Cert.MlpDownIdeal.Value.run_blocks m g)
  · refine (θ_run _ _ _).mono (fun r h c => ⟨(h c).1.trans ?_, (h c).2⟩) (Cert.MlpDownRefIdeal.Value.run m' g')
    rw [(hm c).1, (hm c).2]
    rfl

end Cert.MlpDownIdeal.Product

end
-- ==== Proof.Products.DMixed.lean ====
/- The gradient of the output projection in the mixed heads: `dmix · w_outᵀ`. The blocks that the grid's points write are the blocks of the reference's array, so the
   array that the call leaves is the reference's. -/
module

public import proofs.«01_k».proof.Defs
public import proofs.«01_k».proof.Proof.Gen.DMixedIdeal.Value
public import proofs.«01_k».proof.Proof.Gen.DMixedRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.DMixedIdeal.Product

open Cert.DMixedIdeal Cert.DMixedIdeal.Gen

variable (m : (ℓ : Loc nD τ sig) → Buf (Elt Ideal) ℓ)

/-- The block that each window stages at a grid point. -/
theorem idx : ∀ t : Fin cfg0.N, win0_0.index t = ![t.val / 8, 0]
    ∧ win0_1.index t = ![t.val % 8, 0]
    ∧ win0_2.index t = ![t.val / 8, t.val % 8] :=
  (by decide +kernel : ∀ t : Fin grid0.N, _)

/-- What a point stores at `y` of its block is the reference at the place where `y` lies in the array. -/
theorem point (c : Dev nD) (t : Fin cfg0.N) (y) :
    k0_pay1 (iblk m c 1 t) (iblk m c 0 t) y
      = Cert.DMixedRefIdeal.Read.val_main_v4 (F := Ideal) (m ((c : Thread nD τ).loc main_arg0)) (m ((c : Thread nD τ).loc main_arg1)) (((cfg0.win 2).blk t).view.emb y) := by
  pointwise [k0_pay1, Cert.DMixedRefIdeal.Read.val_main_v4, Cert.DMixedRefIdeal.Read.val_main_v3, Cert.DMixedRefIdeal.Read.val_main_v1]
  blk_point [iblk, V, idx t]

/-- The array that the call leaves: the points' blocks tile it. -/
theorem final (c : Dev nD) : (dats m 0 c).arrAt 2 (cfgs 0).N
    = Cert.DMixedRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem algebraic : Cert.algebraic_DMixedIdeal_DMixedRefIdeal (hDMixedIdeal := Cert.DMixedIdeal.Gen.facts)
    (hDMixedRefIdeal := Cert.DMixedRefIdeal.Gen.facts) := by
  intro m g m' g' _ hm
  refine ⟨fun c => Cert.DMixedRefIdeal.Read.val_main_v4 (F := Ideal) (m ((c.tc : Thread nD τ).loc main_arg0)) (m ((c.tc : Thread nD τ).loc main_arg1)), ?_, ?_⟩
  · exact (θ_run _ _ _).mono (fun r h c => ⟨(h c).1.trans (final m c), (h c).2⟩) (Cert.DMixedIdeal.Value.run_blocks m g)
  · refine (θ_run _ _ _).mono (fun r h c => ⟨(h c).1.trans ?_, (h c).2⟩) (Cert.DMixedRefIdeal.Value.run m' g')
    · rw [(hm c).1, (hm c).2]
      rfl

end Cert.DMixedIdeal.Product

end
-- ==== Proof.Products.DwOut.lean ====
/- The gradient of the output projection in its weight: `mixedᵀ · dmix`. The blocks that the grid's points write are the blocks of the reference's array, so the
   array that the call leaves is the reference's. -/
module

public import proofs.«01_k».proof.Defs
public import proofs.«01_k».proof.Proof.Gen.DwOutIdeal.Value
public import proofs.«01_k».proof.Proof.Gen.DwOutRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.DwOutIdeal.Product

open Cert.DwOutIdeal Cert.DwOutIdeal.Gen

variable (m : (ℓ : Loc nD τ sig) → Buf (Elt Ideal) ℓ)

/-- The block that each window stages at a grid point. -/
theorem idx : ∀ t : Fin cfg0.N, win0_0.index t = ![0, t.val / 8]
    ∧ win0_1.index t = ![0, t.val % 8]
    ∧ win0_2.index t = ![t.val / 8, t.val % 8] :=
  (by decide +kernel : ∀ t : Fin grid0.N, _)

/-- What a point stores at `y` of its block is the reference at the place where `y` lies in the array. -/
theorem point (c : Dev nD) (t : Fin cfg0.N) (y) :
    k0_pay1 (iblk m c 1 t) (iblk m c 0 t) y
      = Cert.DwOutRefIdeal.Read.val_main_v6 (F := Ideal) (m ((c : Thread nD τ).loc main_arg0)) (m ((c : Thread nD τ).loc main_arg1)) (((cfg0.win 2).blk t).view.emb y) := by
  pointwise [k0_pay1, Cert.DwOutRefIdeal.Read.val_main_v6, Cert.DwOutRefIdeal.Read.val_main_v5, Cert.DwOutRefIdeal.Read.val_main_v4, Cert.DwOutRefIdeal.Read.val_main_v3, Cert.DwOutRefIdeal.Read.val_main_v1]
  refine Finset.sum_congr rfl fun k _ => ?_
  rw [mul_comm]
  blk_point [iblk, V, idx t]

/-- The array that the call leaves: the points' blocks tile it. -/
theorem final (c : Dev nD) : (dats m 0 c).arrAt 2 (cfgs 0).N
    = Cert.DwOutRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem algebraic : Cert.algebraic_DwOutIdeal_DwOutRefIdeal (hDwOutIdeal := Cert.DwOutIdeal.Gen.facts)
    (hDwOutRefIdeal := Cert.DwOutRefIdeal.Gen.facts) := by
  intro m g m' g' _ hm
  refine ⟨fun c => Cert.DwOutRefIdeal.Read.val_main_v6 (F := Ideal) (m ((c.tc : Thread nD τ).loc main_arg0)) (m ((c.tc : Thread nD τ).loc main_arg1)), ?_, ?_⟩
  · exact (θ_run _ _ _).mono (fun r h c => ⟨(h c).1.trans (final m c), (h c).2⟩) (Cert.DwOutIdeal.Value.run_blocks m g)
  · refine (θ_run _ _ _).mono (fun r h c => ⟨(h c).1.trans ?_, (h c).2⟩) (Cert.DwOutRefIdeal.Value.run m' g')
    · rw [(hm c).1, (hm c).2]
      rfl

end Cert.DwOutIdeal.Product

end
-- ==== Proof.Products.OutProj.lean ====
/- The output projection: `mixed · w_out`. The blocks that the grid's points write are the blocks of the reference's array, so the
   array that the call leaves is the reference's. -/
module

public import proofs.«01_k».proof.Defs
public import proofs.«01_k».proof.Proof.Gen.OutProjIdeal.Value
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.OutProjIdeal.Product

open Cert.OutProjIdeal Cert.OutProjIdeal.Gen

variable (m : (ℓ : Loc nD τ sig) → Buf (Elt Ideal) ℓ)

/-- The block that each window stages at a grid point. -/
theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- What a point stores at `y` of its block is the reference at the place where `y` lies in the array. -/
theorem point (c : Dev nD) (t : Fin cfg0.N) (y) :
    k0_pay1 (iblk m c 1 t) (iblk m c 0 t) y
      = Cert.OutProjRefIdeal.Read.val_main_v2 (F := Ideal) (m ((c : Thread nD τ).loc main_arg0)) (m ((c : Thread nD τ).loc main_arg1)) (((cfg0.win 2).blk t).view.emb y) := by
  pointwise [k0_pay1, Cert.OutProjRefIdeal.Read.val_main_v2, Cert.OutProjRefIdeal.Read.val_main_v1, Cert.OutProjRefIdeal.Read.val_main_v0]
  blk_point [iblk, V, idx t]

/-- The array that the call leaves: the points' blocks tile it. -/
theorem final (c : Dev nD) : (dats m 0 c).arrAt 2 (cfgs 0).N
    = Cert.OutProjRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem algebraic : Cert.algebraic_OutProjIdeal_OutProjRefIdeal (hOutProjIdeal := Cert.OutProjIdeal.Gen.facts)
    (hOutProjRefIdeal := Cert.OutProjRefIdeal.Gen.facts) := by
  intro m g m' g' _ hm
  refine ⟨fun c => Cert.OutProjRefIdeal.Read.val_main_v2 (F := Ideal) (m ((c.tc : Thread nD τ).loc main_arg0)) (m ((c.tc : Thread nD τ).loc main_arg1)), ?_, ?_⟩
  · exact (θ_run _ _ _).mono (fun r h c => ⟨(h c).1.trans (final m c), (h c).2⟩) (Cert.OutProjIdeal.Value.run_blocks m g)
  · refine (θ_run _ _ _).mono (fun r h c => ⟨(h c).1.trans ?_, (h c).2⟩) (Cert.OutProjRefIdeal.Value.run m' g')
    · rw [(hm c).1, (hm c).2]
      rfl

end Cert.OutProjIdeal.Product

end
-- ==== Proof.Products.DXn.lean ====
/- The gradient of the normed input: the gradient of the projections times the input weight, summed over the blocks of
   the projections' axis. The accumulator is the sum of the blocks' products up
   to the point, and the block that the last point of a run writes is the whole sum. -/
module

public import proofs.«01_k».proof.Defs
public import proofs.«01_k».proof.Proof.Gen.DXnIdeal.Value
public import proofs.«01_k».proof.Proof.Gen.DXnRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.DXnIdeal.Product

open Cert.DXnIdeal Cert.DXnIdeal.Gen

variable (m : (ℓ : Loc nD τ sig) → Buf (Elt Ideal) ℓ)

/-- The block that each window stages at a grid point. -/
theorem idx : ∀ t : Fin cfg0.N, win0_0.index t = ![t.val / 152, t.val % 19]
    ∧ win0_1.index t = ![t.val / 19 % 8, t.val % 19]
    ∧ win0_2.index t = ![t.val / 152, t.val / 19 % 8] :=
  (by decide +kernel : ∀ t : Fin grid0.N, _)

/-- The first point of a run stores its own product. -/
theorem first (v0 : Vec Ideal S512x768 .bf16) (v2 : Vec Ideal S512x768 .bf16) (j : S512x512.Idx) :
    k0_pay2 (F := Ideal) v0 v2 j = 0 + ∑ k : Fin 768, v2 (ix2 (j 0) k) * v0 (ix2 (j 1) k) := by
  rw [zero_add]
  pointwise [k0_pay2, k0_pay1]

/-- A later point of a run adds its product to what the accumulator holds. -/
theorem step (v0 : Vec Ideal S512x768 .bf16) (v2 : Vec Ideal S512x768 .bf16) (acc : Vec Ideal S512x512 .f32) (j : S512x512.Idx) :
    k0_pay3 (F := Ideal) v0 v2 acc j = acc j + ∑ k : Fin 768, v2 (ix2 (j 0) k) * v0 (ix2 (j 1) k) := by
  pointwise [k0_pay3, k0_pay1]

/-- The last point of a run writes what the accumulator then holds. -/
theorem out_eq (c : Dev nD) (t : Fin cfg0.N) (h : t.val % 19 = 18) :
    (outsAt0 m c t.val t.isLt).1 = (outsAt0 m c t.val t.isLt).2 := by
  rw [outsAt0_C m c t (by omega) (by omega) h]
  frame_out

/-- The array that the call leaves is the reference's. -/
theorem final (c : Dev nD) : (dats m 0 c).arrAt 2 (cfgs 0).N
    = Cert.DXnRefIdeal.Read.val_main_v4 (F := Ideal) (m ((c : Thread nD τ).loc main_arg0)) (m ((c : Thread nD τ).loc main_arg1)) := by
  refine (dats m 0 c).arrAt_eq_of_covers 2 _ (by decide +kernel) fun t hf y => ?_
  have ht : t.val % 19 = 18 := (flush0_2 t).mp hf
  blk_simp
  rw [after0_2, out_eq m c t ht, Pipeline.eq_sum_fin_of_reset_step_apply_of_flush (fun n h => (outsAt0 m c n h).2) 19 (fun _ => 0) _
    (fun t h j => by rw [outsAt0_A m c t h (by omega) (by omega)]; frame_out; rw [first])
    (fun t h j => by
      by_cases h' : t.val % 19 = 18
      · rw [outsAt0_C m c t h (by omega) h']; frame_out; rw [step]; exact congrArg (· + _) (congrFun ((Memref.isWhole_whole _).read_unread _) _)
      · rw [outsAt0_B m c t h (by omega) h']; frame_out; rw [step]; exact congrArg (· + _) (congrFun ((Memref.isWhole_whole _).read_unread _) _))
    t ht _, zero_add]
  pointwise [Cert.DXnRefIdeal.Read.val_main_v0, Cert.DXnRefIdeal.Read.val_main_v1, Cert.DXnRefIdeal.Read.val_main_v2, Cert.DXnRefIdeal.Read.val_main_v3, Cert.DXnRefIdeal.Read.val_main_v4, Cert.DXnRefIdeal.Read.val_main_cst]
  refine Fin.sum_mul_add_congr fun s k hl => ?_
  blk_point [iblk, V, idx t, idx ⟨_, Pipeline.run_point_lt_of_flush t ht s⟩]

theorem algebraic : Cert.algebraic_DXnIdeal_DXnRefIdeal (hDXnIdeal := Cert.DXnIdeal.Gen.facts)
    (hDXnRefIdeal := Cert.DXnRefIdeal.Gen.facts) := by
  intro m g m' g' _ hm
  refine ⟨fun c => Cert.DXnRefIdeal.Read.val_main_v4 (F := Ideal) (m ((c.tc : Thread nD τ).loc main_arg0)) (m ((c.tc : Thread nD τ).loc main_arg1)), ?_, ?_⟩
  · exact (θ_run _ _ _).mono (fun r h c => ⟨(h c).1.trans (final m c), (h c).2⟩) (Cert.DXnIdeal.Value.run_blocks m g)
  · refine (θ_run _ _ _).mono (fun r h c => ⟨(h c).1.trans ?_, (h c).2⟩) (Cert.DXnRefIdeal.Value.run m' g')
    rw [(hm c).1, (hm c).2]
    rfl

end Cert.DXnIdeal.Product

end
-- ==== Proof.Products.InProj.lean ====
/- The input projection over the padded weight: `xn · w_pad`. The blocks that the grid's points write are the blocks of the reference's array, so the
   array that the call leaves is the reference's. -/
module

public import proofs.«01_k».proof.Defs
public import proofs.«01_k».proof.Proof.Gen.InProjIdeal.Value
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.InProjIdeal.Product

open Cert.InProjIdeal Cert.InProjIdeal.Gen

variable (m : (ℓ : Loc nD τ sig) → Buf (Elt Ideal) ℓ)

/-- The block that each window stages at a grid point. -/
theorem idx : ∀ t : Fin cfg0.N, win0_0.index t = ![t.val / 19, 0]
    ∧ win0_1.index t = ![0, t.val % 19]
    ∧ win0_2.index t = ![t.val / 19, t.val % 19] :=
  (by decide +kernel : ∀ t : Fin grid0.N, _)

/-- What a point stores at `y` of its block is the reference at the place where `y` lies in the array. -/
theorem point (c : Dev nD) (t : Fin cfg0.N) (y) :
    k0_pay1 (iblk m c 1 t) (iblk m c 0 t) y
      = Cert.InProjRefIdeal.Read.val_main_v2 (F := Ideal) (m ((c : Thread nD τ).loc main_arg0)) (m ((c : Thread nD τ).loc main_arg1)) (((cfg0.win 2).blk t).view.emb y) := by
  pointwise [k0_pay1, Cert.InProjRefIdeal.Read.val_main_v2, Cert.InProjRefIdeal.Read.val_main_v1, Cert.InProjRefIdeal.Read.val_main_v0]
  blk_point [iblk, V, idx t]

/-- The array that the call leaves: the points' blocks tile it. -/
theorem final (c : Dev nD) : (dats m 0 c).arrAt 2 (cfgs 0).N
    = Cert.InProjRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem algebraic : Cert.algebraic_InProjIdeal_InProjRefIdeal (hInProjIdeal := Cert.InProjIdeal.Gen.facts)
    (hInProjRefIdeal := Cert.InProjRefIdeal.Gen.facts) := by
  intro m g m' g' _ hm
  refine ⟨fun c => Cert.InProjRefIdeal.Read.val_main_v2 (F := Ideal) (m ((c.tc : Thread nD τ).loc main_arg0)) (m ((c.tc : Thread nD τ).loc main_arg1)), ?_, ?_⟩
  · exact (θ_run _ _ _).mono (fun r h c => ⟨(h c).1.trans (final m c), (h c).2⟩) (Cert.InProjIdeal.Value.run_blocks m g)
  · refine (θ_run _ _ _).mono (fun r h c => ⟨(h c).1.trans ?_, (h c).2⟩) (Cert.InProjRefIdeal.Value.run m' g')
    · rw [(hm c).1, (hm c).2]
      rfl

end Cert.InProjIdeal.Product

end
-- ==== Proof.Adam.AdamIn.lean ====
/- The optimiser's step of the input projection's weight: one program, whose blocks tile the arrays that it leaves; at every place they hold
   the gradient, the step and the new moments that the reference computes there. -/
module

public import proofs.«01_k».proof.Defs
public import proofs.«01_k».proof.Proof.Gen.AdamInIdeal.Frame
public import proofs.«01_k».proof.Proof.Gen.AdamInRefIdeal.Read
public import Idealize.ShloMosaic.Lib.Pipeline.ValueKit

@[expose] public section

set_option maxRecDepth 16384

noncomputable section

open Idealize.ShloMosaic Idealize.ShloMosaic.TcCoe Idealize.SL.Sem

namespace Cert.AdamInIdeal.Step

open Cert.AdamInIdeal Cert.AdamInIdeal.Gen Cert.AdamInRefIdeal.Read

variable (m : (ℓ : Loc nD τ sig) → Buf (Elt Ideal) ℓ)

/-- No index map reads the table, so nothing is asked of it. -/
theorem ok : Ok m := by
  unfold Ok ok0
  trivial

/-- The block that each window stages at a grid point. -/
theorem idx : ∀ t : Fin (cfgM m (ok m)).N, ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![t.val, 0]
    ∧ ((cfgM m (ok m)).win 4).index t = ![t.val, 0]
    ∧ ((cfgM m (ok m)).win 5).index t = ![t.val, 0]
    ∧ ((cfgM m (ok m)).win 6).index t = ![t.val, 0]
    ∧ ((cfgM m (ok m)).win 7).index t = ![t.val, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0])

/-- What a point stores at `y` of window 5's block is the reference at the place where `y` lies in the array. -/
theorem point_5 (c : Dev nD) (t : Fin (cfgM m (ok m)).N) (y) :
    k0_pay3 (iblk m (ok m) c 3 t) (iblk m (ok m) c 1 t) (iblk m (ok m) c 2 t) (iblk m (ok m) c 0 t) y = val_main_v23 (F := Ideal) (m ((c : Thread nD τ).loc main_arg0)) (m ((c : Thread nD τ).loc main_arg1)) (m ((c : Thread nD τ).loc main_arg2)) (m ((c : Thread nD τ).loc main_arg3)) ((((cfgM m (ok m)).win 5).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_5 (c : Dev nD) : (dats m (ok m) 0 c).arrAt 5 (cfgM m (ok m)).N = val_main_v23 (F := Ideal) (m ((c : Thread nD τ).loc main_arg0)) (m ((c : Thread nD τ).loc main_arg1)) (m ((c : Thread nD τ).loc main_arg2)) (m ((c : Thread nD τ).loc main_arg3)) := by
  refine (dats m (ok m) 0 c).arrAt_eq_of_covers 5 _ (of_decide_eq_true (by sl_kernel_rfl)) fun t hf y => ?_
  rw [after0_5]
  frame_out
  exact (cast_eq _ _).trans ((congrFun (congr (congr (congr (congrArg k0_pay3 ((hs0_3 m (ok m) t).read_unread (iblk m (ok m) c 3 t))) ((hs0_1 m (ok m) t).read_unread (iblk m (ok m) c 1 t))) ((hs0_2 m (ok m) t).read_unread (iblk m (ok m) c 2 t))) ((hs0_0 m (ok m) t).read_unread (iblk m (ok m) c 0 t))) y).trans (point_5 m c t y))

/-- What a point stores at `y` of window 6's block is the reference at the place where `y` lies in the array. -/
theorem point_6 (c : Dev nD) (t : Fin (cfgM m (ok m)).N) (y) :
    k0_pay1 (iblk m (ok m) c 3 t) (iblk m (ok m) c 1 t) y = val_main_v4 (F := Ideal) (m ((c : Thread nD τ).loc main_arg1)) (m ((c : Thread nD τ).loc main_arg3)) ((((cfgM m (ok m)).win 6).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_6 (c : Dev nD) : (dats m (ok m) 0 c).arrAt 6 (cfgM m (ok m)).N = val_main_v4 (F := Ideal) (m ((c : Thread nD τ).loc main_arg1)) (m ((c : Thread nD τ).loc main_arg3)) := by
  refine (dats m (ok m) 0 c).arrAt_eq_of_covers 6 _ (of_decide_eq_true (by sl_kernel_rfl)) fun t hf y => ?_
  rw [after0_6]
  frame_out
  exact (cast_eq _ _).trans ((congrFun (congr (congrArg k0_pay1 ((hs0_3 m (ok m) t).read_unread (iblk m (ok m) c 3 t))) ((hs0_1 m (ok m) t).read_unread (iblk m (ok m) c 1 t))) y).trans (point_6 m c t y))

/-- What a point stores at `y` of window 7's block is the reference at the place where `y` lies in the array. -/
theorem point_7 (c : Dev nD) (t : Fin (cfgM m (ok m)).N) (y) :
    k0_pay2 (iblk m (ok m) c 3 t) (iblk m (ok m) c 2 t) y = val_main_v10 (F := Ideal) (m ((c : Thread nD τ).loc main_arg2)) (m ((c : Thread nD τ).loc main_arg3)) ((((cfgM m (ok m)).win 7).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_7 (c : Dev nD) : (dats m (ok m) 0 c).arrAt 7 (cfgM m (ok m)).N = val_main_v10 (F := Ideal) (m ((c : Thread nD τ).loc main_arg2)) (m ((c : Thread nD τ).loc main_arg3)) := by
  refine (dats m (ok m) 0 c).arrAt_eq_of_covers 7 _ (of_decide_eq_true (by sl_kernel_rfl)) fun t hf y => ?_
  rw [after0_7]
  frame_out
  exact (cast_eq _ _).trans ((congrFun (congr (congrArg k0_pay2 ((hs0_3 m (ok m) t).read_unread (iblk m (ok m) c 3 t))) ((hs0_2 m (ok m) t).read_unread (iblk m (ok m) c 2 t))) y).trans (point_7 m c t y))

theorem algebraic : Cert.algebraic_AdamInIdeal_AdamInRefIdeal (hAdamInIdeal := Cert.AdamInIdeal.Gen.facts)
    (hAdamInRefIdeal := Cert.AdamInRefIdeal.Gen.facts) := by
  intro m g m' g' _ hm
  refine ⟨fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg1)) (m ((c.tc : Thread nD τ).loc main_arg3)), fun c => val_main_v10 (F := Ideal) (m ((c.tc : Thread nD τ).loc main_arg2)) (m ((c.tc : Thread nD τ).loc main_arg3)), ?_, ?_⟩
  · exact (θ_run _ _ _).mono (fun r h c => ⟨((h c).1 5).trans (final_5 m c), ((h c).1 6).trans (final_6 m c), ((h c).1 7).trans (final_7 m c),
      ((h c).1 0).trans (((dats m (ok m) 0 c).arrAt_in 0 rfl _).trans ((A_eq m (ok m) c 0).trans (V_main_arg0 m c))), ((h c).1 1).trans (((dats m (ok m) 0 c).arrAt_in 1 rfl _).trans ((A_eq m (ok m) c 1).trans (V_main_arg1 m c))), ((h c).1 2).trans (((dats m (ok m) 0 c).arrAt_in 2 rfl _).trans ((A_eq m (ok m) c 2).trans (V_main_arg2 m c))), ((h c).1 3).trans (((dats m (ok m) 0 c).arrAt_in 3 rfl _).trans ((A_eq m (ok m) c 3).trans (V_main_arg3 m c)))⟩) (run_main m g (ok m))
  · refine (θ_run _ _ _).mono (fun r h c => ?_) (Cert.AdamInRefIdeal.Value.run m' g')
    obtain ⟨e0, e1, e2, e3⟩ := hm c
    refine ⟨(h c).1.trans ?_, (h c).2.1.trans ?_, (h c).2.2.1.trans ?_, (h c).2.2.2⟩
    · rw [e0, e1, e2, e3]; rfl
    · rw [e1, e3]; rfl
    · rw [e2, e3]; rfl

end Cert.AdamInIdeal.Step

end
-- ==== Proof.Adam.AdamNorm.lean ====
/- The optimiser's step of one of the four norms' weights: one program, whose blocks tile the arrays that it leaves; at every place they hold
   the gradient, the step and the new moments that the reference computes there. -/
module

public import proofs.«01_k».proof.Defs
public import proofs.«01_k».proof.Proof.Gen.AdamNormIdeal.Frame
public import proofs.«01_k».proof.Proof.Gen.AdamNormRefIdeal.Read
public import Idealize.ShloMosaic.Lib.Pipeline.ValueKit

@[expose] public section

set_option maxRecDepth 16384

noncomputable section

open Idealize.ShloMosaic Idealize.ShloMosaic.TcCoe Idealize.SL.Sem

namespace Cert.AdamNormIdeal.Step

open Cert.AdamNormIdeal Cert.AdamNormIdeal.Gen Cert.AdamNormRefIdeal.Read

variable (m : (ℓ : Loc nD τ sig) → Buf (Elt Ideal) ℓ)

/-- No index map reads the table, so nothing is asked of it. -/
theorem ok : Ok m := by
  unfold Ok ok0
  trivial

/-- The block that each window stages at a grid point. -/
theorem idx : ∀ t : Fin (cfgM m (ok m)).N, ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![t.val, 0]
    ∧ ((cfgM m (ok m)).win 4).index t = ![t.val, 0]
    ∧ ((cfgM m (ok m)).win 5).index t = ![t.val, 0]
    ∧ ((cfgM m (ok m)).win 6).index t = ![t.val, 0]
    ∧ ((cfgM m (ok m)).win 7).index t = ![t.val, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0])

/-- What a point stores at `y` of window 5's block is the reference at the place where `y` lies in the array. -/
theorem point_5 (c : Dev nD) (t : Fin (cfgM m (ok m)).N) (y) :
    k0_pay3 (iblk m (ok m) c 3 t) (iblk m (ok m) c 1 t) (iblk m (ok m) c 2 t) (iblk m (ok m) c 0 t) y = val_main_v23 (F := Ideal) (m ((c : Thread nD τ).loc main_arg0)) (m ((c : Thread nD τ).loc main_arg1)) (m ((c : Thread nD τ).loc main_arg2)) (m ((c : Thread nD τ).loc main_arg3)) ((((cfgM m (ok m)).win 5).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_5 (c : Dev nD) : (dats m (ok m) 0 c).arrAt 5 (cfgM m (ok m)).N = val_main_v23 (F := Ideal) (m ((c : Thread nD τ).loc main_arg0)) (m ((c : Thread nD τ).loc main_arg1)) (m ((c : Thread nD τ).loc main_arg2)) (m ((c : Thread nD τ).loc main_arg3)) := by
  refine (dats m (ok m) 0 c).arrAt_eq_of_covers 5 _ (of_decide_eq_true (by sl_kernel_rfl)) fun t hf y => ?_
  rw [after0_5]
  frame_out
  exact (cast_eq _ _).trans ((congrFun (congr (congr (congr (congrArg k0_pay3 ((hs0_3 m (ok m) t).read_unread (iblk m (ok m) c 3 t))) ((hs0_1 m (ok m) t).read_unread (iblk m (ok m) c 1 t))) ((hs0_2 m (ok m) t).read_unread (iblk m (ok m) c 2 t))) ((hs0_0 m (ok m) t).read_unread (iblk m (ok m) c 0 t))) y).trans (point_5 m c t y))

/-- What a point stores at `y` of window 6's block is the reference at the place where `y` lies in the array. -/
theorem point_6 (c : Dev nD) (t : Fin (cfgM m (ok m)).N) (y) :
    k0_pay1 (iblk m (ok m) c 3 t) (iblk m (ok m) c 1 t) y = val_main_v4 (F := Ideal) (m ((c : Thread nD τ).loc main_arg1)) (m ((c : Thread nD τ).loc main_arg3)) ((((cfgM m (ok m)).win 6).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_6 (c : Dev nD) : (dats m (ok m) 0 c).arrAt 6 (cfgM m (ok m)).N = val_main_v4 (F := Ideal) (m ((c : Thread nD τ).loc main_arg1)) (m ((c : Thread nD τ).loc main_arg3)) := by
  refine (dats m (ok m) 0 c).arrAt_eq_of_covers 6 _ (of_decide_eq_true (by sl_kernel_rfl)) fun t hf y => ?_
  rw [after0_6]
  frame_out
  exact (cast_eq _ _).trans ((congrFun (congr (congrArg k0_pay1 ((hs0_3 m (ok m) t).read_unread (iblk m (ok m) c 3 t))) ((hs0_1 m (ok m) t).read_unread (iblk m (ok m) c 1 t))) y).trans (point_6 m c t y))

/-- What a point stores at `y` of window 7's block is the reference at the place where `y` lies in the array. -/
theorem point_7 (c : Dev nD) (t : Fin (cfgM m (ok m)).N) (y) :
    k0_pay2 (iblk m (ok m) c 3 t) (iblk m (ok m) c 2 t) y = val_main_v10 (F := Ideal) (m ((c : Thread nD τ).loc main_arg2)) (m ((c : Thread nD τ).loc main_arg3)) ((((cfgM m (ok m)).win 7).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_7 (c : Dev nD) : (dats m (ok m) 0 c).arrAt 7 (cfgM m (ok m)).N = val_main_v10 (F := Ideal) (m ((c : Thread nD τ).loc main_arg2)) (m ((c : Thread nD τ).loc main_arg3)) := by
  refine (dats m (ok m) 0 c).arrAt_eq_of_covers 7 _ (of_decide_eq_true (by sl_kernel_rfl)) fun t hf y => ?_
  rw [after0_7]
  frame_out
  exact (cast_eq _ _).trans ((congrFun (congr (congrArg k0_pay2 ((hs0_3 m (ok m) t).read_unread (iblk m (ok m) c 3 t))) ((hs0_2 m (ok m) t).read_unread (iblk m (ok m) c 2 t))) y).trans (point_7 m c t y))

theorem algebraic : Cert.algebraic_AdamNormIdeal_AdamNormRefIdeal (hAdamNormIdeal := Cert.AdamNormIdeal.Gen.facts)
    (hAdamNormRefIdeal := Cert.AdamNormRefIdeal.Gen.facts) := by
  intro m g m' g' _ hm
  refine ⟨fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg1)) (m ((c.tc : Thread nD τ).loc main_arg3)), fun c => val_main_v10 (F := Ideal) (m ((c.tc : Thread nD τ).loc main_arg2)) (m ((c.tc : Thread nD τ).loc main_arg3)), ?_, ?_⟩
  · exact (θ_run _ _ _).mono (fun r h c => ⟨((h c).1 5).trans (final_5 m c), ((h c).1 6).trans (final_6 m c), ((h c).1 7).trans (final_7 m c),
      ((h c).1 0).trans (((dats m (ok m) 0 c).arrAt_in 0 rfl _).trans ((A_eq m (ok m) c 0).trans (V_main_arg0 m c))), ((h c).1 1).trans (((dats m (ok m) 0 c).arrAt_in 1 rfl _).trans ((A_eq m (ok m) c 1).trans (V_main_arg1 m c))), ((h c).1 2).trans (((dats m (ok m) 0 c).arrAt_in 2 rfl _).trans ((A_eq m (ok m) c 2).trans (V_main_arg2 m c))), ((h c).1 3).trans (((dats m (ok m) 0 c).arrAt_in 3 rfl _).trans ((A_eq m (ok m) c 3).trans (V_main_arg3 m c)))⟩) (run_main m g (ok m))
  · refine (θ_run _ _ _).mono (fun r h c => ?_) (Cert.AdamNormRefIdeal.Value.run m' g')
    obtain ⟨e0, e1, e2, e3⟩ := hm c
    refine ⟨(h c).1.trans ?_, (h c).2.1.trans ?_, (h c).2.2.1.trans ?_, (h c).2.2.2⟩
    · rw [e0, e1, e2, e3]; rfl
    · rw [e1, e3]; rfl
    · rw [e2, e3]; rfl

end Cert.AdamNormIdeal.Step

end
-- ==== Proof.Adam.AdamConv.lean ====
/- The optimiser's step of the taps of the convolution of q, k and v: one program, whose blocks tile the arrays that it leaves; at every place they hold
   the gradient, the step and the new moments that the reference computes there. -/
module

public import proofs.«01_k».proof.Defs
public import proofs.«01_k».proof.Proof.Gen.AdamConvIdeal.Frame
public import proofs.«01_k».proof.Proof.Gen.AdamConvRefIdeal.Read
public import Idealize.ShloMosaic.Lib.Pipeline.ValueKit

@[expose] public section

set_option maxRecDepth 16384

noncomputable section

open Idealize.ShloMosaic Idealize.ShloMosaic.TcCoe Idealize.SL.Sem

namespace Cert.AdamConvIdeal.Step

open Cert.AdamConvIdeal Cert.AdamConvIdeal.Gen Cert.AdamConvRefIdeal.Read

variable (m : (ℓ : Loc nD τ sig) → Buf (Elt Ideal) ℓ)

/-- No index map reads the table, so nothing is asked of it. -/
theorem ok : Ok m := by
  unfold Ok ok0
  trivial

/-- The block that each window stages at a grid point. -/
theorem idx : ∀ t : Fin (cfgM m (ok m)).N, ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![t.val, 0]
    ∧ ((cfgM m (ok m)).win 4).index t = ![t.val, 0]
    ∧ ((cfgM m (ok m)).win 5).index t = ![t.val, 0]
    ∧ ((cfgM m (ok m)).win 6).index t = ![t.val, 0]
    ∧ ((cfgM m (ok m)).win 7).index t = ![t.val, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0])

/-- What a point stores at `y` of window 5's block is the reference at the place where `y` lies in the array. -/
theorem point_5 (c : Dev nD) (t : Fin (cfgM m (ok m)).N) (y) :
    k0_pay3 (iblk m (ok m) c 3 t) (iblk m (ok m) c 1 t) (iblk m (ok m) c 2 t) (iblk m (ok m) c 0 t) y = val_main_v23 (F := Ideal) (m ((c : Thread nD τ).loc main_arg0)) (m ((c : Thread nD τ).loc main_arg1)) (m ((c : Thread nD τ).loc main_arg2)) (m ((c : Thread nD τ).loc main_arg3)) ((((cfgM m (ok m)).win 5).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_5 (c : Dev nD) : (dats m (ok m) 0 c).arrAt 5 (cfgM m (ok m)).N = val_main_v23 (F := Ideal) (m ((c : Thread nD τ).loc main_arg0)) (m ((c : Thread nD τ).loc main_arg1)) (m ((c : Thread nD τ).loc main_arg2)) (m ((c : Thread nD τ).loc main_arg3)) := by
  refine (dats m (ok m) 0 c).arrAt_eq_of_covers 5 _ (of_decide_eq_true (by sl_kernel_rfl)) fun t hf y => ?_
  rw [after0_5]
  frame_out
  exact (cast_eq _ _).trans ((congrFun (congr (congr (congr (congrArg k0_pay3 ((hs0_3 m (ok m) t).read_unread (iblk m (ok m) c 3 t))) ((hs0_1 m (ok m) t).read_unread (iblk m (ok m) c 1 t))) ((hs0_2 m (ok m) t).read_unread (iblk m (ok m) c 2 t))) ((hs0_0 m (ok m) t).read_unread (iblk m (ok m) c 0 t))) y).trans (point_5 m c t y))

/-- What a point stores at `y` of window 6's block is the reference at the place where `y` lies in the array. -/
theorem point_6 (c : Dev nD) (t : Fin (cfgM m (ok m)).N) (y) :
    k0_pay1 (iblk m (ok m) c 3 t) (iblk m (ok m) c 1 t) y = val_main_v4 (F := Ideal) (m ((c : Thread nD τ).loc main_arg1)) (m ((c : Thread nD τ).loc main_arg3)) ((((cfgM m (ok m)).win 6).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_6 (c : Dev nD) : (dats m (ok m) 0 c).arrAt 6 (cfgM m (ok m)).N = val_main_v4 (F := Ideal) (m ((c : Thread nD τ).loc main_arg1)) (m ((c : Thread nD τ).loc main_arg3)) := by
  refine (dats m (ok m) 0 c).arrAt_eq_of_covers 6 _ (of_decide_eq_true (by sl_kernel_rfl)) fun t hf y => ?_
  rw [after0_6]
  frame_out
  exact (cast_eq _ _).trans ((congrFun (congr (congrArg k0_pay1 ((hs0_3 m (ok m) t).read_unread (iblk m (ok m) c 3 t))) ((hs0_1 m (ok m) t).read_unread (iblk m (ok m) c 1 t))) y).trans (point_6 m c t y))

/-- What a point stores at `y` of window 7's block is the reference at the place where `y` lies in the array. -/
theorem point_7 (c : Dev nD) (t : Fin (cfgM m (ok m)).N) (y) :
    k0_pay2 (iblk m (ok m) c 3 t) (iblk m (ok m) c 2 t) y = val_main_v10 (F := Ideal) (m ((c : Thread nD τ).loc main_arg2)) (m ((c : Thread nD τ).loc main_arg3)) ((((cfgM m (ok m)).win 7).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_7 (c : Dev nD) : (dats m (ok m) 0 c).arrAt 7 (cfgM m (ok m)).N = val_main_v10 (F := Ideal) (m ((c : Thread nD τ).loc main_arg2)) (m ((c : Thread nD τ).loc main_arg3)) := by
  refine (dats m (ok m) 0 c).arrAt_eq_of_covers 7 _ (of_decide_eq_true (by sl_kernel_rfl)) fun t hf y => ?_
  rw [after0_7]
  frame_out
  exact (cast_eq _ _).trans ((congrFun (congr (congrArg k0_pay2 ((hs0_3 m (ok m) t).read_unread (iblk m (ok m) c 3 t))) ((hs0_2 m (ok m) t).read_unread (iblk m (ok m) c 2 t))) y).trans (point_7 m c t y))

theorem algebraic : Cert.algebraic_AdamConvIdeal_AdamConvRefIdeal (hAdamConvIdeal := Cert.AdamConvIdeal.Gen.facts)
    (hAdamConvRefIdeal := Cert.AdamConvRefIdeal.Gen.facts) := by
  intro m g m' g' _ hm
  refine ⟨fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg1)) (m ((c.tc : Thread nD τ).loc main_arg3)), fun c => val_main_v10 (F := Ideal) (m ((c.tc : Thread nD τ).loc main_arg2)) (m ((c.tc : Thread nD τ).loc main_arg3)), ?_, ?_⟩
  · exact (θ_run _ _ _).mono (fun r h c => ⟨((h c).1 5).trans (final_5 m c), ((h c).1 6).trans (final_6 m c), ((h c).1 7).trans (final_7 m c),
      ((h c).1 0).trans (((dats m (ok m) 0 c).arrAt_in 0 rfl _).trans ((A_eq m (ok m) c 0).trans (V_main_arg0 m c))), ((h c).1 1).trans (((dats m (ok m) 0 c).arrAt_in 1 rfl _).trans ((A_eq m (ok m) c 1).trans (V_main_arg1 m c))), ((h c).1 2).trans (((dats m (ok m) 0 c).arrAt_in 2 rfl _).trans ((A_eq m (ok m) c 2).trans (V_main_arg2 m c))), ((h c).1 3).trans (((dats m (ok m) 0 c).arrAt_in 3 rfl _).trans ((A_eq m (ok m) c 3).trans (V_main_arg3 m c)))⟩) (run_main m g (ok m))
  · refine (θ_run _ _ _).mono (fun r h c => ?_) (Cert.AdamConvRefIdeal.Value.run m' g')
    obtain ⟨e0, e1, e2, e3⟩ := hm c
    refine ⟨(h c).1.trans ?_, (h c).2.1.trans ?_, (h c).2.2.1.trans ?_, (h c).2.2.2⟩
    · rw [e0, e1, e2, e3]; rfl
    · rw [e1, e3]; rfl
    · rw [e2, e3]; rfl

end Cert.AdamConvIdeal.Step

end
-- ==== Proof.Adam.AdamSc.lean ====
/- The optimiser's step of the short convolution's taps: one program, whose blocks tile the arrays that it leaves; at every place they hold
   the gradient, the step and the new moments that the reference computes there. -/
module

public import proofs.«01_k».proof.Defs
public import proofs.«01_k».proof.Proof.Gen.AdamScIdeal.Frame
public import proofs.«01_k».proof.Proof.Gen.AdamScRefIdeal.Read
public import Idealize.ShloMosaic.Lib.Pipeline.ValueKit

@[expose] public section

set_option maxRecDepth 16384

noncomputable section

open Idealize.ShloMosaic Idealize.ShloMosaic.TcCoe Idealize.SL.Sem

namespace Cert.AdamScIdeal.Step

open Cert.AdamScIdeal Cert.AdamScIdeal.Gen Cert.AdamScRefIdeal.Read

variable (m : (ℓ : Loc nD τ sig) → Buf (Elt Ideal) ℓ)

/-- No index map reads the table, so nothing is asked of it. -/
theorem ok : Ok m := by
  unfold Ok ok0
  trivial

/-- The block that each window stages at a grid point. -/
theorem idx : ∀ t : Fin (cfgM m (ok m)).N, ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![t.val, 0]
    ∧ ((cfgM m (ok m)).win 4).index t = ![t.val, 0]
    ∧ ((cfgM m (ok m)).win 5).index t = ![t.val, 0]
    ∧ ((cfgM m (ok m)).win 6).index t = ![t.val, 0]
    ∧ ((cfgM m (ok m)).win 7).index t = ![t.val, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0])

/-- What a point stores at `y` of window 5's block is the reference at the place where `y` lies in the array. -/
theorem point_5 (c : Dev nD) (t : Fin (cfgM m (ok m)).N) (y) :
    k0_pay3 (iblk m (ok m) c 3 t) (iblk m (ok m) c 1 t) (iblk m (ok m) c 2 t) (iblk m (ok m) c 0 t) y = val_main_v23 (F := Ideal) (m ((c : Thread nD τ).loc main_arg0)) (m ((c : Thread nD τ).loc main_arg1)) (m ((c : Thread nD τ).loc main_arg2)) (m ((c : Thread nD τ).loc main_arg3)) ((((cfgM m (ok m)).win 5).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_5 (c : Dev nD) : (dats m (ok m) 0 c).arrAt 5 (cfgM m (ok m)).N = val_main_v23 (F := Ideal) (m ((c : Thread nD τ).loc main_arg0)) (m ((c : Thread nD τ).loc main_arg1)) (m ((c : Thread nD τ).loc main_arg2)) (m ((c : Thread nD τ).loc main_arg3)) := by
  refine (dats m (ok m) 0 c).arrAt_eq_of_covers 5 _ (of_decide_eq_true (by sl_kernel_rfl)) fun t hf y => ?_
  rw [after0_5]
  frame_out
  exact (cast_eq _ _).trans ((congrFun (congr (congr (congr (congrArg k0_pay3 ((hs0_3 m (ok m) t).read_unread (iblk m (ok m) c 3 t))) ((hs0_1 m (ok m) t).read_unread (iblk m (ok m) c 1 t))) ((hs0_2 m (ok m) t).read_unread (iblk m (ok m) c 2 t))) ((hs0_0 m (ok m) t).read_unread (iblk m (ok m) c 0 t))) y).trans (point_5 m c t y))

/-- What a point stores at `y` of window 6's block is the reference at the place where `y` lies in the array. -/
theorem point_6 (c : Dev nD) (t : Fin (cfgM m (ok m)).N) (y) :
    k0_pay1 (iblk m (ok m) c 3 t) (iblk m (ok m) c 1 t) y = val_main_v4 (F := Ideal) (m ((c : Thread nD τ).loc main_arg1)) (m ((c : Thread nD τ).loc main_arg3)) ((((cfgM m (ok m)).win 6).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_6 (c : Dev nD) : (dats m (ok m) 0 c).arrAt 6 (cfgM m (ok m)).N = val_main_v4 (F := Ideal) (m ((c : Thread nD τ).loc main_arg1)) (m ((c : Thread nD τ).loc main_arg3)) := by
  refine (dats m (ok m) 0 c).arrAt_eq_of_covers 6 _ (of_decide_eq_true (by sl_kernel_rfl)) fun t hf y => ?_
  rw [after0_6]
  frame_out
  exact (cast_eq _ _).trans ((congrFun (congr (congrArg k0_pay1 ((hs0_3 m (ok m) t).read_unread (iblk m (ok m) c 3 t))) ((hs0_1 m (ok m) t).read_unread (iblk m (ok m) c 1 t))) y).trans (point_6 m c t y))

/-- What a point stores at `y` of window 7's block is the reference at the place where `y` lies in the array. -/
theorem point_7 (c : Dev nD) (t : Fin (cfgM m (ok m)).N) (y) :
    k0_pay2 (iblk m (ok m) c 3 t) (iblk m (ok m) c 2 t) y = val_main_v10 (F := Ideal) (m ((c : Thread nD τ).loc main_arg2)) (m ((c : Thread nD τ).loc main_arg3)) ((((cfgM m (ok m)).win 7).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_7 (c : Dev nD) : (dats m (ok m) 0 c).arrAt 7 (cfgM m (ok m)).N = val_main_v10 (F := Ideal) (m ((c : Thread nD τ).loc main_arg2)) (m ((c : Thread nD τ).loc main_arg3)) := by
  refine (dats m (ok m) 0 c).arrAt_eq_of_covers 7 _ (of_decide_eq_true (by sl_kernel_rfl)) fun t hf y => ?_
  rw [after0_7]
  frame_out
  exact (cast_eq _ _).trans ((congrFun (congr (congrArg k0_pay2 ((hs0_3 m (ok m) t).read_unread (iblk m (ok m) c 3 t))) ((hs0_2 m (ok m) t).read_unread (iblk m (ok m) c 2 t))) y).trans (point_7 m c t y))

theorem algebraic : Cert.algebraic_AdamScIdeal_AdamScRefIdeal (hAdamScIdeal := Cert.AdamScIdeal.Gen.facts)
    (hAdamScRefIdeal := Cert.AdamScRefIdeal.Gen.facts) := by
  intro m g m' g' _ hm
  refine ⟨fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg1)) (m ((c.tc : Thread nD τ).loc main_arg3)), fun c => val_main_v10 (F := Ideal) (m ((c.tc : Thread nD τ).loc main_arg2)) (m ((c.tc : Thread nD τ).loc main_arg3)), ?_, ?_⟩
  · exact (θ_run _ _ _).mono (fun r h c => ⟨((h c).1 5).trans (final_5 m c), ((h c).1 6).trans (final_6 m c), ((h c).1 7).trans (final_7 m c),
      ((h c).1 0).trans (((dats m (ok m) 0 c).arrAt_in 0 rfl _).trans ((A_eq m (ok m) c 0).trans (V_main_arg0 m c))), ((h c).1 1).trans (((dats m (ok m) 0 c).arrAt_in 1 rfl _).trans ((A_eq m (ok m) c 1).trans (V_main_arg1 m c))), ((h c).1 2).trans (((dats m (ok m) 0 c).arrAt_in 2 rfl _).trans ((A_eq m (ok m) c 2).trans (V_main_arg2 m c))), ((h c).1 3).trans (((dats m (ok m) 0 c).arrAt_in 3 rfl _).trans ((A_eq m (ok m) c 3).trans (V_main_arg3 m c)))⟩) (run_main m g (ok m))
  · refine (θ_run _ _ _).mono (fun r h c => ?_) (Cert.AdamScRefIdeal.Value.run m' g')
    obtain ⟨e0, e1, e2, e3⟩ := hm c
    refine ⟨(h c).1.trans ?_, (h c).2.1.trans ?_, (h c).2.2.1.trans ?_, (h c).2.2.2⟩
    · rw [e0, e1, e2, e3]; rfl
    · rw [e1, e3]; rfl
    · rw [e2, e3]; rfl

end Cert.AdamScIdeal.Step

end
-- ==== Proof.Adam.AdamGate.lean ====
/- The optimiser's step of the decay's scale or offset: one program, whose blocks tile the arrays that it leaves; at every place they hold
   the gradient, the step and the new moments that the reference computes there. -/
module

public import proofs.«01_k».proof.Defs
public import proofs.«01_k».proof.Proof.Gen.AdamGateIdeal.Frame
public import proofs.«01_k».proof.Proof.Gen.AdamGateRefIdeal.Read
public import Idealize.ShloMosaic.Lib.Pipeline.ValueKit

@[expose] public section

set_option maxRecDepth 16384

noncomputable section

open Idealize.ShloMosaic Idealize.ShloMosaic.TcCoe Idealize.SL.Sem

namespace Cert.AdamGateIdeal.Step

open Cert.AdamGateIdeal Cert.AdamGateIdeal.Gen Cert.AdamGateRefIdeal.Read

variable (m : (ℓ : Loc nD τ sig) → Buf (Elt Ideal) ℓ)

/-- No index map reads the table, so nothing is asked of it. -/
theorem ok : Ok m := by
  unfold Ok ok0
  trivial

/-- The block that each window stages at a grid point. -/
theorem idx : ∀ t : Fin (cfgM m (ok m)).N, ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![t.val, 0]
    ∧ ((cfgM m (ok m)).win 4).index t = ![t.val, 0]
    ∧ ((cfgM m (ok m)).win 5).index t = ![t.val, 0]
    ∧ ((cfgM m (ok m)).win 6).index t = ![t.val, 0]
    ∧ ((cfgM m (ok m)).win 7).index t = ![t.val, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0])

/-- What a point stores at `y` of window 5's block is the reference at the place where `y` lies in the array. -/
theorem point_5 (c : Dev nD) (t : Fin (cfgM m (ok m)).N) (y) :
    k0_pay3 (iblk m (ok m) c 3 t) (iblk m (ok m) c 1 t) (iblk m (ok m) c 2 t) (iblk m (ok m) c 0 t) y = val_main_v23 (F := Ideal) (m ((c : Thread nD τ).loc main_arg0)) (m ((c : Thread nD τ).loc main_arg1)) (m ((c : Thread nD τ).loc main_arg2)) (m ((c : Thread nD τ).loc main_arg3)) ((((cfgM m (ok m)).win 5).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_5 (c : Dev nD) : (dats m (ok m) 0 c).arrAt 5 (cfgM m (ok m)).N = val_main_v23 (F := Ideal) (m ((c : Thread nD τ).loc main_arg0)) (m ((c : Thread nD τ).loc main_arg1)) (m ((c : Thread nD τ).loc main_arg2)) (m ((c : Thread nD τ).loc main_arg3)) := by
  refine (dats m (ok m) 0 c).arrAt_eq_of_covers 5 _ (of_decide_eq_true (by sl_kernel_rfl)) fun t hf y => ?_
  rw [after0_5]
  frame_out
  exact (cast_eq _ _).trans ((congrFun (congr (congr (congr (congrArg k0_pay3 ((hs0_3 m (ok m) t).read_unread (iblk m (ok m) c 3 t))) ((hs0_1 m (ok m) t).read_unread (iblk m (ok m) c 1 t))) ((hs0_2 m (ok m) t).read_unread (iblk m (ok m) c 2 t))) ((hs0_0 m (ok m) t).read_unread (iblk m (ok m) c 0 t))) y).trans (point_5 m c t y))

/-- What a point stores at `y` of window 6's block is the reference at the place where `y` lies in the array. -/
theorem point_6 (c : Dev nD) (t : Fin (cfgM m (ok m)).N) (y) :
    k0_pay1 (iblk m (ok m) c 3 t) (iblk m (ok m) c 1 t) y = val_main_v4 (F := Ideal) (m ((c : Thread nD τ).loc main_arg1)) (m ((c : Thread nD τ).loc main_arg3)) ((((cfgM m (ok m)).win 6).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_6 (c : Dev nD) : (dats m (ok m) 0 c).arrAt 6 (cfgM m (ok m)).N = val_main_v4 (F := Ideal) (m ((c : Thread nD τ).loc main_arg1)) (m ((c : Thread nD τ).loc main_arg3)) := by
  refine (dats m (ok m) 0 c).arrAt_eq_of_covers 6 _ (of_decide_eq_true (by sl_kernel_rfl)) fun t hf y => ?_
  rw [after0_6]
  frame_out
  exact (cast_eq _ _).trans ((congrFun (congr (congrArg k0_pay1 ((hs0_3 m (ok m) t).read_unread (iblk m (ok m) c 3 t))) ((hs0_1 m (ok m) t).read_unread (iblk m (ok m) c 1 t))) y).trans (point_6 m c t y))

/-- What a point stores at `y` of window 7's block is the reference at the place where `y` lies in the array. -/
theorem point_7 (c : Dev nD) (t : Fin (cfgM m (ok m)).N) (y) :
    k0_pay2 (iblk m (ok m) c 3 t) (iblk m (ok m) c 2 t) y = val_main_v10 (F := Ideal) (m ((c : Thread nD τ).loc main_arg2)) (m ((c : Thread nD τ).loc main_arg3)) ((((cfgM m (ok m)).win 7).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_7 (c : Dev nD) : (dats m (ok m) 0 c).arrAt 7 (cfgM m (ok m)).N = val_main_v10 (F := Ideal) (m ((c : Thread nD τ).loc main_arg2)) (m ((c : Thread nD τ).loc main_arg3)) := by
  refine (dats m (ok m) 0 c).arrAt_eq_of_covers 7 _ (of_decide_eq_true (by sl_kernel_rfl)) fun t hf y => ?_
  rw [after0_7]
  frame_out
  exact (cast_eq _ _).trans ((congrFun (congr (congrArg k0_pay2 ((hs0_3 m (ok m) t).read_unread (iblk m (ok m) c 3 t))) ((hs0_2 m (ok m) t).read_unread (iblk m (ok m) c 2 t))) y).trans (point_7 m c t y))

theorem algebraic : Cert.algebraic_AdamGateIdeal_AdamGateRefIdeal (hAdamGateIdeal := Cert.AdamGateIdeal.Gen.facts)
    (hAdamGateRefIdeal := Cert.AdamGateRefIdeal.Gen.facts) := by
  intro m g m' g' _ hm
  refine ⟨fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg1)) (m ((c.tc : Thread nD τ).loc main_arg3)), fun c => val_main_v10 (F := Ideal) (m ((c.tc : Thread nD τ).loc main_arg2)) (m ((c.tc : Thread nD τ).loc main_arg3)), ?_, ?_⟩
  · exact (θ_run _ _ _).mono (fun r h c => ⟨((h c).1 5).trans (final_5 m c), ((h c).1 6).trans (final_6 m c), ((h c).1 7).trans (final_7 m c),
      ((h c).1 0).trans (((dats m (ok m) 0 c).arrAt_in 0 rfl _).trans ((A_eq m (ok m) c 0).trans (V_main_arg0 m c))), ((h c).1 1).trans (((dats m (ok m) 0 c).arrAt_in 1 rfl _).trans ((A_eq m (ok m) c 1).trans (V_main_arg1 m c))), ((h c).1 2).trans (((dats m (ok m) 0 c).arrAt_in 2 rfl _).trans ((A_eq m (ok m) c 2).trans (V_main_arg2 m c))), ((h c).1 3).trans (((dats m (ok m) 0 c).arrAt_in 3 rfl _).trans ((A_eq m (ok m) c 3).trans (V_main_arg3 m c)))⟩) (run_main m g (ok m))
  · refine (θ_run _ _ _).mono (fun r h c => ?_) (Cert.AdamGateRefIdeal.Value.run m' g')
    obtain ⟨e0, e1, e2, e3⟩ := hm c
    refine ⟨(h c).1.trans ?_, (h c).2.1.trans ?_, (h c).2.2.1.trans ?_, (h c).2.2.2⟩
    · rw [e0, e1, e2, e3]; rfl
    · rw [e1, e3]; rfl
    · rw [e2, e3]; rfl

end Cert.AdamGateIdeal.Step

end
-- ==== Proof.Adam.AdamGdn.lean ====
/- The optimiser's step of the weight of the norm of the recurrence: one program, whose blocks tile the arrays that it leaves; at every place they hold
   the gradient, the step and the new moments that the reference computes there. -/
module

public import proofs.«01_k».proof.Defs
public import proofs.«01_k».proof.Proof.Gen.AdamGdnIdeal.Frame
public import proofs.«01_k».proof.Proof.Gen.AdamGdnRefIdeal.Read
public import Idealize.ShloMosaic.Lib.Pipeline.ValueKit

@[expose] public section

set_option maxRecDepth 16384

noncomputable section

open Idealize.ShloMosaic Idealize.ShloMosaic.TcCoe Idealize.SL.Sem

namespace Cert.AdamGdnIdeal.Step

open Cert.AdamGdnIdeal Cert.AdamGdnIdeal.Gen Cert.AdamGdnRefIdeal.Read

variable (m : (ℓ : Loc nD τ sig) → Buf (Elt Ideal) ℓ)

/-- No index map reads the table, so nothing is asked of it. -/
theorem ok : Ok m := by
  unfold Ok ok0
  trivial

/-- The block that each window stages at a grid point. -/
theorem idx : ∀ t : Fin (cfgM m (ok m)).N, ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![t.val, 0]
    ∧ ((cfgM m (ok m)).win 4).index t = ![t.val, 0]
    ∧ ((cfgM m (ok m)).win 5).index t = ![t.val, 0]
    ∧ ((cfgM m (ok m)).win 6).index t = ![t.val, 0]
    ∧ ((cfgM m (ok m)).win 7).index t = ![t.val, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0])

/-- What a point stores at `y` of window 5's block is the reference at the place where `y` lies in the array. -/
theorem point_5 (c : Dev nD) (t : Fin (cfgM m (ok m)).N) (y) :
    k0_pay3 (iblk m (ok m) c 3 t) (iblk m (ok m) c 1 t) (iblk m (ok m) c 2 t) (iblk m (ok m) c 0 t) y = val_main_v23 (F := Ideal) (m ((c : Thread nD τ).loc main_arg0)) (m ((c : Thread nD τ).loc main_arg1)) (m ((c : Thread nD τ).loc main_arg2)) (m ((c : Thread nD τ).loc main_arg3)) ((((cfgM m (ok m)).win 5).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_5 (c : Dev nD) : (dats m (ok m) 0 c).arrAt 5 (cfgM m (ok m)).N = val_main_v23 (F := Ideal) (m ((c : Thread nD τ).loc main_arg0)) (m ((c : Thread nD τ).loc main_arg1)) (m ((c : Thread nD τ).loc main_arg2)) (m ((c : Thread nD τ).loc main_arg3)) := by
  refine (dats m (ok m) 0 c).arrAt_eq_of_covers 5 _ (of_decide_eq_true (by sl_kernel_rfl)) fun t hf y => ?_
  rw [after0_5]
  frame_out
  exact (cast_eq _ _).trans ((congrFun (congr (congr (congr (congrArg k0_pay3 ((hs0_3 m (ok m) t).read_unread (iblk m (ok m) c 3 t))) ((hs0_1 m (ok m) t).read_unread (iblk m (ok m) c 1 t))) ((hs0_2 m (ok m) t).read_unread (iblk m (ok m) c 2 t))) ((hs0_0 m (ok m) t).read_unread (iblk m (ok m) c 0 t))) y).trans (point_5 m c t y))

/-- What a point stores at `y` of window 6's block is the reference at the place where `y` lies in the array. -/
theorem point_6 (c : Dev nD) (t : Fin (cfgM m (ok m)).N) (y) :
    k0_pay1 (iblk m (ok m) c 3 t) (iblk m (ok m) c 1 t) y = val_main_v4 (F := Ideal) (m ((c : Thread nD τ).loc main_arg1)) (m ((c : Thread nD τ).loc main_arg3)) ((((cfgM m (ok m)).win 6).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_6 (c : Dev nD) : (dats m (ok m) 0 c).arrAt 6 (cfgM m (ok m)).N = val_main_v4 (F := Ideal) (m ((c : Thread nD τ).loc main_arg1)) (m ((c : Thread nD τ).loc main_arg3)) := by
  refine (dats m (ok m) 0 c).arrAt_eq_of_covers 6 _ (of_decide_eq_true (by sl_kernel_rfl)) fun t hf y => ?_
  rw [after0_6]
  frame_out
  exact (cast_eq _ _).trans ((congrFun (congr (congrArg k0_pay1 ((hs0_3 m (ok m) t).read_unread (iblk m (ok m) c 3 t))) ((hs0_1 m (ok m) t).read_unread (iblk m (ok m) c 1 t))) y).trans (point_6 m c t y))

/-- What a point stores at `y` of window 7's block is the reference at the place where `y` lies in the array. -/
theorem point_7 (c : Dev nD) (t : Fin (cfgM m (ok m)).N) (y) :
    k0_pay2 (iblk m (ok m) c 3 t) (iblk m (ok m) c 2 t) y = val_main_v10 (F := Ideal) (m ((c : Thread nD τ).loc main_arg2)) (m ((c : Thread nD τ).loc main_arg3)) ((((cfgM m (ok m)).win 7).blk t).view.emb y) := by
  pointwise [k0_pay3, k0_pay2, k0_pay1, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx m t]

theorem final_7 (c : Dev nD) : (dats m (ok m) 0 c).arrAt 7 (cfgM m (ok m)).N = val_main_v10 (F := Ideal) (m ((c : Thread nD τ).loc main_arg2)) (m ((c : Thread nD τ).loc main_arg3)) := by
  refine (dats m (ok m) 0 c).arrAt_eq_of_covers 7 _ (of_decide_eq_true (by sl_kernel_rfl)) fun t hf y => ?_
  rw [after0_7]
  frame_out
  exact (cast_eq _ _).trans ((congrFun (congr (congrArg k0_pay2 ((hs0_3 m (ok m) t).read_unread (iblk m (ok m) c 3 t))) ((hs0_2 m (ok m) t).read_unread (iblk m (ok m) c 2 t))) y).trans (point_7 m c t y))

theorem algebraic : Cert.algebraic_AdamGdnIdeal_AdamGdnRefIdeal (hAdamGdnIdeal := Cert.AdamGdnIdeal.Gen.facts)
    (hAdamGdnRefIdeal := Cert.AdamGdnRefIdeal.Gen.facts) := by
  intro m g m' g' _ hm
  refine ⟨fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg1)) (m ((c.tc : Thread nD τ).loc main_arg3)), fun c => val_main_v10 (F := Ideal) (m ((c.tc : Thread nD τ).loc main_arg2)) (m ((c.tc : Thread nD τ).loc main_arg3)), ?_, ?_⟩
  · exact (θ_run _ _ _).mono (fun r h c => ⟨((h c).1 5).trans (final_5 m c), ((h c).1 6).trans (final_6 m c), ((h c).1 7).trans (final_7 m c),
      ((h c).1 0).trans (((dats m (ok m) 0 c).arrAt_in 0 rfl _).trans ((A_eq m (ok m) c 0).trans (V_main_arg0 m c))), ((h c).1 1).trans (((dats m (ok m) 0 c).arrAt_in 1 rfl _).trans ((A_eq m (ok m) c 1).trans (V_main_arg1 m c))), ((h c).1 2).trans (((dats m (ok m) 0 c).arrAt_in 2 rfl _).trans ((A_eq m (ok m) c 2).trans (V_main_arg2 m c))), ((h c).1 3).trans (((dats m (ok m) 0 c).arrAt_in 3 rfl _).trans ((A_eq m (ok m) c 3).trans (V_main_arg3 m c)))⟩) (run_main m g (ok m))
  · refine (θ_run _ _ _).mono (fun r h c => ?_) (Cert.AdamGdnRefIdeal.Value.run m' g')
    obtain ⟨e0, e1, e2, e3⟩ := hm c
    refine ⟨(h c).1.trans ?_, (h c).2.1.trans ?_, (h c).2.2.1.trans ?_, (h c).2.2.2⟩
    · rw [e0, e1, e2, e3]; rfl
    · rw [e1, e3]; rfl
    · rw [e2, e3]; rfl

end Cert.AdamGdnIdeal.Step

end
-- ==== Proof.Products.Norm.lean ====
/- The root mean square norm over a row of 4096 numbers, and its gradient in closed form: with `r` the row's inverse root mean
   square and `v` the incoming gradient times the weight, `r * v - x * r³ * mean (x * v)`. The derivative taken step by step
   comes to the same, because `r * r` is the inverse of the number under the root, which is positive. -/
module

public import proofs.«01_k».proof.Defs
public import Idealize.ShloMosaic.Lib.Pipeline.ValueKit

@[expose] public section

set_option maxRecDepth 16384

noncomputable section

open Idealize.ShloMosaic Idealize.ShloMosaic.TcCoe Idealize.SL.Sem
open scoped BigOperators

namespace Cert.Norm

/-- The inverse root of a positive number, squared, is its inverse. -/
theorem rsqrt_mul_rsqrt {v : EReal} (hv : 0 < v) : Ideal.rsqrt v * Ideal.rsqrt v = v⁻¹ := by
  induction v with
  | bot => exact absurd hv (by simp)
  | top => exact (zero_mul (0 : EReal)).trans EReal.inv_top.symm
  | coe a =>
    have ha : 0 < a := EReal.coe_pos.mp hv
    have e : Ideal.rsqrt (a : EReal) = (((Real.sqrt a)⁻¹ : ℝ) : EReal) :=
      (if_neg (not_lt.mpr ha.le)).trans (if_neg ha.ne')
    rw [e, ← EReal.coe_mul, ← mul_inv, Real.mul_self_sqrt ha.le, EReal.coe_inv]

/-- Half of a number's negation, twice, is its negation. -/
theorem half_add_half (p : EReal) : ((-1 / 2 : ℝ) : EReal) * p + ((-1 / 2 : ℝ) : EReal) * p = -p := by
  induction p with
  | bot => rw [EReal.coe_mul_bot_of_neg (by norm_num)]; rfl
  | top => rw [EReal.coe_mul_top_of_neg (by norm_num)]; rfl
  | coe a => rw [← EReal.coe_mul, ← EReal.coe_add, ← EReal.coe_neg]; congr 1; ring

/-- The closed form of the norm's gradient at one entry is what the steps of the derivative add up to. -/
theorem closed_form (x u S c : EReal) {v : EReal} (hv : 0 < v) :
    Ideal.rsqrt v * u - x * (Ideal.rsqrt v * Ideal.rsqrt v * Ideal.rsqrt v) * (S * c)
      = u * Ideal.rsqrt v + x * (S * (((-1 / 2 : ℝ) : EReal) * (Ideal.rsqrt v * v⁻¹)) * c)
        + S * (((-1 / 2 : ℝ) : EReal) * (Ideal.rsqrt v * v⁻¹)) * c * x := by
  have e1 : x * (S * (((-1 / 2 : ℝ) : EReal) * (Ideal.rsqrt v * v⁻¹)) * c)
      = ((-1 / 2 : ℝ) : EReal) * (x * (Ideal.rsqrt v * Ideal.rsqrt v * Ideal.rsqrt v) * (S * c)) := by
    rw [← rsqrt_mul_rsqrt hv]; ac_rfl
  rw [mul_comm (S * _ * c) x, e1, add_assoc, half_add_half, mul_comm u, sub_eq_add_neg]

/-- A square is not negative. -/
theorem mul_self_nonneg' (p : EReal) : 0 ≤ p * p := by
  induction p with
  | bot => simp
  | top => simp
  | coe a => exact_mod_cast mul_self_nonneg a

/-- The width of a row, as its bits give it. -/
theorem width : Ideal.ofBits .f32 1166016512#32 = ((4096 : ℝ) : EReal) := by
  simp [Ideal.ofBits, Ideal.ieee]
  norm_num
  rw [← EReal.coe_mul]
  norm_num

/-- The factor that the root's derivative brings. -/
theorem half : Ideal.ofBits .f32 3204448256#32 = ((-1 / 2 : ℝ) : EReal) := by
  simp [Ideal.ofBits, Ideal.ieee]
  norm_num
  rw [← EReal.coe_mul]
  norm_num

/-- What the norm adds under the root is positive. -/
theorem eps_pos : 0 < Ideal.ofBits .f32 897988541#32 := by
  simp [Ideal.ofBits, Ideal.ieee]
  norm_num
  rw [← EReal.coe_mul, EReal.coe_pos]
  norm_num

/-- The number under the root is positive. -/
theorem under_pos (f : Fin 4096 → EReal) : 0 < (∑ k, f k * f k) * ((1 / 4096 : ℝ) : EReal) + Ideal.ofBits .f32 897988541#32 :=
  lt_of_lt_of_le eps_pos (le_add_of_nonneg_left (mul_nonneg (Finset.sum_nonneg fun k _ => mul_self_nonneg' (f k))
    (EReal.coe_nonneg.mpr (by norm_num))))

/-- The number under the root: the row's mean square and a small number. -/
def under (f : Fin 4096 → EReal) : EReal :=
  Ideal.div (∑ k, f k * f k) (Ideal.ofBits .f32 1166016512#32) + Ideal.ofBits .f32 897988541#32

/-- The gradient of the norm at an entry `x` of the row `f`, from the row `v` of gradients times weights, `y` at the entry. -/
def grad (f v : Fin 4096 → EReal) (x y : EReal) : EReal :=
  Ideal.rsqrt (under f) * y - x * (Ideal.rsqrt (under f) * Ideal.rsqrt (under f) * Ideal.rsqrt (under f))
    * Ideal.div (∑ k, f k * v k) (Ideal.ofBits .f32 1166016512#32)

/-- The derivative taken step by step: through the product, and through the mean of the squares. -/
def steps (f v : Fin 4096 → EReal) (x y : EReal) : EReal :=
  y * Ideal.rsqrt (under f)
    + x * (∑ _ : Fin 1, Ideal.div ((∑ k, f k * v k) * (Ideal.ofBits .f32 3204448256#32 * Ideal.div (Ideal.rsqrt (under f)) (under f)))
        (Ideal.ofBits .f32 1166016512#32))
    + (∑ _ : Fin 1, Ideal.div ((∑ k, f k * v k) * (Ideal.ofBits .f32 3204448256#32 * Ideal.div (Ideal.rsqrt (under f)) (under f)))
        (Ideal.ofBits .f32 1166016512#32)) * x

theorem grad_eq_steps (f v : Fin 4096 → EReal) (x y : EReal) : grad f v x y = steps f v x y := by
  have hv : 0 < under f := by
    unfold under
    rw [width, Ideal.div_coe (by norm_num)]
    exact under_pos f
  unfold grad steps
  rw [width, half]
  simp only [Finset.univ_unique, Finset.sum_singleton, Ideal.div_coe (show (4096 : ℝ) ≠ 0 by norm_num)]
  rw [Ideal.div, if_neg hv.ne']
  exact closed_form _ _ _ _ hv

end Cert.Norm

end
-- ==== Proof.Products.PreBwd.lean ====
/- The gradients of the first norm: in its input, added to the gradient of the residual, and in its weight, which the blocks
   of rows add up. -/
module

public import proofs.«01_k».proof.Defs
public import proofs.«01_k».proof.Proof.Gen.PreBwdIdeal.Frame
public import proofs.«01_k».proof.Proof.Gen.PreBwdRefIdeal.Read
public import proofs.«01_k».proof.Proof.Products.Norm
public import Idealize.ShloMosaic.Lib.Pipeline.ValueKit

@[expose] public section

set_option maxRecDepth 16384

noncomputable section

open Idealize.ShloMosaic Idealize.ShloMosaic.TcCoe Idealize.SL.Sem
open scoped BigOperators

namespace Cert.PreBwdIdeal.Product

open Cert.PreBwdIdeal Cert.PreBwdIdeal.Gen Cert.PreBwdRefIdeal.Read

variable (m : (ℓ : Loc nD τ sig) → Buf (Elt Ideal) ℓ)

/-- The block that each window stages at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0] :=
  (by decide +kernel : ∀ t : Fin grid0.N, _)

/-- One entry of the block of the input's gradient. -/
theorem left (x w u d) (y : S128x4096.Idx) : k0_pay3 (F := Ideal) x w u d y = d y
    + Cert.Norm.grad (fun k => x (ix2 (y 0) k)) (fun k => u (ix2 (y 0) k) * w (ix2 0 k)) (x y) (u y * w (ix2 0 (y 1))) := by
  simp only [Cert.Norm.grad, Cert.Norm.under]
  pointwise [k0_pay3, k0_pay2]

/-- One entry of the reference's input gradient. -/
theorem right (x d u w) (i : S4096x4096.Idx) : val_main_v34 (F := Ideal) x d u w i = d i
    + Cert.Norm.grad (fun k => x (ix2 (i 0) k)) (fun k => u (ix2 (i 0) k) * w (ix2 0 k)) (x i) (u i * w (ix2 0 (i 1))) := by
  rw [Cert.Norm.grad_eq_steps]
  simp only [Cert.Norm.steps, Cert.Norm.under]
  pointwise [val_main_v0, val_main_cst, val_main_v1, val_main_v2, val_main_cst_0, val_main_v3, val_main_v4, val_main_cst_1, val_main_v5, val_main_v6, val_main_v7, val_main_v8, val_main_cst_2, val_main_v9, val_main_v10, val_main_v18, val_main_v19, val_main_v20, val_main_cst_4, val_main_v21, val_main_v22, val_main_v23, val_main_v24, val_main_v25, val_main_cst_5, val_main_v26, val_main_v27, val_main_cst_6, val_main_v28, val_main_v29, val_main_v30, val_main_v31, val_main_v32, val_main_v33, val_main_v34]

/-- What a block of rows adds to the weight's gradient. -/
theorem part (x u) (y : S1x4096.Idx) : k0_pay4 (F := Ideal) x u y
    = ∑ k : Fin 128, u (ix2 k (y 1)) * x (ix2 k (y 1)) * Ideal.rsqrt (Cert.Norm.under fun l => x (ix2 k l)) := by
  simp only [Cert.Norm.under]
  pointwise [k0_pay4, k0_pay2]

/-- The reference's weight gradient. -/
theorem whole (x u) (i : S1x4096.Idx) : val_main_v17 (F := Ideal) x u i
    = ∑ k : Fin 4096, u (ix2 k (i 1)) * x (ix2 k (i 1)) * Ideal.rsqrt (Cert.Norm.under fun l => x (ix2 k l)) := by
  refine Eq.trans ?_ (Finset.sum_congr rfl fun k _ => (mul_comm _ _).trans (mul_assoc _ _ _).symm)
  simp only [Cert.Norm.under]
  pointwise [val_main_v0, val_main_cst, val_main_v1, val_main_v2, val_main_cst_0, val_main_v3, val_main_v4, val_main_cst_1, val_main_v5, val_main_v6, val_main_v7, val_main_v11, val_main_v12, val_main_v15, val_main_cst_3, val_main_v16, val_main_v17]

/-- Every point leaves the block of its gradient. -/
theorem out_4 (c : Dev nD) (t : Fin cfg0.N) : (outsAt0 m c t.val t.isLt).1
    = k0_pay3 (F := Ideal) (iblk m c 0 t) (iblk m c 3 t) (iblk m c 2 t) (iblk m c 1 t) := by
  by_cases h : t.val % 32 = 0
  · have hN : t.val < 32 := lt_of_lt_of_eq t.isLt (show cfg0.N = 32 from N_0)
    rw [outsAt0_A m c t h (by omega)]; frame_out
  · rw [outsAt0_B m c t h (by omega)]; frame_out

/-- The first point stores its part of the weight's gradient. -/
theorem first (c : Dev nD) (t : Fin cfg0.N) (h : t.val % 32 = 0) : (outsAt0 m c t.val t.isLt).2
    = k0_pay4 (F := Ideal) (iblk m c 0 t) (iblk m c 2 t) := by
  have hN : t.val < 32 := lt_of_lt_of_eq t.isLt (show cfg0.N = 32 from N_0)
  rw [outsAt0_A m c t h (by omega)]; frame_out

/-- A later point adds its part to what the points before left. -/
theorem step (c : Dev nD) (t : Fin cfg0.N) (h : ¬t.val % 32 = 0) (y : S1x4096.Idx) : (outsAt0 m c t.val t.isLt).2 y
    = (outsAt0 m c (t.val - 1) (Nat.lt_of_le_of_lt (Nat.sub_le _ _) t.isLt)).2 y + k0_pay4 (F := Ideal) (iblk m c 0 t) (iblk m c 2 t) y := by
  rw [outsAt0_B m c t h (by omega)]; frame_out
  pointwise [k0_pay1]

/-- The input's gradient that the call leaves is the reference's. -/
theorem final_4 (c : Dev nD) : (dats m 0 c).arrAt 4 (cfgs 0).N = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out_4, left, right]
  simp only [Cert.Norm.grad, Cert.Norm.under]
  blk_point [iblk, V, idx t]

/-- The weight's gradient that the call leaves is the reference's. -/
theorem final_5 (c : Dev nD) : (dats m 0 c).arrAt 5 (cfgs 0).N = val_main_v17 (F := Ideal) (m ((c : Thread nD τ).loc main_arg0)) (m ((c : Thread nD τ).loc main_arg2)) := by
  refine (dats m 0 c).arrAt_eq_of_covers 5 _ (by decide +kernel) fun t hf y => ?_
  have ht : t.val % 32 = 31 := (flush0_5 t).mp hf
  blk_simp
  rw [after0_5, Pipeline.eq_sum_fin_of_reset_step_apply_of_flush (fun n h => (outsAt0 m c n h).2) 32 (fun _ => 0) _
    (fun t h j => by rw [first m c t h, zero_add]) (fun t h j => step m c t h j) t ht _, zero_add, whole]
  simp only [part]
  refine Fin.sum_mul_add_congr fun s k hl => ?_
  simp only [Cert.Norm.under]
  blk_point [iblk, V, idx t, idx ⟨_, Pipeline.run_point_lt_of_flush t ht s⟩]

theorem algebraic : Cert.algebraic_PreBwdIdeal_PreBwdRefIdeal (hPreBwdIdeal := Cert.PreBwdIdeal.Gen.facts)
    (hPreBwdRefIdeal := Cert.PreBwdRefIdeal.Gen.facts) := by
  intro m g m' g' _ hm
  refine ⟨fun c => val_main_v34 (F := Ideal) (m ((c.tc : Thread nD τ).loc main_arg0)) (m ((c.tc : Thread nD τ).loc main_arg1)) (m ((c.tc : Thread nD τ).loc main_arg2)) (m ((c.tc : Thread nD τ).loc main_arg3)),
    fun c => val_main_v17 (F := Ideal) (m ((c.tc : Thread nD τ).loc main_arg0)) (m ((c.tc : Thread nD τ).loc main_arg2)), ?_, ?_⟩
  · exact (θ_run _ _ _).mono (fun r h c => ⟨((h.1 c).1 4).trans (final_4 m c), ((h.1 c).1 5).trans (final_5 m c), h.2 c⟩)
      (θ_run_and (run_main m g) (unchanged m g))
  · refine (θ_run _ _ _).mono (fun r h c => ?_) (Cert.PreBwdRefIdeal.Value.run m' g')
    obtain ⟨e0, e1, e2, e3⟩ := hm c
    refine ⟨(h c).1.trans ?_, (h c).2.1.trans ?_, (h c).2.2⟩
    · rw [e0, e1, e2, e3]; exact val_main_v34_eq _ _ _ _
    · rw [e0, e2]; exact val_main_v17_eq _ _

end Cert.PreBwdIdeal.Product

end
-- ==== Proof.Products.RmsFwd.lean ====
/- The norm before the mixer. -/
module

public import proofs.«01_k».proof.Defs
public import proofs.«01_k».proof.Proof.Gen.RmsFwdIdeal.Frame
public import proofs.«01_k».proof.Proof.Gen.RmsFwdRefIdeal.Read
public import proofs.«01_k».proof.Proof.Products.Norm
public import Idealize.ShloMosaic.Lib.Pipeline.ValueKit

@[expose] public section

set_option maxRecDepth 16384

noncomputable section

open Idealize.ShloMosaic Idealize.ShloMosaic.TcCoe Idealize.SL.Sem
open scoped BigOperators

namespace Cert.RmsFwdIdeal.Product

open Cert.RmsFwdIdeal Cert.RmsFwdIdeal.Gen

variable (m : (ℓ : Loc nD τ sig) → Buf (Elt Ideal) ℓ)

/-- The block that each window stages at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The array that the call leaves is the reference's. -/
theorem final_2 (c : Dev nD) : (dats m 0 c).arrAt 2 (cfgs 0).N = Cert.RmsFwdRefIdeal.Read.val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, Cert.RmsFwdRefIdeal.Read.val_main_v0, Cert.RmsFwdRefIdeal.Read.val_main_cst, Cert.RmsFwdRefIdeal.Read.val_main_v1, Cert.RmsFwdRefIdeal.Read.val_main_v2, Cert.RmsFwdRefIdeal.Read.val_main_cst_0, Cert.RmsFwdRefIdeal.Read.val_main_v3, Cert.RmsFwdRefIdeal.Read.val_main_v4, Cert.RmsFwdRefIdeal.Read.val_main_cst_1, Cert.RmsFwdRefIdeal.Read.val_main_v5, Cert.RmsFwdRefIdeal.Read.val_main_v6, Cert.RmsFwdRefIdeal.Read.val_main_v7, Cert.RmsFwdRefIdeal.Read.val_main_v8, Cert.RmsFwdRefIdeal.Read.val_main_v9, Cert.RmsFwdRefIdeal.Read.val_main_v10, Cert.RmsFwdRefIdeal.Read.val_main_v11, Cert.RmsFwdRefIdeal.Read.val_main_v12]
  blk_point [iblk, V, idx t]

theorem algebraic : Cert.algebraic_RmsFwdIdeal_RmsFwdRefIdeal (hRmsFwdIdeal := Cert.RmsFwdIdeal.Gen.facts)
    (hRmsFwdRefIdeal := Cert.RmsFwdRefIdeal.Gen.facts) := by
  intro m g m' g' _ hm
  refine ⟨fun c => Cert.RmsFwdRefIdeal.Read.val_main_v12 (F := Ideal) (m ((c.tc : Thread nD τ).loc main_arg0)) (m ((c.tc : Thread nD τ).loc main_arg1)), ?_, ?_⟩
  · exact (θ_run _ _ _).mono (fun r h c => ⟨((h.1 c).1 2).trans (final_2 m c), h.2 c⟩)
      (θ_run_and (run_main m g) (unchanged m g))
  · refine (θ_run _ _ _).mono (fun r h c => ?_) (Cert.RmsFwdRefIdeal.Value.run m' g')
    obtain ⟨e0, e1⟩ := hm c
    refine ⟨(h c).1.trans ?_, (h c).2⟩
    · rw [e0, e1]; exact Cert.RmsFwdRefIdeal.Read.val_main_v12_eq _ _

end Cert.RmsFwdIdeal.Product

end
-- ==== Proof.Products.Post1.lean ====
/- The first residual and the norm before the squared-ReLU layer. -/
module

public import proofs.«01_k».proof.Defs
public import proofs.«01_k».proof.Proof.Gen.Post1Ideal.Frame
public import proofs.«01_k».proof.Proof.Gen.Post1RefIdeal.Read
public import proofs.«01_k».proof.Proof.Products.Norm
public import Idealize.ShloMosaic.Lib.Pipeline.ValueKit

@[expose] public section

set_option maxRecDepth 16384

noncomputable section

open Idealize.ShloMosaic Idealize.ShloMosaic.TcCoe Idealize.SL.Sem
open scoped BigOperators

namespace Cert.Post1Ideal.Product

open Cert.Post1Ideal Cert.Post1Ideal.Gen Cert.Post1RefIdeal.Read

variable (m : (ℓ : Loc nD τ sig) → Buf (Elt Ideal) ℓ)

/-- The block that each window stages at a grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] :=
  (by decide +kernel : ∀ t : Fin grid0.N, _)

theorem final_4 (c : Dev nD) : (dats m 0 c).arrAt 4 (cfgs 0).N = val_main_v12 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, k0_pay2, val_main_v0, val_main_cst, val_main_v1, val_main_v2, val_main_cst_0, val_main_v3, val_main_v4, val_main_cst_1, val_main_v5, val_main_v6, val_main_v7, val_main_v8, val_main_v9, val_main_v10, val_main_v11, val_main_v12]
  blk_point [iblk, V, idx t]

theorem final_5 (c : Dev nD) : (dats m 0 c).arrAt 5 (cfgs 0).N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25]
  blk_point [iblk, V, idx t]

theorem algebraic : Cert.algebraic_Post1Ideal_Post1RefIdeal (hPost1Ideal := Cert.Post1Ideal.Gen.facts)
    (hPost1RefIdeal := Cert.Post1RefIdeal.Gen.facts) := by
  intro m g m' g' _ hm
  refine ⟨fun c => val_main_v12 (F := Ideal) (m ((c.tc : Thread nD τ).loc main_arg0)) (m ((c.tc : Thread nD τ).loc main_arg1)) (m ((c.tc : Thread nD τ).loc main_arg2)),
    fun c => val_main_v25 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run _ _ _).mono (fun r h c => ⟨((h.1 c).1 4).trans (final_4 m c), ((h.1 c).1 5).trans (final_5 m c), h.2 c⟩)
      (θ_run_and (run_main m g) (unchanged m g))
  · refine (θ_run _ _ _).mono (fun r h c => ?_) (Cert.Post1RefIdeal.Value.run m' g')
    obtain ⟨e0, e1, e2, e3⟩ := hm c
    refine ⟨(h c).1.trans ?_, (h c).2.1.trans ?_, (h c).2.2⟩
    · rw [e0, e1, e2]; exact val_main_v12_eq _ _ _
    · rw [e0, e1, e2, e3]; exact val_main_v25_eq _ _ _ _

end Cert.Post1Ideal.Product

end
-- ==== Proof.Products.Post2.lean ====
/- The last residual's error, its gradients, and the device's own part of the loss: the gradients in the residual, in the
   norm's input and in its weight, and the loss; the blocks of rows add up the last two. -/
module

public import proofs.«01_k».proof.Defs
public import proofs.«01_k».proof.Proof.Gen.Post2Ideal.Frame
public import proofs.«01_k».proof.Proof.Gen.Post2RefIdeal.Read
public import proofs.«01_k».proof.Proof.Products.Norm
public import Idealize.ShloMosaic.Lib.Pipeline.ValueKit

@[expose] public section

set_option maxRecDepth 16384

noncomputable section

open Idealize.ShloMosaic Idealize.ShloMosaic.TcCoe Idealize.SL.Sem
open scoped BigOperators

namespace Cert.Post2Ideal.Product

open Cert.Post2Ideal Cert.Post2Ideal.Gen Cert.Post2RefIdeal.Read

variable (m : (ℓ : Loc nD τ sig) → Buf (Elt Ideal) ℓ)

/-- The block that each window stages at a grid point. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![t.val, 0]
    ∧ win0_6.index t = ![0, 0]
    ∧ win0_7.index t = ![0, 0] :=
  (by decide +kernel : ∀ t : Fin grid0.N, _)

/-- The inverse of the width, as its bits give it. -/
theorem inv_width : Ideal.ofBits .f32 964689920#32 = ((1 / 4096 : ℝ) : EReal) := by
  simp [Ideal.ofBits, Ideal.ieee]
  norm_num
  rw [← EReal.coe_mul]
  norm_num

/-- The factor before the loss. -/
theorem loss_half : Ideal.ofBits .f32 1056964608#32 = ((1 / 2 : ℝ) : EReal) := by
  simp [Ideal.ofBits, Ideal.ieee]
  norm_num
  rw [← EReal.coe_mul]
  norm_num

/-- The square's exponent. -/
theorem two : Ideal.ofBits .f32 1073741824#32 = ((2 : ℝ) : EReal) := by
  simp [Ideal.ofBits, Ideal.ieee]
  norm_num
  rw [← EReal.coe_mul]
  norm_num

/-- The factors that the derivative of the loss brings are one factor, the inverse of the width. -/
theorem scale (e : EReal) : Ideal.div (Ideal.ofBits .f32 1056964608#32) (Ideal.ofBits .f32 1166016512#32)
    * (Ideal.ofBits .f32 1073741824#32 * e) = e * Ideal.ofBits .f32 964689920#32 := by
  rw [inv_width, loss_half, two, Cert.Norm.width, Ideal.div_coe (by norm_num), ← mul_assoc, ← EReal.coe_mul, ← EReal.coe_mul,
    mul_comm]
  norm_num

/-- A factor may go into a sum of numbers that are not negative. -/
theorem mul_sum {n : ℕ} (a : EReal) (f : Fin n → EReal) (hf : ∀ k, 0 ≤ f k) : a * ∑ k, f k = ∑ k, a * f k := by
  classical
  refine Finset.induction_on (Finset.univ : Finset (Fin n)) (by simp) fun k s hk ih => ?_
  rw [Finset.sum_insert hk, Finset.sum_insert hk, EReal.left_distrib_of_nonneg (hf k) (Finset.sum_nonneg fun l _ => hf l), ih]

/-- A row's mean of squares is not negative. -/
theorem mean_nonneg (f : Fin 4096 → EReal) : 0 ≤ Ideal.div (∑ k, f k * f k) (Ideal.ofBits .f32 1166016512#32) := by
  rw [Cert.Norm.width, Ideal.div_coe (by norm_num)]
  exact mul_nonneg (Finset.sum_nonneg fun k _ => Cert.Norm.mul_self_nonneg' (f k)) (EReal.coe_nonneg.mpr (by norm_num))

/-- The error at one entry: the residual `h` and the normed `b` of the row `f`, weighed by `w`, less the target `t`. -/
def off (f : Fin 4096 → EReal) (h b w t : EReal) : EReal := h + b * Ideal.rsqrt (Cert.Norm.under f) * w - t

/-- One entry of the block of errors. -/
theorem left (x h w u) (y : S128x4096.Idx) : k0_pay7 (F := Ideal) x h w u y
    = off (fun k => x (ix2 (y 0) k)) (h y) (x y) (w (ix2 0 (y 1))) (u y) := by
  simp only [off, Cert.Norm.under]
  pointwise [k0_pay7, k0_pay6]

/-- One entry of the reference's error. -/
theorem right (h x w u) (i : S4096x4096.Idx) : val_main_v16 (F := Ideal) h x w u i
    = off (fun k => x (ix2 (i 0) k)) (h i) (x i) (w (ix2 0 (i 1))) (u i) := by
  simp only [off, Cert.Norm.under]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_v36, val_main_cst_12, val_main_v37, val_main_v38, val_main_v39, val_main_v40, val_main_v41, val_main_cst_13, val_main_v42, val_main_v43, val_main_cst_14, val_main_v44, val_main_v45, val_main_v46, val_main_v47, val_main_v48, val_main_v49, val_main_v50, val_main_v51]

/-- One entry of the block of the residual's gradient. -/
theorem left_5 (x h w u) (y : S128x4096.Idx) : k0_pay8 (F := Ideal) x h w u y
    = off (fun k => x (ix2 (y 0) k)) (h y) (x y) (w (ix2 0 (y 1))) (u y) * Ideal.ofBits .f32 964689920#32 := by
  rw [← left]
  pointwise [k0_pay8]

/-- One entry of the reference's gradient of the residual. -/
theorem right_5 (h x w u) (i : S4096x4096.Idx) : val_main_v30 (F := Ideal) h x w u i
    = off (fun k => x (ix2 (i 0) k)) (h i) (x i) (w (ix2 0 (i 1))) (u i) * Ideal.ofBits .f32 964689920#32 := by
  rw [← right, ← scale]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_v36, val_main_cst_12, val_main_v37, val_main_v38, val_main_v39, val_main_v40, val_main_v41, val_main_cst_13, val_main_v42, val_main_v43, val_main_cst_14, val_main_v44, val_main_v45, val_main_v46, val_main_v47, val_main_v48, val_main_v49, val_main_v50, val_main_v51]

/-- One entry of the block of the norm's gradient, from the residual's. -/
theorem left_4 (x h w u v) (y : S128x4096.Idx) : k0_pay1 (F := Ideal) (k0_pay9 (F := Ideal) x h w u v) y
    = Cert.Norm.grad (fun k => x (ix2 (y 0) k)) (fun k => k0_pay8 (F := Ideal) x h w u (ix2 (y 0) k) * v (ix2 0 k)) (x y)
      (k0_pay8 (F := Ideal) x h w u y * v (ix2 0 (y 1))) := by
  simp only [Cert.Norm.grad, Cert.Norm.under]
  pointwise [k0_pay1, k0_pay9, k0_pay6]

/-- One entry of the reference's gradient of the norm, from the residual's. -/
theorem right_4 (h x w u) (i : S4096x4096.Idx) : val_main_v50 (F := Ideal) h x w u i
    = Cert.Norm.grad (fun k => x (ix2 (i 0) k)) (fun k => val_main_v30 (F := Ideal) h x w u (ix2 (i 0) k) * w (ix2 0 k)) (x i)
      (val_main_v30 (F := Ideal) h x w u i * w (ix2 0 (i 1))) := by
  rw [Cert.Norm.grad_eq_steps]
  simp only [Cert.Norm.steps, Cert.Norm.under]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v31, val_main_cst_11, val_main_v32, val_main_v33, val_main_v34, val_main_v35, val_main_v36, val_main_cst_12, val_main_v37, val_main_v38, val_main_v39, val_main_v40, val_main_v41, val_main_cst_13, val_main_v42, val_main_v43, val_main_cst_14, val_main_v44, val_main_v45, val_main_v46, val_main_v47, val_main_v48, val_main_v49, val_main_v50, val_main_v51]

/-- What a block of rows adds to the weight's gradient. -/
theorem part_6 (x h w u) (y : S1x4096.Idx) : k0_pay2 (F := Ideal) (k0_pay10 (F := Ideal) x h w u) (k0_pay11 (F := Ideal) x) y
    = ∑ k : Fin 128, k0_pay8 (F := Ideal) x h w u (ix2 k (y 1)) * x (ix2 k (y 1)) * Ideal.rsqrt (Cert.Norm.under fun l => x (ix2 k l)) := by
  simp only [Cert.Norm.under]
  pointwise [k0_pay2, k0_pay10, k0_pay11, k0_pay6]

/-- The reference's gradient of the weight. -/
theorem whole_6 (h x w u) (i : S1x4096.Idx) : val_main_v33 (F := Ideal) h x w u i
    = ∑ k : Fin 4096, val_main_v30 (F := Ideal) h x w u (ix2 k (i 1)) * x (ix2 k (i 1)) * Ideal.rsqrt (Cert.Norm.under fun l => x (ix2 k l)) := by
  refine Eq.trans ?_ (Finset.sum_congr rfl fun k _ => (mul_comm _ _).trans (mul_assoc _ _ _).symm)
  simp only [Cert.Norm.under]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v31, val_main_cst_11, val_main_v32, val_main_v33, val_main_v34, val_main_v35, val_main_v36, val_main_cst_12, val_main_v37, val_main_v38, val_main_v39, val_main_v40, val_main_v41, val_main_cst_13, val_main_v42, val_main_v43, val_main_cst_14, val_main_v44, val_main_v45, val_main_v46, val_main_v47, val_main_v48, val_main_v49, val_main_v50, val_main_v51]

/-- What a block of rows adds to the loss. -/
theorem part_7 (e) (y : S1x128.Idx) : k0_pay4 (F := Ideal) e y
    = ∑ k : Fin 128, Ideal.ofBits .f32 1056964608#32 * Ideal.div (∑ l : Fin 4096, e (ix2 k l) * e (ix2 k l)) (Ideal.ofBits .f32 1166016512#32) := by
  refine Eq.trans ?_ (mul_sum _ _ fun k => mean_nonneg fun l => e (ix2 k l))
  pointwise [k0_pay4]

/-- The reference's loss. -/
theorem whole_7 (h x w u) (i : S1x128.Idx) : val_main_v51 (F := Ideal) h x w u i
    = ∑ k : Fin 4096, Ideal.ofBits .f32 1056964608#32 * Ideal.div (∑ l : Fin 4096, val_main_v16 (F := Ideal) h x w u (ix2 k l) * val_main_v16 (F := Ideal) h x w u (ix2 k l)) (Ideal.ofBits .f32 1166016512#32) := by
  refine Eq.trans ?_ (mul_sum _ _ fun k => mean_nonneg fun l => val_main_v16 (F := Ideal) h x w u (ix2 k l))
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_v36, val_main_cst_12, val_main_v37, val_main_v38, val_main_v39, val_main_v40, val_main_v41, val_main_cst_13, val_main_v42, val_main_v43, val_main_cst_14, val_main_v44, val_main_v45, val_main_v46, val_main_v47, val_main_v48, val_main_v49, val_main_v50, val_main_v51]

/-- A later point's addition to the weight's gradient. -/
theorem add_6 (v r a) (y : S1x4096.Idx) : k0_pay3 (F := Ideal) v r a y = a y + k0_pay2 (F := Ideal) v r y := by
  pointwise [k0_pay3, k0_pay2]

/-- A later point's addition to the loss. -/
theorem add_7 (e a) (y : S1x128.Idx) : k0_pay5 (F := Ideal) e a y = a y + k0_pay4 (F := Ideal) e y := by
  pointwise [k0_pay5, k0_pay4]

/-- Every point leaves the block of the norm's gradient. -/
theorem out_4 (c : Dev nD) (t : Fin cfg0.N) : (outsAt0 m c t.val t.isLt).1
    = k0_pay1 (F := Ideal) (k0_pay9 (F := Ideal) (iblk m c 1 t) (iblk m c 0 t) (iblk m c 2 t) (iblk m c 3 t) (iblk m c 2 t)) := by
  by_cases h : t.val % 32 = 0
  · have hN : t.val < 32 := lt_of_lt_of_eq t.isLt (show cfg0.N = 32 from N_0)
    rw [outsAt0_A m c t h (by omega) h (by omega)]; frame_out
  · rw [outsAt0_B m c t h (by omega) h (by omega)]; frame_out

/-- Every point leaves the block of the residual's gradient. -/
theorem out_5 (c : Dev nD) (t : Fin cfg0.N) : (outsAt0 m c t.val t.isLt).2.1
    = k0_pay8 (F := Ideal) (iblk m c 1 t) (iblk m c 0 t) (iblk m c 2 t) (iblk m c 3 t) := by
  by_cases h : t.val % 32 = 0
  · have hN : t.val < 32 := lt_of_lt_of_eq t.isLt (show cfg0.N = 32 from N_0)
    rw [outsAt0_A m c t h (by omega) h (by omega)]; frame_out
  · rw [outsAt0_B m c t h (by omega) h (by omega)]; frame_out

/-- The first point stores its part of the weight's gradient. -/
theorem first_6 (c : Dev nD) (t : Fin cfg0.N) (h : t.val % 32 = 0) : (outsAt0 m c t.val t.isLt).2.2.1
    = k0_pay2 (F := Ideal) (k0_pay10 (F := Ideal) (iblk m c 1 t) (iblk m c 0 t) (iblk m c 2 t) (iblk m c 3 t)) (k0_pay11 (F := Ideal) (iblk m c 1 t)) := by
  have hN : t.val < 32 := lt_of_lt_of_eq t.isLt (show cfg0.N = 32 from N_0)
  rw [outsAt0_A m c t h (by omega) h (by omega)]; frame_out

/-- A later point adds its part to what the points before left. -/
theorem step_6 (c : Dev nD) (t : Fin cfg0.N) (h : ¬t.val % 32 = 0) (y : S1x4096.Idx) : (outsAt0 m c t.val t.isLt).2.2.1 y
    = (outsAt0 m c (t.val - 1) (Nat.lt_of_le_of_lt (Nat.sub_le _ _) t.isLt)).2.2.1 y + k0_pay2 (F := Ideal) (k0_pay10 (F := Ideal) (iblk m c 1 t) (iblk m c 0 t) (iblk m c 2 t) (iblk m c 3 t)) (k0_pay11 (F := Ideal) (iblk m c 1 t)) y := by
  rw [outsAt0_B m c t h (by omega) h (by omega)]; frame_out
  exact add_6 _ _ _ y

/-- The first point stores its part of the loss. -/
theorem first_7 (c : Dev nD) (t : Fin cfg0.N) (h : t.val % 32 = 0) : (outsAt0 m c t.val t.isLt).2.2.2
    = k0_pay4 (F := Ideal) (k0_pay7 (F := Ideal) (iblk m c 1 t) (iblk m c 0 t) (iblk m c 2 t) (iblk m c 3 t)) := by
  have hN : t.val < 32 := lt_of_lt_of_eq t.isLt (show cfg0.N = 32 from N_0)
  rw [outsAt0_A m c t h (by omega) h (by omega)]; frame_out

/-- A later point adds its part to what the points before left. -/
theorem step_7 (c : Dev nD) (t : Fin cfg0.N) (h : ¬t.val % 32 = 0) (y : S1x128.Idx) : (outsAt0 m c t.val t.isLt).2.2.2 y
    = (outsAt0 m c (t.val - 1) (Nat.lt_of_le_of_lt (Nat.sub_le _ _) t.isLt)).2.2.2 y + k0_pay4 (F := Ideal) (k0_pay7 (F := Ideal) (iblk m c 1 t) (iblk m c 0 t) (iblk m c 2 t) (iblk m c 3 t)) y := by
  rw [outsAt0_B m c t h (by omega) h (by omega)]; frame_out
  exact add_7 _ _ y

/-- The residual's gradient that the call leaves is the reference's. -/
theorem final_5 (c : Dev nD) : (dats m 0 c).arrAt 5 (cfgs 0).N = val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out_5, left_5, right_5]
  simp only [off, Cert.Norm.under]
  blk_point [iblk, V, idx t]

/-- The norm's gradient that the call leaves is the reference's. -/
theorem final_4 (c : Dev nD) : (dats m 0 c).arrAt 4 (cfgs 0).N = val_main_v50 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out_4, left_4, right_4]
  simp only [left_5, right_5, Cert.Norm.grad, off, Cert.Norm.under]
  blk_point [iblk, V, idx t]

/-- The weight's gradient that the call leaves is the reference's. -/
theorem final_6 (c : Dev nD) : (dats m 0 c).arrAt 6 (cfgs 0).N = val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht : t.val % 32 = 31 := (flush0_6 t).mp hf
  blk_simp
  rw [after0_6, Pipeline.eq_sum_fin_of_reset_step_apply_of_flush (fun n h => (outsAt0 m c n h).2.2.1) 32 (fun _ => 0) _
    (fun t h j => by rw [first_6 m c t h, zero_add]) (fun t h j => step_6 m c t h j) t ht _, zero_add, whole_6]
  simp only [part_6]
  refine Fin.sum_mul_add_congr fun s k hl => ?_
  simp only [left_5, right_5, off, Cert.Norm.under]
  blk_point [iblk, V, idx t, idx ⟨_, Pipeline.run_point_lt_of_flush t ht s⟩]

/-- The loss that the call leaves is the reference's. -/
theorem final_7 (c : Dev nD) : (dats m 0 c).arrAt 7 (cfgs 0).N = val_main_v51 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have ht : t.val % 32 = 31 := (flush0_7 t).mp hf
  blk_simp
  rw [after0_7, Pipeline.eq_sum_fin_of_reset_step_apply_of_flush (fun n h => (outsAt0 m c n h).2.2.2) 32 (fun _ => 0) _
    (fun t h j => by rw [first_7 m c t h, zero_add]) (fun t h j => step_7 m c t h j) t ht _, zero_add, whole_7]
  simp only [part_7]
  refine Fin.sum_mul_add_congr fun s k hl => ?_
  simp only [left, right, off, Cert.Norm.under]
  blk_point [iblk, V, idx t, idx ⟨_, Pipeline.run_point_lt_of_flush t ht s⟩]

theorem algebraic : Cert.algebraic_Post2Ideal_Post2RefIdeal (hPost2Ideal := Cert.Post2Ideal.Gen.facts)
    (hPost2RefIdeal := Cert.Post2RefIdeal.Gen.facts) := by
  intro m g m' g' _ hm
  refine ⟨fun c => val_main_v50 (F := Ideal) (m ((c.tc : Thread nD τ).loc main_arg0)) (m ((c.tc : Thread nD τ).loc main_arg1)) (m ((c.tc : Thread nD τ).loc main_arg2)) (m ((c.tc : Thread nD τ).loc main_arg3)),
    fun c => val_main_v30 (F := Ideal) (m ((c.tc : Thread nD τ).loc main_arg0)) (m ((c.tc : Thread nD τ).loc main_arg1)) (m ((c.tc : Thread nD τ).loc main_arg2)) (m ((c.tc : Thread nD τ).loc main_arg3)),
    fun c => val_main_v33 (F := Ideal) (m ((c.tc : Thread nD τ).loc main_arg0)) (m ((c.tc : Thread nD τ).loc main_arg1)) (m ((c.tc : Thread nD τ).loc main_arg2)) (m ((c.tc : Thread nD τ).loc main_arg3)),
    fun c => val_main_v51 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run _ _ _).mono (fun r h c => ⟨((h.1 c).1 4).trans (final_4 m c), ((h.1 c).1 5).trans (final_5 m c),
      ((h.1 c).1 6).trans (final_6 m c), ((h.1 c).1 7).trans (final_7 m c), h.2 c⟩)
      (θ_run_and (run_main m g) (unchanged m g))
  · refine (θ_run _ _ _).mono (fun r h c => ?_) (Cert.Post2RefIdeal.Value.run m' g')
    obtain ⟨e0, e1, e2, e3⟩ := hm c
    refine ⟨(h c).1.trans ?_, (h c).2.1.trans ?_, (h c).2.2.1.trans ?_, (h c).2.2.2.1.trans ?_, (h c).2.2.2.2⟩
    · rw [val_main_v50_eq, e0, e1, e2, e3]
    · rw [e0, e1, e2, e3]; exact val_main_v30_eq _ _ _ _
    · rw [e0, e1, e2, e3]; exact val_main_v33_eq _ _ _ _
    · rw [e0, e1, e2, e3]; exact val_main_v51_eq _ _ _ _

end Cert.Post2Ideal.Product

end
-- ==== Proof.Products.MidBwd.lean ====
/- The gradients of the two norms in the middle: in the input of the second, added to the residual's, in the input of the
   first, and in both weights, which the blocks of rows add up. -/
module

public import proofs.«01_k».proof.Defs
public import proofs.«01_k».proof.Proof.Gen.MidBwdIdeal.Frame
public import proofs.«01_k».proof.Proof.Gen.MidBwdRefIdeal.Read
public import proofs.«01_k».proof.Proof.Products.Norm
public import Idealize.ShloMosaic.Lib.Pipeline.ValueKit

@[expose] public section

set_option maxRecDepth 16384

noncomputable section

open Idealize.ShloMosaic Idealize.ShloMosaic.TcCoe Idealize.SL.Sem
open scoped BigOperators

namespace Cert.MidBwdIdeal.Product

open Cert.MidBwdIdeal Cert.MidBwdIdeal.Gen Cert.MidBwdRefIdeal.Read

variable (m : (ℓ : Loc nD τ sig) → Buf (Elt Ideal) ℓ)

/-- The block that each window stages at a grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- One entry of the block of the residual's gradient. -/
theorem left (x w u d) (y : S128x4096.Idx) : k0_pay4 (F := Ideal) x w u d y = d y
    + Cert.Norm.grad (fun k => x (ix2 (y 0) k)) (fun k => u (ix2 (y 0) k) * w (ix2 0 k)) (x y) (u y * w (ix2 0 (y 1))) := by
  simp only [Cert.Norm.grad, Cert.Norm.under]
  pointwise [k0_pay4, k0_pay2]

/-- One entry of the reference's gradient of the residual. -/
theorem right (x d u w) (i : S4096x4096.Idx) : val_main_v34 (F := Ideal) x d u w i = d i
    + Cert.Norm.grad (fun k => x (ix2 (i 0) k)) (fun k => u (ix2 (i 0) k) * w (ix2 0 k)) (x i) (u i * w (ix2 0 (i 1))) := by
  rw [Cert.Norm.grad_eq_steps]
  simp only [Cert.Norm.steps, Cert.Norm.under]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_cst_5, val_main_v26, val_main_v27, val_main_cst_6, val_main_v28, val_main_v29, val_main_v30, val_main_v31, val_main_v32, val_main_v33, val_main_v34, val_main_v35, val_main_cst_7, val_main_v36, val_main_v37, val_main_cst_8, val_main_v38, val_main_v39, val_main_cst_9, val_main_v40, val_main_v41, val_main_v42, val_main_v43, val_main_cst_10, val_main_v44, val_main_v45, val_main_v46, val_main_v47, val_main_v48, val_main_v49, val_main_v50, val_main_cst_11, val_main_v51, val_main_v52, val_main_v53, val_main_v54, val_main_v55, val_main_cst_12, val_main_v56, val_main_v57, val_main_v58, val_main_v59, val_main_v60, val_main_cst_13, val_main_v61, val_main_v62, val_main_cst_14, val_main_v63, val_main_v64, val_main_v65, val_main_v66, val_main_v67, val_main_v68, val_main_v69]

/-- One entry of the block of the first norm's gradient, from the block of the residual's. -/
theorem left_6 (d x w) (y : S128x4096.Idx) : k0_pay7 (F := Ideal) d x (k0_pay5 (F := Ideal) x) w y
    = Cert.Norm.grad (fun k => x (ix2 (y 0) k)) (fun k => d (ix2 (y 0) k) * w (ix2 0 k)) (x y) (d y * w (ix2 0 (y 1))) := by
  simp only [Cert.Norm.grad, Cert.Norm.under]
  pointwise [k0_pay7, k0_pay6, k0_pay5]

/-- One entry of the reference's gradient of the first norm, from its gradient of the residual. -/
theorem right_6 (h x dy u w v) (i : S4096x4096.Idx) : val_main_v69 (F := Ideal) h x dy u w v i
    = Cert.Norm.grad (fun k => x (ix2 (i 0) k)) (fun k => val_main_v34 (F := Ideal) h dy u v (ix2 (i 0) k) * w (ix2 0 k)) (x i)
      (val_main_v34 (F := Ideal) h dy u v i * w (ix2 0 (i 1))) := by
  rw [Cert.Norm.grad_eq_steps]
  simp only [Cert.Norm.steps, Cert.Norm.under]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_cst_5, val_main_v26, val_main_v27, val_main_cst_6, val_main_v28, val_main_v29, val_main_v30, val_main_v31, val_main_v32, val_main_v33, val_main_v35, val_main_cst_7, val_main_v36, val_main_v37, val_main_cst_8, val_main_v38, val_main_v39, val_main_cst_9, val_main_v40, val_main_v41, val_main_v42, val_main_v43, val_main_cst_10, val_main_v44, val_main_v45, val_main_v46, val_main_v47, val_main_v48, val_main_v49, val_main_v50, val_main_cst_11, val_main_v51, val_main_v52, val_main_v53, val_main_v54, val_main_v55, val_main_cst_12, val_main_v56, val_main_v57, val_main_v58, val_main_v59, val_main_v60, val_main_cst_13, val_main_v61, val_main_v62, val_main_cst_14, val_main_v63, val_main_v64, val_main_v65, val_main_v66, val_main_v67, val_main_v68, val_main_v69]

/-- What a block of rows adds to the first weight's gradient. -/
theorem part_8 (d x) (y : S1x4096.Idx) : k0_pay8 (F := Ideal) d x (k0_pay5 (F := Ideal) x) y
    = ∑ k : Fin 128, d (ix2 k (y 1)) * x (ix2 k (y 1)) * Ideal.rsqrt (Cert.Norm.under fun l => x (ix2 k l)) := by
  simp only [Cert.Norm.under]
  pointwise [k0_pay8, k0_pay6, k0_pay5]

/-- The reference's gradient of the first weight. -/
theorem whole_8 (h x dy u v) (i : S1x4096.Idx) : val_main_v52 (F := Ideal) h x dy u v i
    = ∑ k : Fin 4096, val_main_v34 (F := Ideal) h dy u v (ix2 k (i 1)) * x (ix2 k (i 1)) * Ideal.rsqrt (Cert.Norm.under fun l => x (ix2 k l)) := by
  refine Eq.trans ?_ (Finset.sum_congr rfl fun k _ => (mul_comm _ _).trans (mul_assoc _ _ _).symm)
  simp only [Cert.Norm.under]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_cst_5, val_main_v26, val_main_v27, val_main_cst_6, val_main_v28, val_main_v29, val_main_v30, val_main_v31, val_main_v32, val_main_v33, val_main_v35, val_main_cst_7, val_main_v36, val_main_v37, val_main_cst_8, val_main_v38, val_main_v39, val_main_cst_9, val_main_v40, val_main_v41, val_main_v42, val_main_v43, val_main_cst_10, val_main_v44, val_main_v45, val_main_v46, val_main_v47, val_main_v48, val_main_v49, val_main_v50, val_main_cst_11, val_main_v51, val_main_v52, val_main_v53, val_main_v54, val_main_v55, val_main_cst_12, val_main_v56, val_main_v57, val_main_v58, val_main_v59, val_main_v60, val_main_cst_13, val_main_v61, val_main_v62, val_main_cst_14, val_main_v63, val_main_v64, val_main_v65, val_main_v66, val_main_v67, val_main_v68, val_main_v69]

/-- What a block of rows adds to the second weight's gradient. -/
theorem part_9 (x u) (y : S1x4096.Idx) : k0_pay10 (F := Ideal) (k0_pay3 (F := Ideal) x u) y
    = ∑ k : Fin 128, u (ix2 k (y 1)) * x (ix2 k (y 1)) * Ideal.rsqrt (Cert.Norm.under fun l => x (ix2 k l)) := by
  simp only [Cert.Norm.under]
  pointwise [k0_pay10, k0_pay3, k0_pay2]

/-- The reference's gradient of the second weight. -/
theorem whole_9 (x u) (i : S1x4096.Idx) : val_main_v17 (F := Ideal) x u i
    = ∑ k : Fin 4096, u (ix2 k (i 1)) * x (ix2 k (i 1)) * Ideal.rsqrt (Cert.Norm.under fun l => x (ix2 k l)) := by
  refine Eq.trans ?_ (Finset.sum_congr rfl fun k _ => (mul_comm _ _).trans (mul_assoc _ _ _).symm)
  simp only [Cert.Norm.under]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_cst_5, val_main_v26, val_main_v27, val_main_cst_6, val_main_v28, val_main_v29, val_main_v30, val_main_v31, val_main_v32, val_main_v33, val_main_v34, val_main_v35, val_main_cst_7, val_main_v36, val_main_v37, val_main_cst_8, val_main_v38, val_main_v39, val_main_cst_9, val_main_v40, val_main_v41, val_main_v42, val_main_v43, val_main_cst_10, val_main_v44, val_main_v45, val_main_v46, val_main_v47, val_main_v48, val_main_v49, val_main_v50, val_main_cst_11, val_main_v51, val_main_v52, val_main_v53, val_main_v54, val_main_v55, val_main_cst_12, val_main_v56, val_main_v57, val_main_v58, val_main_v59, val_main_v60, val_main_cst_13, val_main_v61, val_main_v62, val_main_cst_14, val_main_v63, val_main_v64, val_main_v65, val_main_v66, val_main_v67, val_main_v68, val_main_v69]

/-- A later point's addition, first weight. -/
theorem add_8 (d x a) (y : S1x4096.Idx) : k0_pay9 (F := Ideal) d x (k0_pay5 (F := Ideal) x) a y
    = a y + k0_pay8 (F := Ideal) d x (k0_pay5 (F := Ideal) x) y := by
  generalize k0_pay5 (F := Ideal) x = v
  pointwise [k0_pay9, k0_pay8, k0_pay6]

/-- A later point's addition, second weight. -/
theorem add_9 (v a) (y : S1x4096.Idx) : k0_pay1 (F := Ideal) v a y = a y + v y := by
  pointwise [k0_pay1]

/-- Every point leaves the block of the first norm's gradient. -/
theorem out_6 (c : Dev nD) (t : Fin cfg0.N) : (outsAt0 m c t.val t.isLt).1
    = k0_pay7 (F := Ideal) (k0_pay4 (F := Ideal) (iblk m c 0 t) (iblk m c 5 t) (iblk m c 3 t) (iblk m c 2 t)) (iblk m c 1 t) (k0_pay5 (F := Ideal) (iblk m c 1 t)) (iblk m c 4 t) := by
  by_cases h : t.val % 32 = 0
  · have hN : t.val < 32 := lt_of_lt_of_eq t.isLt (show cfg0.N = 32 from N_0)
    rw [outsAt0_A m c t h (by omega) h (by omega)]; frame_out
  · rw [outsAt0_B m c t h (by omega) h (by omega)]; frame_out

/-- Every point leaves the block of the residual's gradient. -/
theorem out_7 (c : Dev nD) (t : Fin cfg0.N) : (outsAt0 m c t.val t.isLt).2.1
    = k0_pay4 (F := Ideal) (iblk m c 0 t) (iblk m c 5 t) (iblk m c 3 t) (iblk m c 2 t) := by
  by_cases h : t.val % 32 = 0
  · have hN : t.val < 32 := lt_of_lt_of_eq t.isLt (show cfg0.N = 32 from N_0)
    rw [outsAt0_A m c t h (by omega) h (by omega)]; frame_out
  · rw [outsAt0_B m c t h (by omega) h (by omega)]; frame_out

/-- The first point stores its part of the first weight's gradient. -/
theorem first_8 (c : Dev nD) (t : Fin cfg0.N) (h : t.val % 32 = 0) : (outsAt0 m c t.val t.isLt).2.2.1
    = k0_pay8 (F := Ideal) (k0_pay4 (F := Ideal) (iblk m c 0 t) (iblk m c 5 t) (iblk m c 3 t) (iblk m c 2 t)) (iblk m c 1 t) (k0_pay5 (F := Ideal) (iblk m c 1 t)) := by
  have hN : t.val < 32 := lt_of_lt_of_eq t.isLt (show cfg0.N = 32 from N_0)
  rw [outsAt0_A m c t h (by omega) h (by omega)]; frame_out

/-- A later point adds its part to what the points before left. -/
theorem step_8 (c : Dev nD) (t : Fin cfg0.N) (h : ¬t.val % 32 = 0) (y : S1x4096.Idx) : (outsAt0 m c t.val t.isLt).2.2.1 y
    = (outsAt0 m c (t.val - 1) (Nat.lt_of_le_of_lt (Nat.sub_le _ _) t.isLt)).2.2.1 y + k0_pay8 (F := Ideal) (k0_pay4 (F := Ideal) (iblk m c 0 t) (iblk m c 5 t) (iblk m c 3 t) (iblk m c 2 t)) (iblk m c 1 t) (k0_pay5 (F := Ideal) (iblk m c 1 t)) y := by
  rw [outsAt0_B m c t h (by omega) h (by omega)]; frame_out
  exact add_8 _ _ _ y

/-- The first point stores its part of the second weight's gradient. -/
theorem first_9 (c : Dev nD) (t : Fin cfg0.N) (h : t.val % 32 = 0) : (outsAt0 m c t.val t.isLt).2.2.2
    = k0_pay10 (F := Ideal) (k0_pay3 (F := Ideal) (iblk m c 0 t) (iblk m c 3 t)) := by
  have hN : t.val < 32 := lt_of_lt_of_eq t.isLt (show cfg0.N = 32 from N_0)
  rw [outsAt0_A m c t h (by omega) h (by omega)]; frame_out

/-- A later point adds its part to what the points before left. -/
theorem step_9 (c : Dev nD) (t : Fin cfg0.N) (h : ¬t.val % 32 = 0) (y : S1x4096.Idx) : (outsAt0 m c t.val t.isLt).2.2.2 y
    = (outsAt0 m c (t.val - 1) (Nat.lt_of_le_of_lt (Nat.sub_le _ _) t.isLt)).2.2.2 y + k0_pay10 (F := Ideal) (k0_pay3 (F := Ideal) (iblk m c 0 t) (iblk m c 3 t)) y := by
  rw [outsAt0_B m c t h (by omega) h (by omega)]; frame_out
  exact add_9 _ _ y

/-- The residual's gradient that the call leaves is the reference's. -/
theorem final_7 (c : Dev nD) : (dats m 0 c).arrAt 7 (cfgs 0).N = val_main_v34 (F := Ideal) (m ((c : Thread nD τ).loc main_arg0)) (m ((c : Thread nD τ).loc main_arg2)) (m ((c : Thread nD τ).loc main_arg3)) (m ((c : Thread nD τ).loc main_arg5)) := by
  refine (dats m 0 c).arrAt_eq_of_covers 7 _ (by decide +kernel) fun t hf y => ?_
  blk_simp
  rw [after0_7, out_7, left, right]
  simp only [Cert.Norm.grad, Cert.Norm.under]
  blk_point [iblk, V, idx t]

/-- The first norm's gradient that the call leaves is the reference's. -/
theorem final_6 (c : Dev nD) : (dats m 0 c).arrAt 6 (cfgs 0).N = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, out_6, left_6, right_6]
  simp only [left, right, Cert.Norm.grad, Cert.Norm.under]
  blk_point [iblk, V, idx t]

/-- The first weight's gradient that the call leaves is the reference's. -/
theorem final_8 (c : Dev nD) : (dats m 0 c).arrAt 8 (cfgs 0).N = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 8 _ (by decide +kernel) fun t hf y => ?_
  have ht : t.val % 32 = 31 := (flush0_8 t).mp hf
  blk_simp
  rw [after0_8, Pipeline.eq_sum_fin_of_reset_step_apply_of_flush (fun n h => (outsAt0 m c n h).2.2.1) 32 (fun _ => 0) _
    (fun t h j => by rw [first_8 m c t h, zero_add]) (fun t h j => step_8 m c t h j) t ht _, zero_add, whole_8]
  simp only [part_8]
  refine Fin.sum_mul_add_congr fun s k hl => ?_
  simp only [left, right, Cert.Norm.grad, Cert.Norm.under]
  blk_point [iblk, V, idx t, idx ⟨_, Pipeline.run_point_lt_of_flush t ht s⟩]

/-- The second weight's gradient that the call leaves is the reference's. -/
theorem final_9 (c : Dev nD) : (dats m 0 c).arrAt 9 (cfgs 0).N = val_main_v17 (F := Ideal) (m ((c : Thread nD τ).loc main_arg0)) (m ((c : Thread nD τ).loc main_arg3)) := by
  refine (dats m 0 c).arrAt_eq_of_covers 9 _ (by decide +kernel) fun t hf y => ?_
  have ht : t.val % 32 = 31 := (flush0_9 t).mp hf
  blk_simp
  rw [after0_9, Pipeline.eq_sum_fin_of_reset_step_apply_of_flush (fun n h => (outsAt0 m c n h).2.2.2) 32 (fun _ => 0) _
    (fun t h j => by rw [first_9 m c t h, zero_add]) (fun t h j => step_9 m c t h j) t ht _, zero_add, whole_9]
  simp only [part_9]
  refine Fin.sum_mul_add_congr fun s k hl => ?_
  simp only [Cert.Norm.under]
  blk_point [iblk, V, idx t, idx ⟨_, Pipeline.run_point_lt_of_flush t ht s⟩]

theorem algebraic : Cert.algebraic_MidBwdIdeal_MidBwdRefIdeal (hMidBwdIdeal := Cert.MidBwdIdeal.Gen.facts)
    (hMidBwdRefIdeal := Cert.MidBwdRefIdeal.Gen.facts) := by
  intro m g m' g' _ hm
  refine ⟨fun c => val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => val_main_v34 (F := Ideal) (m ((c.tc : Thread nD τ).loc main_arg0)) (m ((c.tc : Thread nD τ).loc main_arg2)) (m ((c.tc : Thread nD τ).loc main_arg3)) (m ((c.tc : Thread nD τ).loc main_arg5)),
    fun c => val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)),
    fun c => val_main_v17 (F := Ideal) (m ((c.tc : Thread nD τ).loc main_arg0)) (m ((c.tc : Thread nD τ).loc main_arg3)), ?_, ?_⟩
  · exact (θ_run _ _ _).mono (fun r h c => ⟨((h.1 c).1 6).trans (final_6 m c), ((h.1 c).1 7).trans (final_7 m c),
      ((h.1 c).1 8).trans (final_8 m c), ((h.1 c).1 9).trans (final_9 m c), h.2 c⟩)
      (θ_run_and (run_main m g) (unchanged m g))
  · refine (θ_run _ _ _).mono (fun r h c => ?_) (Cert.MidBwdRefIdeal.Value.run m' g')
    obtain ⟨e0, e1, e2, e3, e4, e5⟩ := hm c
    refine ⟨(h c).1.trans ?_, (h c).2.1.trans ?_, (h c).2.2.1.trans ?_, (h c).2.2.2.1.trans ?_, (h c).2.2.2.2⟩
    · rw [val_main_v69_eq, e0, e1, e2, e3, e4, e5]
    · rw [e0, e2, e3, e5]; exact val_main_v34_eq _ _ _ _
    · rw [val_main_v52_eq, e0, e1, e2, e3, e5]
    · rw [e0, e3]; exact val_main_v17_eq _ _

end Cert.MidBwdIdeal.Product

end
-- ==== Proof.Products.ScFwd.lean ====
/- The forward pass of the short convolution. -/
module

public import proofs.«01_k».proof.Defs
public import proofs.«01_k».proof.Proof.Gen.ScFwdIdeal.Frame
public import proofs.«01_k».proof.Proof.Gen.ScFwdRefIdeal.Read
public import proofs.«01_k».proof.Proof.ScBwd.Points
public import Idealize.ShloMosaic.Lib.Pipeline.ValueKit

@[expose] public section

set_option maxRecDepth 16384

noncomputable section

open Idealize.ShloMosaic Idealize.ShloMosaic.TcCoe Idealize.SL.Sem
open scoped BigOperators

namespace Cert.ScFwdIdeal.Product

open Cert.ScFwdIdeal Cert.ScFwdIdeal.Gen Cert.ScFwdRefIdeal.Read
open Cert.ScBwdIdeal.Conv (at2 at2_ix pick_ge)

variable (m : (ℓ : Loc nD τ sig) → Buf (Elt Ideal) ℓ)

/-- The block that each window stages at a grid point. -/
theorem idx : ∀ t : Fin cfg0.N, win0_0.index t = ![t.val / 16, 65 + t.val % 16]
    ∧ win0_1.index t = ![t.val / 16, 81 + t.val % 16]
    ∧ win0_2.index t = ![t.val / 16, 97 + t.val % 16]
    ∧ win0_3.index t = ![0, t.val % 16]
    ∧ win0_4.index t = ![t.val / 16, t.val % 16] :=
  (by decide +kernel : ∀ t : Fin grid0.N, _)

theorem lt32 (t : Fin cfg0.N) : t.val < 32 := t.isLt

theorem read_0 (c : Dev nD) (t : Fin cfg0.N) {i j : ℕ} (hi : i < 2048) (hj : j < 128) :
    at2 (a := 2048) (b := 128) (iblk m c 0 t) i j
      = at2 (a := 4096) (b := 14592) (m ((c : Thread nD τ).loc main_arg0)) (t.val / 16 * 2048 + i) (8320 + (t.val % 16 * 128 + j)) := by
  have ht := lt32 t
  rw [at2, dif_pos ⟨hi, hj⟩, at2, dif_pos ⟨by omega, by omega⟩]
  blk_ext [iblk, V, idx t]

theorem read_1 (c : Dev nD) (t : Fin cfg0.N) {i j : ℕ} (hi : i < 2048) (hj : j < 128) :
    at2 (a := 2048) (b := 128) (iblk m c 1 t) i j
      = at2 (a := 4096) (b := 14592) (m ((c : Thread nD τ).loc main_arg0)) (t.val / 16 * 2048 + i) (10368 + (t.val % 16 * 128 + j)) := by
  have ht := lt32 t
  rw [at2, dif_pos ⟨hi, hj⟩, at2, dif_pos ⟨by omega, by omega⟩]
  blk_ext [iblk, V, idx t]

theorem read_2 (c : Dev nD) (t : Fin cfg0.N) {i j : ℕ} (hi : i < 2048) (hj : j < 128) :
    at2 (a := 2048) (b := 128) (iblk m c 2 t) i j
      = at2 (a := 4096) (b := 14592) (m ((c : Thread nD τ).loc main_arg0)) (t.val / 16 * 2048 + i) (12416 + (t.val % 16 * 128 + j)) := by
  have ht := lt32 t
  rw [at2, dif_pos ⟨hi, hj⟩, at2, dif_pos ⟨by omega, by omega⟩]
  blk_ext [iblk, V, idx t]

theorem read_3 (c : Dev nD) (t : Fin cfg0.N) {i j : ℕ} (hi : i < 3) (hj : j < 128) :
    at2 (a := 3) (b := 128) (iblk m c 3 t) i j
      = at2 (a := 3) (b := 2048) (m ((c : Thread nD τ).loc main_arg1)) i (t.val % 16 * 128 + j) := by
  have ht := lt32 t
  rw [at2, dif_pos ⟨hi, hj⟩, at2, dif_pos ⟨by omega, by omega⟩]
  blk_ext [iblk, V, idx t]

/-- The gated convolution, at a row of a block. -/
theorem pay (b c h : Vec Ideal S2048x128 .f32) (w : Vec Ideal S3x128 .f32) (p : Fin 2048) (q : Fin 128) :
    k0_pay1 (F := Ideal) b c h w (ix2 p q)
      = at2 b ↑p ↑q * (at2 w 2 ↑q * (at2 c (↑p) ↑q * at2 h (↑p) ↑q) + (if 2 ≤ p.val then at2 w 0 ↑q * (at2 c (↑p - 2) ↑q * at2 h (↑p - 2) ↑q) else 0)
        + (if 1 ≤ p.val then at2 w 1 ↑q * (at2 c (↑p - 1) ↑q * at2 h (↑p - 1) ↑q) else 0)) := by
  pointwise [k0_pay1]
  have ec := at2_ix (a := 2048) (b := 128) c
  have eh := at2_ix (a := 2048) (b := 128) h
  have ed := at2_ix (a := 2048) (b := 128) b
  have ew := at2_ix (a := 3) (b := 128) w
  have hp := p.isLt
  rw [pick_ge hp (by omega), pick_ge hp (by omega)]
  simp only [ec, eh, ed, ew, Fin.coe_ofNat_eq_mod, Nat.reduceMod]
  by_cases h1 : 1 ≤ p.val <;> by_cases h2 : 2 ≤ p.val <;> first | omega | skip
  · simp only [if_pos h1, if_pos h2, show (p.val + 2048 - 2) % 2048 = p.val - 2 by omega, show (p.val + 2048 - 1) % 2048 = p.val - 1 by omega]
  · simp only [if_pos h1, if_neg h2, show (p.val + 2048 - 1) % 2048 = p.val - 1 by omega]
  · simp only [if_neg h1, if_neg h2]

/-- The reference's gated convolution. -/
theorem ref (x0 : (⟨S4096x14592, .f32⟩ : BufTy).Contents (Elt Ideal)) (x1 : (⟨S3x2048, .f32⟩ : BufTy).Contents (Elt Ideal)) (p : Fin 4096) (q : Fin 2048) : val_main_v33 (F := Ideal) x0 x1 (ix2 p q)
      = at2 x0 ↑p (8320 + ↑q) * (at2 x1 2 ↑q * (at2 x0 (↑p) (10368 + ↑q) * at2 x0 (↑p) (12416 + ↑q)) + (if 2 ≤ p.val % 2048 then at2 x1 0 ↑q * (at2 x0 (↑p - 2) (10368 + ↑q) * at2 x0 (↑p - 2) (12416 + ↑q)) else 0)
        + (if 1 ≤ p.val % 2048 then at2 x1 1 ↑q * (at2 x0 (↑p - 1) (10368 + ↑q) * at2 x0 (↑p - 1) (12416 + ↑q)) else 0)) := by
  pointwise [val_main_v0, val_main_v1, val_main_v2, val_main_v3, val_main_v4, val_main_v5, val_main_v6, val_main_cst, val_main_v7, val_main_v8, val_main_v9, val_main_v10, val_main_v11, val_main_v12, val_main_v13, val_main_v14, val_main_cst_0, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33]
  have e0 := at2_ix (a := 4096) (b := 14592) x0
  have e1 := at2_ix (a := 3) (b := 2048) x1
  have hi := p.isLt
  have a2 : 2 ≤ p.val % 2048 → p.val / 2048 * 2048 + (p.val % 2048 - 2) = p.val - 2 := by omega
  have a1 : 1 ≤ p.val % 2048 → p.val / 2048 * 2048 + (1 + p.val % 2048 - 2) = p.val - 1 := by omega
  have a0 : p.val / 2048 * 2048 + p.val % 2048 = p.val := by omega
  simp only [e0, e1, dite_eq_ite, Fin.coe_ofNat_eq_mod]
  try simp only [Nat.reduceMod]
  by_cases h1 : p.val % 2048 < 1 <;> by_cases h2 : p.val % 2048 < 2 <;> split_ifs <;>
    first
    | omega
    | (simp only [a0, a1 (by first | trivial | omega), a2 (by first | trivial | omega), zero_mul, zero_add, add_zero]; ac_rfl)
    | (simp only [a0, a1 (by first | trivial | omega), zero_mul, zero_add, add_zero]; ac_rfl)
    | (simp only [a0, zero_mul, zero_add, add_zero]; ac_rfl)

/-- A grid point's block, in the arrays' own rows. -/
theorem point (c : Dev nD) (t : Fin cfg0.N) (p : Fin 2048) (q : Fin 128) :
    k0_pay1 (F := Ideal) (iblk m c 0 t) (iblk m c 1 t) (iblk m c 2 t) (iblk m c 3 t) (ix2 p q)
      = val_main_v33 (F := Ideal) (m ((c : Thread nD τ).loc main_arg0)) (m ((c : Thread nD τ).loc main_arg1))
        (ix2 ⟨t.val / 16 * 2048 + p.val, by have := lt32 t; have := p.isLt; omega⟩ ⟨t.val % 16 * 128 + q.val, by have := q.isLt; omega⟩) := by
  have ht := lt32 t
  have hp := p.isLt
  have hq := q.isLt
  rw [pay, ref]
  simp only [show (t.val / 16 * 2048 + p.val) % 2048 = p.val by omega]
  rw [read_0 m c t hp hq, read_1 m c t hp hq, read_2 m c t hp hq, read_3 m c t (by omega : 2 < 3) hq]
  congr 2
  · congr 1
    by_cases h : 2 ≤ p.val
    · rw [if_pos h, if_pos h, read_3 m c t (by omega : 0 < 3) hq, read_1 m c t (by omega : p.val - 2 < 2048) hq,
        read_2 m c t (by omega : p.val - 2 < 2048) hq, show t.val / 16 * 2048 + (p.val - 2) = t.val / 16 * 2048 + p.val - 2 by omega]
    · rw [if_neg h, if_neg h]
  · by_cases h : 1 ≤ p.val
    · rw [if_pos h, if_pos h, read_3 m c t (by omega : 1 < 3) hq, read_1 m c t (by omega : p.val - 1 < 2048) hq,
        read_2 m c t (by omega : p.val - 1 < 2048) hq, show t.val / 16 * 2048 + (p.val - 1) = t.val / 16 * 2048 + p.val - 1 by omega]
    · rw [if_neg h, if_neg h]

/-- The array that the call leaves: the points' blocks tile it. -/
theorem final (c : Dev nD) : (dats m 0 c).arrAt 4 (cfgs 0).N
    = val_main_v33 (F := Ideal) (m ((c : Thread nD τ).loc main_arg0)) (m ((c : Thread nD τ).loc main_arg1)) := by
  refine (dats m 0 c).arrAt_eq_of_covers 4 _ (by decide +kernel) fun t hf y => ?_
  have ht := lt32 t
  have hy : (((cfg0.win 4).blk t).view.emb y) = ix2 (⟨t.val / 16 * 2048 + (y 0).val, by have := (y 0).isLt; simp at this; omega⟩ : Fin 4096)
      (⟨t.val % 16 * 128 + (y 1).val, by have := (y 1).isLt; simp at this; omega⟩ : Fin 2048) := by
    blk_ext [idx t]
  blk_simp
  rw [after0_4, hy]
  frame_out
  exact (congrArg _ (ix2_eta y)).symm.trans (point m c t (y 0) (y 1))

theorem algebraic : Cert.algebraic_ScFwdIdeal_ScFwdRefIdeal (hScFwdIdeal := Cert.ScFwdIdeal.Gen.facts)
    (hScFwdRefIdeal := Cert.ScFwdRefIdeal.Gen.facts) := by
  intro m g m' g' _ hm
  refine ⟨fun c => val_main_v33 (F := Ideal) (m ((c.tc : Thread nD τ).loc main_arg0)) (m ((c.tc : Thread nD τ).loc main_arg1)), ?_, ?_⟩
  · exact (θ_run _ _ _).mono (fun r h c => ⟨((h.1 c).1 4).trans (final m c), h.2 c⟩)
      (θ_run_and (run_main m g) (unchanged m g))
  · refine (θ_run _ _ _).mono (fun r h c => ?_) (Cert.ScFwdRefIdeal.Value.run m' g')
    obtain ⟨e0, e1⟩ := hm c
    refine ⟨(h c).1.trans ?_, (h c).2⟩
    rw [e0, e1]; exact val_main_v33_eq _ _

end Cert.ScFwdIdeal.Product

end
-- ==== Proof.Products.QkvFwd.lean ====
/- The forward pass of the convolution of q, k and v, and its gate. -/
module

public import proofs.«01_k».proof.Defs
public import proofs.«01_k».proof.Proof.Gen.QkvFwdIdeal.Frame
public import proofs.«01_k».proof.Proof.Gen.QkvFwdRefIdeal.Read
public import proofs.«01_k».proof.Proof.ScBwd.Points
public import Idealize.ShloMosaic.Lib.Pipeline.ValueKit

@[expose] public section

set_option maxRecDepth 16384

noncomputable section

open Idealize.ShloMosaic Idealize.ShloMosaic.TcCoe Idealize.SL.Sem
open scoped BigOperators

namespace Cert.QkvFwdIdeal.Product

open Cert.QkvFwdIdeal Cert.QkvFwdIdeal.Gen Cert.QkvFwdRefIdeal.Read
open Cert.ScBwdIdeal.Conv (at2 at2_ix pick_ge)

variable (m : (ℓ : Loc nD τ sig) → Buf (Elt Ideal) ℓ)

/-- The block that each window stages at a grid point. -/
theorem idx : ∀ t : Fin cfg0.N, win0_0.index t = ![t.val / 16 % 2, t.val / 32 * 16 + t.val % 16]
    ∧ win0_1.index t = ![0, t.val / 32 * 16 + t.val % 16]
    ∧ win0_2.index t = ![t.val / 32, t.val / 16 % 2, t.val % 16] :=
  (by decide +kernel : ∀ t : Fin grid0.N, _)

theorem lt96 (t : Fin cfg0.N) : t.val < 96 := t.isLt

/-- Four taps `w` over a column `x`, at row `p`; before the first row the column is zero. -/
def taps (w x : ℕ → EReal) (p : ℕ) : EReal :=
  w 3 * x p + (if 3 ≤ p then w 0 * x (p - 3) else 0) + (if 2 ≤ p then w 1 * x (p - 2) else 0) + (if 1 ≤ p then w 2 * x (p - 1) else 0)

/-- A number times its logistic. -/
def silu (v : EReal) : EReal := v * Ideal.div 1 (1 + Ideal.exp (-v))

/-- The taps read rows of one sequence only. -/
theorem taps_congr {w w' x x' : ℕ → EReal} {p : ℕ} (hp : p < 2048) (hw : ∀ k, k < 4 → w k = w' k) (hx : ∀ i, i < 2048 → x i = x' i) :
    taps w x p = taps w' x' p := by
  unfold taps
  rw [hw 0 (by omega), hw 1 (by omega), hw 2 (by omega), hw 3 (by omega), hx p hp, hx (p - 1) (by omega), hx (p - 2) (by omega),
    hx (p - 3) (by omega)]

theorem read_0 (c : Dev nD) (t : Fin cfg0.N) {i j : ℕ} (hi : i < 2048) (hj : j < 128) :
    at2 (a := 2048) (b := 128) (iblk m c 0 t) i j
      = at2 (a := 4096) (b := 14592) (m ((c : Thread nD τ).loc main_arg0)) (t.val / 16 % 2 * 2048 + i) (t.val / 32 * 2048 + (t.val % 16 * 128 + j)) := by
  have ht := lt96 t
  rw [at2, dif_pos ⟨hi, hj⟩, at2, dif_pos ⟨by omega, by omega⟩]
  blk_ext [iblk, V, idx t]

theorem read_1 (c : Dev nD) (t : Fin cfg0.N) {i j : ℕ} (hi : i < 4) (hj : j < 128) :
    at2 (a := 4) (b := 128) (iblk m c 1 t) i j
      = at2 (a := 4) (b := 6144) (m ((c : Thread nD τ).loc main_arg1)) i (t.val / 32 * 2048 + (t.val % 16 * 128 + j)) := by
  have ht := lt96 t
  rw [at2, dif_pos ⟨hi, hj⟩, at2, dif_pos ⟨by omega, by omega⟩]
  blk_ext [iblk, V, idx t]

/-- The convolution, at a row of a block. -/
theorem pay (x : Vec Ideal S2048x128 .f32) (w : Vec Ideal S4x128 .f32) (p : Fin 2048) (q : Fin 128) :
    k0_pay2 (F := Ideal) x w (ix2 p q) = taps (fun k => at2 w k ↑q) (fun i => at2 x i ↑q) ↑p := by
  unfold taps
  pointwise [k0_pay2]
  have ex := at2_ix (a := 2048) (b := 128) x
  have ew := at2_ix (a := 4) (b := 128) w
  have hp := p.isLt
  rw [pick_ge hp (by omega), pick_ge hp (by omega), pick_ge hp (by omega)]
  simp only [ex, ew, Fin.coe_ofNat_eq_mod, Nat.reduceMod]
  by_cases h1 : 1 ≤ p.val <;> by_cases h2 : 2 ≤ p.val <;> by_cases h3 : 3 ≤ p.val <;> first | omega | skip
  · simp only [if_pos h1, if_pos h2, if_pos h3, show (p.val + 2048 - 3) % 2048 = p.val - 3 by omega,
      show (p.val + 2048 - 2) % 2048 = p.val - 2 by omega, show (p.val + 2048 - 1) % 2048 = p.val - 1 by omega]
  · simp only [if_pos h1, if_pos h2, if_neg h3, show (p.val + 2048 - 2) % 2048 = p.val - 2 by omega, show (p.val + 2048 - 1) % 2048 = p.val - 1 by omega]
  · simp only [if_pos h1, if_neg h2, if_neg h3, show (p.val + 2048 - 1) % 2048 = p.val - 1 by omega]
  · simp only [if_neg h1, if_neg h2, if_neg h3]

/-- The reference's convolution, at a row of a sequence. -/
theorem ref_conv (x0 : (⟨S4096x14592, .f32⟩ : BufTy).Contents (Elt Ideal)) (x1 : (⟨S4x6144, .f32⟩ : BufTy).Contents (Elt Ideal)) (a : Fin 2) (p : Fin 2048) (q : Fin 6144) :
    val_main_v32 (F := Ideal) x0 x1 (ix3 a p q) = taps (fun k => at2 x1 k ↑q) (fun i => at2 x0 (↑a * 2048 + i) ↑q) ↑p := by
  unfold taps
  pointwise [val_main_v0, val_main_v1, val_main_cst, val_main_v2, val_main_v3, val_main_v4, val_main_v5, val_main_v6, val_main_v7, val_main_v8, val_main_v9, val_main_cst_0, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32]
  have e0 := at2_ix (a := 4096) (b := 14592) x0
  have e1 := at2_ix (a := 4) (b := 6144) x1
  have hp := p.isLt
  simp only [e0, e1, dite_eq_ite, Fin.coe_ofNat_eq_mod, Nat.reduceMod]
  by_cases h1 : 1 ≤ p.val <;> by_cases h2 : 2 ≤ p.val <;> by_cases h3 : 3 ≤ p.val <;> first | omega | skip
  · simp only [if_pos h1, if_pos h2, if_pos h3, if_neg (show ¬p.val < 3 by omega), if_neg (show ¬1 + p.val < 3 by omega), if_neg (show ¬2 + p.val < 3 by omega),
      show 1 + p.val - 3 = p.val - 2 by omega, show 2 + p.val - 3 = p.val - 1 by omega]
    ac_rfl
  · simp only [if_pos h1, if_pos h2, if_neg h3, if_pos (show p.val < 3 by omega), if_neg (show ¬1 + p.val < 3 by omega), if_neg (show ¬2 + p.val < 3 by omega),
      show 1 + p.val - 3 = p.val - 2 by omega, show 2 + p.val - 3 = p.val - 1 by omega, zero_mul, add_zero, zero_add]
    ac_rfl
  · simp only [if_pos h1, if_neg h2, if_neg h3, if_pos (show p.val < 3 by omega), if_pos (show 1 + p.val < 3 by omega), if_neg (show ¬2 + p.val < 3 by omega),
      show 2 + p.val - 3 = p.val - 1 by omega, zero_mul, add_zero, zero_add]
    ac_rfl
  · simp only [if_neg h1, if_neg h2, if_neg h3, if_pos (show p.val < 3 by omega), if_pos (show 1 + p.val < 3 by omega), if_pos (show 2 + p.val < 3 by omega),
      zero_mul, add_zero, zero_add]
    ac_rfl

/-- The reference's gated convolution: q, k and v lie one after another in the columns. -/
theorem ref (x0 : (⟨S4096x14592, .f32⟩ : BufTy).Contents (Elt Ideal)) (x1 : (⟨S4x6144, .f32⟩ : BufTy).Contents (Elt Ideal)) (a : Fin 3) (p : Fin 4096) (q : Fin 2048) :
    val_main_v43 (F := Ideal) x0 x1 (ix3 a p q)
      = silu (taps (fun k => at2 x1 k (↑a * 2048 + ↑q)) (fun i => at2 x0 (↑p / 2048 * 2048 + i) (↑a * 2048 + ↑q)) (↑p % 2048)) := by
  unfold silu
  pointwise [val_main_call0_v0, val_main_call0_v1, val_main_call0_cst, val_main_call0_v2, val_main_call0_v3, val_main_call0_cst_0, val_main_call0_v4, val_main_call0_v5, val_main_v33, val_main_v34, val_main_v35, val_main_v36, val_main_v37, val_main_v38, val_main_v39, val_main_v40, val_main_v41, val_main_v42, val_main_v43]
  have ha := a.isLt
  rcases (by omega : a.val = 0 ∨ a.val = 1 ∨ a.val = 2) with h | h | h
  · rw [dif_pos (by omega)]
    simp only [ref_conv, show a.val * 2048 + q.val = q.val by omega]
  · rw [dif_neg (by omega), dif_pos (by omega)]
    simp only [ref_conv, show a.val * 2048 + q.val = 2048 + q.val by omega]
  · rw [dif_neg (by omega), dif_neg (by omega)]
    simp only [ref_conv, show a.val * 2048 + q.val = 4096 + q.val by omega]

/-- A grid point's block: the gate of the convolution. -/
theorem gate (x : Vec Ideal S2048x128 .f32) (w : Vec Ideal S4x128 .f32) (y : S1x2048x128.Idx) :
    k0_pay1 (F := Ideal) (k0_pay2 x w) (k0_pay3 x w) k0_pay4 y = silu (taps (fun k => at2 w k (y 2)) (fun i => at2 x i (y 2)) (y 1)) := by
  refine Eq.trans ?_ (congrArg silu (pay x w (y 1) (y 2)))
  unfold silu
  rw [← zero_sub]
  pointwise [k0_pay1, k0_pay3, k0_pay4]

/-- The array that the call leaves: the points' blocks tile it. -/
theorem final (c : Dev nD) : (dats m 0 c).arrAt 2 (cfgs 0).N
    = val_main_v43 (F := Ideal) (m ((c : Thread nD τ).loc main_arg0)) (m ((c : Thread nD τ).loc main_arg1)) := by
  refine (dats m 0 c).arrAt_eq_of_covers 2 _ (by decide +kernel) fun t hf y => ?_
  have ht := lt96 t
  have h1 : (y 1).val < 2048 := by have := (y 1).isLt; simpa using this
  have h2 : (y 2).val < 128 := by have := (y 2).isLt; simpa using this
  have h0 : (y 0).val < 1 := by have := (y 0).isLt; simpa using this
  have hy : (((cfg0.win 2).blk t).view.emb y) = ix3 (⟨t.val / 32, by omega⟩ : Fin 3) (⟨t.val / 16 % 2 * 2048 + (y 1).val, by omega⟩ : Fin 4096)
      (⟨t.val % 16 * 128 + (y 2).val, by omega⟩ : Fin 2048) := by
    blk_ext [idx t]
  blk_simp
  rw [after0_2, hy, ref]
  frame_out
  refine (gate _ _ y).trans (congrArg silu ?_)
  simp only [show (t.val / 16 % 2 * 2048 + (y 1).val) % 2048 = (y 1).val by omega,
    show (t.val / 16 % 2 * 2048 + (y 1).val) / 2048 * 2048 = t.val / 16 % 2 * 2048 by omega]
  exact taps_congr h1 (fun k hk => read_1 m c t hk h2) (fun i hi => read_0 m c t hi h2)

theorem algebraic : Cert.algebraic_QkvFwdIdeal_QkvFwdRefIdeal (hQkvFwdIdeal := Cert.QkvFwdIdeal.Gen.facts)
    (hQkvFwdRefIdeal := Cert.QkvFwdRefIdeal.Gen.facts) := by
  intro m g m' g' _ hm
  refine ⟨fun c => val_main_v43 (F := Ideal) (m ((c.tc : Thread nD τ).loc main_arg0)) (m ((c.tc : Thread nD τ).loc main_arg1)), ?_, ?_⟩
  · exact (θ_run _ _ _).mono (fun r h c => ⟨((h.1 c).1 2).trans (final m c), h.2 c⟩)
      (θ_run_and (run_main m g) (unchanged m g))
  · refine (θ_run _ _ _).mono (fun r h c => ?_) (Cert.QkvFwdRefIdeal.Value.run m' g')
    obtain ⟨e0, e1⟩ := hm c
    refine ⟨(h c).1.trans ?_, (h c).2⟩
    rw [val_main_v43_eq, e0, e1]

end Cert.QkvFwdIdeal.Product

end
-- ==== Proof.Adam.Word.lean ====
/- A word between 0 and 3 is one of 0, 1, 2, 3. -/
module

public import Idealize.ShloMosaic.PureOps

@[expose] public section

namespace Cert

open Idealize.ShloMosaic

theorem word_named (x : BitVec 32) (h : IntOp.andi (IntOp.cmpi .sge x 0#32) (IntOp.cmpi .sle x 3#32) = 1#1) :
    x = 0#32 ∨ x = 1#32 ∨ x = 2#32 ∨ x = 3#32 := by
  have andi_one (a b : BitVec 1) : IntOp.andi a b = 1#1 ↔ a = 1#1 ∧ b = 1#1 := by revert a b; decide
  have ofBool_one (p : Bool) : BitVec.ofBool p = 1#1 ↔ p = true := by cases p <;> decide
  obtain ⟨h0, h3⟩ := (andi_one _ _).1 h
  simp only [IntOp.cmpi, ofBool_one, BitVec.sle, decide_eq_true_eq] at h0 h3
  have h0' : 0 ≤ x.toInt := h0
  have h3' : x.toInt ≤ 3 := h3
  have e : x = BitVec.ofInt 32 x.toInt := (BitVec.ofInt_toInt).symm
  have c : x.toInt = 0 ∨ x.toInt = 1 ∨ x.toInt = 2 ∨ x.toInt = 3 := by omega
  rcases c with c | c | c | c <;> rw [c] at e <;> simp [e]

end Cert

end
-- ==== Proof.Adam.AdamOutTable.lean ====
/- The optimiser's step of a weight whose gradient comes in four pieces (AdamOut): the table that names them, and that with its word in range
   every block lies inside its array. Once for the program and once for its idealisation, in the same words. -/
module

public import proofs.«01_k».proof.Defs
public import proofs.«01_k».proof.Proof.Gen.AdamOut.Frame
public import proofs.«01_k».proof.Proof.Gen.AdamOutIdeal.Frame
public import proofs.«01_k».proof.Proof.Gen.Pre_chip_named
public import proofs.«01_k».proof.Proof.Adam.Word
public import Idealize.ShloMosaic.Lib.Pipeline.ValueKit

@[expose] public section

set_option maxRecDepth 16384

noncomputable section

open Idealize.ShloMosaic Idealize.ShloMosaic.TcCoe Idealize.SL.Sem

namespace Cert.AdamOut.Step

open Cert.AdamOut Cert.AdamOut.Gen

section
variable {F : FTy → Type} [FloatOps F] (m : (ℓ : Loc nD τ sig) → Buf (Elt F) ℓ)

/-- The word that names the piece which is this chip's own. -/
def chip : BitVec 32 :=
  (shapeCast S_ (m (((0 : Dev nD) : Thread nD τ).loc main_arg5)) shapeCasts_S1_S_ : IVec S_ 32) (fun a => a.elim0)

/-- The table whose first word is `k`, and whose others name the three pieces of the other chips. -/
def words (k : BitVec 32) : IVec S4 32 :=
  concatenate S4 0 [⟨S1, broadcastInDim S1 ![] bcast_S_S1 (constantI S_ 32 k)⟩, ⟨S1, broadcastInDim S1 ![] bcast_S_S1 (constantI S_ 32 0#32)⟩,
    ⟨S1, broadcastInDim S1 ![] bcast_S_S1 (constantI S_ 32 1#32)⟩, ⟨S1, broadcastInDim S1 ![] bcast_S_S1 (constantI S_ 32 2#32)⟩]
    concatenates_S1_S1_S1_S1_S4_d0

@[inherit_doc words]
def pf (k : BitVec 32) : pre0.Contents (Elt F) := fun
  | ⟨0, _⟩ => words k
  | ⟨_ + 1, h⟩ => absurd h (Nat.not_lt.2 (Nat.le_add_left _ _))

theorem tbl_zero : tbl m 0 = words (chip m) := by
  have e : (shapeCast S_ (m (((0 : Dev nD) : Thread nD τ).loc main_arg5)) shapeCasts_S1_S_ : IVec S_ 32) = constantI S_ 32 (chip m) := by
    funext x
    exact congrArg _ (funext fun a => a.elim0)
  unfold words
  rw [← e]
  show StableHlo.after hostOps0 _ main_v5 = _
  unfold hostOps0
  after_results_simp
  rfl

theorem tbl_eq : tbl m = pf (chip m) := by
  funext j
  match j with
  | ⟨0, _⟩ => exact tbl_zero m

/-- With the word in range every block lies inside its array. -/
theorem ok (h : chip m = 0#32 ∨ chip m = 1#32 ∨ chip m = 2#32 ∨ chip m = 3#32) : Ok m := by
  unfold Ok
  rw [tbl_eq]
  rcases h with e | e | e | e <;> rw [e] <;> exact of_decide_eq_true (by sl_kernel_rfl)

end

theorem chip_of_pre {m : (ℓ : Loc nD τ sig) → Buf (Elt Bits) ℓ} (h : Cert.Pre_AdamOut (hPre_chip_named := Cert.Pre_chip_named.Gen.facts) m) :
    chip m = 0#32 ∨ chip m = 1#32 ∨ chip m = 2#32 ∨ chip m = 3#32 := by
  exact Cert.word_named (chip m) (congrFun (h 0) _)

end Cert.AdamOut.Step

namespace Cert.AdamOutIdeal.Step

open Cert.AdamOutIdeal Cert.AdamOutIdeal.Gen

section
variable {F : FTy → Type} [FloatOps F] (m : (ℓ : Loc nD τ sig) → Buf (Elt F) ℓ)

/-- The word that names the piece which is this chip's own. -/
def chip : BitVec 32 :=
  (shapeCast S_ (m (((0 : Dev nD) : Thread nD τ).loc main_arg5)) shapeCasts_S1_S_ : IVec S_ 32) (fun a => a.elim0)

/-- The table whose first word is `k`, and whose others name the three pieces of the other chips. -/
def words (k : BitVec 32) : IVec S4 32 :=
  concatenate S4 0 [⟨S1, broadcastInDim S1 ![] bcast_S_S1 (constantI S_ 32 k)⟩, ⟨S1, broadcastInDim S1 ![] bcast_S_S1 (constantI S_ 32 0#32)⟩,
    ⟨S1, broadcastInDim S1 ![] bcast_S_S1 (constantI S_ 32 1#32)⟩, ⟨S1, broadcastInDim S1 ![] bcast_S_S1 (constantI S_ 32 2#32)⟩]
    concatenates_S1_S1_S1_S1_S4_d0

@[inherit_doc words]
def pf (k : BitVec 32) : pre0.Contents (Elt F) := fun
  | ⟨0, _⟩ => words k
  | ⟨_ + 1, h⟩ => absurd h (Nat.not_lt.2 (Nat.le_add_left _ _))

theorem tbl_zero : tbl m 0 = words (chip m) := by
  have e : (shapeCast S_ (m (((0 : Dev nD) : Thread nD τ).loc main_arg5)) shapeCasts_S1_S_ : IVec S_ 32) = constantI S_ 32 (chip m) := by
    funext x
    exact congrArg _ (funext fun a => a.elim0)
  unfold words
  rw [← e]
  show StableHlo.after hostOps0 _ main_v5 = _
  unfold hostOps0
  after_results_simp
  rfl

theorem tbl_eq : tbl m = pf (chip m) := by
  funext j
  match j with
  | ⟨0, _⟩ => exact tbl_zero m

/-- With the word in range every block lies inside its array. -/
theorem ok (h : chip m = 0#32 ∨ chip m = 1#32 ∨ chip m = 2#32 ∨ chip m = 3#32) : Ok m := by
  unfold Ok
  rw [tbl_eq]
  rcases h with e | e | e | e <;> rw [e] <;> exact of_decide_eq_true (by sl_kernel_rfl)

end

theorem chip_of_pre {m : (ℓ : Loc nD τ sig) → Buf (Elt Ideal) ℓ} (h : Cert.Pre_AdamOutIdeal (hPre_chip_named := Cert.Pre_chip_named.Gen.facts) m) :
    chip m = 0#32 ∨ chip m = 1#32 ∨ chip m = 2#32 ∨ chip m = 3#32 := by
  exact Cert.word_named (chip m) (congrFun (h 0) _)

end Cert.AdamOutIdeal.Step

end
-- ==== Proof.Adam.AdamOut.lean ====
/- The optimiser's step of a weight whose gradient comes in four pieces (AdamOut): the sum of the pieces, the step and the new moments that the
   program leaves are the reference's. -/
module

public import proofs.«01_k».proof.Proof.Adam.AdamOutTable
public import proofs.«01_k».proof.Proof.Gen.AdamOutRefIdeal.Read

@[expose] public section

set_option maxRecDepth 16384

noncomputable section

open Idealize.ShloMosaic Idealize.ShloMosaic.TcCoe Idealize.SL.Sem
open scoped BigOperators

namespace Cert.AdamOutIdeal.Step

open Cert.AdamOutIdeal Cert.AdamOutIdeal.Gen Cert.AdamOutRefIdeal.Read

variable (m : (ℓ : Loc nD τ sig) → Buf (Elt Ideal) ℓ)

/-- The block that each window stages at a grid point. -/
theorem idx (hO : Ok m) : ∀ t : Fin (cfgM m hO).N, ((cfgM m hO).win 0).index t = ![t.val, 0]
    ∧ ((cfgM m hO).win 1).index t = ![t.val, 0]
    ∧ ((cfgM m hO).win 2).index t = ![t.val, 0]
    ∧ ((cfgM m hO).win 7).index t = ![t.val, 0]
    ∧ ((cfgM m hO).win 8).index t = ![t.val, 0]
    ∧ ((cfgM m hO).win 9).index t = ![t.val, 0]
    ∧ ((cfgM m hO).win 10).index t = ![t.val, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_7 (grid0.coords t) = ![t.val, 0]
    ∧ cc0_transform_8 (grid0.coords t) = ![t.val, 0]
    ∧ cc0_transform_9 (grid0.coords t) = ![t.val, 0]
    ∧ cc0_transform_10 (grid0.coords t) = ![t.val, 0])

/-- The pieces' windows: the table's word, then the point. -/
theorem idxP (hO : Ok m) (t : Fin (cfgM m hO).N) : ((cfgM m hO).win 3).index t = ![(chip m).toNat, t.val, 0]
    ∧ ((cfgM m hO).win 4).index t = ![0, t.val, 0]
    ∧ ((cfgM m hO).win 5).index t = ![1, t.val, 0]
    ∧ ((cfgM m hO).win 6).index t = ![2, t.val, 0] := by
  have e : (BitVec.ofNat 32 (grid0.coords t 0).val).toNat = t.val :=
    (by decide +kernel : ∀ t : Fin grid0.N, (BitVec.ofNat 32 (grid0.coords t 0).val).toNat = t.val) t
  have w0 : (tbl m).at 0 (Rect.unit (s := S4) ![0] S1.size inb_S4_S1_0) numel1_S1 = chip m := by
    unfold Pipeline.Prefetch.Contents.at
    rw [tbl_zero]
    rfl
  have w1 : (tbl m).at 0 (Rect.unit (s := S4) ![1] S1.size inb_S4_S1_1) numel1_S1 = 0#32 := by
    unfold Pipeline.Prefetch.Contents.at
    rw [tbl_zero]
    rfl
  have w2 : (tbl m).at 0 (Rect.unit (s := S4) ![2] S1.size inb_S4_S1_2) numel1_S1 = 1#32 := by
    unfold Pipeline.Prefetch.Contents.at
    rw [tbl_zero]
    rfl
  have w3 : (tbl m).at 0 (Rect.unit (s := S4) ![3] S1.size inb_S4_S1_3) numel1_S1 = 2#32 := by
    unfold Pipeline.Prefetch.Contents.at
    rw [tbl_zero]
    rfl
  refine ⟨?_, ?_, ?_, ?_⟩
  · show cc0_transform_3 inb_S4_S1_0 numel1_S1 (tbl m) (grid0.coords t) = _
    simp only [cc0_transform_3, w0, e]
    rfl
  · show cc0_transform_4 inb_S4_S1_1 numel1_S1 (tbl m) (grid0.coords t) = _
    simp only [cc0_transform_4, w1, e]
    rfl
  · show cc0_transform_5 inb_S4_S1_2 numel1_S1 (tbl m) (grid0.coords t) = _
    simp only [cc0_transform_5, w2, e]
    rfl
  · show cc0_transform_6 inb_S4_S1_3 numel1_S1 (tbl m) (grid0.coords t) = _
    simp only [cc0_transform_6, w3, e]
    rfl

theorem same : ∀ j k : Fin 4, IntOp.cmpi .eq (BitVec.ofNat 32 j.val) (BitVec.ofNat 32 k.val) = if j = k then 1#1 else 0#1 := by
  decide

/-- The reference's choice of the own piece, at a place. -/
theorem own (x3 : (⟨S4x512x4096, .bf16⟩ : BufTy).Contents (Elt Ideal)) (x5 : (⟨S1, .i32⟩ : BufTy).Contents (Elt Ideal)) (k : Fin 4) (hk : ∀ j, val_main_v2 (F := Ideal) x5 j = BitVec.ofNat 32 k.val)
    (p : Fin 512) (q : Fin 4096) : val_main_v7 (F := Ideal) x3 x5 (ix2 p q) = x3 (ix3 k p q) := by
  rw [val_main_v7_apply]
  have z : val_main_cst_0 (F := Ideal) (Shape.Idx.first Cert.AdamOutRefIdeal.Gen.h_S_) = 0 := Ideal.ofBits_zero_f32
  have e (j : Fin 4) : val_main_v6 (F := Ideal) x3 x5 (idx_main_v7 (ix2 p q) j) = if j = k then x3 (ix3 j p q) else 0 := by
    have hi : idx_main_v7 (ix2 p q) j = ix3 j p q := by
      funext a
      match a with
      | ⟨0, _⟩ => rfl
      | ⟨1, _⟩ => rfl
      | ⟨2, _⟩ => rfl
    rw [hi, val_main_v6_apply, val_main_call0_v1_apply, val_main_v4_apply, val_main_v1_apply,
      val_main_v0_apply, val_main_v3_apply, hk, val_main_v5_apply, val_main_call0_v2_apply,
      val_main_call0_v0_apply]
    refine (congrArg (fun b => Scalar.select b _ _) (same j k)).trans ?_
    by_cases h : j = k
    · rw [if_pos h, if_pos h]
      rfl
    · rw [if_neg h, if_neg h]
      exact Ideal.ofBits_zero_f32
  rw [z, zero_add, Finset.sum_congr rfl fun j _ => e j, Finset.sum_ite_eq' Finset.univ k, if_pos (Finset.mem_univ k)]

/-- The reference's sum of the other pieces, at a place. -/
theorem rest (x4 : (⟨S3x512x4096, .bf16⟩ : BufTy).Contents (Elt Ideal)) (p : Fin 512) (q : Fin 4096) :
    val_main_v9 (F := Ideal) x4 (ix2 p q) = x4 (ix3 0 p q) + x4 (ix3 1 p q) + x4 (ix3 2 p q) := by
  rw [val_main_v9_apply]
  have z : val_main_cst_1 (F := Ideal) (Shape.Idx.first Cert.AdamOutRefIdeal.Gen.h_S_) = 0 := Ideal.ofBits_zero_f32
  rw [z, zero_add, Fin.sum_univ_three]
  have e (k : Fin 3) : val_main_v8 (F := Ideal) x4 (idx_main_v9 (ix2 p q) k) = x4 (ix3 k p q) := by
    rw [val_main_v8_apply]
    refine congrArg x4 (funext fun a => ?_)
    match a with
    | ⟨0, _⟩ => rfl
    | ⟨1, _⟩ => rfl
    | ⟨2, _⟩ => rfl
  rw [e, e, e]

/-- The four pieces added up. -/
def total (k : Fin 4) (x3 : (⟨S4x512x4096, .bf16⟩ : BufTy).Contents (Elt Ideal)) (x4 : (⟨S3x512x4096, .bf16⟩ : BufTy).Contents (Elt Ideal)) (i : S512x4096.Idx) : EReal :=
  x3 (ix3 k (i 0) (i 1)) + x4 (ix3 0 (i 0) (i 1)) + x4 (ix3 1 (i 0) (i 1)) + x4 (ix3 2 (i 0) (i 1))

theorem total_eq (k : Fin 4) (x3 : (⟨S4x512x4096, .bf16⟩ : BufTy).Contents (Elt Ideal)) (x4 : (⟨S3x512x4096, .bf16⟩ : BufTy).Contents (Elt Ideal)) (x5 : (⟨S1, .i32⟩ : BufTy).Contents (Elt Ideal))
    (hk : ∀ j, val_main_v2 (F := Ideal) x5 j = BitVec.ofNat 32 k.val) :
    val_main_v10 (F := Ideal) x3 x4 x5 = total k x3 x4 := by
  funext i
  have e : i = ix2 (i 0) (i 1) := by
    funext a
    match a with
    | ⟨0, _⟩ => rfl
    | ⟨1, _⟩ => rfl
  refine (val_main_v10_apply x3 x4 x5 i).trans ?_
  refine (congr (congrArg (FloatOps.addf (F := Ideal) (φ := .f32)) ((congrArg _ e).trans (own x3 x5 k hk (i 0) (i 1)))) ((congrArg _ e).trans (rest x4 (i 0) (i 1)))).trans ?_
  show x3 _ + (x4 _ + x4 _ + x4 _) = x3 _ + x4 _ + x4 _ + x4 _
  rw [add_assoc, add_assoc, add_assoc]

/-- The sum of the pieces that a point stores at `y` is the whole arrays' at the place where `y` lies. -/
theorem point_7 (hO : Ok m) (k : Fin 4) (hk : chip m = BitVec.ofNat 32 k.val) (c : Dev nD) (t : Fin (cfgM m hO).N) (y) :
    k0_pay2 (iblk m hO c 3 t) (iblk m hO c 4 t) (iblk m hO c 5 t) (iblk m hO c 6 t) y
      = total k (m ((c : Thread nD τ).loc main_arg3)) (m ((c : Thread nD τ).loc main_arg4)) ((((cfgM m hO).win 7).blk t).view.emb y) := by
  have hc : (chip m).toNat = k.val := by
    rw [hk]
    have := k.isLt
    simp [BitVec.toNat_ofNat]
    omega
  pointwise [k0_pay2, total]
  blk_point [iblk, V, idx m hO t, idxP m hO t, hc]

/-- The new first moment at a place, from the summed pieces and the old moment there. -/
theorem moment (v0 v3 v7 v11 : Vec Ideal S1x64x4096 .bf16) (v15 : Vec Ideal S64x4096 .f32) (x1 : (⟨S512x4096, .f32⟩ : BufTy).Contents (Elt Ideal)) (x3 : (⟨S4x512x4096, .bf16⟩ : BufTy).Contents (Elt Ideal)) (x4 : (⟨S3x512x4096, .bf16⟩ : BufTy).Contents (Elt Ideal)) (x5 : (⟨S1, .i32⟩ : BufTy).Contents (Elt Ideal)) (y : S64x4096.Idx) (i : S512x4096.Idx)
    (hg : k0_pay2 (F := Ideal) v0 v3 v7 v11 y = val_main_v10 (F := Ideal) x3 x4 x5 i) (hm : v15 y = x1 i) :
    k0_pay3 (F := Ideal) v0 v3 v7 v11 v15 y = val_main_v15 (F := Ideal) x1 x3 x4 x5 i := by
  pointwise [k0_pay3, val_main_v15, val_main_v14, val_main_v13, val_main_v12, val_main_v11, val_main_cst_2, val_main_cst_3]
  rw [hg, hm]

/-- The new second moment at a place. -/
theorem square (v0 v3 v7 v11 : Vec Ideal S1x64x4096 .bf16) (v21 : Vec Ideal S64x4096 .f32) (x2 : (⟨S512x4096, .f32⟩ : BufTy).Contents (Elt Ideal)) (x3 : (⟨S4x512x4096, .bf16⟩ : BufTy).Contents (Elt Ideal)) (x4 : (⟨S3x512x4096, .bf16⟩ : BufTy).Contents (Elt Ideal)) (x5 : (⟨S1, .i32⟩ : BufTy).Contents (Elt Ideal)) (y : S64x4096.Idx) (i : S512x4096.Idx)
    (hg : k0_pay2 (F := Ideal) v0 v3 v7 v11 y = val_main_v10 (F := Ideal) x3 x4 x5 i) (hv : v21 y = x2 i) :
    k0_pay4 (F := Ideal) v0 v3 v7 v11 v21 y = val_main_v21 (F := Ideal) x2 x3 x4 x5 i := by
  pointwise [k0_pay4, val_main_v21, val_main_v20, val_main_v19, val_main_v18, val_main_v17, val_main_v16, val_main_cst_4, val_main_cst_5]
  rw [hg, hv]

/-- The step at a place, from the new moments and the weight there. -/
theorem delta (n s w : Vec Ideal S64x4096 .f32) (x0 x1 x2 : (⟨S512x4096, .f32⟩ : BufTy).Contents (Elt Ideal)) (x3 : (⟨S4x512x4096, .bf16⟩ : BufTy).Contents (Elt Ideal)) (x4 : (⟨S3x512x4096, .bf16⟩ : BufTy).Contents (Elt Ideal)) (x5 : (⟨S1, .i32⟩ : BufTy).Contents (Elt Ideal)) (y : S64x4096.Idx) (i : S512x4096.Idx)
    (hn : n y = val_main_v15 (F := Ideal) x1 x3 x4 x5 i) (hs : s y = val_main_v21 (F := Ideal) x2 x3 x4 x5 i) (hw : w y = x0 i) :
    k0_pay1 (F := Ideal) n s w y = val_main_v34 (F := Ideal) x0 x1 x2 x3 x4 x5 i := by
  pointwise [k0_pay1, val_main_v34, val_main_v33, val_main_v32, val_main_v31, val_main_v30, val_main_v29, val_main_v28, val_main_v27, val_main_v26, val_main_v25, val_main_v24, val_main_v23, val_main_v22, val_main_cst_6, val_main_cst_7, val_main_cst_8, val_main_cst_9, val_main_cst_10]
  rw [hn, hs, hw]

variable (hO : Ok m) (k : Fin 4) (hk : chip m = BitVec.ofNat 32 k.val) (c : Dev nD)

include hk in
theorem word (j) : val_main_v2 (F := Ideal) (m ((c : Thread nD τ).loc main_arg5)) j = BitVec.ofNat 32 k.val := by
  rw [← hk]
  have h : c = 0 := Subsingleton.elim _ _
  subst h
  exact congrArg _ (funext fun a => a.elim0)

include hk in
theorem grad (t : Fin (cfgM m hO).N) (y) :
    k0_pay2 (iblk m hO c 3 t) (iblk m hO c 4 t) (iblk m hO c 5 t) (iblk m hO c 6 t) y = val_main_v10 (F := Ideal) (m ((c : Thread nD τ).loc main_arg3)) (m ((c : Thread nD τ).loc main_arg4)) (m ((c : Thread nD τ).loc main_arg5)) ((((cfgM m hO).win 7).blk t).view.emb y) :=
  (point_7 m hO k hk c t y).trans (congrFun (total_eq k (m ((c : Thread nD τ).loc main_arg3)) (m ((c : Thread nD τ).loc main_arg4)) (m ((c : Thread nD τ).loc main_arg5)) (word m k hk c)) _).symm

theorem weight (t : Fin (cfgM m hO).N) (y : S64x4096.Idx) : iblk m hO c 0 t y = (m ((c : Thread nD τ).loc main_arg0)) ((((cfgM m hO).win 7).blk t).view.emb y) := by
  blk_point [iblk, V, idx m hO t]

theorem first (t : Fin (cfgM m hO).N) (y : S64x4096.Idx) : iblk m hO c 1 t y = (m ((c : Thread nD τ).loc main_arg1)) ((((cfgM m hO).win 7).blk t).view.emb y) := by
  blk_point [iblk, V, idx m hO t]

theorem second (t : Fin (cfgM m hO).N) (y : S64x4096.Idx) : iblk m hO c 2 t y = (m ((c : Thread nD τ).loc main_arg2)) ((((cfgM m hO).win 7).blk t).view.emb y) := by
  blk_point [iblk, V, idx m hO t]

theorem place_8 (f : S512x4096.Idx → EReal) (t : Fin (cfgM m hO).N) (y : S64x4096.Idx) : f ((((cfgM m hO).win 7).blk t).view.emb y) = f ((((cfgM m hO).win 8).blk t).view.emb y) := by
  blk_point [idx m hO t]

theorem place_9 (f : S512x4096.Idx → EReal) (t : Fin (cfgM m hO).N) (y : S64x4096.Idx) : f ((((cfgM m hO).win 7).blk t).view.emb y) = f ((((cfgM m hO).win 9).blk t).view.emb y) := by
  blk_point [idx m hO t]

theorem place_10 (f : S512x4096.Idx → EReal) (t : Fin (cfgM m hO).N) (y : S64x4096.Idx) : f ((((cfgM m hO).win 7).blk t).view.emb y) = f ((((cfgM m hO).win 10).blk t).view.emb y) := by
  blk_point [idx m hO t]

include hk in
theorem point_9 (t : Fin (cfgM m hO).N) (y) :
    (k0_pay3 (iblk m hO c 3 t) (iblk m hO c 4 t) (iblk m hO c 5 t) (iblk m hO c 6 t) (iblk m hO c 1 t)) y = val_main_v15 (F := Ideal) (m ((c : Thread nD τ).loc main_arg1)) (m ((c : Thread nD τ).loc main_arg3)) (m ((c : Thread nD τ).loc main_arg4)) (m ((c : Thread nD τ).loc main_arg5)) ((((cfgM m hO).win 7).blk t).view.emb y) :=
  moment _ _ _ _ _ _ _ _ _ y _ (grad m hO k hk c t y) (first m hO c t y)

include hk in
theorem point_10 (t : Fin (cfgM m hO).N) (y) :
    (k0_pay4 (iblk m hO c 3 t) (iblk m hO c 4 t) (iblk m hO c 5 t) (iblk m hO c 6 t) (iblk m hO c 2 t)) y = val_main_v21 (F := Ideal) (m ((c : Thread nD τ).loc main_arg2)) (m ((c : Thread nD τ).loc main_arg3)) (m ((c : Thread nD τ).loc main_arg4)) (m ((c : Thread nD τ).loc main_arg5)) ((((cfgM m hO).win 7).blk t).view.emb y) :=
  square _ _ _ _ _ _ _ _ _ y _ (grad m hO k hk c t y) (second m hO c t y)

include hk in
theorem point_8 (t : Fin (cfgM m hO).N) (y) :
    k0_pay1 (k0_pay3 (iblk m hO c 3 t) (iblk m hO c 4 t) (iblk m hO c 5 t) (iblk m hO c 6 t) (iblk m hO c 1 t)) (k0_pay4 (iblk m hO c 3 t) (iblk m hO c 4 t) (iblk m hO c 5 t) (iblk m hO c 6 t) (iblk m hO c 2 t)) (iblk m hO c 0 t) y = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 7).blk t).view.emb y) :=
  delta _ _ _ _ _ _ _ _ _ y _ (point_9 m hO k hk c t y) (point_10 m hO k hk c t y) (weight m hO c t y)

include hk in
theorem left_8 (t : Fin (cfgM m hO).N) (y : S64x4096.Idx) :
    k0_pay1 (k0_pay3 (iblk m hO c 3 t) (iblk m hO c 4 t) (iblk m hO c 5 t) (iblk m hO c 6 t) (iblk m hO c 1 t)) (k0_pay4 (iblk m hO c 3 t) (iblk m hO c 4 t) (iblk m hO c 5 t) (iblk m hO c 6 t) (iblk m hO c 2 t)) (iblk m hO c 0 t) y = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 8).blk t).view.emb y) :=
  (point_8 m hO k hk c t y).trans (place_8 m hO (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) t y)

include hk in
theorem left_9 (t : Fin (cfgM m hO).N) (y : S64x4096.Idx) :
    (k0_pay3 (iblk m hO c 3 t) (iblk m hO c 4 t) (iblk m hO c 5 t) (iblk m hO c 6 t) (iblk m hO c 1 t)) y = val_main_v15 (F := Ideal) (m ((c : Thread nD τ).loc main_arg1)) (m ((c : Thread nD τ).loc main_arg3)) (m ((c : Thread nD τ).loc main_arg4)) (m ((c : Thread nD τ).loc main_arg5)) ((((cfgM m hO).win 9).blk t).view.emb y) :=
  (point_9 m hO k hk c t y).trans (place_9 m hO (val_main_v15 (F := Ideal) (m ((c : Thread nD τ).loc main_arg1)) (m ((c : Thread nD τ).loc main_arg3)) (m ((c : Thread nD τ).loc main_arg4)) (m ((c : Thread nD τ).loc main_arg5))) t y)

include hk in
theorem left_10 (t : Fin (cfgM m hO).N) (y : S64x4096.Idx) :
    (k0_pay4 (iblk m hO c 3 t) (iblk m hO c 4 t) (iblk m hO c 5 t) (iblk m hO c 6 t) (iblk m hO c 2 t)) y = val_main_v21 (F := Ideal) (m ((c : Thread nD τ).loc main_arg2)) (m ((c : Thread nD τ).loc main_arg3)) (m ((c : Thread nD τ).loc main_arg4)) (m ((c : Thread nD τ).loc main_arg5)) ((((cfgM m hO).win 10).blk t).view.emb y) :=
  (point_10 m hO k hk c t y).trans (place_10 m hO (val_main_v21 (F := Ideal) (m ((c : Thread nD τ).loc main_arg2)) (m ((c : Thread nD τ).loc main_arg3)) (m ((c : Thread nD τ).loc main_arg4)) (m ((c : Thread nD τ).loc main_arg5))) t y)

/-! What a point leaves in each output's block, over the blocks that it loaded. -/

theorem out_7 (t : Fin (cfgM m hO).N) : (outsAt0 m hO c t).1 = k0_pay2 (F := Ideal) (iblk m hO c 3 t) (iblk m hO c 4 t) (iblk m hO c 5 t) (iblk m hO c 6 t) := by
  unfold outsAt0
  dsimp only
  frame_out
  exact (congr (congr (congr (congrArg (k0_pay2 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t)))

theorem out_8 (t : Fin (cfgM m hO).N) : (outsAt0 m hO c t).2.1 = k0_pay1 (F := Ideal) (k0_pay3 (F := Ideal) (iblk m hO c 3 t) (iblk m hO c 4 t) (iblk m hO c 5 t) (iblk m hO c 6 t) (iblk m hO c 1 t)) (k0_pay4 (F := Ideal) (iblk m hO c 3 t) (iblk m hO c 4 t) (iblk m hO c 5 t) (iblk m hO c 6 t) (iblk m hO c 2 t)) (iblk m hO c 0 t) := by
  unfold outsAt0
  dsimp only
  frame_out
  exact (congr (congr (congrArg (k0_pay1 (F := Ideal)) (congr (congr (congr (congr (congrArg (k0_pay3 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_1 m hO t).read_unread (iblk m hO c 1 t)))) (congr (congr (congr (congr (congrArg (k0_pay4 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_2 m hO t).read_unread (iblk m hO c 2 t)))) ((hs0_0 m hO t).read_unread (iblk m hO c 0 t)))

theorem out_9 (t : Fin (cfgM m hO).N) : (outsAt0 m hO c t).2.2.1 = (k0_pay3 (F := Ideal) (iblk m hO c 3 t) (iblk m hO c 4 t) (iblk m hO c 5 t) (iblk m hO c 6 t) (iblk m hO c 1 t)) := by
  unfold outsAt0
  dsimp only
  frame_out
  exact (congr (congr (congr (congr (congrArg (k0_pay3 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_1 m hO t).read_unread (iblk m hO c 1 t)))

theorem out_10 (t : Fin (cfgM m hO).N) : (outsAt0 m hO c t).2.2.2 = (k0_pay4 (F := Ideal) (iblk m hO c 3 t) (iblk m hO c 4 t) (iblk m hO c 5 t) (iblk m hO c 6 t) (iblk m hO c 2 t)) := by
  unfold outsAt0
  dsimp only
  frame_out
  exact (congr (congr (congr (congr (congrArg (k0_pay4 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_2 m hO t).read_unread (iblk m hO c 2 t)))

include hk in
theorem final_7 : (dats m hO 0 c).arrAt 7 (cfgM m hO).N = val_main_v10 (F := Ideal) (m ((c : Thread nD τ).loc main_arg3)) (m ((c : Thread nD τ).loc main_arg4)) (m ((c : Thread nD τ).loc main_arg5)) := by
  refine (dats m hO 0 c).arrAt_eq_of_covers 7 _ (of_decide_eq_true (by sl_kernel_rfl)) fun t hf y => ?_
  rw [after0_7]
  exact (cast_eq _ _).trans ((congrFun (out_7 m hO c t) y).trans (grad m hO k hk c t y))

include hk in
theorem final_8 : (dats m hO 0 c).arrAt 8 (cfgM m hO).N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (of_decide_eq_true (by sl_kernel_rfl)) fun t hf y => ?_
  rw [after0_8]
  exact (cast_eq _ _).trans ((congrFun (out_8 m hO c t) y).trans (left_8 m hO k hk c t y))

include hk in
theorem final_9 : (dats m hO 0 c).arrAt 9 (cfgM m hO).N = val_main_v15 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 9 _ (of_decide_eq_true (by sl_kernel_rfl)) fun t hf y => ?_
  rw [after0_9]
  exact (cast_eq _ _).trans ((congrFun (out_9 m hO c t) y).trans (left_9 m hO k hk c t y))

include hk in
theorem final_10 : (dats m hO 0 c).arrAt 10 (cfgM m hO).N = val_main_v21 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 10 _ (of_decide_eq_true (by sl_kernel_rfl)) fun t hf y => ?_
  rw [after0_10]
  exact (cast_eq _ _).trans ((congrFun (out_10 m hO c t) y).trans (left_10 m hO k hk c t y))

theorem which (h : chip m = 0#32 ∨ chip m = 1#32 ∨ chip m = 2#32 ∨ chip m = 3#32) : ∃ k : Fin 4, chip m = BitVec.ofNat 32 k.val := by
  rcases h with h | h | h | h
  · exact ⟨0, h⟩
  · exact ⟨1, h⟩
  · exact ⟨2, h⟩
  · exact ⟨3, h⟩

theorem algebraic : Cert.algebraic_AdamOutIdeal_AdamOutRefIdeal (hAdamOutIdeal := Cert.AdamOutIdeal.Gen.facts)
    (hAdamOutRefIdeal := Cert.AdamOutRefIdeal.Gen.facts) (hPre_chip_named := Cert.Pre_chip_named.Gen.facts) := by
  intro m g m' g' hp hm
  have hO := ok m (chip_of_pre hp)
  obtain ⟨k, hk⟩ := which m (chip_of_pre hp)
  refine ⟨fun c => val_main_v10 (F := Ideal) (m ((c.tc : Thread nD τ).loc main_arg3)) (m ((c.tc : Thread nD τ).loc main_arg4)) (m ((c.tc : Thread nD τ).loc main_arg5)), fun c => val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), fun c => val_main_v15 (F := Ideal) (m ((c.tc : Thread nD τ).loc main_arg1)) (m ((c.tc : Thread nD τ).loc main_arg3)) (m ((c.tc : Thread nD τ).loc main_arg4)) (m ((c.tc : Thread nD τ).loc main_arg5)), fun c => val_main_v21 (F := Ideal) (m ((c.tc : Thread nD τ).loc main_arg2)) (m ((c.tc : Thread nD τ).loc main_arg3)) (m ((c.tc : Thread nD τ).loc main_arg4)) (m ((c.tc : Thread nD τ).loc main_arg5)), ?_, ?_⟩
  · exact (θ_run _ _ _).mono (fun r h c => ⟨((h.1 c).1 7).trans (final_7 m hO k hk c), ((h.1 c).1 8).trans (final_8 m hO k hk c),
      ((h.1 c).1 9).trans (final_9 m hO k hk c), ((h.1 c).1 10).trans (final_10 m hO k hk c), h.2 c⟩) (θ_run_and (run_main m g hO) (unchanged m g hO))
  · refine (θ_run _ _ _).mono (fun r h c => ?_) (Cert.AdamOutRefIdeal.Value.run m' g')
    obtain ⟨e0, e1, e2, e3, e4, e5⟩ := hm c
    refine ⟨(h c).1.trans ?_, (h c).2.1.trans ?_, (h c).2.2.1.trans ?_, (h c).2.2.2.1.trans ?_, (h c).2.2.2.2⟩
    · rw [e3, e4, e5]; rfl
    · rw [e0, e1, e2, e3, e4, e5]; rfl
    · rw [e1, e3, e4, e5]; rfl
    · rw [e2, e3, e4, e5]; rfl

end Cert.AdamOutIdeal.Step

end
-- ==== Proof.Adam.AdamUpTable.lean ====
/- The optimiser's step of a weight whose gradient comes in four pieces (AdamUp): the table that names them, and that with its word in range
   every block lies inside its array. Once for the program and once for its idealisation, in the same words. -/
module

public import proofs.«01_k».proof.Defs
public import proofs.«01_k».proof.Proof.Gen.AdamUp.Frame
public import proofs.«01_k».proof.Proof.Gen.AdamUpIdeal.Frame
public import proofs.«01_k».proof.Proof.Gen.Pre_chip_named_up
public import proofs.«01_k».proof.Proof.Adam.Word
public import Idealize.ShloMosaic.Lib.Pipeline.ValueKit

@[expose] public section

set_option maxRecDepth 16384

noncomputable section

open Idealize.ShloMosaic Idealize.ShloMosaic.TcCoe Idealize.SL.Sem

namespace Cert.AdamUp.Step

open Cert.AdamUp Cert.AdamUp.Gen

section
variable {F : FTy → Type} [FloatOps F] (m : (ℓ : Loc nD τ sig) → Buf (Elt F) ℓ)

/-- The word that names the piece which is this chip's own. -/
def chip : BitVec 32 :=
  (shapeCast S_ (m (((0 : Dev nD) : Thread nD τ).loc main_arg5)) shapeCasts_S1_S_ : IVec S_ 32) (fun a => a.elim0)

/-- The table whose first word is `k`, and whose others name the three pieces of the other chips. -/
def words (k : BitVec 32) : IVec S4 32 :=
  concatenate S4 0 [⟨S1, broadcastInDim S1 ![] bcast_S_S1 (constantI S_ 32 k)⟩, ⟨S1, broadcastInDim S1 ![] bcast_S_S1 (constantI S_ 32 0#32)⟩,
    ⟨S1, broadcastInDim S1 ![] bcast_S_S1 (constantI S_ 32 1#32)⟩, ⟨S1, broadcastInDim S1 ![] bcast_S_S1 (constantI S_ 32 2#32)⟩]
    concatenates_S1_S1_S1_S1_S4_d0

@[inherit_doc words]
def pf (k : BitVec 32) : pre0.Contents (Elt F) := fun
  | ⟨0, _⟩ => words k
  | ⟨_ + 1, h⟩ => absurd h (Nat.not_lt.2 (Nat.le_add_left _ _))

theorem tbl_zero : tbl m 0 = words (chip m) := by
  have e : (shapeCast S_ (m (((0 : Dev nD) : Thread nD τ).loc main_arg5)) shapeCasts_S1_S_ : IVec S_ 32) = constantI S_ 32 (chip m) := by
    funext x
    exact congrArg _ (funext fun a => a.elim0)
  unfold words
  rw [← e]
  show StableHlo.after hostOps0 _ main_v5 = _
  unfold hostOps0
  after_results_simp
  rfl

theorem tbl_eq : tbl m = pf (chip m) := by
  funext j
  match j with
  | ⟨0, _⟩ => exact tbl_zero m

/-- With the word in range every block lies inside its array. -/
theorem ok (h : chip m = 0#32 ∨ chip m = 1#32 ∨ chip m = 2#32 ∨ chip m = 3#32) : Ok m := by
  unfold Ok
  rw [tbl_eq]
  rcases h with e | e | e | e <;> rw [e] <;> exact of_decide_eq_true (by sl_kernel_rfl)

end

theorem chip_of_pre {m : (ℓ : Loc nD τ sig) → Buf (Elt Bits) ℓ} (h : Cert.Pre_AdamUp (hPre_chip_named_up := Cert.Pre_chip_named_up.Gen.facts) m) :
    chip m = 0#32 ∨ chip m = 1#32 ∨ chip m = 2#32 ∨ chip m = 3#32 := by
  exact Cert.word_named (chip m) (congrFun (h 0) _)

end Cert.AdamUp.Step

namespace Cert.AdamUpIdeal.Step

open Cert.AdamUpIdeal Cert.AdamUpIdeal.Gen

section
variable {F : FTy → Type} [FloatOps F] (m : (ℓ : Loc nD τ sig) → Buf (Elt F) ℓ)

/-- The word that names the piece which is this chip's own. -/
def chip : BitVec 32 :=
  (shapeCast S_ (m (((0 : Dev nD) : Thread nD τ).loc main_arg5)) shapeCasts_S1_S_ : IVec S_ 32) (fun a => a.elim0)

/-- The table whose first word is `k`, and whose others name the three pieces of the other chips. -/
def words (k : BitVec 32) : IVec S4 32 :=
  concatenate S4 0 [⟨S1, broadcastInDim S1 ![] bcast_S_S1 (constantI S_ 32 k)⟩, ⟨S1, broadcastInDim S1 ![] bcast_S_S1 (constantI S_ 32 0#32)⟩,
    ⟨S1, broadcastInDim S1 ![] bcast_S_S1 (constantI S_ 32 1#32)⟩, ⟨S1, broadcastInDim S1 ![] bcast_S_S1 (constantI S_ 32 2#32)⟩]
    concatenates_S1_S1_S1_S1_S4_d0

@[inherit_doc words]
def pf (k : BitVec 32) : pre0.Contents (Elt F) := fun
  | ⟨0, _⟩ => words k
  | ⟨_ + 1, h⟩ => absurd h (Nat.not_lt.2 (Nat.le_add_left _ _))

theorem tbl_zero : tbl m 0 = words (chip m) := by
  have e : (shapeCast S_ (m (((0 : Dev nD) : Thread nD τ).loc main_arg5)) shapeCasts_S1_S_ : IVec S_ 32) = constantI S_ 32 (chip m) := by
    funext x
    exact congrArg _ (funext fun a => a.elim0)
  unfold words
  rw [← e]
  show StableHlo.after hostOps0 _ main_v5 = _
  unfold hostOps0
  after_results_simp
  rfl

theorem tbl_eq : tbl m = pf (chip m) := by
  funext j
  match j with
  | ⟨0, _⟩ => exact tbl_zero m

/-- With the word in range every block lies inside its array. -/
theorem ok (h : chip m = 0#32 ∨ chip m = 1#32 ∨ chip m = 2#32 ∨ chip m = 3#32) : Ok m := by
  unfold Ok
  rw [tbl_eq]
  rcases h with e | e | e | e <;> rw [e] <;> exact of_decide_eq_true (by sl_kernel_rfl)

end

theorem chip_of_pre {m : (ℓ : Loc nD τ sig) → Buf (Elt Ideal) ℓ} (h : Cert.Pre_AdamUpIdeal (hPre_chip_named_up := Cert.Pre_chip_named_up.Gen.facts) m) :
    chip m = 0#32 ∨ chip m = 1#32 ∨ chip m = 2#32 ∨ chip m = 3#32 := by
  exact Cert.word_named (chip m) (congrFun (h 0) _)

end Cert.AdamUpIdeal.Step

end
-- ==== Proof.Adam.AdamUp.lean ====
/- The optimiser's step of a weight whose gradient comes in four pieces (AdamUp): the sum of the pieces, the step and the new moments that the
   program leaves are the reference's. -/
module

public import proofs.«01_k».proof.Proof.Adam.AdamUpTable
public import proofs.«01_k».proof.Proof.Gen.AdamUpRefIdeal.Read

@[expose] public section

set_option maxRecDepth 16384

noncomputable section

open Idealize.ShloMosaic Idealize.ShloMosaic.TcCoe Idealize.SL.Sem
open scoped BigOperators

namespace Cert.AdamUpIdeal.Step

open Cert.AdamUpIdeal Cert.AdamUpIdeal.Gen Cert.AdamUpRefIdeal.Read

variable (m : (ℓ : Loc nD τ sig) → Buf (Elt Ideal) ℓ)

/-- The block that each window stages at a grid point. -/
theorem idx (hO : Ok m) : ∀ t : Fin (cfgM m hO).N, ((cfgM m hO).win 0).index t = ![t.val, 0]
    ∧ ((cfgM m hO).win 1).index t = ![t.val, 0]
    ∧ ((cfgM m hO).win 2).index t = ![t.val, 0]
    ∧ ((cfgM m hO).win 7).index t = ![t.val, 0]
    ∧ ((cfgM m hO).win 8).index t = ![t.val, 0]
    ∧ ((cfgM m hO).win 9).index t = ![t.val, 0]
    ∧ ((cfgM m hO).win 10).index t = ![t.val, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_7 (grid0.coords t) = ![t.val, 0]
    ∧ cc0_transform_8 (grid0.coords t) = ![t.val, 0]
    ∧ cc0_transform_9 (grid0.coords t) = ![t.val, 0]
    ∧ cc0_transform_10 (grid0.coords t) = ![t.val, 0])

/-- The pieces' windows: the table's word, then the point. -/
theorem idxP (hO : Ok m) (t : Fin (cfgM m hO).N) : ((cfgM m hO).win 3).index t = ![(chip m).toNat, t.val, 0]
    ∧ ((cfgM m hO).win 4).index t = ![0, t.val, 0]
    ∧ ((cfgM m hO).win 5).index t = ![1, t.val, 0]
    ∧ ((cfgM m hO).win 6).index t = ![2, t.val, 0] := by
  have e : (BitVec.ofNat 32 (grid0.coords t 0).val).toNat = t.val :=
    (by decide +kernel : ∀ t : Fin grid0.N, (BitVec.ofNat 32 (grid0.coords t 0).val).toNat = t.val) t
  have w0 : (tbl m).at 0 (Rect.unit (s := S4) ![0] S1.size inb_S4_S1_0) numel1_S1 = chip m := by
    unfold Pipeline.Prefetch.Contents.at
    rw [tbl_zero]
    rfl
  have w1 : (tbl m).at 0 (Rect.unit (s := S4) ![1] S1.size inb_S4_S1_1) numel1_S1 = 0#32 := by
    unfold Pipeline.Prefetch.Contents.at
    rw [tbl_zero]
    rfl
  have w2 : (tbl m).at 0 (Rect.unit (s := S4) ![2] S1.size inb_S4_S1_2) numel1_S1 = 1#32 := by
    unfold Pipeline.Prefetch.Contents.at
    rw [tbl_zero]
    rfl
  have w3 : (tbl m).at 0 (Rect.unit (s := S4) ![3] S1.size inb_S4_S1_3) numel1_S1 = 2#32 := by
    unfold Pipeline.Prefetch.Contents.at
    rw [tbl_zero]
    rfl
  refine ⟨?_, ?_, ?_, ?_⟩
  · show cc0_transform_3 inb_S4_S1_0 numel1_S1 (tbl m) (grid0.coords t) = _
    simp only [cc0_transform_3, w0, e]
    rfl
  · show cc0_transform_4 inb_S4_S1_1 numel1_S1 (tbl m) (grid0.coords t) = _
    simp only [cc0_transform_4, w1, e]
    rfl
  · show cc0_transform_5 inb_S4_S1_2 numel1_S1 (tbl m) (grid0.coords t) = _
    simp only [cc0_transform_5, w2, e]
    rfl
  · show cc0_transform_6 inb_S4_S1_3 numel1_S1 (tbl m) (grid0.coords t) = _
    simp only [cc0_transform_6, w3, e]
    rfl

theorem same : ∀ j k : Fin 4, IntOp.cmpi .eq (BitVec.ofNat 32 j.val) (BitVec.ofNat 32 k.val) = if j = k then 1#1 else 0#1 := by
  decide

/-- The reference's choice of the own piece, at a place. -/
theorem own (x3 : (⟨S4x4096x2048, .bf16⟩ : BufTy).Contents (Elt Ideal)) (x5 : (⟨S1, .i32⟩ : BufTy).Contents (Elt Ideal)) (k : Fin 4) (hk : ∀ j, val_main_v2 (F := Ideal) x5 j = BitVec.ofNat 32 k.val)
    (p : Fin 4096) (q : Fin 2048) : val_main_v7 (F := Ideal) x3 x5 (ix2 p q) = x3 (ix3 k p q) := by
  rw [val_main_v7_apply]
  have z : val_main_cst_0 (F := Ideal) (Shape.Idx.first Cert.AdamUpRefIdeal.Gen.h_S_) = 0 := Ideal.ofBits_zero_f32
  have e (j : Fin 4) : val_main_v6 (F := Ideal) x3 x5 (idx_main_v7 (ix2 p q) j) = if j = k then x3 (ix3 j p q) else 0 := by
    have hi : idx_main_v7 (ix2 p q) j = ix3 j p q := by
      funext a
      match a with
      | ⟨0, _⟩ => rfl
      | ⟨1, _⟩ => rfl
      | ⟨2, _⟩ => rfl
    rw [hi, val_main_v6_apply, val_main_call0_v1_apply, val_main_v4_apply, val_main_v1_apply,
      val_main_v0_apply, val_main_v3_apply, hk, val_main_v5_apply, val_main_call0_v2_apply,
      val_main_call0_v0_apply]
    refine (congrArg (fun b => Scalar.select b _ _) (same j k)).trans ?_
    by_cases h : j = k
    · rw [if_pos h, if_pos h]
      rfl
    · rw [if_neg h, if_neg h]
      exact Ideal.ofBits_zero_f32
  rw [z, zero_add, Finset.sum_congr rfl fun j _ => e j, Finset.sum_ite_eq' Finset.univ k, if_pos (Finset.mem_univ k)]

/-- The reference's sum of the other pieces, at a place. -/
theorem rest (x4 : (⟨S3x4096x2048, .bf16⟩ : BufTy).Contents (Elt Ideal)) (p : Fin 4096) (q : Fin 2048) :
    val_main_v9 (F := Ideal) x4 (ix2 p q) = x4 (ix3 0 p q) + x4 (ix3 1 p q) + x4 (ix3 2 p q) := by
  rw [val_main_v9_apply]
  have z : val_main_cst_1 (F := Ideal) (Shape.Idx.first Cert.AdamUpRefIdeal.Gen.h_S_) = 0 := Ideal.ofBits_zero_f32
  rw [z, zero_add, Fin.sum_univ_three]
  have e (k : Fin 3) : val_main_v8 (F := Ideal) x4 (idx_main_v9 (ix2 p q) k) = x4 (ix3 k p q) := by
    rw [val_main_v8_apply]
    refine congrArg x4 (funext fun a => ?_)
    match a with
    | ⟨0, _⟩ => rfl
    | ⟨1, _⟩ => rfl
    | ⟨2, _⟩ => rfl
  rw [e, e, e]

/-- The four pieces added up. -/
def total (k : Fin 4) (x3 : (⟨S4x4096x2048, .bf16⟩ : BufTy).Contents (Elt Ideal)) (x4 : (⟨S3x4096x2048, .bf16⟩ : BufTy).Contents (Elt Ideal)) (i : S4096x2048.Idx) : EReal :=
  x3 (ix3 k (i 0) (i 1)) + x4 (ix3 0 (i 0) (i 1)) + x4 (ix3 1 (i 0) (i 1)) + x4 (ix3 2 (i 0) (i 1))

theorem total_eq (k : Fin 4) (x3 : (⟨S4x4096x2048, .bf16⟩ : BufTy).Contents (Elt Ideal)) (x4 : (⟨S3x4096x2048, .bf16⟩ : BufTy).Contents (Elt Ideal)) (x5 : (⟨S1, .i32⟩ : BufTy).Contents (Elt Ideal))
    (hk : ∀ j, val_main_v2 (F := Ideal) x5 j = BitVec.ofNat 32 k.val) :
    val_main_v10 (F := Ideal) x3 x4 x5 = total k x3 x4 := by
  funext i
  have e : i = ix2 (i 0) (i 1) := by
    funext a
    match a with
    | ⟨0, _⟩ => rfl
    | ⟨1, _⟩ => rfl
  refine (val_main_v10_apply x3 x4 x5 i).trans ?_
  refine (congr (congrArg (FloatOps.addf (F := Ideal) (φ := .f32)) ((congrArg _ e).trans (own x3 x5 k hk (i 0) (i 1)))) ((congrArg _ e).trans (rest x4 (i 0) (i 1)))).trans ?_
  show x3 _ + (x4 _ + x4 _ + x4 _) = x3 _ + x4 _ + x4 _ + x4 _
  rw [add_assoc, add_assoc, add_assoc]

/-- The sum of the pieces that a point stores at `y` is the whole arrays' at the place where `y` lies. -/
theorem point_7 (hO : Ok m) (k : Fin 4) (hk : chip m = BitVec.ofNat 32 k.val) (c : Dev nD) (t : Fin (cfgM m hO).N) (y) :
    k0_pay2 (iblk m hO c 3 t) (iblk m hO c 4 t) (iblk m hO c 5 t) (iblk m hO c 6 t) y
      = total k (m ((c : Thread nD τ).loc main_arg3)) (m ((c : Thread nD τ).loc main_arg4)) ((((cfgM m hO).win 7).blk t).view.emb y) := by
  have hc : (chip m).toNat = k.val := by
    rw [hk]
    have := k.isLt
    simp [BitVec.toNat_ofNat]
    omega
  pointwise [k0_pay2, total]
  blk_point [iblk, V, idx m hO t, idxP m hO t, hc]

/-- The new first moment at a place, from the summed pieces and the old moment there. -/
theorem moment (v0 v3 v7 v11 : Vec Ideal S1x128x2048 .bf16) (v15 : Vec Ideal S128x2048 .f32) (x1 : (⟨S4096x2048, .f32⟩ : BufTy).Contents (Elt Ideal)) (x3 : (⟨S4x4096x2048, .bf16⟩ : BufTy).Contents (Elt Ideal)) (x4 : (⟨S3x4096x2048, .bf16⟩ : BufTy).Contents (Elt Ideal)) (x5 : (⟨S1, .i32⟩ : BufTy).Contents (Elt Ideal)) (y : S128x2048.Idx) (i : S4096x2048.Idx)
    (hg : k0_pay2 (F := Ideal) v0 v3 v7 v11 y = val_main_v10 (F := Ideal) x3 x4 x5 i) (hm : v15 y = x1 i) :
    k0_pay3 (F := Ideal) v0 v3 v7 v11 v15 y = val_main_v15 (F := Ideal) x1 x3 x4 x5 i := by
  pointwise [k0_pay3, val_main_v15, val_main_v14, val_main_v13, val_main_v12, val_main_v11, val_main_cst_2, val_main_cst_3]
  rw [hg, hm]

/-- The new second moment at a place. -/
theorem square (v0 v3 v7 v11 : Vec Ideal S1x128x2048 .bf16) (v21 : Vec Ideal S128x2048 .f32) (x2 : (⟨S4096x2048, .f32⟩ : BufTy).Contents (Elt Ideal)) (x3 : (⟨S4x4096x2048, .bf16⟩ : BufTy).Contents (Elt Ideal)) (x4 : (⟨S3x4096x2048, .bf16⟩ : BufTy).Contents (Elt Ideal)) (x5 : (⟨S1, .i32⟩ : BufTy).Contents (Elt Ideal)) (y : S128x2048.Idx) (i : S4096x2048.Idx)
    (hg : k0_pay2 (F := Ideal) v0 v3 v7 v11 y = val_main_v10 (F := Ideal) x3 x4 x5 i) (hv : v21 y = x2 i) :
    k0_pay4 (F := Ideal) v0 v3 v7 v11 v21 y = val_main_v21 (F := Ideal) x2 x3 x4 x5 i := by
  pointwise [k0_pay4, val_main_v21, val_main_v20, val_main_v19, val_main_v18, val_main_v17, val_main_v16, val_main_cst_4, val_main_cst_5]
  rw [hg, hv]

/-- The step at a place, from the new moments and the weight there. -/
theorem delta (n s w : Vec Ideal S128x2048 .f32) (x0 x1 x2 : (⟨S4096x2048, .f32⟩ : BufTy).Contents (Elt Ideal)) (x3 : (⟨S4x4096x2048, .bf16⟩ : BufTy).Contents (Elt Ideal)) (x4 : (⟨S3x4096x2048, .bf16⟩ : BufTy).Contents (Elt Ideal)) (x5 : (⟨S1, .i32⟩ : BufTy).Contents (Elt Ideal)) (y : S128x2048.Idx) (i : S4096x2048.Idx)
    (hn : n y = val_main_v15 (F := Ideal) x1 x3 x4 x5 i) (hs : s y = val_main_v21 (F := Ideal) x2 x3 x4 x5 i) (hw : w y = x0 i) :
    k0_pay1 (F := Ideal) n s w y = val_main_v34 (F := Ideal) x0 x1 x2 x3 x4 x5 i := by
  pointwise [k0_pay1, val_main_v34, val_main_v33, val_main_v32, val_main_v31, val_main_v30, val_main_v29, val_main_v28, val_main_v27, val_main_v26, val_main_v25, val_main_v24, val_main_v23, val_main_v22, val_main_cst_6, val_main_cst_7, val_main_cst_8, val_main_cst_9, val_main_cst_10]
  rw [hn, hs, hw]

variable (hO : Ok m) (k : Fin 4) (hk : chip m = BitVec.ofNat 32 k.val) (c : Dev nD)

include hk in
theorem word (j) : val_main_v2 (F := Ideal) (m ((c : Thread nD τ).loc main_arg5)) j = BitVec.ofNat 32 k.val := by
  rw [← hk]
  have h : c = 0 := Subsingleton.elim _ _
  subst h
  exact congrArg _ (funext fun a => a.elim0)

include hk in
theorem grad (t : Fin (cfgM m hO).N) (y) :
    k0_pay2 (iblk m hO c 3 t) (iblk m hO c 4 t) (iblk m hO c 5 t) (iblk m hO c 6 t) y = val_main_v10 (F := Ideal) (m ((c : Thread nD τ).loc main_arg3)) (m ((c : Thread nD τ).loc main_arg4)) (m ((c : Thread nD τ).loc main_arg5)) ((((cfgM m hO).win 7).blk t).view.emb y) :=
  (point_7 m hO k hk c t y).trans (congrFun (total_eq k (m ((c : Thread nD τ).loc main_arg3)) (m ((c : Thread nD τ).loc main_arg4)) (m ((c : Thread nD τ).loc main_arg5)) (word m k hk c)) _).symm

theorem weight (t : Fin (cfgM m hO).N) (y : S128x2048.Idx) : iblk m hO c 0 t y = (m ((c : Thread nD τ).loc main_arg0)) ((((cfgM m hO).win 7).blk t).view.emb y) := by
  blk_point [iblk, V, idx m hO t]

theorem first (t : Fin (cfgM m hO).N) (y : S128x2048.Idx) : iblk m hO c 1 t y = (m ((c : Thread nD τ).loc main_arg1)) ((((cfgM m hO).win 7).blk t).view.emb y) := by
  blk_point [iblk, V, idx m hO t]

theorem second (t : Fin (cfgM m hO).N) (y : S128x2048.Idx) : iblk m hO c 2 t y = (m ((c : Thread nD τ).loc main_arg2)) ((((cfgM m hO).win 7).blk t).view.emb y) := by
  blk_point [iblk, V, idx m hO t]

theorem place_8 (f : S4096x2048.Idx → EReal) (t : Fin (cfgM m hO).N) (y : S128x2048.Idx) : f ((((cfgM m hO).win 7).blk t).view.emb y) = f ((((cfgM m hO).win 8).blk t).view.emb y) := by
  blk_point [idx m hO t]

theorem place_9 (f : S4096x2048.Idx → EReal) (t : Fin (cfgM m hO).N) (y : S128x2048.Idx) : f ((((cfgM m hO).win 7).blk t).view.emb y) = f ((((cfgM m hO).win 9).blk t).view.emb y) := by
  blk_point [idx m hO t]

theorem place_10 (f : S4096x2048.Idx → EReal) (t : Fin (cfgM m hO).N) (y : S128x2048.Idx) : f ((((cfgM m hO).win 7).blk t).view.emb y) = f ((((cfgM m hO).win 10).blk t).view.emb y) := by
  blk_point [idx m hO t]

include hk in
theorem point_9 (t : Fin (cfgM m hO).N) (y) :
    (k0_pay3 (iblk m hO c 3 t) (iblk m hO c 4 t) (iblk m hO c 5 t) (iblk m hO c 6 t) (iblk m hO c 1 t)) y = val_main_v15 (F := Ideal) (m ((c : Thread nD τ).loc main_arg1)) (m ((c : Thread nD τ).loc main_arg3)) (m ((c : Thread nD τ).loc main_arg4)) (m ((c : Thread nD τ).loc main_arg5)) ((((cfgM m hO).win 7).blk t).view.emb y) :=
  moment _ _ _ _ _ _ _ _ _ y _ (grad m hO k hk c t y) (first m hO c t y)

include hk in
theorem point_10 (t : Fin (cfgM m hO).N) (y) :
    (k0_pay4 (iblk m hO c 3 t) (iblk m hO c 4 t) (iblk m hO c 5 t) (iblk m hO c 6 t) (iblk m hO c 2 t)) y = val_main_v21 (F := Ideal) (m ((c : Thread nD τ).loc main_arg2)) (m ((c : Thread nD τ).loc main_arg3)) (m ((c : Thread nD τ).loc main_arg4)) (m ((c : Thread nD τ).loc main_arg5)) ((((cfgM m hO).win 7).blk t).view.emb y) :=
  square _ _ _ _ _ _ _ _ _ y _ (grad m hO k hk c t y) (second m hO c t y)

include hk in
theorem point_8 (t : Fin (cfgM m hO).N) (y) :
    k0_pay1 (k0_pay3 (iblk m hO c 3 t) (iblk m hO c 4 t) (iblk m hO c 5 t) (iblk m hO c 6 t) (iblk m hO c 1 t)) (k0_pay4 (iblk m hO c 3 t) (iblk m hO c 4 t) (iblk m hO c 5 t) (iblk m hO c 6 t) (iblk m hO c 2 t)) (iblk m hO c 0 t) y = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 7).blk t).view.emb y) :=
  delta _ _ _ _ _ _ _ _ _ y _ (point_9 m hO k hk c t y) (point_10 m hO k hk c t y) (weight m hO c t y)

include hk in
theorem left_8 (t : Fin (cfgM m hO).N) (y : S128x2048.Idx) :
    k0_pay1 (k0_pay3 (iblk m hO c 3 t) (iblk m hO c 4 t) (iblk m hO c 5 t) (iblk m hO c 6 t) (iblk m hO c 1 t)) (k0_pay4 (iblk m hO c 3 t) (iblk m hO c 4 t) (iblk m hO c 5 t) (iblk m hO c 6 t) (iblk m hO c 2 t)) (iblk m hO c 0 t) y = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 8).blk t).view.emb y) :=
  (point_8 m hO k hk c t y).trans (place_8 m hO (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) t y)

include hk in
theorem left_9 (t : Fin (cfgM m hO).N) (y : S128x2048.Idx) :
    (k0_pay3 (iblk m hO c 3 t) (iblk m hO c 4 t) (iblk m hO c 5 t) (iblk m hO c 6 t) (iblk m hO c 1 t)) y = val_main_v15 (F := Ideal) (m ((c : Thread nD τ).loc main_arg1)) (m ((c : Thread nD τ).loc main_arg3)) (m ((c : Thread nD τ).loc main_arg4)) (m ((c : Thread nD τ).loc main_arg5)) ((((cfgM m hO).win 9).blk t).view.emb y) :=
  (point_9 m hO k hk c t y).trans (place_9 m hO (val_main_v15 (F := Ideal) (m ((c : Thread nD τ).loc main_arg1)) (m ((c : Thread nD τ).loc main_arg3)) (m ((c : Thread nD τ).loc main_arg4)) (m ((c : Thread nD τ).loc main_arg5))) t y)

include hk in
theorem left_10 (t : Fin (cfgM m hO).N) (y : S128x2048.Idx) :
    (k0_pay4 (iblk m hO c 3 t) (iblk m hO c 4 t) (iblk m hO c 5 t) (iblk m hO c 6 t) (iblk m hO c 2 t)) y = val_main_v21 (F := Ideal) (m ((c : Thread nD τ).loc main_arg2)) (m ((c : Thread nD τ).loc main_arg3)) (m ((c : Thread nD τ).loc main_arg4)) (m ((c : Thread nD τ).loc main_arg5)) ((((cfgM m hO).win 10).blk t).view.emb y) :=
  (point_10 m hO k hk c t y).trans (place_10 m hO (val_main_v21 (F := Ideal) (m ((c : Thread nD τ).loc main_arg2)) (m ((c : Thread nD τ).loc main_arg3)) (m ((c : Thread nD τ).loc main_arg4)) (m ((c : Thread nD τ).loc main_arg5))) t y)

/-! What a point leaves in each output's block, over the blocks that it loaded. -/

theorem out_7 (t : Fin (cfgM m hO).N) : (outsAt0 m hO c t).1 = k0_pay2 (F := Ideal) (iblk m hO c 3 t) (iblk m hO c 4 t) (iblk m hO c 5 t) (iblk m hO c 6 t) := by
  unfold outsAt0
  dsimp only
  frame_out
  exact (congr (congr (congr (congrArg (k0_pay2 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t)))

theorem out_8 (t : Fin (cfgM m hO).N) : (outsAt0 m hO c t).2.1 = k0_pay1 (F := Ideal) (k0_pay3 (F := Ideal) (iblk m hO c 3 t) (iblk m hO c 4 t) (iblk m hO c 5 t) (iblk m hO c 6 t) (iblk m hO c 1 t)) (k0_pay4 (F := Ideal) (iblk m hO c 3 t) (iblk m hO c 4 t) (iblk m hO c 5 t) (iblk m hO c 6 t) (iblk m hO c 2 t)) (iblk m hO c 0 t) := by
  unfold outsAt0
  dsimp only
  frame_out
  exact (congr (congr (congrArg (k0_pay1 (F := Ideal)) (congr (congr (congr (congr (congrArg (k0_pay3 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_1 m hO t).read_unread (iblk m hO c 1 t)))) (congr (congr (congr (congr (congrArg (k0_pay4 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_2 m hO t).read_unread (iblk m hO c 2 t)))) ((hs0_0 m hO t).read_unread (iblk m hO c 0 t)))

theorem out_9 (t : Fin (cfgM m hO).N) : (outsAt0 m hO c t).2.2.1 = (k0_pay3 (F := Ideal) (iblk m hO c 3 t) (iblk m hO c 4 t) (iblk m hO c 5 t) (iblk m hO c 6 t) (iblk m hO c 1 t)) := by
  unfold outsAt0
  dsimp only
  frame_out
  exact (congr (congr (congr (congr (congrArg (k0_pay3 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_1 m hO t).read_unread (iblk m hO c 1 t)))

theorem out_10 (t : Fin (cfgM m hO).N) : (outsAt0 m hO c t).2.2.2 = (k0_pay4 (F := Ideal) (iblk m hO c 3 t) (iblk m hO c 4 t) (iblk m hO c 5 t) (iblk m hO c 6 t) (iblk m hO c 2 t)) := by
  unfold outsAt0
  dsimp only
  frame_out
  exact (congr (congr (congr (congr (congrArg (k0_pay4 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_2 m hO t).read_unread (iblk m hO c 2 t)))

include hk in
theorem final_7 : (dats m hO 0 c).arrAt 7 (cfgM m hO).N = val_main_v10 (F := Ideal) (m ((c : Thread nD τ).loc main_arg3)) (m ((c : Thread nD τ).loc main_arg4)) (m ((c : Thread nD τ).loc main_arg5)) := by
  refine (dats m hO 0 c).arrAt_eq_of_covers 7 _ (of_decide_eq_true (by sl_kernel_rfl)) fun t hf y => ?_
  rw [after0_7]
  exact (cast_eq _ _).trans ((congrFun (out_7 m hO c t) y).trans (grad m hO k hk c t y))

include hk in
theorem final_8 : (dats m hO 0 c).arrAt 8 (cfgM m hO).N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (of_decide_eq_true (by sl_kernel_rfl)) fun t hf y => ?_
  rw [after0_8]
  exact (cast_eq _ _).trans ((congrFun (out_8 m hO c t) y).trans (left_8 m hO k hk c t y))

include hk in
theorem final_9 : (dats m hO 0 c).arrAt 9 (cfgM m hO).N = val_main_v15 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 9 _ (of_decide_eq_true (by sl_kernel_rfl)) fun t hf y => ?_
  rw [after0_9]
  exact (cast_eq _ _).trans ((congrFun (out_9 m hO c t) y).trans (left_9 m hO k hk c t y))

include hk in
theorem final_10 : (dats m hO 0 c).arrAt 10 (cfgM m hO).N = val_main_v21 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 10 _ (of_decide_eq_true (by sl_kernel_rfl)) fun t hf y => ?_
  rw [after0_10]
  exact (cast_eq _ _).trans ((congrFun (out_10 m hO c t) y).trans (left_10 m hO k hk c t y))

theorem which (h : chip m = 0#32 ∨ chip m = 1#32 ∨ chip m = 2#32 ∨ chip m = 3#32) : ∃ k : Fin 4, chip m = BitVec.ofNat 32 k.val := by
  rcases h with h | h | h | h
  · exact ⟨0, h⟩
  · exact ⟨1, h⟩
  · exact ⟨2, h⟩
  · exact ⟨3, h⟩

theorem algebraic : Cert.algebraic_AdamUpIdeal_AdamUpRefIdeal (hAdamUpIdeal := Cert.AdamUpIdeal.Gen.facts)
    (hAdamUpRefIdeal := Cert.AdamUpRefIdeal.Gen.facts) (hPre_chip_named_up := Cert.Pre_chip_named_up.Gen.facts) := by
  intro m g m' g' hp hm
  have hO := ok m (chip_of_pre hp)
  obtain ⟨k, hk⟩ := which m (chip_of_pre hp)
  refine ⟨fun c => val_main_v10 (F := Ideal) (m ((c.tc : Thread nD τ).loc main_arg3)) (m ((c.tc : Thread nD τ).loc main_arg4)) (m ((c.tc : Thread nD τ).loc main_arg5)), fun c => val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), fun c => val_main_v15 (F := Ideal) (m ((c.tc : Thread nD τ).loc main_arg1)) (m ((c.tc : Thread nD τ).loc main_arg3)) (m ((c.tc : Thread nD τ).loc main_arg4)) (m ((c.tc : Thread nD τ).loc main_arg5)), fun c => val_main_v21 (F := Ideal) (m ((c.tc : Thread nD τ).loc main_arg2)) (m ((c.tc : Thread nD τ).loc main_arg3)) (m ((c.tc : Thread nD τ).loc main_arg4)) (m ((c.tc : Thread nD τ).loc main_arg5)), ?_, ?_⟩
  · exact (θ_run _ _ _).mono (fun r h c => ⟨((h.1 c).1 7).trans (final_7 m hO k hk c), ((h.1 c).1 8).trans (final_8 m hO k hk c),
      ((h.1 c).1 9).trans (final_9 m hO k hk c), ((h.1 c).1 10).trans (final_10 m hO k hk c), h.2 c⟩) (θ_run_and (run_main m g hO) (unchanged m g hO))
  · refine (θ_run _ _ _).mono (fun r h c => ?_) (Cert.AdamUpRefIdeal.Value.run m' g')
    obtain ⟨e0, e1, e2, e3, e4, e5⟩ := hm c
    refine ⟨(h c).1.trans ?_, (h c).2.1.trans ?_, (h c).2.2.1.trans ?_, (h c).2.2.2.1.trans ?_, (h c).2.2.2.2⟩
    · rw [e3, e4, e5]; rfl
    · rw [e0, e1, e2, e3, e4, e5]; rfl
    · rw [e1, e3, e4, e5]; rfl
    · rw [e2, e3, e4, e5]; rfl

end Cert.AdamUpIdeal.Step

end
-- ==== Proof.Adam.AdamDownTable.lean ====
/- The optimiser's step of a weight whose gradient comes in four pieces (AdamDown): the table that names them, and that with its word in range
   every block lies inside its array. Once for the program and once for its idealisation, in the same words. -/
module

public import proofs.«01_k».proof.Defs
public import proofs.«01_k».proof.Proof.Gen.AdamDown.Frame
public import proofs.«01_k».proof.Proof.Gen.AdamDownIdeal.Frame
public import proofs.«01_k».proof.Proof.Gen.Pre_chip_named_down
public import proofs.«01_k».proof.Proof.Adam.Word
public import Idealize.ShloMosaic.Lib.Pipeline.ValueKit

@[expose] public section

set_option maxRecDepth 16384

noncomputable section

open Idealize.ShloMosaic Idealize.ShloMosaic.TcCoe Idealize.SL.Sem

namespace Cert.AdamDown.Step

open Cert.AdamDown Cert.AdamDown.Gen

section
variable {F : FTy → Type} [FloatOps F] (m : (ℓ : Loc nD τ sig) → Buf (Elt F) ℓ)

/-- The word that names the piece which is this chip's own. -/
def chip : BitVec 32 :=
  (shapeCast S_ (m (((0 : Dev nD) : Thread nD τ).loc main_arg5)) shapeCasts_S1_S_ : IVec S_ 32) (fun a => a.elim0)

/-- The table whose first word is `k`, and whose others name the three pieces of the other chips. -/
def words (k : BitVec 32) : IVec S4 32 :=
  concatenate S4 0 [⟨S1, broadcastInDim S1 ![] bcast_S_S1 (constantI S_ 32 k)⟩, ⟨S1, broadcastInDim S1 ![] bcast_S_S1 (constantI S_ 32 0#32)⟩,
    ⟨S1, broadcastInDim S1 ![] bcast_S_S1 (constantI S_ 32 1#32)⟩, ⟨S1, broadcastInDim S1 ![] bcast_S_S1 (constantI S_ 32 2#32)⟩]
    concatenates_S1_S1_S1_S1_S4_d0

@[inherit_doc words]
def pf (k : BitVec 32) : pre0.Contents (Elt F) := fun
  | ⟨0, _⟩ => words k
  | ⟨_ + 1, h⟩ => absurd h (Nat.not_lt.2 (Nat.le_add_left _ _))

theorem tbl_zero : tbl m 0 = words (chip m) := by
  have e : (shapeCast S_ (m (((0 : Dev nD) : Thread nD τ).loc main_arg5)) shapeCasts_S1_S_ : IVec S_ 32) = constantI S_ 32 (chip m) := by
    funext x
    exact congrArg _ (funext fun a => a.elim0)
  unfold words
  rw [← e]
  show StableHlo.after hostOps0 _ main_v5 = _
  unfold hostOps0
  after_results_simp
  rfl

theorem tbl_eq : tbl m = pf (chip m) := by
  funext j
  match j with
  | ⟨0, _⟩ => exact tbl_zero m

/-- With the word in range every block lies inside its array. -/
theorem ok (h : chip m = 0#32 ∨ chip m = 1#32 ∨ chip m = 2#32 ∨ chip m = 3#32) : Ok m := by
  unfold Ok
  rw [tbl_eq]
  rcases h with e | e | e | e <;> rw [e] <;> exact of_decide_eq_true (by sl_kernel_rfl)

end

theorem chip_of_pre {m : (ℓ : Loc nD τ sig) → Buf (Elt Bits) ℓ} (h : Cert.Pre_AdamDown (hPre_chip_named_down := Cert.Pre_chip_named_down.Gen.facts) m) :
    chip m = 0#32 ∨ chip m = 1#32 ∨ chip m = 2#32 ∨ chip m = 3#32 := by
  exact Cert.word_named (chip m) (congrFun (h 0) _)

end Cert.AdamDown.Step

namespace Cert.AdamDownIdeal.Step

open Cert.AdamDownIdeal Cert.AdamDownIdeal.Gen

section
variable {F : FTy → Type} [FloatOps F] (m : (ℓ : Loc nD τ sig) → Buf (Elt F) ℓ)

/-- The word that names the piece which is this chip's own. -/
def chip : BitVec 32 :=
  (shapeCast S_ (m (((0 : Dev nD) : Thread nD τ).loc main_arg5)) shapeCasts_S1_S_ : IVec S_ 32) (fun a => a.elim0)

/-- The table whose first word is `k`, and whose others name the three pieces of the other chips. -/
def words (k : BitVec 32) : IVec S4 32 :=
  concatenate S4 0 [⟨S1, broadcastInDim S1 ![] bcast_S_S1 (constantI S_ 32 k)⟩, ⟨S1, broadcastInDim S1 ![] bcast_S_S1 (constantI S_ 32 0#32)⟩,
    ⟨S1, broadcastInDim S1 ![] bcast_S_S1 (constantI S_ 32 1#32)⟩, ⟨S1, broadcastInDim S1 ![] bcast_S_S1 (constantI S_ 32 2#32)⟩]
    concatenates_S1_S1_S1_S1_S4_d0

@[inherit_doc words]
def pf (k : BitVec 32) : pre0.Contents (Elt F) := fun
  | ⟨0, _⟩ => words k
  | ⟨_ + 1, h⟩ => absurd h (Nat.not_lt.2 (Nat.le_add_left _ _))

theorem tbl_zero : tbl m 0 = words (chip m) := by
  have e : (shapeCast S_ (m (((0 : Dev nD) : Thread nD τ).loc main_arg5)) shapeCasts_S1_S_ : IVec S_ 32) = constantI S_ 32 (chip m) := by
    funext x
    exact congrArg _ (funext fun a => a.elim0)
  unfold words
  rw [← e]
  show StableHlo.after hostOps0 _ main_v5 = _
  unfold hostOps0
  after_results_simp
  rfl

theorem tbl_eq : tbl m = pf (chip m) := by
  funext j
  match j with
  | ⟨0, _⟩ => exact tbl_zero m

/-- With the word in range every block lies inside its array. -/
theorem ok (h : chip m = 0#32 ∨ chip m = 1#32 ∨ chip m = 2#32 ∨ chip m = 3#32) : Ok m := by
  unfold Ok
  rw [tbl_eq]
  rcases h with e | e | e | e <;> rw [e] <;> exact of_decide_eq_true (by sl_kernel_rfl)

end

theorem chip_of_pre {m : (ℓ : Loc nD τ sig) → Buf (Elt Ideal) ℓ} (h : Cert.Pre_AdamDownIdeal (hPre_chip_named_down := Cert.Pre_chip_named_down.Gen.facts) m) :
    chip m = 0#32 ∨ chip m = 1#32 ∨ chip m = 2#32 ∨ chip m = 3#32 := by
  exact Cert.word_named (chip m) (congrFun (h 0) _)

end Cert.AdamDownIdeal.Step

end
-- ==== Proof.Adam.AdamDown.lean ====
/- The optimiser's step of a weight whose gradient comes in four pieces (AdamDown): the sum of the pieces, the step and the new moments that the
   program leaves are the reference's. -/
module

public import proofs.«01_k».proof.Proof.Adam.AdamDownTable
public import proofs.«01_k».proof.Proof.Gen.AdamDownRefIdeal.Read

@[expose] public section

set_option maxRecDepth 16384

noncomputable section

open Idealize.ShloMosaic Idealize.ShloMosaic.TcCoe Idealize.SL.Sem
open scoped BigOperators

namespace Cert.AdamDownIdeal.Step

open Cert.AdamDownIdeal Cert.AdamDownIdeal.Gen Cert.AdamDownRefIdeal.Read

variable (m : (ℓ : Loc nD τ sig) → Buf (Elt Ideal) ℓ)

/-- The block that each window stages at a grid point. -/
theorem idx (hO : Ok m) : ∀ t : Fin (cfgM m hO).N, ((cfgM m hO).win 0).index t = ![t.val, 0]
    ∧ ((cfgM m hO).win 1).index t = ![t.val, 0]
    ∧ ((cfgM m hO).win 2).index t = ![t.val, 0]
    ∧ ((cfgM m hO).win 7).index t = ![t.val, 0]
    ∧ ((cfgM m hO).win 8).index t = ![t.val, 0]
    ∧ ((cfgM m hO).win 9).index t = ![t.val, 0]
    ∧ ((cfgM m hO).win 10).index t = ![t.val, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_7 (grid0.coords t) = ![t.val, 0]
    ∧ cc0_transform_8 (grid0.coords t) = ![t.val, 0]
    ∧ cc0_transform_9 (grid0.coords t) = ![t.val, 0]
    ∧ cc0_transform_10 (grid0.coords t) = ![t.val, 0])

/-- The pieces' windows: the table's word, then the point. -/
theorem idxP (hO : Ok m) (t : Fin (cfgM m hO).N) : ((cfgM m hO).win 3).index t = ![(chip m).toNat, t.val, 0]
    ∧ ((cfgM m hO).win 4).index t = ![0, t.val, 0]
    ∧ ((cfgM m hO).win 5).index t = ![1, t.val, 0]
    ∧ ((cfgM m hO).win 6).index t = ![2, t.val, 0] := by
  have e : (BitVec.ofNat 32 (grid0.coords t 0).val).toNat = t.val :=
    (by decide +kernel : ∀ t : Fin grid0.N, (BitVec.ofNat 32 (grid0.coords t 0).val).toNat = t.val) t
  have w0 : (tbl m).at 0 (Rect.unit (s := S4) ![0] S1.size inb_S4_S1_0) numel1_S1 = chip m := by
    unfold Pipeline.Prefetch.Contents.at
    rw [tbl_zero]
    rfl
  have w1 : (tbl m).at 0 (Rect.unit (s := S4) ![1] S1.size inb_S4_S1_1) numel1_S1 = 0#32 := by
    unfold Pipeline.Prefetch.Contents.at
    rw [tbl_zero]
    rfl
  have w2 : (tbl m).at 0 (Rect.unit (s := S4) ![2] S1.size inb_S4_S1_2) numel1_S1 = 1#32 := by
    unfold Pipeline.Prefetch.Contents.at
    rw [tbl_zero]
    rfl
  have w3 : (tbl m).at 0 (Rect.unit (s := S4) ![3] S1.size inb_S4_S1_3) numel1_S1 = 2#32 := by
    unfold Pipeline.Prefetch.Contents.at
    rw [tbl_zero]
    rfl
  refine ⟨?_, ?_, ?_, ?_⟩
  · show cc0_transform_3 inb_S4_S1_0 numel1_S1 (tbl m) (grid0.coords t) = _
    simp only [cc0_transform_3, w0, e]
    rfl
  · show cc0_transform_4 inb_S4_S1_1 numel1_S1 (tbl m) (grid0.coords t) = _
    simp only [cc0_transform_4, w1, e]
    rfl
  · show cc0_transform_5 inb_S4_S1_2 numel1_S1 (tbl m) (grid0.coords t) = _
    simp only [cc0_transform_5, w2, e]
    rfl
  · show cc0_transform_6 inb_S4_S1_3 numel1_S1 (tbl m) (grid0.coords t) = _
    simp only [cc0_transform_6, w3, e]
    rfl

theorem same : ∀ j k : Fin 4, IntOp.cmpi .eq (BitVec.ofNat 32 j.val) (BitVec.ofNat 32 k.val) = if j = k then 1#1 else 0#1 := by
  decide

/-- The reference's choice of the own piece, at a place. -/
theorem own (x3 : (⟨S4x2048x4096, .bf16⟩ : BufTy).Contents (Elt Ideal)) (x5 : (⟨S1, .i32⟩ : BufTy).Contents (Elt Ideal)) (k : Fin 4) (hk : ∀ j, val_main_v2 (F := Ideal) x5 j = BitVec.ofNat 32 k.val)
    (p : Fin 2048) (q : Fin 4096) : val_main_v7 (F := Ideal) x3 x5 (ix2 p q) = x3 (ix3 k p q) := by
  rw [val_main_v7_apply]
  have z : val_main_cst_0 (F := Ideal) (Shape.Idx.first Cert.AdamDownRefIdeal.Gen.h_S_) = 0 := Ideal.ofBits_zero_f32
  have e (j : Fin 4) : val_main_v6 (F := Ideal) x3 x5 (idx_main_v7 (ix2 p q) j) = if j = k then x3 (ix3 j p q) else 0 := by
    have hi : idx_main_v7 (ix2 p q) j = ix3 j p q := by
      funext a
      match a with
      | ⟨0, _⟩ => rfl
      | ⟨1, _⟩ => rfl
      | ⟨2, _⟩ => rfl
    rw [hi, val_main_v6_apply, val_main_call0_v1_apply, val_main_v4_apply, val_main_v1_apply,
      val_main_v0_apply, val_main_v3_apply, hk, val_main_v5_apply, val_main_call0_v2_apply,
      val_main_call0_v0_apply]
    refine (congrArg (fun b => Scalar.select b _ _) (same j k)).trans ?_
    by_cases h : j = k
    · rw [if_pos h, if_pos h]
      rfl
    · rw [if_neg h, if_neg h]
      exact Ideal.ofBits_zero_f32
  rw [z, zero_add, Finset.sum_congr rfl fun j _ => e j, Finset.sum_ite_eq' Finset.univ k, if_pos (Finset.mem_univ k)]

/-- The reference's sum of the other pieces, at a place. -/
theorem rest (x4 : (⟨S3x2048x4096, .bf16⟩ : BufTy).Contents (Elt Ideal)) (p : Fin 2048) (q : Fin 4096) :
    val_main_v9 (F := Ideal) x4 (ix2 p q) = x4 (ix3 0 p q) + x4 (ix3 1 p q) + x4 (ix3 2 p q) := by
  rw [val_main_v9_apply]
  have z : val_main_cst_1 (F := Ideal) (Shape.Idx.first Cert.AdamDownRefIdeal.Gen.h_S_) = 0 := Ideal.ofBits_zero_f32
  rw [z, zero_add, Fin.sum_univ_three]
  have e (k : Fin 3) : val_main_v8 (F := Ideal) x4 (idx_main_v9 (ix2 p q) k) = x4 (ix3 k p q) := by
    rw [val_main_v8_apply]
    refine congrArg x4 (funext fun a => ?_)
    match a with
    | ⟨0, _⟩ => rfl
    | ⟨1, _⟩ => rfl
    | ⟨2, _⟩ => rfl
  rw [e, e, e]

/-- The four pieces added up. -/
def total (k : Fin 4) (x3 : (⟨S4x2048x4096, .bf16⟩ : BufTy).Contents (Elt Ideal)) (x4 : (⟨S3x2048x4096, .bf16⟩ : BufTy).Contents (Elt Ideal)) (i : S2048x4096.Idx) : EReal :=
  x3 (ix3 k (i 0) (i 1)) + x4 (ix3 0 (i 0) (i 1)) + x4 (ix3 1 (i 0) (i 1)) + x4 (ix3 2 (i 0) (i 1))

theorem total_eq (k : Fin 4) (x3 : (⟨S4x2048x4096, .bf16⟩ : BufTy).Contents (Elt Ideal)) (x4 : (⟨S3x2048x4096, .bf16⟩ : BufTy).Contents (Elt Ideal)) (x5 : (⟨S1, .i32⟩ : BufTy).Contents (Elt Ideal))
    (hk : ∀ j, val_main_v2 (F := Ideal) x5 j = BitVec.ofNat 32 k.val) :
    val_main_v10 (F := Ideal) x3 x4 x5 = total k x3 x4 := by
  funext i
  have e : i = ix2 (i 0) (i 1) := by
    funext a
    match a with
    | ⟨0, _⟩ => rfl
    | ⟨1, _⟩ => rfl
  refine (val_main_v10_apply x3 x4 x5 i).trans ?_
  refine (congr (congrArg (FloatOps.addf (F := Ideal) (φ := .f32)) ((congrArg _ e).trans (own x3 x5 k hk (i 0) (i 1)))) ((congrArg _ e).trans (rest x4 (i 0) (i 1)))).trans ?_
  show x3 _ + (x4 _ + x4 _ + x4 _) = x3 _ + x4 _ + x4 _ + x4 _
  rw [add_assoc, add_assoc, add_assoc]

/-- The sum of the pieces that a point stores at `y` is the whole arrays' at the place where `y` lies. -/
theorem point_7 (hO : Ok m) (k : Fin 4) (hk : chip m = BitVec.ofNat 32 k.val) (c : Dev nD) (t : Fin (cfgM m hO).N) (y) :
    k0_pay2 (iblk m hO c 3 t) (iblk m hO c 4 t) (iblk m hO c 5 t) (iblk m hO c 6 t) y
      = total k (m ((c : Thread nD τ).loc main_arg3)) (m ((c : Thread nD τ).loc main_arg4)) ((((cfgM m hO).win 7).blk t).view.emb y) := by
  have hc : (chip m).toNat = k.val := by
    rw [hk]
    have := k.isLt
    simp [BitVec.toNat_ofNat]
    omega
  pointwise [k0_pay2, total]
  blk_point [iblk, V, idx m hO t, idxP m hO t, hc]

/-- The new first moment at a place, from the summed pieces and the old moment there. -/
theorem moment (v0 v3 v7 v11 : Vec Ideal S1x64x4096 .bf16) (v15 : Vec Ideal S64x4096 .f32) (x1 : (⟨S2048x4096, .f32⟩ : BufTy).Contents (Elt Ideal)) (x3 : (⟨S4x2048x4096, .bf16⟩ : BufTy).Contents (Elt Ideal)) (x4 : (⟨S3x2048x4096, .bf16⟩ : BufTy).Contents (Elt Ideal)) (x5 : (⟨S1, .i32⟩ : BufTy).Contents (Elt Ideal)) (y : S64x4096.Idx) (i : S2048x4096.Idx)
    (hg : k0_pay2 (F := Ideal) v0 v3 v7 v11 y = val_main_v10 (F := Ideal) x3 x4 x5 i) (hm : v15 y = x1 i) :
    k0_pay3 (F := Ideal) v0 v3 v7 v11 v15 y = val_main_v15 (F := Ideal) x1 x3 x4 x5 i := by
  pointwise [k0_pay3, val_main_v15, val_main_v14, val_main_v13, val_main_v12, val_main_v11, val_main_cst_2, val_main_cst_3]
  rw [hg, hm]

/-- The new second moment at a place. -/
theorem square (v0 v3 v7 v11 : Vec Ideal S1x64x4096 .bf16) (v21 : Vec Ideal S64x4096 .f32) (x2 : (⟨S2048x4096, .f32⟩ : BufTy).Contents (Elt Ideal)) (x3 : (⟨S4x2048x4096, .bf16⟩ : BufTy).Contents (Elt Ideal)) (x4 : (⟨S3x2048x4096, .bf16⟩ : BufTy).Contents (Elt Ideal)) (x5 : (⟨S1, .i32⟩ : BufTy).Contents (Elt Ideal)) (y : S64x4096.Idx) (i : S2048x4096.Idx)
    (hg : k0_pay2 (F := Ideal) v0 v3 v7 v11 y = val_main_v10 (F := Ideal) x3 x4 x5 i) (hv : v21 y = x2 i) :
    k0_pay4 (F := Ideal) v0 v3 v7 v11 v21 y = val_main_v21 (F := Ideal) x2 x3 x4 x5 i := by
  pointwise [k0_pay4, val_main_v21, val_main_v20, val_main_v19, val_main_v18, val_main_v17, val_main_v16, val_main_cst_4, val_main_cst_5]
  rw [hg, hv]

/-- The step at a place, from the new moments and the weight there. -/
theorem delta (n s w : Vec Ideal S64x4096 .f32) (x0 x1 x2 : (⟨S2048x4096, .f32⟩ : BufTy).Contents (Elt Ideal)) (x3 : (⟨S4x2048x4096, .bf16⟩ : BufTy).Contents (Elt Ideal)) (x4 : (⟨S3x2048x4096, .bf16⟩ : BufTy).Contents (Elt Ideal)) (x5 : (⟨S1, .i32⟩ : BufTy).Contents (Elt Ideal)) (y : S64x4096.Idx) (i : S2048x4096.Idx)
    (hn : n y = val_main_v15 (F := Ideal) x1 x3 x4 x5 i) (hs : s y = val_main_v21 (F := Ideal) x2 x3 x4 x5 i) (hw : w y = x0 i) :
    k0_pay1 (F := Ideal) n s w y = val_main_v34 (F := Ideal) x0 x1 x2 x3 x4 x5 i := by
  pointwise [k0_pay1, val_main_v34, val_main_v33, val_main_v32, val_main_v31, val_main_v30, val_main_v29, val_main_v28, val_main_v27, val_main_v26, val_main_v25, val_main_v24, val_main_v23, val_main_v22, val_main_cst_6, val_main_cst_7, val_main_cst_8, val_main_cst_9, val_main_cst_10]
  rw [hn, hs, hw]

variable (hO : Ok m) (k : Fin 4) (hk : chip m = BitVec.ofNat 32 k.val) (c : Dev nD)

include hk in
theorem word (j) : val_main_v2 (F := Ideal) (m ((c : Thread nD τ).loc main_arg5)) j = BitVec.ofNat 32 k.val := by
  rw [← hk]
  have h : c = 0 := Subsingleton.elim _ _
  subst h
  exact congrArg _ (funext fun a => a.elim0)

include hk in
theorem grad (t : Fin (cfgM m hO).N) (y) :
    k0_pay2 (iblk m hO c 3 t) (iblk m hO c 4 t) (iblk m hO c 5 t) (iblk m hO c 6 t) y = val_main_v10 (F := Ideal) (m ((c : Thread nD τ).loc main_arg3)) (m ((c : Thread nD τ).loc main_arg4)) (m ((c : Thread nD τ).loc main_arg5)) ((((cfgM m hO).win 7).blk t).view.emb y) :=
  (point_7 m hO k hk c t y).trans (congrFun (total_eq k (m ((c : Thread nD τ).loc main_arg3)) (m ((c : Thread nD τ).loc main_arg4)) (m ((c : Thread nD τ).loc main_arg5)) (word m k hk c)) _).symm

theorem weight (t : Fin (cfgM m hO).N) (y : S64x4096.Idx) : iblk m hO c 0 t y = (m ((c : Thread nD τ).loc main_arg0)) ((((cfgM m hO).win 7).blk t).view.emb y) := by
  blk_point [iblk, V, idx m hO t]

theorem first (t : Fin (cfgM m hO).N) (y : S64x4096.Idx) : iblk m hO c 1 t y = (m ((c : Thread nD τ).loc main_arg1)) ((((cfgM m hO).win 7).blk t).view.emb y) := by
  blk_point [iblk, V, idx m hO t]

theorem second (t : Fin (cfgM m hO).N) (y : S64x4096.Idx) : iblk m hO c 2 t y = (m ((c : Thread nD τ).loc main_arg2)) ((((cfgM m hO).win 7).blk t).view.emb y) := by
  blk_point [iblk, V, idx m hO t]

theorem place_8 (f : S2048x4096.Idx → EReal) (t : Fin (cfgM m hO).N) (y : S64x4096.Idx) : f ((((cfgM m hO).win 7).blk t).view.emb y) = f ((((cfgM m hO).win 8).blk t).view.emb y) := by
  blk_point [idx m hO t]

theorem place_9 (f : S2048x4096.Idx → EReal) (t : Fin (cfgM m hO).N) (y : S64x4096.Idx) : f ((((cfgM m hO).win 7).blk t).view.emb y) = f ((((cfgM m hO).win 9).blk t).view.emb y) := by
  blk_point [idx m hO t]

theorem place_10 (f : S2048x4096.Idx → EReal) (t : Fin (cfgM m hO).N) (y : S64x4096.Idx) : f ((((cfgM m hO).win 7).blk t).view.emb y) = f ((((cfgM m hO).win 10).blk t).view.emb y) := by
  blk_point [idx m hO t]

include hk in
theorem point_9 (t : Fin (cfgM m hO).N) (y) :
    (k0_pay3 (iblk m hO c 3 t) (iblk m hO c 4 t) (iblk m hO c 5 t) (iblk m hO c 6 t) (iblk m hO c 1 t)) y = val_main_v15 (F := Ideal) (m ((c : Thread nD τ).loc main_arg1)) (m ((c : Thread nD τ).loc main_arg3)) (m ((c : Thread nD τ).loc main_arg4)) (m ((c : Thread nD τ).loc main_arg5)) ((((cfgM m hO).win 7).blk t).view.emb y) :=
  moment _ _ _ _ _ _ _ _ _ y _ (grad m hO k hk c t y) (first m hO c t y)

include hk in
theorem point_10 (t : Fin (cfgM m hO).N) (y) :
    (k0_pay4 (iblk m hO c 3 t) (iblk m hO c 4 t) (iblk m hO c 5 t) (iblk m hO c 6 t) (iblk m hO c 2 t)) y = val_main_v21 (F := Ideal) (m ((c : Thread nD τ).loc main_arg2)) (m ((c : Thread nD τ).loc main_arg3)) (m ((c : Thread nD τ).loc main_arg4)) (m ((c : Thread nD τ).loc main_arg5)) ((((cfgM m hO).win 7).blk t).view.emb y) :=
  square _ _ _ _ _ _ _ _ _ y _ (grad m hO k hk c t y) (second m hO c t y)

include hk in
theorem point_8 (t : Fin (cfgM m hO).N) (y) :
    k0_pay1 (k0_pay3 (iblk m hO c 3 t) (iblk m hO c 4 t) (iblk m hO c 5 t) (iblk m hO c 6 t) (iblk m hO c 1 t)) (k0_pay4 (iblk m hO c 3 t) (iblk m hO c 4 t) (iblk m hO c 5 t) (iblk m hO c 6 t) (iblk m hO c 2 t)) (iblk m hO c 0 t) y = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 7).blk t).view.emb y) :=
  delta _ _ _ _ _ _ _ _ _ y _ (point_9 m hO k hk c t y) (point_10 m hO k hk c t y) (weight m hO c t y)

include hk in
theorem left_8 (t : Fin (cfgM m hO).N) (y : S64x4096.Idx) :
    k0_pay1 (k0_pay3 (iblk m hO c 3 t) (iblk m hO c 4 t) (iblk m hO c 5 t) (iblk m hO c 6 t) (iblk m hO c 1 t)) (k0_pay4 (iblk m hO c 3 t) (iblk m hO c 4 t) (iblk m hO c 5 t) (iblk m hO c 6 t) (iblk m hO c 2 t)) (iblk m hO c 0 t) y = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hO).win 8).blk t).view.emb y) :=
  (point_8 m hO k hk c t y).trans (place_8 m hO (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) t y)

include hk in
theorem left_9 (t : Fin (cfgM m hO).N) (y : S64x4096.Idx) :
    (k0_pay3 (iblk m hO c 3 t) (iblk m hO c 4 t) (iblk m hO c 5 t) (iblk m hO c 6 t) (iblk m hO c 1 t)) y = val_main_v15 (F := Ideal) (m ((c : Thread nD τ).loc main_arg1)) (m ((c : Thread nD τ).loc main_arg3)) (m ((c : Thread nD τ).loc main_arg4)) (m ((c : Thread nD τ).loc main_arg5)) ((((cfgM m hO).win 9).blk t).view.emb y) :=
  (point_9 m hO k hk c t y).trans (place_9 m hO (val_main_v15 (F := Ideal) (m ((c : Thread nD τ).loc main_arg1)) (m ((c : Thread nD τ).loc main_arg3)) (m ((c : Thread nD τ).loc main_arg4)) (m ((c : Thread nD τ).loc main_arg5))) t y)

include hk in
theorem left_10 (t : Fin (cfgM m hO).N) (y : S64x4096.Idx) :
    (k0_pay4 (iblk m hO c 3 t) (iblk m hO c 4 t) (iblk m hO c 5 t) (iblk m hO c 6 t) (iblk m hO c 2 t)) y = val_main_v21 (F := Ideal) (m ((c : Thread nD τ).loc main_arg2)) (m ((c : Thread nD τ).loc main_arg3)) (m ((c : Thread nD τ).loc main_arg4)) (m ((c : Thread nD τ).loc main_arg5)) ((((cfgM m hO).win 10).blk t).view.emb y) :=
  (point_10 m hO k hk c t y).trans (place_10 m hO (val_main_v21 (F := Ideal) (m ((c : Thread nD τ).loc main_arg2)) (m ((c : Thread nD τ).loc main_arg3)) (m ((c : Thread nD τ).loc main_arg4)) (m ((c : Thread nD τ).loc main_arg5))) t y)

/-! What a point leaves in each output's block, over the blocks that it loaded. -/

theorem out_7 (t : Fin (cfgM m hO).N) : (outsAt0 m hO c t).1 = k0_pay2 (F := Ideal) (iblk m hO c 3 t) (iblk m hO c 4 t) (iblk m hO c 5 t) (iblk m hO c 6 t) := by
  unfold outsAt0
  dsimp only
  frame_out
  exact (congr (congr (congr (congrArg (k0_pay2 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t)))

theorem out_8 (t : Fin (cfgM m hO).N) : (outsAt0 m hO c t).2.1 = k0_pay1 (F := Ideal) (k0_pay3 (F := Ideal) (iblk m hO c 3 t) (iblk m hO c 4 t) (iblk m hO c 5 t) (iblk m hO c 6 t) (iblk m hO c 1 t)) (k0_pay4 (F := Ideal) (iblk m hO c 3 t) (iblk m hO c 4 t) (iblk m hO c 5 t) (iblk m hO c 6 t) (iblk m hO c 2 t)) (iblk m hO c 0 t) := by
  unfold outsAt0
  dsimp only
  frame_out
  exact (congr (congr (congrArg (k0_pay1 (F := Ideal)) (congr (congr (congr (congr (congrArg (k0_pay3 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_1 m hO t).read_unread (iblk m hO c 1 t)))) (congr (congr (congr (congr (congrArg (k0_pay4 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_2 m hO t).read_unread (iblk m hO c 2 t)))) ((hs0_0 m hO t).read_unread (iblk m hO c 0 t)))

theorem out_9 (t : Fin (cfgM m hO).N) : (outsAt0 m hO c t).2.2.1 = (k0_pay3 (F := Ideal) (iblk m hO c 3 t) (iblk m hO c 4 t) (iblk m hO c 5 t) (iblk m hO c 6 t) (iblk m hO c 1 t)) := by
  unfold outsAt0
  dsimp only
  frame_out
  exact (congr (congr (congr (congr (congrArg (k0_pay3 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_1 m hO t).read_unread (iblk m hO c 1 t)))

theorem out_10 (t : Fin (cfgM m hO).N) : (outsAt0 m hO c t).2.2.2 = (k0_pay4 (F := Ideal) (iblk m hO c 3 t) (iblk m hO c 4 t) (iblk m hO c 5 t) (iblk m hO c 6 t) (iblk m hO c 2 t)) := by
  unfold outsAt0
  dsimp only
  frame_out
  exact (congr (congr (congr (congr (congrArg (k0_pay4 (F := Ideal)) ((hs0_3 m hO t).read_unread (iblk m hO c 3 t))) ((hs0_4 m hO t).read_unread (iblk m hO c 4 t))) ((hs0_5 m hO t).read_unread (iblk m hO c 5 t))) ((hs0_6 m hO t).read_unread (iblk m hO c 6 t))) ((hs0_2 m hO t).read_unread (iblk m hO c 2 t)))

include hk in
theorem final_7 : (dats m hO 0 c).arrAt 7 (cfgM m hO).N = val_main_v10 (F := Ideal) (m ((c : Thread nD τ).loc main_arg3)) (m ((c : Thread nD τ).loc main_arg4)) (m ((c : Thread nD τ).loc main_arg5)) := by
  refine (dats m hO 0 c).arrAt_eq_of_covers 7 _ (of_decide_eq_true (by sl_kernel_rfl)) fun t hf y => ?_
  rw [after0_7]
  exact (cast_eq _ _).trans ((congrFun (out_7 m hO c t) y).trans (grad m hO k hk c t y))

include hk in
theorem final_8 : (dats m hO 0 c).arrAt 8 (cfgM m hO).N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (of_decide_eq_true (by sl_kernel_rfl)) fun t hf y => ?_
  rw [after0_8]
  exact (cast_eq _ _).trans ((congrFun (out_8 m hO c t) y).trans (left_8 m hO k hk c t y))

include hk in
theorem final_9 : (dats m hO 0 c).arrAt 9 (cfgM m hO).N = val_main_v15 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 9 _ (of_decide_eq_true (by sl_kernel_rfl)) fun t hf y => ?_
  rw [after0_9]
  exact (cast_eq _ _).trans ((congrFun (out_9 m hO c t) y).trans (left_9 m hO k hk c t y))

include hk in
theorem final_10 : (dats m hO 0 c).arrAt 10 (cfgM m hO).N = val_main_v21 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 10 _ (of_decide_eq_true (by sl_kernel_rfl)) fun t hf y => ?_
  rw [after0_10]
  exact (cast_eq _ _).trans ((congrFun (out_10 m hO c t) y).trans (left_10 m hO k hk c t y))

theorem which (h : chip m = 0#32 ∨ chip m = 1#32 ∨ chip m = 2#32 ∨ chip m = 3#32) : ∃ k : Fin 4, chip m = BitVec.ofNat 32 k.val := by
  rcases h with h | h | h | h
  · exact ⟨0, h⟩
  · exact ⟨1, h⟩
  · exact ⟨2, h⟩
  · exact ⟨3, h⟩

theorem algebraic : Cert.algebraic_AdamDownIdeal_AdamDownRefIdeal (hAdamDownIdeal := Cert.AdamDownIdeal.Gen.facts)
    (hAdamDownRefIdeal := Cert.AdamDownRefIdeal.Gen.facts) (hPre_chip_named_down := Cert.Pre_chip_named_down.Gen.facts) := by
  intro m g m' g' hp hm
  have hO := ok m (chip_of_pre hp)
  obtain ⟨k, hk⟩ := which m (chip_of_pre hp)
  refine ⟨fun c => val_main_v10 (F := Ideal) (m ((c.tc : Thread nD τ).loc main_arg3)) (m ((c.tc : Thread nD τ).loc main_arg4)) (m ((c.tc : Thread nD τ).loc main_arg5)), fun c => val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), fun c => val_main_v15 (F := Ideal) (m ((c.tc : Thread nD τ).loc main_arg1)) (m ((c.tc : Thread nD τ).loc main_arg3)) (m ((c.tc : Thread nD τ).loc main_arg4)) (m ((c.tc : Thread nD τ).loc main_arg5)), fun c => val_main_v21 (F := Ideal) (m ((c.tc : Thread nD τ).loc main_arg2)) (m ((c.tc : Thread nD τ).loc main_arg3)) (m ((c.tc : Thread nD τ).loc main_arg4)) (m ((c.tc : Thread nD τ).loc main_arg5)), ?_, ?_⟩
  · exact (θ_run _ _ _).mono (fun r h c => ⟨((h.1 c).1 7).trans (final_7 m hO k hk c), ((h.1 c).1 8).trans (final_8 m hO k hk c),
      ((h.1 c).1 9).trans (final_9 m hO k hk c), ((h.1 c).1 10).trans (final_10 m hO k hk c), h.2 c⟩) (θ_run_and (run_main m g hO) (unchanged m g hO))
  · refine (θ_run _ _ _).mono (fun r h c => ?_) (Cert.AdamDownRefIdeal.Value.run m' g')
    obtain ⟨e0, e1, e2, e3, e4, e5⟩ := hm c
    refine ⟨(h c).1.trans ?_, (h c).2.1.trans ?_, (h c).2.2.1.trans ?_, (h c).2.2.2.1.trans ?_, (h c).2.2.2.2⟩
    · rw [e3, e4, e5]; rfl
    · rw [e0, e1, e2, e3, e4, e5]; rfl
    · rw [e1, e3, e4, e5]; rfl
    · rw [e2, e3, e4, e5]; rfl

end Cert.AdamDownIdeal.Step

end
-- ==== Proof.lean ====
/- The claims of the certificate put together: the frame of each program, and for each call the equality of what it
   leaves with what the reference computes. The proofs are in the modules imported here. -/
module

public import proofs.«01_k».proof.Defs
public import proofs.«01_k».proof.Proof.Gdn.Frame
public import proofs.«01_k».proof.Proof.ScBwd.Value
public import proofs.«01_k».proof.Proof.Products.DHid
public import proofs.«01_k».proof.Proof.Products.DwDown
public import proofs.«01_k».proof.Proof.Products.DXn2
public import proofs.«01_k».proof.Proof.Products.DwUp
public import proofs.«01_k».proof.Proof.Products.MlpUp
public import proofs.«01_k».proof.Proof.Products.MlpDown
public import proofs.«01_k».proof.Proof.Products.DMixed
public import proofs.«01_k».proof.Proof.Products.DwOut
public import proofs.«01_k».proof.Proof.Products.OutProj
public import proofs.«01_k».proof.Proof.Products.DXn
public import proofs.«01_k».proof.Proof.Products.InProj
public import proofs.«01_k».proof.Proof.Adam.AdamIn
public import proofs.«01_k».proof.Proof.Adam.AdamNorm
public import proofs.«01_k».proof.Proof.Adam.AdamConv
public import proofs.«01_k».proof.Proof.Adam.AdamSc
public import proofs.«01_k».proof.Proof.Adam.AdamGate
public import proofs.«01_k».proof.Proof.Adam.AdamGdn
public import proofs.«01_k».proof.Proof.Products.PreBwd
public import proofs.«01_k».proof.Proof.Products.RmsFwd
public import proofs.«01_k».proof.Proof.Products.Post1
public import proofs.«01_k».proof.Proof.Products.Post2
public import proofs.«01_k».proof.Proof.Products.MidBwd
public import proofs.«01_k».proof.Proof.Products.ScFwd
public import proofs.«01_k».proof.Proof.Products.QkvFwd
public import proofs.«01_k».proof.Proof.Adam.AdamOut
public import proofs.«01_k».proof.Proof.Adam.AdamUp
public import proofs.«01_k».proof.Proof.Adam.AdamDown
public import proofs.«01_k».proof.Proof.Gen.AdamOutIdeal.Frame
public import proofs.«01_k».proof.Proof.Gen.AdamOut.Frame
public import proofs.«01_k».proof.Proof.Gen.AdamDown.Frame
public import proofs.«01_k».proof.Proof.Gen.AdamDownIdeal.Frame
public import proofs.«01_k».proof.Proof.Gen.AdamDownRefIdeal.Read
public import proofs.«01_k».proof.Proof.Gen.AdamUp.Frame
public import proofs.«01_k».proof.Proof.Gen.AdamUpIdeal.Frame
public import proofs.«01_k».proof.Proof.Gen.AdamUpRefIdeal.Read
public import proofs.«01_k».proof.Proof.Gen.AdamOutRefIdeal.Read
public import proofs.«01_k».proof.Proof.Gen.Pre_chip_named
public import proofs.«01_k».proof.Proof.Gen.RmsFwd.Frame
public import proofs.«01_k».proof.Proof.Gen.RmsFwdIdeal.Frame
public import proofs.«01_k».proof.Proof.Gen.RmsFwdRefIdeal.Read
public import proofs.«01_k».proof.Proof.Gen.Post1.Frame
public import proofs.«01_k».proof.Proof.Gen.Post1Ideal.Frame
public import proofs.«01_k».proof.Proof.Gen.Post1RefIdeal.Read
public import proofs.«01_k».proof.Proof.Gen.Post2.Frame
public import proofs.«01_k».proof.Proof.Gen.Post2Ideal.Frame
public import proofs.«01_k».proof.Proof.Gen.Post2RefIdeal.Read
public import proofs.«01_k».proof.Proof.Gen.MidBwd.Frame
public import proofs.«01_k».proof.Proof.Gen.MidBwdIdeal.Frame
public import proofs.«01_k».proof.Proof.Gen.MidBwdRefIdeal.Read
public import proofs.«01_k».proof.Proof.Gen.ScFwd.Frame
public import proofs.«01_k».proof.Proof.Gen.ScFwdIdeal.Frame
public import proofs.«01_k».proof.Proof.Gen.ScFwdRefIdeal.Read
public import proofs.«01_k».proof.Proof.Gen.QkvFwd.Frame
public import proofs.«01_k».proof.Proof.Gen.QkvFwdIdeal.Frame
public import proofs.«01_k».proof.Proof.Gen.QkvFwdRefIdeal.Read
public import proofs.«01_k».proof.Proof.Gen.PreBwd.Frame
public import proofs.«01_k».proof.Proof.Gen.PreBwdIdeal.Frame
public import proofs.«01_k».proof.Proof.Gen.PreBwdRefIdeal.Read
public import proofs.«01_k».proof.Proof.Gen.Pre_chip_named_up
public import proofs.«01_k».proof.Proof.Gen.Pre_chip_named_down
public import proofs.«01_k».proof.Proof.Gen.GdnBwdIdeal
public import proofs.«01_k».proof.Proof.Gen.GdnBwdIdeal.Skeleton
public import proofs.«01_k».proof.Proof.Gen.GdnBwdIdeal.Launch
public import proofs.«01_k».proof.Proof.Gen.GdnBwdIdeal.Points
public import proofs.«01_k».proof.Proof.Gen.GdnBwdIdeal.Frame
public import proofs.«01_k».proof.Proof.Gen.ScBwd
public import proofs.«01_k».proof.Proof.Gen.ScBwd.Skeleton
public import proofs.«01_k».proof.Proof.Gen.ScBwd.Launch
public import proofs.«01_k».proof.Proof.Gen.ScBwd.Points
public import proofs.«01_k».proof.Proof.Gen.ScBwd.Frame
public import proofs.«01_k».proof.Proof.Gen.ScBwdIdeal
public import proofs.«01_k».proof.Proof.Gen.ScBwdIdeal.Skeleton
public import proofs.«01_k».proof.Proof.Gen.ScBwdIdeal.Launch
public import proofs.«01_k».proof.Proof.Gen.ScBwdIdeal.Points
public import proofs.«01_k».proof.Proof.Gen.ScBwdIdeal.Frame
public import proofs.«01_k».proof.Proof.Gen.ScBwdRefIdeal
public import proofs.«01_k».proof.Proof.Gen.DHid
public import proofs.«01_k».proof.Proof.Gen.DHid.Skeleton
public import proofs.«01_k».proof.Proof.Gen.DHid.Launch
public import proofs.«01_k».proof.Proof.Gen.DHid.Points
public import proofs.«01_k».proof.Proof.Gen.DHid.Frame
public import proofs.«01_k».proof.Proof.Gen.DHidIdeal
public import proofs.«01_k».proof.Proof.Gen.DHidIdeal.Skeleton
public import proofs.«01_k».proof.Proof.Gen.DHidIdeal.Launch
public import proofs.«01_k».proof.Proof.Gen.DHidIdeal.Points
public import proofs.«01_k».proof.Proof.Gen.DHidIdeal.Frame
public import proofs.«01_k».proof.Proof.Gen.DHidRefIdeal
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownRefIdeal
public import proofs.«01_k».proof.Proof.Gen.DXn2
public import proofs.«01_k».proof.Proof.Gen.DXn2.Skeleton
public import proofs.«01_k».proof.Proof.Gen.DXn2.Launch
public import proofs.«01_k».proof.Proof.Gen.DXn2.Points
public import proofs.«01_k».proof.Proof.Gen.DXn2.Frame
public import proofs.«01_k».proof.Proof.Gen.DXn2Ideal
public import proofs.«01_k».proof.Proof.Gen.DXn2Ideal.Skeleton
public import proofs.«01_k».proof.Proof.Gen.DXn2Ideal.Launch
public import proofs.«01_k».proof.Proof.Gen.DXn2Ideal.Points
public import proofs.«01_k».proof.Proof.Gen.DXn2Ideal.Frame
public import proofs.«01_k».proof.Proof.Gen.DXn2RefIdeal
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpRefIdeal
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownRefIdeal
public import proofs.«01_k».proof.Proof.Gen.DMixed
public import proofs.«01_k».proof.Proof.Gen.DMixed.Skeleton
public import proofs.«01_k».proof.Proof.Gen.DMixed.Launch
public import proofs.«01_k».proof.Proof.Gen.DMixed.Points
public import proofs.«01_k».proof.Proof.Gen.DMixed.Frame
public import proofs.«01_k».proof.Proof.Gen.DMixedIdeal
public import proofs.«01_k».proof.Proof.Gen.DMixedIdeal.Skeleton
public import proofs.«01_k».proof.Proof.Gen.DMixedIdeal.Launch
public import proofs.«01_k».proof.Proof.Gen.DMixedIdeal.Points
public import proofs.«01_k».proof.Proof.Gen.DMixedIdeal.Frame
public import proofs.«01_k».proof.Proof.Gen.DMixedRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.DXn
public import proofs.«01_k».proof.Proof.Gen.DXn.Skeleton
public import proofs.«01_k».proof.Proof.Gen.DXn.Launch
public import proofs.«01_k».proof.Proof.Gen.DXn.Points
public import proofs.«01_k».proof.Proof.Gen.DXn.Frame
public import proofs.«01_k».proof.Proof.Gen.DXnIdeal
public import proofs.«01_k».proof.Proof.Gen.DXnIdeal.Skeleton
public import proofs.«01_k».proof.Proof.Gen.DXnIdeal.Launch
public import proofs.«01_k».proof.Proof.Gen.DXnIdeal.Points
public import proofs.«01_k».proof.Proof.Gen.DXnIdeal.Frame
public import proofs.«01_k».proof.Proof.Gen.DXnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import Idealize.ShloMosaic.Adequacy
public import Idealize.ShloMosaic.Init
public import proofs.«01_k».proof.Proof.Gen.ScBwdIdeal.Value
public import proofs.«01_k».proof.Proof.Gen.ScBwdRefIdeal.Run
public import proofs.«01_k».proof.Proof.Gen.ScBwdRefIdeal.Read
public import proofs.«01_k».proof.Proof.Gen.DHidIdeal.Value
public import proofs.«01_k».proof.Proof.Gen.DHidRefIdeal.Run
public import proofs.«01_k».proof.Proof.Gen.DHidRefIdeal.Read
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DXn2Ideal.Value
public import proofs.«01_k».proof.Proof.Gen.DXn2RefIdeal.Run
public import proofs.«01_k».proof.Proof.Gen.DXn2RefIdeal.Read
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.Gen.DMixedIdeal.Value
public import proofs.«01_k».proof.Proof.Gen.DMixedRefIdeal.Run
public import proofs.«01_k».proof.Proof.Gen.DMixedRefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.DXnIdeal.Value
public import proofs.«01_k».proof.Proof.Gen.DXnRefIdeal.Run
public import proofs.«01_k».proof.Proof.Gen.DXnRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.AdamInRefIdeal.Read
public import proofs.«01_k».proof.Proof.Gen.AdamNormRefIdeal.Read
public import proofs.«01_k».proof.Proof.Gen.AdamIn.Frame
public import proofs.«01_k».proof.Proof.Gen.AdamNorm.Frame
public import proofs.«01_k».proof.Proof.Gen.AdamInIdeal.Frame
public import proofs.«01_k».proof.Proof.Gen.AdamNormIdeal.Frame
public import proofs.«01_k».proof.Proof.Gen.AdamConv.Frame
public import proofs.«01_k».proof.Proof.Gen.AdamConvIdeal.Frame
public import proofs.«01_k».proof.Proof.Gen.AdamConvRefIdeal.Read
public import proofs.«01_k».proof.Proof.Gen.AdamSc.Frame
public import proofs.«01_k».proof.Proof.Gen.AdamScIdeal.Frame
public import proofs.«01_k».proof.Proof.Gen.AdamScRefIdeal.Read
public import proofs.«01_k».proof.Proof.Gen.AdamGate.Frame
public import proofs.«01_k».proof.Proof.Gen.AdamGateIdeal.Frame
public import proofs.«01_k».proof.Proof.Gen.AdamGateRefIdeal.Read
public import proofs.«01_k».proof.Proof.Gen.AdamGdn.Frame
public import proofs.«01_k».proof.Proof.Gen.AdamGdnIdeal.Frame
public import proofs.«01_k».proof.Proof.Gen.AdamGdnRefIdeal.Read

@[expose] public section

noncomputable section

namespace Cert.Proof

open Idealize.ShloMosaic Idealize.SL.Sem

/-! ## The backward recurrence: one run, at every reading of the floats -/

theorem frame_gdnIdeal : Cert.quiescent_GdnBwdIdeal (hGdnBwdIdeal := Cert.GdnBwdIdeal.Gen.facts) :=
  fun m ρ _ => Cert.GdnBwdIdeal.Hand.frame m ρ

/-! ## The references: straight lines of host operations -/

theorem frame_ScBwdRefIdeal : Cert.quiescent_ScBwdRefIdeal (hScBwdRefIdeal := Cert.ScBwdRefIdeal.Gen.facts) :=
  fun m ρ _ => (θ_run _ _ _).mono (fun r h => ⟨fun c => (h c).2.2.2.2, sem_eq_zero_of_no_sems rfl _⟩) (Cert.ScBwdRefIdeal.Value.run m ρ)

theorem frame_DHidRefIdeal : Cert.quiescent_DHidRefIdeal (hDHidRefIdeal := Cert.DHidRefIdeal.Gen.facts) :=
  fun m ρ _ => (θ_run _ _ _).mono (fun r h => ⟨fun c => (h c).2, sem_eq_zero_of_no_sems rfl _⟩) (Cert.DHidRefIdeal.Value.run m ρ)

theorem frame_DwDownRefIdeal : Cert.quiescent_DwDownRefIdeal (hDwDownRefIdeal := Cert.DwDownRefIdeal.Gen.facts) :=
  fun m ρ _ => (θ_run _ _ _).mono (fun r h => ⟨fun c => (h c).2, sem_eq_zero_of_no_sems rfl _⟩) (Cert.DwDownRefIdeal.Value.run m ρ)

theorem frame_DXn2RefIdeal : Cert.quiescent_DXn2RefIdeal (hDXn2RefIdeal := Cert.DXn2RefIdeal.Gen.facts) :=
  fun m ρ _ => (θ_run _ _ _).mono (fun r h => ⟨fun c => (h c).2, sem_eq_zero_of_no_sems rfl _⟩) (Cert.DXn2RefIdeal.Value.run m ρ)

theorem frame_DwUpRefIdeal : Cert.quiescent_DwUpRefIdeal (hDwUpRefIdeal := Cert.DwUpRefIdeal.Gen.facts) :=
  fun m ρ _ => (θ_run _ _ _).mono (fun r h => ⟨fun c => (h c).2, sem_eq_zero_of_no_sems rfl _⟩) (Cert.DwUpRefIdeal.Value.run m ρ)

theorem frame_MlpUpRefIdeal : Cert.quiescent_MlpUpRefIdeal (hMlpUpRefIdeal := Cert.MlpUpRefIdeal.Gen.facts) :=
  fun m ρ _ => (θ_run _ _ _).mono (fun r h => ⟨fun c => (h c).2.2, sem_eq_zero_of_no_sems rfl _⟩) (Cert.MlpUpRefIdeal.Value.run m ρ)

theorem frame_MlpDownRefIdeal : Cert.quiescent_MlpDownRefIdeal (hMlpDownRefIdeal := Cert.MlpDownRefIdeal.Gen.facts) :=
  fun m ρ _ => (θ_run _ _ _).mono (fun r h => ⟨fun c => (h c).2, sem_eq_zero_of_no_sems rfl _⟩) (Cert.MlpDownRefIdeal.Value.run m ρ)

theorem frame_DMixedRefIdeal : Cert.quiescent_DMixedRefIdeal (hDMixedRefIdeal := Cert.DMixedRefIdeal.Gen.facts) :=
  fun m ρ _ => (θ_run _ _ _).mono (fun r h => ⟨fun c => (h c).2, sem_eq_zero_of_no_sems rfl _⟩) (Cert.DMixedRefIdeal.Value.run m ρ)

theorem frame_DwOutRefIdeal : Cert.quiescent_DwOutRefIdeal (hDwOutRefIdeal := Cert.DwOutRefIdeal.Gen.facts) :=
  fun m ρ _ => (θ_run _ _ _).mono (fun r h => ⟨fun c => (h c).2, sem_eq_zero_of_no_sems rfl _⟩) (Cert.DwOutRefIdeal.Value.run m ρ)

theorem frame_OutProjRefIdeal : Cert.quiescent_OutProjRefIdeal (hOutProjRefIdeal := Cert.OutProjRefIdeal.Gen.facts) :=
  fun m ρ _ => (θ_run _ _ _).mono (fun r h => ⟨fun c => (h c).2, sem_eq_zero_of_no_sems rfl _⟩) (Cert.OutProjRefIdeal.Value.run m ρ)

theorem frame_DXnRefIdeal : Cert.quiescent_DXnRefIdeal (hDXnRefIdeal := Cert.DXnRefIdeal.Gen.facts) :=
  fun m ρ _ => (θ_run _ _ _).mono (fun r h => ⟨fun c => (h c).2, sem_eq_zero_of_no_sems rfl _⟩) (Cert.DXnRefIdeal.Value.run m ρ)

theorem frame_InProjRefIdeal : Cert.quiescent_InProjRefIdeal (hInProjRefIdeal := Cert.InProjRefIdeal.Gen.facts) :=
  fun m ρ _ => (θ_run _ _ _).mono (fun r h => ⟨fun c => (h c).2, sem_eq_zero_of_no_sems rfl _⟩) (Cert.InProjRefIdeal.Value.run m ρ)

theorem frame_AdamInRefIdeal : Cert.quiescent_AdamInRefIdeal (hAdamInRefIdeal := Cert.AdamInRefIdeal.Gen.facts) :=
  fun m ρ _ => (θ_run _ _ _).mono (fun r h => ⟨fun c => (h c).2.2.2, sem_eq_zero_of_no_sems rfl _⟩) (Cert.AdamInRefIdeal.Value.run m ρ)

theorem frame_AdamNormRefIdeal : Cert.quiescent_AdamNormRefIdeal (hAdamNormRefIdeal := Cert.AdamNormRefIdeal.Gen.facts) :=
  fun m ρ _ => (θ_run _ _ _).mono (fun r h => ⟨fun c => (h c).2.2.2, sem_eq_zero_of_no_sems rfl _⟩) (Cert.AdamNormRefIdeal.Value.run m ρ)

theorem frame_AdamConvRefIdeal : Cert.quiescent_AdamConvRefIdeal (hAdamConvRefIdeal := Cert.AdamConvRefIdeal.Gen.facts) :=
  fun m ρ _ => (θ_run _ _ _).mono (fun r h => ⟨fun c => (h c).2.2.2, sem_eq_zero_of_no_sems rfl _⟩) (Cert.AdamConvRefIdeal.Value.run m ρ)

theorem frame_AdamScRefIdeal : Cert.quiescent_AdamScRefIdeal (hAdamScRefIdeal := Cert.AdamScRefIdeal.Gen.facts) :=
  fun m ρ _ => (θ_run _ _ _).mono (fun r h => ⟨fun c => (h c).2.2.2, sem_eq_zero_of_no_sems rfl _⟩) (Cert.AdamScRefIdeal.Value.run m ρ)

theorem frame_AdamGateRefIdeal : Cert.quiescent_AdamGateRefIdeal (hAdamGateRefIdeal := Cert.AdamGateRefIdeal.Gen.facts) :=
  fun m ρ _ => (θ_run _ _ _).mono (fun r h => ⟨fun c => (h c).2.2.2, sem_eq_zero_of_no_sems rfl _⟩) (Cert.AdamGateRefIdeal.Value.run m ρ)

theorem frame_AdamGdnRefIdeal : Cert.quiescent_AdamGdnRefIdeal (hAdamGdnRefIdeal := Cert.AdamGdnRefIdeal.Gen.facts) :=
  fun m ρ _ => (θ_run _ _ _).mono (fun r h => ⟨fun c => (h c).2.2.2, sem_eq_zero_of_no_sems rfl _⟩) (Cert.AdamGdnRefIdeal.Value.run m ρ)

theorem frame_PreBwdRefIdeal : Cert.quiescent_PreBwdRefIdeal (hPreBwdRefIdeal := Cert.PreBwdRefIdeal.Gen.facts) :=
  fun m ρ _ => (θ_run _ _ _).mono (fun r h => ⟨fun c => (h c).2.2, sem_eq_zero_of_no_sems rfl _⟩) (Cert.PreBwdRefIdeal.Value.run m ρ)

theorem frame_RmsFwdRefIdeal : Cert.quiescent_RmsFwdRefIdeal (hRmsFwdRefIdeal := Cert.RmsFwdRefIdeal.Gen.facts) :=
  fun m ρ _ => (θ_run _ _ _).mono (fun r h => ⟨fun c => (h c).2, sem_eq_zero_of_no_sems rfl _⟩) (Cert.RmsFwdRefIdeal.Value.run m ρ)

theorem frame_Post1RefIdeal : Cert.quiescent_Post1RefIdeal (hPost1RefIdeal := Cert.Post1RefIdeal.Gen.facts) :=
  fun m ρ _ => (θ_run _ _ _).mono (fun r h => ⟨fun c => (h c).2.2, sem_eq_zero_of_no_sems rfl _⟩) (Cert.Post1RefIdeal.Value.run m ρ)

theorem frame_Post2RefIdeal : Cert.quiescent_Post2RefIdeal (hPost2RefIdeal := Cert.Post2RefIdeal.Gen.facts) :=
  fun m ρ _ => (θ_run _ _ _).mono (fun r h => ⟨fun c => (h c).2.2.2.2, sem_eq_zero_of_no_sems rfl _⟩) (Cert.Post2RefIdeal.Value.run m ρ)

theorem frame_MidBwdRefIdeal : Cert.quiescent_MidBwdRefIdeal (hMidBwdRefIdeal := Cert.MidBwdRefIdeal.Gen.facts) :=
  fun m ρ _ => (θ_run _ _ _).mono (fun r h => ⟨fun c => (h c).2.2.2.2, sem_eq_zero_of_no_sems rfl _⟩) (Cert.MidBwdRefIdeal.Value.run m ρ)

theorem frame_ScFwdRefIdeal : Cert.quiescent_ScFwdRefIdeal (hScFwdRefIdeal := Cert.ScFwdRefIdeal.Gen.facts) :=
  fun m ρ _ => (θ_run _ _ _).mono (fun r h => ⟨fun c => (h c).2, sem_eq_zero_of_no_sems rfl _⟩) (Cert.ScFwdRefIdeal.Value.run m ρ)

theorem frame_QkvFwdRefIdeal : Cert.quiescent_QkvFwdRefIdeal (hQkvFwdRefIdeal := Cert.QkvFwdRefIdeal.Gen.facts) :=
  fun m ρ _ => (θ_run _ _ _).mono (fun r h => ⟨fun c => (h c).2, sem_eq_zero_of_no_sems rfl _⟩) (Cert.QkvFwdRefIdeal.Value.run m ρ)

theorem frame_AdamOutRefIdeal : Cert.quiescent_AdamOutRefIdeal (hAdamOutRefIdeal := Cert.AdamOutRefIdeal.Gen.facts) :=
  fun m ρ _ => (θ_run _ _ _).mono (fun r h => ⟨fun c => (h c).2.2.2.2, sem_eq_zero_of_no_sems rfl _⟩) (Cert.AdamOutRefIdeal.Value.run m ρ)

theorem frame_AdamUpRefIdeal : Cert.quiescent_AdamUpRefIdeal (hAdamUpRefIdeal := Cert.AdamUpRefIdeal.Gen.facts) :=
  fun m ρ _ => (θ_run _ _ _).mono (fun r h => ⟨fun c => (h c).2.2.2.2, sem_eq_zero_of_no_sems rfl _⟩) (Cert.AdamUpRefIdeal.Value.run m ρ)

theorem frame_AdamDownRefIdeal : Cert.quiescent_AdamDownRefIdeal (hAdamDownRefIdeal := Cert.AdamDownRefIdeal.Gen.facts) :=
  fun m ρ _ => (θ_run _ _ _).mono (fun r h => ⟨fun c => (h c).2.2.2.2, sem_eq_zero_of_no_sems rfl _⟩) (Cert.AdamDownRefIdeal.Value.run m ρ)

theorem claim : Cert.Claim :=
  ⟨Cert.GdnBwdIdeal.Gen.facts,
   Cert.ScBwd.Gen.facts,
   Cert.ScBwdIdeal.Gen.facts,
   Cert.ScBwdRefIdeal.Gen.facts,
   Cert.DHid.Gen.facts,
   Cert.DHidIdeal.Gen.facts,
   Cert.DHidRefIdeal.Gen.facts,
   Cert.DwDown.Gen.facts,
   Cert.DwDownIdeal.Gen.facts,
   Cert.DwDownRefIdeal.Gen.facts,
   Cert.DXn2.Gen.facts,
   Cert.DXn2Ideal.Gen.facts,
   Cert.DXn2RefIdeal.Gen.facts,
   Cert.DwUp.Gen.facts,
   Cert.DwUpIdeal.Gen.facts,
   Cert.DwUpRefIdeal.Gen.facts,
   Cert.MlpUp.Gen.facts,
   Cert.MlpUpIdeal.Gen.facts,
   Cert.MlpUpRefIdeal.Gen.facts,
   Cert.MlpDown.Gen.facts,
   Cert.MlpDownIdeal.Gen.facts,
   Cert.MlpDownRefIdeal.Gen.facts,
   Cert.DMixed.Gen.facts,
   Cert.DMixedIdeal.Gen.facts,
   Cert.DMixedRefIdeal.Gen.facts,
   Cert.DwOut.Gen.facts,
   Cert.DwOutIdeal.Gen.facts,
   Cert.DwOutRefIdeal.Gen.facts,
   Cert.OutProj.Gen.facts,
   Cert.OutProjIdeal.Gen.facts,
   Cert.OutProjRefIdeal.Gen.facts,
   Cert.DXn.Gen.facts,
   Cert.DXnIdeal.Gen.facts,
   Cert.DXnRefIdeal.Gen.facts,
   Cert.InProj.Gen.facts,
   Cert.InProjIdeal.Gen.facts,
   Cert.InProjRefIdeal.Gen.facts,
   Cert.AdamIn.Gen.facts,
   Cert.AdamInIdeal.Gen.facts,
   Cert.AdamInRefIdeal.Gen.facts,
   Cert.AdamNorm.Gen.facts,
   Cert.AdamNormIdeal.Gen.facts,
   Cert.AdamNormRefIdeal.Gen.facts,
   Cert.AdamConv.Gen.facts,
   Cert.AdamConvIdeal.Gen.facts,
   Cert.AdamConvRefIdeal.Gen.facts,
   Cert.AdamSc.Gen.facts,
   Cert.AdamScIdeal.Gen.facts,
   Cert.AdamScRefIdeal.Gen.facts,
   Cert.AdamGate.Gen.facts,
   Cert.AdamGateIdeal.Gen.facts,
   Cert.AdamGateRefIdeal.Gen.facts,
   Cert.AdamGdn.Gen.facts,
   Cert.AdamGdnIdeal.Gen.facts,
   Cert.AdamGdnRefIdeal.Gen.facts,
   Cert.PreBwd.Gen.facts,
   Cert.PreBwdIdeal.Gen.facts,
   Cert.PreBwdRefIdeal.Gen.facts,
   Cert.RmsFwd.Gen.facts,
   Cert.RmsFwdIdeal.Gen.facts,
   Cert.RmsFwdRefIdeal.Gen.facts,
   Cert.Post1.Gen.facts,
   Cert.Post1Ideal.Gen.facts,
   Cert.Post1RefIdeal.Gen.facts,
   Cert.Post2.Gen.facts,
   Cert.Post2Ideal.Gen.facts,
   Cert.Post2RefIdeal.Gen.facts,
   Cert.MidBwd.Gen.facts,
   Cert.MidBwdIdeal.Gen.facts,
   Cert.MidBwdRefIdeal.Gen.facts,
   Cert.ScFwd.Gen.facts,
   Cert.ScFwdIdeal.Gen.facts,
   Cert.ScFwdRefIdeal.Gen.facts,
   Cert.QkvFwd.Gen.facts,
   Cert.QkvFwdIdeal.Gen.facts,
   Cert.QkvFwdRefIdeal.Gen.facts,
   Cert.AdamOut.Gen.facts,
   Cert.AdamOutIdeal.Gen.facts,
   Cert.AdamOutRefIdeal.Gen.facts,
   Cert.AdamUp.Gen.facts,
   Cert.AdamUpIdeal.Gen.facts,
   Cert.AdamUpRefIdeal.Gen.facts,
   Cert.AdamDown.Gen.facts,
   Cert.AdamDownIdeal.Gen.facts,
   Cert.AdamDownRefIdeal.Gen.facts,
   Cert.Pre_chip_named.Gen.facts,
   Cert.Pre_chip_named_up.Gen.facts,
   Cert.Pre_chip_named_down.Gen.facts,
   frame_gdnIdeal,
   (fun m ρ _ => Cert.ScBwd.Gen.frame m ρ),
   (fun m ρ _ => Cert.ScBwdIdeal.Gen.frame m ρ),
   frame_ScBwdRefIdeal,
   (fun m ρ _ => Cert.DHid.Gen.frame m ρ),
   (fun m ρ _ => Cert.DHidIdeal.Gen.frame m ρ),
   frame_DHidRefIdeal,
   (fun m ρ _ => Cert.DwDown.Gen.frame m ρ),
   (fun m ρ _ => Cert.DwDownIdeal.Gen.frame m ρ),
   frame_DwDownRefIdeal,
   (fun m ρ _ => Cert.DXn2.Gen.frame m ρ),
   (fun m ρ _ => Cert.DXn2Ideal.Gen.frame m ρ),
   frame_DXn2RefIdeal,
   (fun m ρ _ => Cert.DwUp.Gen.frame m ρ),
   (fun m ρ _ => Cert.DwUpIdeal.Gen.frame m ρ),
   frame_DwUpRefIdeal,
   (fun m ρ _ => Cert.MlpUp.Gen.frame m ρ),
   (fun m ρ _ => Cert.MlpUpIdeal.Gen.frame m ρ),
   frame_MlpUpRefIdeal,
   (fun m ρ _ => Cert.MlpDown.Gen.frame m ρ),
   (fun m ρ _ => Cert.MlpDownIdeal.Gen.frame m ρ),
   frame_MlpDownRefIdeal,
   (fun m ρ _ => Cert.DMixed.Gen.frame m ρ),
   (fun m ρ _ => Cert.DMixedIdeal.Gen.frame m ρ),
   frame_DMixedRefIdeal,
   (fun m ρ _ => Cert.DwOut.Gen.frame m ρ),
   (fun m ρ _ => Cert.DwOutIdeal.Gen.frame m ρ),
   frame_DwOutRefIdeal,
   (fun m ρ _ => Cert.OutProj.Gen.frame m ρ),
   (fun m ρ _ => Cert.OutProjIdeal.Gen.frame m ρ),
   frame_OutProjRefIdeal,
   (fun m ρ _ => Cert.DXn.Gen.frame m ρ),
   (fun m ρ _ => Cert.DXnIdeal.Gen.frame m ρ),
   frame_DXnRefIdeal,
   (fun m ρ _ => Cert.InProj.Gen.frame m ρ),
   (fun m ρ _ => Cert.InProjIdeal.Gen.frame m ρ),
   frame_InProjRefIdeal,
   (fun m ρ _ => Cert.AdamIn.Gen.frame m ρ (show Cert.AdamIn.Gen.Ok m from trivial)),
   (fun m ρ _ => Cert.AdamInIdeal.Gen.frame m ρ (show Cert.AdamInIdeal.Gen.Ok m from trivial)),
   frame_AdamInRefIdeal,
   (fun m ρ _ => Cert.AdamNorm.Gen.frame m ρ (show Cert.AdamNorm.Gen.Ok m from trivial)),
   (fun m ρ _ => Cert.AdamNormIdeal.Gen.frame m ρ (show Cert.AdamNormIdeal.Gen.Ok m from trivial)),
   frame_AdamNormRefIdeal,
   (fun m ρ _ => Cert.AdamConv.Gen.frame m ρ (show Cert.AdamConv.Gen.Ok m from trivial)),
   (fun m ρ _ => Cert.AdamConvIdeal.Gen.frame m ρ (show Cert.AdamConvIdeal.Gen.Ok m from trivial)),
   frame_AdamConvRefIdeal,
   (fun m ρ _ => Cert.AdamSc.Gen.frame m ρ (show Cert.AdamSc.Gen.Ok m from trivial)),
   (fun m ρ _ => Cert.AdamScIdeal.Gen.frame m ρ (show Cert.AdamScIdeal.Gen.Ok m from trivial)),
   frame_AdamScRefIdeal,
   (fun m ρ _ => Cert.AdamGate.Gen.frame m ρ (show Cert.AdamGate.Gen.Ok m from trivial)),
   (fun m ρ _ => Cert.AdamGateIdeal.Gen.frame m ρ (show Cert.AdamGateIdeal.Gen.Ok m from trivial)),
   frame_AdamGateRefIdeal,
   (fun m ρ _ => Cert.AdamGdn.Gen.frame m ρ (show Cert.AdamGdn.Gen.Ok m from trivial)),
   (fun m ρ _ => Cert.AdamGdnIdeal.Gen.frame m ρ (show Cert.AdamGdnIdeal.Gen.Ok m from trivial)),
   frame_AdamGdnRefIdeal,
   (fun m ρ _ => Cert.PreBwd.Gen.frame m ρ),
   (fun m ρ _ => Cert.PreBwdIdeal.Gen.frame m ρ),
   frame_PreBwdRefIdeal,
   (fun m ρ _ => Cert.RmsFwd.Gen.frame m ρ),
   (fun m ρ _ => Cert.RmsFwdIdeal.Gen.frame m ρ),
   frame_RmsFwdRefIdeal,
   (fun m ρ _ => Cert.Post1.Gen.frame m ρ),
   (fun m ρ _ => Cert.Post1Ideal.Gen.frame m ρ),
   frame_Post1RefIdeal,
   (fun m ρ _ => Cert.Post2.Gen.frame m ρ),
   (fun m ρ _ => Cert.Post2Ideal.Gen.frame m ρ),
   frame_Post2RefIdeal,
   (fun m ρ _ => Cert.MidBwd.Gen.frame m ρ),
   (fun m ρ _ => Cert.MidBwdIdeal.Gen.frame m ρ),
   frame_MidBwdRefIdeal,
   (fun m ρ _ => Cert.ScFwd.Gen.frame m ρ),
   (fun m ρ _ => Cert.ScFwdIdeal.Gen.frame m ρ),
   frame_ScFwdRefIdeal,
   (fun m ρ _ => Cert.QkvFwd.Gen.frame m ρ),
   (fun m ρ _ => Cert.QkvFwdIdeal.Gen.frame m ρ),
   frame_QkvFwdRefIdeal,
   (fun m ρ h => Cert.AdamOut.Gen.frame m ρ (Cert.AdamOut.Step.ok m (Cert.AdamOut.Step.chip_of_pre h))),
   (fun m ρ h => Cert.AdamOutIdeal.Gen.frame m ρ (Cert.AdamOutIdeal.Step.ok m (Cert.AdamOutIdeal.Step.chip_of_pre h))),
   frame_AdamOutRefIdeal,
   (fun m ρ _ => frame_AdamOutRefIdeal m ρ trivial),
   (fun m ρ h => Cert.AdamUp.Gen.frame m ρ (Cert.AdamUp.Step.ok m (Cert.AdamUp.Step.chip_of_pre h))),
   (fun m ρ h => Cert.AdamUpIdeal.Gen.frame m ρ (Cert.AdamUpIdeal.Step.ok m (Cert.AdamUpIdeal.Step.chip_of_pre h))),
   frame_AdamUpRefIdeal,
   (fun m ρ _ => frame_AdamUpRefIdeal m ρ trivial),
   (fun m ρ h => Cert.AdamDown.Gen.frame m ρ (Cert.AdamDown.Step.ok m (Cert.AdamDown.Step.chip_of_pre h))),
   (fun m ρ h => Cert.AdamDownIdeal.Gen.frame m ρ (Cert.AdamDownIdeal.Step.ok m (Cert.AdamDownIdeal.Step.chip_of_pre h))),
   frame_AdamDownRefIdeal,
   (fun m ρ _ => frame_AdamDownRefIdeal m ρ trivial),
   trivial,
   Cert.ScBwdIdeal.Conv.algebraic,
   trivial,
   Cert.DHidIdeal.Product.algebraic,
   trivial,
   Cert.DwDownIdeal.Product.algebraic,
   trivial,
   Cert.DXn2Ideal.Product.algebraic,
   trivial,
   Cert.DwUpIdeal.Product.algebraic,
   trivial,
   Cert.MlpUpIdeal.Product.algebraic,
   trivial,
   Cert.MlpDownIdeal.Product.algebraic,
   trivial,
   Cert.DMixedIdeal.Product.algebraic,
   trivial,
   Cert.DwOutIdeal.Product.algebraic,
   trivial,
   Cert.OutProjIdeal.Product.algebraic,
   trivial,
   Cert.DXnIdeal.Product.algebraic,
   trivial,
   Cert.InProjIdeal.Product.algebraic,
   trivial,
   Cert.AdamInIdeal.Step.algebraic,
   trivial,
   Cert.AdamNormIdeal.Step.algebraic,
   trivial,
   Cert.AdamConvIdeal.Step.algebraic,
   trivial,
   Cert.AdamScIdeal.Step.algebraic,
   trivial,
   Cert.AdamGateIdeal.Step.algebraic,
   trivial,
   Cert.AdamGdnIdeal.Step.algebraic,
   trivial,
   Cert.PreBwdIdeal.Product.algebraic,
   trivial,
   Cert.RmsFwdIdeal.Product.algebraic,
   trivial,
   Cert.Post1Ideal.Product.algebraic,
   trivial,
   Cert.Post2Ideal.Product.algebraic,
   trivial,
   Cert.MidBwdIdeal.Product.algebraic,
   trivial,
   Cert.ScFwdIdeal.Product.algebraic,
   trivial,
   Cert.QkvFwdIdeal.Product.algebraic,
   trivial,
   Cert.AdamOutIdeal.Step.algebraic,
   trivial,
   Cert.AdamUpIdeal.Step.algebraic,
   trivial,
   Cert.AdamDownIdeal.Step.algebraic⟩

end Cert.Proof

end
